-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionIdeal_bounded [hPre_bounded : Cert.Pre_bounded.Facts] (m : (ℓ : Loc Cert.ProjectionIdeal.nD Cert.ProjectionIdeal.τ Cert.ProjectionIdeal.sig) → Buf (Elt Ideal) ℓ) : Prop :=
  ∀ c : Dev Cert.ProjectionIdeal.nD,
    (Cert.Pre_bounded.fn (F := Ideal) (m ((c.tc : Thread Cert.ProjectionIdeal.nD Cert.ProjectionIdeal.τ).loc Cert.ProjectionIdeal.main_arg0)) (m ((c.tc : Thread Cert.ProjectionIdeal.nD Cert.ProjectionIdeal.τ).loc Cert.ProjectionIdeal.main_arg1)) (m ((c.tc : Thread Cert.ProjectionIdeal.nD Cert.ProjectionIdeal.τ).loc Cert.ProjectionIdeal.main_arg2)) (m ((c.tc : Thread Cert.ProjectionIdeal.nD Cert.ProjectionIdeal.τ).loc Cert.ProjectionIdeal.main_arg3)) (m ((c.tc : Thread Cert.ProjectionIdeal.nD Cert.ProjectionIdeal.τ).loc Cert.ProjectionIdeal.main_arg4)) (m ((c.tc : Thread Cert.ProjectionIdeal.nD Cert.ProjectionIdeal.τ).loc Cert.ProjectionIdeal.main_arg5)) (m ((c.tc : Thread Cert.ProjectionIdeal.nD Cert.ProjectionIdeal.τ).loc Cert.ProjectionIdeal.main_arg6)) (m ((c.tc : Thread Cert.ProjectionIdeal.nD Cert.ProjectionIdeal.τ).loc Cert.ProjectionIdeal.main_arg7))) = (fun _ => 1#1)

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_ProjectionReferenceIdeal_bounded [hPre_bounded : Cert.Pre_bounded.Facts] (m : (ℓ : Loc Cert.ProjectionReferenceIdeal.nD Cert.ProjectionReferenceIdeal.τ Cert.ProjectionReferenceIdeal.sig) → Buf (Elt Ideal) ℓ) : Prop :=
  ∀ c : Dev Cert.ProjectionReferenceIdeal.nD,
    (Cert.Pre_bounded.fn (F := Ideal) (m ((c.tc : Thread Cert.ProjectionReferenceIdeal.nD Cert.ProjectionReferenceIdeal.τ).loc Cert.ProjectionReferenceIdeal.main_arg0)) (m ((c.tc : Thread Cert.ProjectionReferenceIdeal.nD Cert.ProjectionReferenceIdeal.τ).loc Cert.ProjectionReferenceIdeal.main_arg1)) (m ((c.tc : Thread Cert.ProjectionReferenceIdeal.nD Cert.ProjectionReferenceIdeal.τ).loc Cert.ProjectionReferenceIdeal.main_arg2)) (m ((c.tc : Thread Cert.ProjectionReferenceIdeal.nD Cert.ProjectionReferenceIdeal.τ).loc Cert.ProjectionReferenceIdeal.main_arg3)) (m ((c.tc : Thread Cert.ProjectionReferenceIdeal.nD Cert.ProjectionReferenceIdeal.τ).loc Cert.ProjectionReferenceIdeal.main_arg4)) (m ((c.tc : Thread Cert.ProjectionReferenceIdeal.nD Cert.ProjectionReferenceIdeal.τ).loc Cert.ProjectionReferenceIdeal.main_arg5)) (m ((c.tc : Thread Cert.ProjectionReferenceIdeal.nD Cert.ProjectionReferenceIdeal.τ).loc Cert.ProjectionReferenceIdeal.main_arg6)) (m ((c.tc : Thread Cert.ProjectionReferenceIdeal.nD Cert.ProjectionReferenceIdeal.τ).loc Cert.ProjectionReferenceIdeal.main_arg7))) = (fun _ => 1#1)

def Pre_ContextMerge (m : (ℓ : Loc Cert.ContextMerge.nD Cert.ContextMerge.τ Cert.ContextMerge.sig) → Buf (Elt Bits) ℓ) : Prop :=
  True

def Pre_ContextMergeIdeal (m : (ℓ : Loc Cert.ContextMergeIdeal.nD Cert.ContextMergeIdeal.τ Cert.ContextMergeIdeal.sig) → Buf (Elt Ideal) ℓ) : Prop :=
  True

def Pre_ContextMergeReferenceIdeal (m : (ℓ : Loc Cert.ContextMergeReferenceIdeal.nD Cert.ContextMergeReferenceIdeal.τ Cert.ContextMergeReferenceIdeal.sig) → Buf (Elt Ideal) ℓ) : Prop :=
  True

def Pre_ContextProjection (m : (ℓ : Loc Cert.ContextProjection.nD Cert.ContextProjection.τ Cert.ContextProjection.sig) → Buf (Elt Bits) ℓ) : Prop :=
  True

def Pre_ContextProjectionIdeal (m : (ℓ : Loc Cert.ContextProjectionIdeal.nD Cert.ContextProjectionIdeal.τ Cert.ContextProjectionIdeal.sig) → Buf (Elt Ideal) ℓ) : Prop :=
  True

def Pre_ContextProjectionIdeal_bounded_context [hPre_bounded_context : Cert.Pre_bounded_context.Facts] (m : (ℓ : Loc Cert.ContextProjectionIdeal.nD Cert.ContextProjectionIdeal.τ Cert.ContextProjectionIdeal.sig) → Buf (Elt Ideal) ℓ) : Prop :=
  ∀ c : Dev Cert.ContextProjectionIdeal.nD,
    (Cert.Pre_bounded_context.fn (F := Ideal) (m ((c.tc : Thread Cert.ContextProjectionIdeal.nD Cert.ContextProjectionIdeal.τ).loc Cert.ContextProjectionIdeal.main_arg0)) (m ((c.tc : Thread Cert.ContextProjectionIdeal.nD Cert.ContextProjectionIdeal.τ).loc Cert.ContextProjectionIdeal.main_arg1)) (m ((c.tc : Thread Cert.ContextProjectionIdeal.nD Cert.ContextProjectionIdeal.τ).loc Cert.ContextProjectionIdeal.main_arg2)) (m ((c.tc : Thread Cert.ContextProjectionIdeal.nD Cert.ContextProjectionIdeal.τ).loc Cert.ContextProjectionIdeal.main_arg3)) (m ((c.tc : Thread Cert.ContextProjectionIdeal.nD Cert.ContextProjectionIdeal.τ).loc Cert.ContextProjectionIdeal.main_arg4)) (m ((c.tc : Thread Cert.ContextProjectionIdeal.nD Cert.ContextProjectionIdeal.τ).loc Cert.ContextProjectionIdeal.main_arg5)) (m ((c.tc : Thread Cert.ContextProjectionIdeal.nD Cert.ContextProjectionIdeal.τ).loc Cert.ContextProjectionIdeal.main_arg6)) (m ((c.tc : Thread Cert.ContextProjectionIdeal.nD Cert.ContextProjectionIdeal.τ).loc Cert.ContextProjectionIdeal.main_arg7))) = (fun _ => 1#1)

def Pre_ContextProjectionReferenceIdeal (m : (ℓ : Loc Cert.ContextProjectionReferenceIdeal.nD Cert.ContextProjectionReferenceIdeal.τ Cert.ContextProjectionReferenceIdeal.sig) → Buf (Elt Ideal) ℓ) : Prop :=
  True

def Pre_ContextProjectionReferenceIdeal_bounded_context [hPre_bounded_context : Cert.Pre_bounded_context.Facts] (m : (ℓ : Loc Cert.ContextProjectionReferenceIdeal.nD Cert.ContextProjectionReferenceIdeal.τ Cert.ContextProjectionReferenceIdeal.sig) → Buf (Elt Ideal) ℓ) : Prop :=
  ∀ c : Dev Cert.ContextProjectionReferenceIdeal.nD,
    (Cert.Pre_bounded_context.fn (F := Ideal) (m ((c.tc : Thread Cert.ContextProjectionReferenceIdeal.nD Cert.ContextProjectionReferenceIdeal.τ).loc Cert.ContextProjectionReferenceIdeal.main_arg0)) (m ((c.tc : Thread Cert.ContextProjectionReferenceIdeal.nD Cert.ContextProjectionReferenceIdeal.τ).loc Cert.ContextProjectionReferenceIdeal.main_arg1)) (m ((c.tc : Thread Cert.ContextProjectionReferenceIdeal.nD Cert.ContextProjectionReferenceIdeal.τ).loc Cert.ContextProjectionReferenceIdeal.main_arg2)) (m ((c.tc : Thread Cert.ContextProjectionReferenceIdeal.nD Cert.ContextProjectionReferenceIdeal.τ).loc Cert.ContextProjectionReferenceIdeal.main_arg3)) (m ((c.tc : Thread Cert.ContextProjectionReferenceIdeal.nD Cert.ContextProjectionReferenceIdeal.τ).loc Cert.ContextProjectionReferenceIdeal.main_arg4)) (m ((c.tc : Thread Cert.ContextProjectionReferenceIdeal.nD Cert.ContextProjectionReferenceIdeal.τ).loc Cert.ContextProjectionReferenceIdeal.main_arg5)) (m ((c.tc : Thread Cert.ContextProjectionReferenceIdeal.nD Cert.ContextProjectionReferenceIdeal.τ).loc Cert.ContextProjectionReferenceIdeal.main_arg6)) (m ((c.tc : Thread Cert.ContextProjectionReferenceIdeal.nD Cert.ContextProjectionReferenceIdeal.τ).loc Cert.ContextProjectionReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6)
      ∧ r.2.mem ((c.tc : Thread Cert.Projection.nD Cert.Projection.τ).loc Cert.Projection.main_arg7) = m ((c.tc : Thread Cert.Projection.nD Cert.Projection.τ).loc Cert.Projection.main_arg7))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7))
      ∧ r.2.sem = fun _ => 0)

def quiescent_ProjectionIdeal_pre_bounded [hProjectionIdeal : Cert.ProjectionIdeal.Facts] [hPre_bounded : Cert.Pre_bounded.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal_bounded m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6)
      ∧ r.2.mem ((c.tc : Thread Cert.ProjectionReferenceIdeal.nD Cert.ProjectionReferenceIdeal.τ).loc Cert.ProjectionReferenceIdeal.main_arg7) = m ((c.tc : Thread Cert.ProjectionReferenceIdeal.nD Cert.ProjectionReferenceIdeal.τ).loc Cert.ProjectionReferenceIdeal.main_arg7))
      ∧ r.2.sem = fun _ => 0)

def quiescent_ProjectionReferenceIdeal_pre_bounded [hProjectionReferenceIdeal : Cert.ProjectionReferenceIdeal.Facts] [hPre_bounded : Cert.Pre_bounded.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal_bounded m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6)
      ∧ r.2.mem ((c.tc : Thread Cert.ProjectionReferenceIdeal.nD Cert.ProjectionReferenceIdeal.τ).loc Cert.ProjectionReferenceIdeal.main_arg7) = m ((c.tc : Thread Cert.ProjectionReferenceIdeal.nD Cert.ProjectionReferenceIdeal.τ).loc Cert.ProjectionReferenceIdeal.main_arg7))
      ∧ r.2.sem = fun _ => 0)

def quiescent_ContextMerge [hContextMerge : Cert.ContextMerge.Facts] : Prop :=
  ∀ (m : (ℓ : Loc Cert.ContextMerge.nD Cert.ContextMerge.τ Cert.ContextMerge.sig) → Buf (Elt Bits) ℓ) (g : Dev Cert.ContextMerge.nD → PrngReg), Pre_ContextMerge m →
    θ_run (Cert.ContextMerge.defs (F := Bits)) (onTc (τ := Cert.ContextMerge.τ) (Cert.ContextMerge.main (F := Bits))) ⟨m, fun _ => 0, g⟩ (fun r => (∀ c : Dev Cert.ContextMerge.nD,
      r.2.mem ((c.tc : Thread Cert.ContextMerge.nD Cert.ContextMerge.τ).loc Cert.ContextMerge.main_arg0) = m ((c.tc : Thread Cert.ContextMerge.nD Cert.ContextMerge.τ).loc Cert.ContextMerge.main_arg0)
      ∧ r.2.mem ((c.tc : Thread Cert.ContextMerge.nD Cert.ContextMerge.τ).loc Cert.ContextMerge.main_arg1) = m ((c.tc : Thread Cert.ContextMerge.nD Cert.ContextMerge.τ).loc Cert.ContextMerge.main_arg1)
      ∧ r.2.mem ((c.tc : Thread Cert.ContextMerge.nD Cert.ContextMerge.τ).loc Cert.ContextMerge.main_arg2) = m ((c.tc : Thread Cert.ContextMerge.nD Cert.ContextMerge.τ).loc Cert.ContextMerge.main_arg2)
      ∧ r.2.mem ((c.tc : Thread Cert.ContextMerge.nD Cert.ContextMerge.τ).loc Cert.ContextMerge.main_arg3) = m ((c.tc : Thread Cert.ContextMerge.nD Cert.ContextMerge.τ).loc Cert.ContextMerge.main_arg3)
      ∧ r.2.mem ((c.tc : Thread Cert.ContextMerge.nD Cert.ContextMerge.τ).loc Cert.ContextMerge.main_arg4) = m ((c.tc : Thread Cert.ContextMerge.nD Cert.ContextMerge.τ).loc Cert.ContextMerge.main_arg4)
      ∧ r.2.mem ((c.tc : Thread Cert.ContextMerge.nD Cert.ContextMerge.τ).loc Cert.ContextMerge.main_arg5) = m ((c.tc : Thread Cert.ContextMerge.nD Cert.ContextMerge.τ).loc Cert.ContextMerge.main_arg5)
      ∧ r.2.mem ((c.tc : Thread Cert.ContextMerge.nD Cert.ContextMerge.τ).loc Cert.ContextMerge.main_arg6) = m ((c.tc : Thread Cert.ContextMerge.nD Cert.ContextMerge.τ).loc Cert.ContextMerge.main_arg6)
      ∧ r.2.mem ((c.tc : Thread Cert.ContextMerge.nD Cert.ContextMerge.τ).loc Cert.ContextMerge.main_arg7) = m ((c.tc : Thread Cert.ContextMerge.nD Cert.ContextMerge.τ).loc Cert.ContextMerge.main_arg7)
      ∧ r.2.mem ((c.tc : Thread Cert.ContextMerge.nD Cert.ContextMerge.τ).loc Cert.ContextMerge.main_arg8) = m ((c.tc : Thread Cert.ContextMerge.nD Cert.ContextMerge.τ).loc Cert.ContextMerge.main_arg8)
      ∧ r.2.mem ((c.tc : Thread Cert.ContextMerge.nD Cert.ContextMerge.τ).loc Cert.ContextMerge.main_arg9) = m ((c.tc : Thread Cert.ContextMerge.nD Cert.ContextMerge.τ).loc Cert.ContextMerge.main_arg9)
      ∧ r.2.mem ((c.tc : Thread Cert.ContextMerge.nD Cert.ContextMerge.τ).loc Cert.ContextMerge.main_arg10) = m ((c.tc : Thread Cert.ContextMerge.nD Cert.ContextMerge.τ).loc Cert.ContextMerge.main_arg10)
      ∧ r.2.mem ((c.tc : Thread Cert.ContextMerge.nD Cert.ContextMerge.τ).loc Cert.ContextMerge.main_arg11) = m ((c.tc : Thread Cert.ContextMerge.nD Cert.ContextMerge.τ).loc Cert.ContextMerge.main_arg11)
      ∧ r.2.mem ((c.tc : Thread Cert.ContextMerge.nD Cert.ContextMerge.τ).loc Cert.ContextMerge.main_arg12) = m ((c.tc : Thread Cert.ContextMerge.nD Cert.ContextMerge.τ).loc Cert.ContextMerge.main_arg12))
      ∧ r.2.sem = fun _ => 0)

def quiescent_ContextMergeIdeal [hContextMergeIdeal : Cert.ContextMergeIdeal.Facts] : Prop :=
  ∀ (m : (ℓ : Loc Cert.ContextMergeIdeal.nD Cert.ContextMergeIdeal.τ Cert.ContextMergeIdeal.sig) → Buf (Elt Ideal) ℓ) (g : Dev Cert.ContextMergeIdeal.nD → PrngReg), Pre_ContextMergeIdeal m →
    θ_run (Cert.ContextMergeIdeal.defs (F := Ideal)) (onTc (τ := Cert.ContextMergeIdeal.τ) (Cert.ContextMergeIdeal.main (F := Ideal))) ⟨m, fun _ => 0, g⟩ (fun r => (∀ c : Dev Cert.ContextMergeIdeal.nD,
      r.2.mem ((c.tc : Thread Cert.ContextMergeIdeal.nD Cert.ContextMergeIdeal.τ).loc Cert.ContextMergeIdeal.main_arg0) = m ((c.tc : Thread Cert.ContextMergeIdeal.nD Cert.ContextMergeIdeal.τ).loc Cert.ContextMergeIdeal.main_arg0)
      ∧ r.2.mem ((c.tc : Thread Cert.ContextMergeIdeal.nD Cert.ContextMergeIdeal.τ).loc Cert.ContextMergeIdeal.main_arg1) = m ((c.tc : Thread Cert.ContextMergeIdeal.nD Cert.ContextMergeIdeal.τ).loc Cert.ContextMergeIdeal.main_arg1)
      ∧ r.2.mem ((c.tc : Thread Cert.ContextMergeIdeal.nD Cert.ContextMergeIdeal.τ).loc Cert.ContextMergeIdeal.main_arg2) = m ((c.tc : Thread Cert.ContextMergeIdeal.nD Cert.ContextMergeIdeal.τ).loc Cert.ContextMergeIdeal.main_arg2)
      ∧ r.2.mem ((c.tc : Thread Cert.ContextMergeIdeal.nD Cert.ContextMergeIdeal.τ).loc Cert.ContextMergeIdeal.main_arg3) = m ((c.tc : Thread Cert.ContextMergeIdeal.nD Cert.ContextMergeIdeal.τ).loc Cert.ContextMergeIdeal.main_arg3)
      ∧ r.2.mem ((c.tc : Thread Cert.ContextMergeIdeal.nD Cert.ContextMergeIdeal.τ).loc Cert.ContextMergeIdeal.main_arg4) = m ((c.tc : Thread Cert.ContextMergeIdeal.nD Cert.ContextMergeIdeal.τ).loc Cert.ContextMergeIdeal.main_arg4)
      ∧ r.2.mem ((c.tc : Thread Cert.ContextMergeIdeal.nD Cert.ContextMergeIdeal.τ).loc Cert.ContextMergeIdeal.main_arg5) = m ((c.tc : Thread Cert.ContextMergeIdeal.nD Cert.ContextMergeIdeal.τ).loc Cert.ContextMergeIdeal.main_arg5)
      ∧ r.2.mem ((c.tc : Thread Cert.ContextMergeIdeal.nD Cert.ContextMergeIdeal.τ).loc Cert.ContextMergeIdeal.main_arg6) = m ((c.tc : Thread Cert.ContextMergeIdeal.nD Cert.ContextMergeIdeal.τ).loc Cert.ContextMergeIdeal.main_arg6)
      ∧ r.2.mem ((c.tc : Thread Cert.ContextMergeIdeal.nD Cert.ContextMergeIdeal.τ).loc Cert.ContextMergeIdeal.main_arg7) = m ((c.tc : Thread Cert.ContextMergeIdeal.nD Cert.ContextMergeIdeal.τ).loc Cert.ContextMergeIdeal.main_arg7)
      ∧ r.2.mem ((c.tc : Thread Cert.ContextMergeIdeal.nD Cert.ContextMergeIdeal.τ).loc Cert.ContextMergeIdeal.main_arg8) = m ((c.tc : Thread Cert.ContextMergeIdeal.nD Cert.ContextMergeIdeal.τ).loc Cert.ContextMergeIdeal.main_arg8)
      ∧ r.2.mem ((c.tc : Thread Cert.ContextMergeIdeal.nD Cert.ContextMergeIdeal.τ).loc Cert.ContextMergeIdeal.main_arg9) = m ((c.tc : Thread Cert.ContextMergeIdeal.nD Cert.ContextMergeIdeal.τ).loc Cert.ContextMergeIdeal.main_arg9)
      ∧ r.2.mem ((c.tc : Thread Cert.ContextMergeIdeal.nD Cert.ContextMergeIdeal.τ).loc Cert.ContextMergeIdeal.main_arg10) = m ((c.tc : Thread Cert.ContextMergeIdeal.nD Cert.ContextMergeIdeal.τ).loc Cert.ContextMergeIdeal.main_arg10)
      ∧ r.2.mem ((c.tc : Thread Cert.ContextMergeIdeal.nD Cert.ContextMergeIdeal.τ).loc Cert.ContextMergeIdeal.main_arg11) = m ((c.tc : Thread Cert.ContextMergeIdeal.nD Cert.ContextMergeIdeal.τ).loc Cert.ContextMergeIdeal.main_arg11)
      ∧ r.2.mem ((c.tc : Thread Cert.ContextMergeIdeal.nD Cert.ContextMergeIdeal.τ).loc Cert.ContextMergeIdeal.main_arg12) = m ((c.tc : Thread Cert.ContextMergeIdeal.nD Cert.ContextMergeIdeal.τ).loc Cert.ContextMergeIdeal.main_arg12))
      ∧ r.2.sem = fun _ => 0)

def quiescent_ContextMergeReferenceIdeal [hContextMergeReferenceIdeal : Cert.ContextMergeReferenceIdeal.Facts] : Prop :=
  ∀ (m : (ℓ : Loc Cert.ContextMergeReferenceIdeal.nD Cert.ContextMergeReferenceIdeal.τ Cert.ContextMergeReferenceIdeal.sig) → Buf (Elt Ideal) ℓ) (g : Dev Cert.ContextMergeReferenceIdeal.nD → PrngReg), Pre_ContextMergeReferenceIdeal m →
    θ_run (Cert.ContextMergeReferenceIdeal.defs (F := Ideal)) (onTc (τ := Cert.ContextMergeReferenceIdeal.τ) (Cert.ContextMergeReferenceIdeal.main (F := Ideal))) ⟨m, fun _ => 0, g⟩ (fun r => (∀ c : Dev Cert.ContextMergeReferenceIdeal.nD,
      r.2.mem ((c.tc : Thread Cert.ContextMergeReferenceIdeal.nD Cert.ContextMergeReferenceIdeal.τ).loc Cert.ContextMergeReferenceIdeal.main_arg0) = m ((c.tc : Thread Cert.ContextMergeReferenceIdeal.nD Cert.ContextMergeReferenceIdeal.τ).loc Cert.ContextMergeReferenceIdeal.main_arg0)
      ∧ r.2.mem ((c.tc : Thread Cert.ContextMergeReferenceIdeal.nD Cert.ContextMergeReferenceIdeal.τ).loc Cert.ContextMergeReferenceIdeal.main_arg1) = m ((c.tc : Thread Cert.ContextMergeReferenceIdeal.nD Cert.ContextMergeReferenceIdeal.τ).loc Cert.ContextMergeReferenceIdeal.main_arg1)
      ∧ r.2.mem ((c.tc : Thread Cert.ContextMergeReferenceIdeal.nD Cert.ContextMergeReferenceIdeal.τ).loc Cert.ContextMergeReferenceIdeal.main_arg2) = m ((c.tc : Thread Cert.ContextMergeReferenceIdeal.nD Cert.ContextMergeReferenceIdeal.τ).loc Cert.ContextMergeReferenceIdeal.main_arg2)
      ∧ r.2.mem ((c.tc : Thread Cert.ContextMergeReferenceIdeal.nD Cert.ContextMergeReferenceIdeal.τ).loc Cert.ContextMergeReferenceIdeal.main_arg3) = m ((c.tc : Thread Cert.ContextMergeReferenceIdeal.nD Cert.ContextMergeReferenceIdeal.τ).loc Cert.ContextMergeReferenceIdeal.main_arg3)
      ∧ r.2.mem ((c.tc : Thread Cert.ContextMergeReferenceIdeal.nD Cert.ContextMergeReferenceIdeal.τ).loc Cert.ContextMergeReferenceIdeal.main_arg4) = m ((c.tc : Thread Cert.ContextMergeReferenceIdeal.nD Cert.ContextMergeReferenceIdeal.τ).loc Cert.ContextMergeReferenceIdeal.main_arg4)
      ∧ r.2.mem ((c.tc : Thread Cert.ContextMergeReferenceIdeal.nD Cert.ContextMergeReferenceIdeal.τ).loc Cert.ContextMergeReferenceIdeal.main_arg5) = m ((c.tc : Thread Cert.ContextMergeReferenceIdeal.nD Cert.ContextMergeReferenceIdeal.τ).loc Cert.ContextMergeReferenceIdeal.main_arg5)
      ∧ r.2.mem ((c.tc : Thread Cert.ContextMergeReferenceIdeal.nD Cert.ContextMergeReferenceIdeal.τ).loc Cert.ContextMergeReferenceIdeal.main_arg6) = m ((c.tc : Thread Cert.ContextMergeReferenceIdeal.nD Cert.ContextMergeReferenceIdeal.τ).loc Cert.ContextMergeReferenceIdeal.main_arg6)
      ∧ r.2.mem ((c.tc : Thread Cert.ContextMergeReferenceIdeal.nD Cert.ContextMergeReferenceIdeal.τ).loc Cert.ContextMergeReferenceIdeal.main_arg7) = m ((c.tc : Thread Cert.ContextMergeReferenceIdeal.nD Cert.ContextMergeReferenceIdeal.τ).loc Cert.ContextMergeReferenceIdeal.main_arg7)
      ∧ r.2.mem ((c.tc : Thread Cert.ContextMergeReferenceIdeal.nD Cert.ContextMergeReferenceIdeal.τ).loc Cert.ContextMergeReferenceIdeal.main_arg8) = m ((c.tc : Thread Cert.ContextMergeReferenceIdeal.nD Cert.ContextMergeReferenceIdeal.τ).loc Cert.ContextMergeReferenceIdeal.main_arg8)
      ∧ r.2.mem ((c.tc : Thread Cert.ContextMergeReferenceIdeal.nD Cert.ContextMergeReferenceIdeal.τ).loc Cert.ContextMergeReferenceIdeal.main_arg9) = m ((c.tc : Thread Cert.ContextMergeReferenceIdeal.nD Cert.ContextMergeReferenceIdeal.τ).loc Cert.ContextMergeReferenceIdeal.main_arg9)
      ∧ r.2.mem ((c.tc : Thread Cert.ContextMergeReferenceIdeal.nD Cert.ContextMergeReferenceIdeal.τ).loc Cert.ContextMergeReferenceIdeal.main_arg10) = m ((c.tc : Thread Cert.ContextMergeReferenceIdeal.nD Cert.ContextMergeReferenceIdeal.τ).loc Cert.ContextMergeReferenceIdeal.main_arg10)
      ∧ r.2.mem ((c.tc : Thread Cert.ContextMergeReferenceIdeal.nD Cert.ContextMergeReferenceIdeal.τ).loc Cert.ContextMergeReferenceIdeal.main_arg11) = m ((c.tc : Thread Cert.ContextMergeReferenceIdeal.nD Cert.ContextMergeReferenceIdeal.τ).loc Cert.ContextMergeReferenceIdeal.main_arg11)
      ∧ r.2.mem ((c.tc : Thread Cert.ContextMergeReferenceIdeal.nD Cert.ContextMergeReferenceIdeal.τ).loc Cert.ContextMergeReferenceIdeal.main_arg12) = m ((c.tc : Thread Cert.ContextMergeReferenceIdeal.nD Cert.ContextMergeReferenceIdeal.τ).loc Cert.ContextMergeReferenceIdeal.main_arg12))
      ∧ r.2.sem = fun _ => 0)

def quiescent_ContextProjection [hContextProjection : Cert.ContextProjection.Facts] : Prop :=
  ∀ (m : (ℓ : Loc Cert.ContextProjection.nD Cert.ContextProjection.τ Cert.ContextProjection.sig) → Buf (Elt Bits) ℓ) (g : Dev Cert.ContextProjection.nD → PrngReg), Pre_ContextProjection m →
    θ_run (Cert.ContextProjection.defs (F := Bits)) (onTc (τ := Cert.ContextProjection.τ) (Cert.ContextProjection.main (F := Bits))) ⟨m, fun _ => 0, g⟩ (fun r => (∀ c : Dev Cert.ContextProjection.nD,
      r.2.mem ((c.tc : Thread Cert.ContextProjection.nD Cert.ContextProjection.τ).loc Cert.ContextProjection.main_arg0) = m ((c.tc : Thread Cert.ContextProjection.nD Cert.ContextProjection.τ).loc Cert.ContextProjection.main_arg0)
      ∧ r.2.mem ((c.tc : Thread Cert.ContextProjection.nD Cert.ContextProjection.τ).loc Cert.ContextProjection.main_arg1) = m ((c.tc : Thread Cert.ContextProjection.nD Cert.ContextProjection.τ).loc Cert.ContextProjection.main_arg1)
      ∧ r.2.mem ((c.tc : Thread Cert.ContextProjection.nD Cert.ContextProjection.τ).loc Cert.ContextProjection.main_arg2) = m ((c.tc : Thread Cert.ContextProjection.nD Cert.ContextProjection.τ).loc Cert.ContextProjection.main_arg2)
      ∧ r.2.mem ((c.tc : Thread Cert.ContextProjection.nD Cert.ContextProjection.τ).loc Cert.ContextProjection.main_arg3) = m ((c.tc : Thread Cert.ContextProjection.nD Cert.ContextProjection.τ).loc Cert.ContextProjection.main_arg3)
      ∧ r.2.mem ((c.tc : Thread Cert.ContextProjection.nD Cert.ContextProjection.τ).loc Cert.ContextProjection.main_arg4) = m ((c.tc : Thread Cert.ContextProjection.nD Cert.ContextProjection.τ).loc Cert.ContextProjection.main_arg4)
      ∧ r.2.mem ((c.tc : Thread Cert.ContextProjection.nD Cert.ContextProjection.τ).loc Cert.ContextProjection.main_arg5) = m ((c.tc : Thread Cert.ContextProjection.nD Cert.ContextProjection.τ).loc Cert.ContextProjection.main_arg5)
      ∧ r.2.mem ((c.tc : Thread Cert.ContextProjection.nD Cert.ContextProjection.τ).loc Cert.ContextProjection.main_arg6) = m ((c.tc : Thread Cert.ContextProjection.nD Cert.ContextProjection.τ).loc Cert.ContextProjection.main_arg6)
      ∧ r.2.mem ((c.tc : Thread Cert.ContextProjection.nD Cert.ContextProjection.τ).loc Cert.ContextProjection.main_arg7) = m ((c.tc : Thread Cert.ContextProjection.nD Cert.ContextProjection.τ).loc Cert.ContextProjection.main_arg7))
      ∧ r.2.sem = fun _ => 0)

def quiescent_ContextProjectionIdeal [hContextProjectionIdeal : Cert.ContextProjectionIdeal.Facts] : Prop :=
  ∀ (m : (ℓ : Loc Cert.ContextProjectionIdeal.nD Cert.ContextProjectionIdeal.τ Cert.ContextProjectionIdeal.sig) → Buf (Elt Ideal) ℓ) (g : Dev Cert.ContextProjectionIdeal.nD → PrngReg), Pre_ContextProjectionIdeal m →
    θ_run (Cert.ContextProjectionIdeal.defs (F := Ideal)) (onTc (τ := Cert.ContextProjectionIdeal.τ) (Cert.ContextProjectionIdeal.main (F := Ideal))) ⟨m, fun _ => 0, g⟩ (fun r => (∀ c : Dev Cert.ContextProjectionIdeal.nD,
      r.2.mem ((c.tc : Thread Cert.ContextProjectionIdeal.nD Cert.ContextProjectionIdeal.τ).loc Cert.ContextProjectionIdeal.main_arg0) = m ((c.tc : Thread Cert.ContextProjectionIdeal.nD Cert.ContextProjectionIdeal.τ).loc Cert.ContextProjectionIdeal.main_arg0)
      ∧ r.2.mem ((c.tc : Thread Cert.ContextProjectionIdeal.nD Cert.ContextProjectionIdeal.τ).loc Cert.ContextProjectionIdeal.main_arg1) = m ((c.tc : Thread Cert.ContextProjectionIdeal.nD Cert.ContextProjectionIdeal.τ).loc Cert.ContextProjectionIdeal.main_arg1)
      ∧ r.2.mem ((c.tc : Thread Cert.ContextProjectionIdeal.nD Cert.ContextProjectionIdeal.τ).loc Cert.ContextProjectionIdeal.main_arg2) = m ((c.tc : Thread Cert.ContextProjectionIdeal.nD Cert.ContextProjectionIdeal.τ).loc Cert.ContextProjectionIdeal.main_arg2)
      ∧ r.2.mem ((c.tc : Thread Cert.ContextProjectionIdeal.nD Cert.ContextProjectionIdeal.τ).loc Cert.ContextProjectionIdeal.main_arg3) = m ((c.tc : Thread Cert.ContextProjectionIdeal.nD Cert.ContextProjectionIdeal.τ).loc Cert.ContextProjectionIdeal.main_arg3)
      ∧ r.2.mem ((c.tc : Thread Cert.ContextProjectionIdeal.nD Cert.ContextProjectionIdeal.τ).loc Cert.ContextProjectionIdeal.main_arg4) = m ((c.tc : Thread Cert.ContextProjectionIdeal.nD Cert.ContextProjectionIdeal.τ).loc Cert.ContextProjectionIdeal.main_arg4)
      ∧ r.2.mem ((c.tc : Thread Cert.ContextProjectionIdeal.nD Cert.ContextProjectionIdeal.τ).loc Cert.ContextProjectionIdeal.main_arg5) = m ((c.tc : Thread Cert.ContextProjectionIdeal.nD Cert.ContextProjectionIdeal.τ).loc Cert.ContextProjectionIdeal.main_arg5)
      ∧ r.2.mem ((c.tc : Thread Cert.ContextProjectionIdeal.nD Cert.ContextProjectionIdeal.τ).loc Cert.ContextProjectionIdeal.main_arg6) = m ((c.tc : Thread Cert.ContextProjectionIdeal.nD Cert.ContextProjectionIdeal.τ).loc Cert.ContextProjectionIdeal.main_arg6)
      ∧ r.2.mem ((c.tc : Thread Cert.ContextProjectionIdeal.nD Cert.ContextProjectionIdeal.τ).loc Cert.ContextProjectionIdeal.main_arg7) = m ((c.tc : Thread Cert.ContextProjectionIdeal.nD Cert.ContextProjectionIdeal.τ).loc Cert.ContextProjectionIdeal.main_arg7))
      ∧ r.2.sem = fun _ => 0)

def quiescent_ContextProjectionIdeal_pre_bounded_context [hContextProjectionIdeal : Cert.ContextProjectionIdeal.Facts] [hPre_bounded_context : Cert.Pre_bounded_context.Facts] : Prop :=
  ∀ (m : (ℓ : Loc Cert.ContextProjectionIdeal.nD Cert.ContextProjectionIdeal.τ Cert.ContextProjectionIdeal.sig) → Buf (Elt Ideal) ℓ) (g : Dev Cert.ContextProjectionIdeal.nD → PrngReg), Pre_ContextProjectionIdeal_bounded_context m →
    θ_run (Cert.ContextProjectionIdeal.defs (F := Ideal)) (onTc (τ := Cert.ContextProjectionIdeal.τ) (Cert.ContextProjectionIdeal.main (F := Ideal))) ⟨m, fun _ => 0, g⟩ (fun r => (∀ c : Dev Cert.ContextProjectionIdeal.nD,
      r.2.mem ((c.tc : Thread Cert.ContextProjectionIdeal.nD Cert.ContextProjectionIdeal.τ).loc Cert.ContextProjectionIdeal.main_arg0) = m ((c.tc : Thread Cert.ContextProjectionIdeal.nD Cert.ContextProjectionIdeal.τ).loc Cert.ContextProjectionIdeal.main_arg0)
      ∧ r.2.mem ((c.tc : Thread Cert.ContextProjectionIdeal.nD Cert.ContextProjectionIdeal.τ).loc Cert.ContextProjectionIdeal.main_arg1) = m ((c.tc : Thread Cert.ContextProjectionIdeal.nD Cert.ContextProjectionIdeal.τ).loc Cert.ContextProjectionIdeal.main_arg1)
      ∧ r.2.mem ((c.tc : Thread Cert.ContextProjectionIdeal.nD Cert.ContextProjectionIdeal.τ).loc Cert.ContextProjectionIdeal.main_arg2) = m ((c.tc : Thread Cert.ContextProjectionIdeal.nD Cert.ContextProjectionIdeal.τ).loc Cert.ContextProjectionIdeal.main_arg2)
      ∧ r.2.mem ((c.tc : Thread Cert.ContextProjectionIdeal.nD Cert.ContextProjectionIdeal.τ).loc Cert.ContextProjectionIdeal.main_arg3) = m ((c.tc : Thread Cert.ContextProjectionIdeal.nD Cert.ContextProjectionIdeal.τ).loc Cert.ContextProjectionIdeal.main_arg3)
      ∧ r.2.mem ((c.tc : Thread Cert.ContextProjectionIdeal.nD Cert.ContextProjectionIdeal.τ).loc Cert.ContextProjectionIdeal.main_arg4) = m ((c.tc : Thread Cert.ContextProjectionIdeal.nD Cert.ContextProjectionIdeal.τ).loc Cert.ContextProjectionIdeal.main_arg4)
      ∧ r.2.mem ((c.tc : Thread Cert.ContextProjectionIdeal.nD Cert.ContextProjectionIdeal.τ).loc Cert.ContextProjectionIdeal.main_arg5) = m ((c.tc : Thread Cert.ContextProjectionIdeal.nD Cert.ContextProjectionIdeal.τ).loc Cert.ContextProjectionIdeal.main_arg5)
      ∧ r.2.mem ((c.tc : Thread Cert.ContextProjectionIdeal.nD Cert.ContextProjectionIdeal.τ).loc Cert.ContextProjectionIdeal.main_arg6) = m ((c.tc : Thread Cert.ContextProjectionIdeal.nD Cert.ContextProjectionIdeal.τ).loc Cert.ContextProjectionIdeal.main_arg6)
      ∧ r.2.mem ((c.tc : Thread Cert.ContextProjectionIdeal.nD Cert.ContextProjectionIdeal.τ).loc Cert.ContextProjectionIdeal.main_arg7) = m ((c.tc : Thread Cert.ContextProjectionIdeal.nD Cert.ContextProjectionIdeal.τ).loc Cert.ContextProjectionIdeal.main_arg7))
      ∧ r.2.sem = fun _ => 0)

def quiescent_ContextProjectionReferenceIdeal [hContextProjectionReferenceIdeal : Cert.ContextProjectionReferenceIdeal.Facts] : Prop :=
  ∀ (m : (ℓ : Loc Cert.ContextProjectionReferenceIdeal.nD Cert.ContextProjectionReferenceIdeal.τ Cert.ContextProjectionReferenceIdeal.sig) → Buf (Elt Ideal) ℓ) (g : Dev Cert.ContextProjectionReferenceIdeal.nD → PrngReg), Pre_ContextProjectionReferenceIdeal m →
    θ_run (Cert.ContextProjectionReferenceIdeal.defs (F := Ideal)) (onTc (τ := Cert.ContextProjectionReferenceIdeal.τ) (Cert.ContextProjectionReferenceIdeal.main (F := Ideal))) ⟨m, fun _ => 0, g⟩ (fun r => (∀ c : Dev Cert.ContextProjectionReferenceIdeal.nD,
      r.2.mem ((c.tc : Thread Cert.ContextProjectionReferenceIdeal.nD Cert.ContextProjectionReferenceIdeal.τ).loc Cert.ContextProjectionReferenceIdeal.main_arg0) = m ((c.tc : Thread Cert.ContextProjectionReferenceIdeal.nD Cert.ContextProjectionReferenceIdeal.τ).loc Cert.ContextProjectionReferenceIdeal.main_arg0)
      ∧ r.2.mem ((c.tc : Thread Cert.ContextProjectionReferenceIdeal.nD Cert.ContextProjectionReferenceIdeal.τ).loc Cert.ContextProjectionReferenceIdeal.main_arg1) = m ((c.tc : Thread Cert.ContextProjectionReferenceIdeal.nD Cert.ContextProjectionReferenceIdeal.τ).loc Cert.ContextProjectionReferenceIdeal.main_arg1)
      ∧ r.2.mem ((c.tc : Thread Cert.ContextProjectionReferenceIdeal.nD Cert.ContextProjectionReferenceIdeal.τ).loc Cert.ContextProjectionReferenceIdeal.main_arg2) = m ((c.tc : Thread Cert.ContextProjectionReferenceIdeal.nD Cert.ContextProjectionReferenceIdeal.τ).loc Cert.ContextProjectionReferenceIdeal.main_arg2)
      ∧ r.2.mem ((c.tc : Thread Cert.ContextProjectionReferenceIdeal.nD Cert.ContextProjectionReferenceIdeal.τ).loc Cert.ContextProjectionReferenceIdeal.main_arg3) = m ((c.tc : Thread Cert.ContextProjectionReferenceIdeal.nD Cert.ContextProjectionReferenceIdeal.τ).loc Cert.ContextProjectionReferenceIdeal.main_arg3)
      ∧ r.2.mem ((c.tc : Thread Cert.ContextProjectionReferenceIdeal.nD Cert.ContextProjectionReferenceIdeal.τ).loc Cert.ContextProjectionReferenceIdeal.main_arg4) = m ((c.tc : Thread Cert.ContextProjectionReferenceIdeal.nD Cert.ContextProjectionReferenceIdeal.τ).loc Cert.ContextProjectionReferenceIdeal.main_arg4)
      ∧ r.2.mem ((c.tc : Thread Cert.ContextProjectionReferenceIdeal.nD Cert.ContextProjectionReferenceIdeal.τ).loc Cert.ContextProjectionReferenceIdeal.main_arg5) = m ((c.tc : Thread Cert.ContextProjectionReferenceIdeal.nD Cert.ContextProjectionReferenceIdeal.τ).loc Cert.ContextProjectionReferenceIdeal.main_arg5)
      ∧ r.2.mem ((c.tc : Thread Cert.ContextProjectionReferenceIdeal.nD Cert.ContextProjectionReferenceIdeal.τ).loc Cert.ContextProjectionReferenceIdeal.main_arg6) = m ((c.tc : Thread Cert.ContextProjectionReferenceIdeal.nD Cert.ContextProjectionReferenceIdeal.τ).loc Cert.ContextProjectionReferenceIdeal.main_arg6)
      ∧ r.2.mem ((c.tc : Thread Cert.ContextProjectionReferenceIdeal.nD Cert.ContextProjectionReferenceIdeal.τ).loc Cert.ContextProjectionReferenceIdeal.main_arg7) = m ((c.tc : Thread Cert.ContextProjectionReferenceIdeal.nD Cert.ContextProjectionReferenceIdeal.τ).loc Cert.ContextProjectionReferenceIdeal.main_arg7))
      ∧ r.2.sem = fun _ => 0)

def quiescent_ContextProjectionReferenceIdeal_pre_bounded_context [hContextProjectionReferenceIdeal : Cert.ContextProjectionReferenceIdeal.Facts] [hPre_bounded_context : Cert.Pre_bounded_context.Facts] : Prop :=
  ∀ (m : (ℓ : Loc Cert.ContextProjectionReferenceIdeal.nD Cert.ContextProjectionReferenceIdeal.τ Cert.ContextProjectionReferenceIdeal.sig) → Buf (Elt Ideal) ℓ) (g : Dev Cert.ContextProjectionReferenceIdeal.nD → PrngReg), Pre_ContextProjectionReferenceIdeal_bounded_context m →
    θ_run (Cert.ContextProjectionReferenceIdeal.defs (F := Ideal)) (onTc (τ := Cert.ContextProjectionReferenceIdeal.τ) (Cert.ContextProjectionReferenceIdeal.main (F := Ideal))) ⟨m, fun _ => 0, g⟩ (fun r => (∀ c : Dev Cert.ContextProjectionReferenceIdeal.nD,
      r.2.mem ((c.tc : Thread Cert.ContextProjectionReferenceIdeal.nD Cert.ContextProjectionReferenceIdeal.τ).loc Cert.ContextProjectionReferenceIdeal.main_arg0) = m ((c.tc : Thread Cert.ContextProjectionReferenceIdeal.nD Cert.ContextProjectionReferenceIdeal.τ).loc Cert.ContextProjectionReferenceIdeal.main_arg0)
      ∧ r.2.mem ((c.tc : Thread Cert.ContextProjectionReferenceIdeal.nD Cert.ContextProjectionReferenceIdeal.τ).loc Cert.ContextProjectionReferenceIdeal.main_arg1) = m ((c.tc : Thread Cert.ContextProjectionReferenceIdeal.nD Cert.ContextProjectionReferenceIdeal.τ).loc Cert.ContextProjectionReferenceIdeal.main_arg1)
      ∧ r.2.mem ((c.tc : Thread Cert.ContextProjectionReferenceIdeal.nD Cert.ContextProjectionReferenceIdeal.τ).loc Cert.ContextProjectionReferenceIdeal.main_arg2) = m ((c.tc : Thread Cert.ContextProjectionReferenceIdeal.nD Cert.ContextProjectionReferenceIdeal.τ).loc Cert.ContextProjectionReferenceIdeal.main_arg2)
      ∧ r.2.mem ((c.tc : Thread Cert.ContextProjectionReferenceIdeal.nD Cert.ContextProjectionReferenceIdeal.τ).loc Cert.ContextProjectionReferenceIdeal.main_arg3) = m ((c.tc : Thread Cert.ContextProjectionReferenceIdeal.nD Cert.ContextProjectionReferenceIdeal.τ).loc Cert.ContextProjectionReferenceIdeal.main_arg3)
      ∧ r.2.mem ((c.tc : Thread Cert.ContextProjectionReferenceIdeal.nD Cert.ContextProjectionReferenceIdeal.τ).loc Cert.ContextProjectionReferenceIdeal.main_arg4) = m ((c.tc : Thread Cert.ContextProjectionReferenceIdeal.nD Cert.ContextProjectionReferenceIdeal.τ).loc Cert.ContextProjectionReferenceIdeal.main_arg4)
      ∧ r.2.mem ((c.tc : Thread Cert.ContextProjectionReferenceIdeal.nD Cert.ContextProjectionReferenceIdeal.τ).loc Cert.ContextProjectionReferenceIdeal.main_arg5) = m ((c.tc : Thread Cert.ContextProjectionReferenceIdeal.nD Cert.ContextProjectionReferenceIdeal.τ).loc Cert.ContextProjectionReferenceIdeal.main_arg5)
      ∧ r.2.mem ((c.tc : Thread Cert.ContextProjectionReferenceIdeal.nD Cert.ContextProjectionReferenceIdeal.τ).loc Cert.ContextProjectionReferenceIdeal.main_arg6) = m ((c.tc : Thread Cert.ContextProjectionReferenceIdeal.nD Cert.ContextProjectionReferenceIdeal.τ).loc Cert.ContextProjectionReferenceIdeal.main_arg6)
      ∧ r.2.mem ((c.tc : Thread Cert.ContextProjectionReferenceIdeal.nD Cert.ContextProjectionReferenceIdeal.τ).loc Cert.ContextProjectionReferenceIdeal.main_arg7) = m ((c.tc : Thread Cert.ContextProjectionReferenceIdeal.nD Cert.ContextProjectionReferenceIdeal.τ).loc Cert.ContextProjectionReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v24)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v93) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Projection_ProjectionIdeal : Prop :=
  True

def algebraic_ProjectionIdeal_ProjectionReferenceIdeal_pre_bounded [hProjectionIdeal : Cert.ProjectionIdeal.Facts] [hProjectionReferenceIdeal : Cert.ProjectionReferenceIdeal.Facts] [hPre_bounded : Cert.Pre_bounded.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal_bounded m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)
      ∧ m' ((c.tc : Thread Cert.ProjectionReferenceIdeal.nD Cert.ProjectionReferenceIdeal.τ).loc Cert.ProjectionReferenceIdeal.main_arg7) = m ((c.tc : Thread Cert.ProjectionIdeal.nD Cert.ProjectionIdeal.τ).loc Cert.ProjectionIdeal.main_arg7)) →
    ∃ (v0 : (c : Dev Cert.ProjectionIdeal.nD) → Buf (Elt Ideal) ((c.tc : Thread Cert.ProjectionIdeal.nD Cert.ProjectionIdeal.τ).loc Cert.ProjectionIdeal.main_v70_0)) (v1 : (c : Dev Cert.ProjectionIdeal.nD) → Buf (Elt Ideal) ((c.tc : Thread Cert.ProjectionIdeal.nD Cert.ProjectionIdeal.τ).loc Cert.ProjectionIdeal.main_v70_1)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v70_0) = v0 c
          ∧ r.2.mem ((c.tc : Thread Cert.ProjectionIdeal.nD Cert.ProjectionIdeal.τ).loc Cert.ProjectionIdeal.main_v70_1) = v1 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v225) = v0 c
          ∧ r.2.mem ((c.tc : Thread Cert.ProjectionReferenceIdeal.nD Cert.ProjectionReferenceIdeal.τ).loc Cert.ProjectionReferenceIdeal.main_v226) = v1 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6)
          ∧ r.2.mem ((c.tc : Thread Cert.ProjectionReferenceIdeal.nD Cert.ProjectionReferenceIdeal.τ).loc Cert.ProjectionReferenceIdeal.main_arg7) = m' ((c.tc : Thread Cert.ProjectionReferenceIdeal.nD Cert.ProjectionReferenceIdeal.τ).loc Cert.ProjectionReferenceIdeal.main_arg7))

def preserves_ContextMerge_ContextMergeIdeal : Prop :=
  True

def algebraic_ContextMergeIdeal_ContextMergeReferenceIdeal [hContextMergeIdeal : Cert.ContextMergeIdeal.Facts] [hContextMergeReferenceIdeal : Cert.ContextMergeReferenceIdeal.Facts] : Prop :=
  ∀ (m : (ℓ : Loc Cert.ContextMergeIdeal.nD Cert.ContextMergeIdeal.τ Cert.ContextMergeIdeal.sig) → Buf (Elt Ideal) ℓ) (g : Dev Cert.ContextMergeIdeal.nD → PrngReg)
    (m' : (ℓ : Loc Cert.ContextMergeReferenceIdeal.nD Cert.ContextMergeReferenceIdeal.τ Cert.ContextMergeReferenceIdeal.sig) → Buf (Elt Ideal) ℓ) (g' : Dev Cert.ContextMergeReferenceIdeal.nD → PrngReg), Pre_ContextMergeIdeal m →
    (∀ c : Dev Cert.ContextMergeIdeal.nD,
      m' ((c.tc : Thread Cert.ContextMergeReferenceIdeal.nD Cert.ContextMergeReferenceIdeal.τ).loc Cert.ContextMergeReferenceIdeal.main_arg0) = m ((c.tc : Thread Cert.ContextMergeIdeal.nD Cert.ContextMergeIdeal.τ).loc Cert.ContextMergeIdeal.main_arg0)
      ∧ m' ((c.tc : Thread Cert.ContextMergeReferenceIdeal.nD Cert.ContextMergeReferenceIdeal.τ).loc Cert.ContextMergeReferenceIdeal.main_arg1) = m ((c.tc : Thread Cert.ContextMergeIdeal.nD Cert.ContextMergeIdeal.τ).loc Cert.ContextMergeIdeal.main_arg1)
      ∧ m' ((c.tc : Thread Cert.ContextMergeReferenceIdeal.nD Cert.ContextMergeReferenceIdeal.τ).loc Cert.ContextMergeReferenceIdeal.main_arg2) = m ((c.tc : Thread Cert.ContextMergeIdeal.nD Cert.ContextMergeIdeal.τ).loc Cert.ContextMergeIdeal.main_arg2)
      ∧ m' ((c.tc : Thread Cert.ContextMergeReferenceIdeal.nD Cert.ContextMergeReferenceIdeal.τ).loc Cert.ContextMergeReferenceIdeal.main_arg3) = m ((c.tc : Thread Cert.ContextMergeIdeal.nD Cert.ContextMergeIdeal.τ).loc Cert.ContextMergeIdeal.main_arg3)
      ∧ m' ((c.tc : Thread Cert.ContextMergeReferenceIdeal.nD Cert.ContextMergeReferenceIdeal.τ).loc Cert.ContextMergeReferenceIdeal.main_arg4) = m ((c.tc : Thread Cert.ContextMergeIdeal.nD Cert.ContextMergeIdeal.τ).loc Cert.ContextMergeIdeal.main_arg4)
      ∧ m' ((c.tc : Thread Cert.ContextMergeReferenceIdeal.nD Cert.ContextMergeReferenceIdeal.τ).loc Cert.ContextMergeReferenceIdeal.main_arg5) = m ((c.tc : Thread Cert.ContextMergeIdeal.nD Cert.ContextMergeIdeal.τ).loc Cert.ContextMergeIdeal.main_arg5)
      ∧ m' ((c.tc : Thread Cert.ContextMergeReferenceIdeal.nD Cert.ContextMergeReferenceIdeal.τ).loc Cert.ContextMergeReferenceIdeal.main_arg6) = m ((c.tc : Thread Cert.ContextMergeIdeal.nD Cert.ContextMergeIdeal.τ).loc Cert.ContextMergeIdeal.main_arg6)
      ∧ m' ((c.tc : Thread Cert.ContextMergeReferenceIdeal.nD Cert.ContextMergeReferenceIdeal.τ).loc Cert.ContextMergeReferenceIdeal.main_arg7) = m ((c.tc : Thread Cert.ContextMergeIdeal.nD Cert.ContextMergeIdeal.τ).loc Cert.ContextMergeIdeal.main_arg7)
      ∧ m' ((c.tc : Thread Cert.ContextMergeReferenceIdeal.nD Cert.ContextMergeReferenceIdeal.τ).loc Cert.ContextMergeReferenceIdeal.main_arg8) = m ((c.tc : Thread Cert.ContextMergeIdeal.nD Cert.ContextMergeIdeal.τ).loc Cert.ContextMergeIdeal.main_arg8)
      ∧ m' ((c.tc : Thread Cert.ContextMergeReferenceIdeal.nD Cert.ContextMergeReferenceIdeal.τ).loc Cert.ContextMergeReferenceIdeal.main_arg9) = m ((c.tc : Thread Cert.ContextMergeIdeal.nD Cert.ContextMergeIdeal.τ).loc Cert.ContextMergeIdeal.main_arg9)
      ∧ m' ((c.tc : Thread Cert.ContextMergeReferenceIdeal.nD Cert.ContextMergeReferenceIdeal.τ).loc Cert.ContextMergeReferenceIdeal.main_arg10) = m ((c.tc : Thread Cert.ContextMergeIdeal.nD Cert.ContextMergeIdeal.τ).loc Cert.ContextMergeIdeal.main_arg10)
      ∧ m' ((c.tc : Thread Cert.ContextMergeReferenceIdeal.nD Cert.ContextMergeReferenceIdeal.τ).loc Cert.ContextMergeReferenceIdeal.main_arg11) = m ((c.tc : Thread Cert.ContextMergeIdeal.nD Cert.ContextMergeIdeal.τ).loc Cert.ContextMergeIdeal.main_arg11)
      ∧ m' ((c.tc : Thread Cert.ContextMergeReferenceIdeal.nD Cert.ContextMergeReferenceIdeal.τ).loc Cert.ContextMergeReferenceIdeal.main_arg12) = m ((c.tc : Thread Cert.ContextMergeIdeal.nD Cert.ContextMergeIdeal.τ).loc Cert.ContextMergeIdeal.main_arg12)) →
    ∃ (v0 : (c : Dev Cert.ContextMergeIdeal.nD) → Buf (Elt Ideal) ((c.tc : Thread Cert.ContextMergeIdeal.nD Cert.ContextMergeIdeal.τ).loc Cert.ContextMergeIdeal.main_v26)),
      θ_run (Cert.ContextMergeIdeal.defs (F := Ideal)) (onTc (τ := Cert.ContextMergeIdeal.τ) (Cert.ContextMergeIdeal.main (F := Ideal))) ⟨m, fun _ => 0, g⟩ (fun r => ∀ c : Dev Cert.ContextMergeIdeal.nD,
          r.2.mem ((c.tc : Thread Cert.ContextMergeIdeal.nD Cert.ContextMergeIdeal.τ).loc Cert.ContextMergeIdeal.main_v26) = v0 c
          ∧ r.2.mem ((c.tc : Thread Cert.ContextMergeIdeal.nD Cert.ContextMergeIdeal.τ).loc Cert.ContextMergeIdeal.main_arg0) = m ((c.tc : Thread Cert.ContextMergeIdeal.nD Cert.ContextMergeIdeal.τ).loc Cert.ContextMergeIdeal.main_arg0)
          ∧ r.2.mem ((c.tc : Thread Cert.ContextMergeIdeal.nD Cert.ContextMergeIdeal.τ).loc Cert.ContextMergeIdeal.main_arg1) = m ((c.tc : Thread Cert.ContextMergeIdeal.nD Cert.ContextMergeIdeal.τ).loc Cert.ContextMergeIdeal.main_arg1)
          ∧ r.2.mem ((c.tc : Thread Cert.ContextMergeIdeal.nD Cert.ContextMergeIdeal.τ).loc Cert.ContextMergeIdeal.main_arg2) = m ((c.tc : Thread Cert.ContextMergeIdeal.nD Cert.ContextMergeIdeal.τ).loc Cert.ContextMergeIdeal.main_arg2)
          ∧ r.2.mem ((c.tc : Thread Cert.ContextMergeIdeal.nD Cert.ContextMergeIdeal.τ).loc Cert.ContextMergeIdeal.main_arg3) = m ((c.tc : Thread Cert.ContextMergeIdeal.nD Cert.ContextMergeIdeal.τ).loc Cert.ContextMergeIdeal.main_arg3)
          ∧ r.2.mem ((c.tc : Thread Cert.ContextMergeIdeal.nD Cert.ContextMergeIdeal.τ).loc Cert.ContextMergeIdeal.main_arg4) = m ((c.tc : Thread Cert.ContextMergeIdeal.nD Cert.ContextMergeIdeal.τ).loc Cert.ContextMergeIdeal.main_arg4)
          ∧ r.2.mem ((c.tc : Thread Cert.ContextMergeIdeal.nD Cert.ContextMergeIdeal.τ).loc Cert.ContextMergeIdeal.main_arg5) = m ((c.tc : Thread Cert.ContextMergeIdeal.nD Cert.ContextMergeIdeal.τ).loc Cert.ContextMergeIdeal.main_arg5)
          ∧ r.2.mem ((c.tc : Thread Cert.ContextMergeIdeal.nD Cert.ContextMergeIdeal.τ).loc Cert.ContextMergeIdeal.main_arg6) = m ((c.tc : Thread Cert.ContextMergeIdeal.nD Cert.ContextMergeIdeal.τ).loc Cert.ContextMergeIdeal.main_arg6)
          ∧ r.2.mem ((c.tc : Thread Cert.ContextMergeIdeal.nD Cert.ContextMergeIdeal.τ).loc Cert.ContextMergeIdeal.main_arg7) = m ((c.tc : Thread Cert.ContextMergeIdeal.nD Cert.ContextMergeIdeal.τ).loc Cert.ContextMergeIdeal.main_arg7)
          ∧ r.2.mem ((c.tc : Thread Cert.ContextMergeIdeal.nD Cert.ContextMergeIdeal.τ).loc Cert.ContextMergeIdeal.main_arg8) = m ((c.tc : Thread Cert.ContextMergeIdeal.nD Cert.ContextMergeIdeal.τ).loc Cert.ContextMergeIdeal.main_arg8)
          ∧ r.2.mem ((c.tc : Thread Cert.ContextMergeIdeal.nD Cert.ContextMergeIdeal.τ).loc Cert.ContextMergeIdeal.main_arg9) = m ((c.tc : Thread Cert.ContextMergeIdeal.nD Cert.ContextMergeIdeal.τ).loc Cert.ContextMergeIdeal.main_arg9)
          ∧ r.2.mem ((c.tc : Thread Cert.ContextMergeIdeal.nD Cert.ContextMergeIdeal.τ).loc Cert.ContextMergeIdeal.main_arg10) = m ((c.tc : Thread Cert.ContextMergeIdeal.nD Cert.ContextMergeIdeal.τ).loc Cert.ContextMergeIdeal.main_arg10)
          ∧ r.2.mem ((c.tc : Thread Cert.ContextMergeIdeal.nD Cert.ContextMergeIdeal.τ).loc Cert.ContextMergeIdeal.main_arg11) = m ((c.tc : Thread Cert.ContextMergeIdeal.nD Cert.ContextMergeIdeal.τ).loc Cert.ContextMergeIdeal.main_arg11)
          ∧ r.2.mem ((c.tc : Thread Cert.ContextMergeIdeal.nD Cert.ContextMergeIdeal.τ).loc Cert.ContextMergeIdeal.main_arg12) = m ((c.tc : Thread Cert.ContextMergeIdeal.nD Cert.ContextMergeIdeal.τ).loc Cert.ContextMergeIdeal.main_arg12))
      ∧ θ_run (Cert.ContextMergeReferenceIdeal.defs (F := Ideal)) (onTc (τ := Cert.ContextMergeReferenceIdeal.τ) (Cert.ContextMergeReferenceIdeal.main (F := Ideal))) ⟨m', fun _ => 0, g'⟩ (fun r => ∀ c : Dev Cert.ContextMergeReferenceIdeal.nD,
          r.2.mem ((c.tc : Thread Cert.ContextMergeReferenceIdeal.nD Cert.ContextMergeReferenceIdeal.τ).loc Cert.ContextMergeReferenceIdeal.main_v93) = v0 c
          ∧ r.2.mem ((c.tc : Thread Cert.ContextMergeReferenceIdeal.nD Cert.ContextMergeReferenceIdeal.τ).loc Cert.ContextMergeReferenceIdeal.main_arg0) = m' ((c.tc : Thread Cert.ContextMergeReferenceIdeal.nD Cert.ContextMergeReferenceIdeal.τ).loc Cert.ContextMergeReferenceIdeal.main_arg0)
          ∧ r.2.mem ((c.tc : Thread Cert.ContextMergeReferenceIdeal.nD Cert.ContextMergeReferenceIdeal.τ).loc Cert.ContextMergeReferenceIdeal.main_arg1) = m' ((c.tc : Thread Cert.ContextMergeReferenceIdeal.nD Cert.ContextMergeReferenceIdeal.τ).loc Cert.ContextMergeReferenceIdeal.main_arg1)
          ∧ r.2.mem ((c.tc : Thread Cert.ContextMergeReferenceIdeal.nD Cert.ContextMergeReferenceIdeal.τ).loc Cert.ContextMergeReferenceIdeal.main_arg2) = m' ((c.tc : Thread Cert.ContextMergeReferenceIdeal.nD Cert.ContextMergeReferenceIdeal.τ).loc Cert.ContextMergeReferenceIdeal.main_arg2)
          ∧ r.2.mem ((c.tc : Thread Cert.ContextMergeReferenceIdeal.nD Cert.ContextMergeReferenceIdeal.τ).loc Cert.ContextMergeReferenceIdeal.main_arg3) = m' ((c.tc : Thread Cert.ContextMergeReferenceIdeal.nD Cert.ContextMergeReferenceIdeal.τ).loc Cert.ContextMergeReferenceIdeal.main_arg3)
          ∧ r.2.mem ((c.tc : Thread Cert.ContextMergeReferenceIdeal.nD Cert.ContextMergeReferenceIdeal.τ).loc Cert.ContextMergeReferenceIdeal.main_arg4) = m' ((c.tc : Thread Cert.ContextMergeReferenceIdeal.nD Cert.ContextMergeReferenceIdeal.τ).loc Cert.ContextMergeReferenceIdeal.main_arg4)
          ∧ r.2.mem ((c.tc : Thread Cert.ContextMergeReferenceIdeal.nD Cert.ContextMergeReferenceIdeal.τ).loc Cert.ContextMergeReferenceIdeal.main_arg5) = m' ((c.tc : Thread Cert.ContextMergeReferenceIdeal.nD Cert.ContextMergeReferenceIdeal.τ).loc Cert.ContextMergeReferenceIdeal.main_arg5)
          ∧ r.2.mem ((c.tc : Thread Cert.ContextMergeReferenceIdeal.nD Cert.ContextMergeReferenceIdeal.τ).loc Cert.ContextMergeReferenceIdeal.main_arg6) = m' ((c.tc : Thread Cert.ContextMergeReferenceIdeal.nD Cert.ContextMergeReferenceIdeal.τ).loc Cert.ContextMergeReferenceIdeal.main_arg6)
          ∧ r.2.mem ((c.tc : Thread Cert.ContextMergeReferenceIdeal.nD Cert.ContextMergeReferenceIdeal.τ).loc Cert.ContextMergeReferenceIdeal.main_arg7) = m' ((c.tc : Thread Cert.ContextMergeReferenceIdeal.nD Cert.ContextMergeReferenceIdeal.τ).loc Cert.ContextMergeReferenceIdeal.main_arg7)
          ∧ r.2.mem ((c.tc : Thread Cert.ContextMergeReferenceIdeal.nD Cert.ContextMergeReferenceIdeal.τ).loc Cert.ContextMergeReferenceIdeal.main_arg8) = m' ((c.tc : Thread Cert.ContextMergeReferenceIdeal.nD Cert.ContextMergeReferenceIdeal.τ).loc Cert.ContextMergeReferenceIdeal.main_arg8)
          ∧ r.2.mem ((c.tc : Thread Cert.ContextMergeReferenceIdeal.nD Cert.ContextMergeReferenceIdeal.τ).loc Cert.ContextMergeReferenceIdeal.main_arg9) = m' ((c.tc : Thread Cert.ContextMergeReferenceIdeal.nD Cert.ContextMergeReferenceIdeal.τ).loc Cert.ContextMergeReferenceIdeal.main_arg9)
          ∧ r.2.mem ((c.tc : Thread Cert.ContextMergeReferenceIdeal.nD Cert.ContextMergeReferenceIdeal.τ).loc Cert.ContextMergeReferenceIdeal.main_arg10) = m' ((c.tc : Thread Cert.ContextMergeReferenceIdeal.nD Cert.ContextMergeReferenceIdeal.τ).loc Cert.ContextMergeReferenceIdeal.main_arg10)
          ∧ r.2.mem ((c.tc : Thread Cert.ContextMergeReferenceIdeal.nD Cert.ContextMergeReferenceIdeal.τ).loc Cert.ContextMergeReferenceIdeal.main_arg11) = m' ((c.tc : Thread Cert.ContextMergeReferenceIdeal.nD Cert.ContextMergeReferenceIdeal.τ).loc Cert.ContextMergeReferenceIdeal.main_arg11)
          ∧ r.2.mem ((c.tc : Thread Cert.ContextMergeReferenceIdeal.nD Cert.ContextMergeReferenceIdeal.τ).loc Cert.ContextMergeReferenceIdeal.main_arg12) = m' ((c.tc : Thread Cert.ContextMergeReferenceIdeal.nD Cert.ContextMergeReferenceIdeal.τ).loc Cert.ContextMergeReferenceIdeal.main_arg12))

def preserves_ContextProjection_ContextProjectionIdeal : Prop :=
  True

def algebraic_ContextProjectionIdeal_ContextProjectionReferenceIdeal_pre_bounded_context [hContextProjectionIdeal : Cert.ContextProjectionIdeal.Facts] [hContextProjectionReferenceIdeal : Cert.ContextProjectionReferenceIdeal.Facts] [hPre_bounded_context : Cert.Pre_bounded_context.Facts] : Prop :=
  ∀ (m : (ℓ : Loc Cert.ContextProjectionIdeal.nD Cert.ContextProjectionIdeal.τ Cert.ContextProjectionIdeal.sig) → Buf (Elt Ideal) ℓ) (g : Dev Cert.ContextProjectionIdeal.nD → PrngReg)
    (m' : (ℓ : Loc Cert.ContextProjectionReferenceIdeal.nD Cert.ContextProjectionReferenceIdeal.τ Cert.ContextProjectionReferenceIdeal.sig) → Buf (Elt Ideal) ℓ) (g' : Dev Cert.ContextProjectionReferenceIdeal.nD → PrngReg), Pre_ContextProjectionIdeal_bounded_context m →
    (∀ c : Dev Cert.ContextProjectionIdeal.nD,
      m' ((c.tc : Thread Cert.ContextProjectionReferenceIdeal.nD Cert.ContextProjectionReferenceIdeal.τ).loc Cert.ContextProjectionReferenceIdeal.main_arg0) = m ((c.tc : Thread Cert.ContextProjectionIdeal.nD Cert.ContextProjectionIdeal.τ).loc Cert.ContextProjectionIdeal.main_arg0)
      ∧ m' ((c.tc : Thread Cert.ContextProjectionReferenceIdeal.nD Cert.ContextProjectionReferenceIdeal.τ).loc Cert.ContextProjectionReferenceIdeal.main_arg1) = m ((c.tc : Thread Cert.ContextProjectionIdeal.nD Cert.ContextProjectionIdeal.τ).loc Cert.ContextProjectionIdeal.main_arg1)
      ∧ m' ((c.tc : Thread Cert.ContextProjectionReferenceIdeal.nD Cert.ContextProjectionReferenceIdeal.τ).loc Cert.ContextProjectionReferenceIdeal.main_arg2) = m ((c.tc : Thread Cert.ContextProjectionIdeal.nD Cert.ContextProjectionIdeal.τ).loc Cert.ContextProjectionIdeal.main_arg2)
      ∧ m' ((c.tc : Thread Cert.ContextProjectionReferenceIdeal.nD Cert.ContextProjectionReferenceIdeal.τ).loc Cert.ContextProjectionReferenceIdeal.main_arg3) = m ((c.tc : Thread Cert.ContextProjectionIdeal.nD Cert.ContextProjectionIdeal.τ).loc Cert.ContextProjectionIdeal.main_arg3)
      ∧ m' ((c.tc : Thread Cert.ContextProjectionReferenceIdeal.nD Cert.ContextProjectionReferenceIdeal.τ).loc Cert.ContextProjectionReferenceIdeal.main_arg4) = m ((c.tc : Thread Cert.ContextProjectionIdeal.nD Cert.ContextProjectionIdeal.τ).loc Cert.ContextProjectionIdeal.main_arg4)
      ∧ m' ((c.tc : Thread Cert.ContextProjectionReferenceIdeal.nD Cert.ContextProjectionReferenceIdeal.τ).loc Cert.ContextProjectionReferenceIdeal.main_arg5) = m ((c.tc : Thread Cert.ContextProjectionIdeal.nD Cert.ContextProjectionIdeal.τ).loc Cert.ContextProjectionIdeal.main_arg5)
      ∧ m' ((c.tc : Thread Cert.ContextProjectionReferenceIdeal.nD Cert.ContextProjectionReferenceIdeal.τ).loc Cert.ContextProjectionReferenceIdeal.main_arg6) = m ((c.tc : Thread Cert.ContextProjectionIdeal.nD Cert.ContextProjectionIdeal.τ).loc Cert.ContextProjectionIdeal.main_arg6)
      ∧ m' ((c.tc : Thread Cert.ContextProjectionReferenceIdeal.nD Cert.ContextProjectionReferenceIdeal.τ).loc Cert.ContextProjectionReferenceIdeal.main_arg7) = m ((c.tc : Thread Cert.ContextProjectionIdeal.nD Cert.ContextProjectionIdeal.τ).loc Cert.ContextProjectionIdeal.main_arg7)) →
    ∃ (v0 : (c : Dev Cert.ContextProjectionIdeal.nD) → Buf (Elt Ideal) ((c.tc : Thread Cert.ContextProjectionIdeal.nD Cert.ContextProjectionIdeal.τ).loc Cert.ContextProjectionIdeal.main_v72_0)) (v1 : (c : Dev Cert.ContextProjectionIdeal.nD) → Buf (Elt Ideal) ((c.tc : Thread Cert.ContextProjectionIdeal.nD Cert.ContextProjectionIdeal.τ).loc Cert.ContextProjectionIdeal.main_v72_1)),
      θ_run (Cert.ContextProjectionIdeal.defs (F := Ideal)) (onTc (τ := Cert.ContextProjectionIdeal.τ) (Cert.ContextProjectionIdeal.main (F := Ideal))) ⟨m, fun _ => 0, g⟩ (fun r => ∀ c : Dev Cert.ContextProjectionIdeal.nD,
          r.2.mem ((c.tc : Thread Cert.ContextProjectionIdeal.nD Cert.ContextProjectionIdeal.τ).loc Cert.ContextProjectionIdeal.main_v72_0) = v0 c
          ∧ r.2.mem ((c.tc : Thread Cert.ContextProjectionIdeal.nD Cert.ContextProjectionIdeal.τ).loc Cert.ContextProjectionIdeal.main_v72_1) = v1 c
          ∧ r.2.mem ((c.tc : Thread Cert.ContextProjectionIdeal.nD Cert.ContextProjectionIdeal.τ).loc Cert.ContextProjectionIdeal.main_arg0) = m ((c.tc : Thread Cert.ContextProjectionIdeal.nD Cert.ContextProjectionIdeal.τ).loc Cert.ContextProjectionIdeal.main_arg0)
          ∧ r.2.mem ((c.tc : Thread Cert.ContextProjectionIdeal.nD Cert.ContextProjectionIdeal.τ).loc Cert.ContextProjectionIdeal.main_arg1) = m ((c.tc : Thread Cert.ContextProjectionIdeal.nD Cert.ContextProjectionIdeal.τ).loc Cert.ContextProjectionIdeal.main_arg1)
          ∧ r.2.mem ((c.tc : Thread Cert.ContextProjectionIdeal.nD Cert.ContextProjectionIdeal.τ).loc Cert.ContextProjectionIdeal.main_arg2) = m ((c.tc : Thread Cert.ContextProjectionIdeal.nD Cert.ContextProjectionIdeal.τ).loc Cert.ContextProjectionIdeal.main_arg2)
          ∧ r.2.mem ((c.tc : Thread Cert.ContextProjectionIdeal.nD Cert.ContextProjectionIdeal.τ).loc Cert.ContextProjectionIdeal.main_arg3) = m ((c.tc : Thread Cert.ContextProjectionIdeal.nD Cert.ContextProjectionIdeal.τ).loc Cert.ContextProjectionIdeal.main_arg3)
          ∧ r.2.mem ((c.tc : Thread Cert.ContextProjectionIdeal.nD Cert.ContextProjectionIdeal.τ).loc Cert.ContextProjectionIdeal.main_arg4) = m ((c.tc : Thread Cert.ContextProjectionIdeal.nD Cert.ContextProjectionIdeal.τ).loc Cert.ContextProjectionIdeal.main_arg4)
          ∧ r.2.mem ((c.tc : Thread Cert.ContextProjectionIdeal.nD Cert.ContextProjectionIdeal.τ).loc Cert.ContextProjectionIdeal.main_arg5) = m ((c.tc : Thread Cert.ContextProjectionIdeal.nD Cert.ContextProjectionIdeal.τ).loc Cert.ContextProjectionIdeal.main_arg5)
          ∧ r.2.mem ((c.tc : Thread Cert.ContextProjectionIdeal.nD Cert.ContextProjectionIdeal.τ).loc Cert.ContextProjectionIdeal.main_arg6) = m ((c.tc : Thread Cert.ContextProjectionIdeal.nD Cert.ContextProjectionIdeal.τ).loc Cert.ContextProjectionIdeal.main_arg6)
          ∧ r.2.mem ((c.tc : Thread Cert.ContextProjectionIdeal.nD Cert.ContextProjectionIdeal.τ).loc Cert.ContextProjectionIdeal.main_arg7) = m ((c.tc : Thread Cert.ContextProjectionIdeal.nD Cert.ContextProjectionIdeal.τ).loc Cert.ContextProjectionIdeal.main_arg7))
      ∧ θ_run (Cert.ContextProjectionReferenceIdeal.defs (F := Ideal)) (onTc (τ := Cert.ContextProjectionReferenceIdeal.τ) (Cert.ContextProjectionReferenceIdeal.main (F := Ideal))) ⟨m', fun _ => 0, g'⟩ (fun r => ∀ c : Dev Cert.ContextProjectionReferenceIdeal.nD,
          r.2.mem ((c.tc : Thread Cert.ContextProjectionReferenceIdeal.nD Cert.ContextProjectionReferenceIdeal.τ).loc Cert.ContextProjectionReferenceIdeal.main_v167) = v0 c
          ∧ r.2.mem ((c.tc : Thread Cert.ContextProjectionReferenceIdeal.nD Cert.ContextProjectionReferenceIdeal.τ).loc Cert.ContextProjectionReferenceIdeal.main_v168) = v1 c
          ∧ r.2.mem ((c.tc : Thread Cert.ContextProjectionReferenceIdeal.nD Cert.ContextProjectionReferenceIdeal.τ).loc Cert.ContextProjectionReferenceIdeal.main_arg0) = m' ((c.tc : Thread Cert.ContextProjectionReferenceIdeal.nD Cert.ContextProjectionReferenceIdeal.τ).loc Cert.ContextProjectionReferenceIdeal.main_arg0)
          ∧ r.2.mem ((c.tc : Thread Cert.ContextProjectionReferenceIdeal.nD Cert.ContextProjectionReferenceIdeal.τ).loc Cert.ContextProjectionReferenceIdeal.main_arg1) = m' ((c.tc : Thread Cert.ContextProjectionReferenceIdeal.nD Cert.ContextProjectionReferenceIdeal.τ).loc Cert.ContextProjectionReferenceIdeal.main_arg1)
          ∧ r.2.mem ((c.tc : Thread Cert.ContextProjectionReferenceIdeal.nD Cert.ContextProjectionReferenceIdeal.τ).loc Cert.ContextProjectionReferenceIdeal.main_arg2) = m' ((c.tc : Thread Cert.ContextProjectionReferenceIdeal.nD Cert.ContextProjectionReferenceIdeal.τ).loc Cert.ContextProjectionReferenceIdeal.main_arg2)
          ∧ r.2.mem ((c.tc : Thread Cert.ContextProjectionReferenceIdeal.nD Cert.ContextProjectionReferenceIdeal.τ).loc Cert.ContextProjectionReferenceIdeal.main_arg3) = m' ((c.tc : Thread Cert.ContextProjectionReferenceIdeal.nD Cert.ContextProjectionReferenceIdeal.τ).loc Cert.ContextProjectionReferenceIdeal.main_arg3)
          ∧ r.2.mem ((c.tc : Thread Cert.ContextProjectionReferenceIdeal.nD Cert.ContextProjectionReferenceIdeal.τ).loc Cert.ContextProjectionReferenceIdeal.main_arg4) = m' ((c.tc : Thread Cert.ContextProjectionReferenceIdeal.nD Cert.ContextProjectionReferenceIdeal.τ).loc Cert.ContextProjectionReferenceIdeal.main_arg4)
          ∧ r.2.mem ((c.tc : Thread Cert.ContextProjectionReferenceIdeal.nD Cert.ContextProjectionReferenceIdeal.τ).loc Cert.ContextProjectionReferenceIdeal.main_arg5) = m' ((c.tc : Thread Cert.ContextProjectionReferenceIdeal.nD Cert.ContextProjectionReferenceIdeal.τ).loc Cert.ContextProjectionReferenceIdeal.main_arg5)
          ∧ r.2.mem ((c.tc : Thread Cert.ContextProjectionReferenceIdeal.nD Cert.ContextProjectionReferenceIdeal.τ).loc Cert.ContextProjectionReferenceIdeal.main_arg6) = m' ((c.tc : Thread Cert.ContextProjectionReferenceIdeal.nD Cert.ContextProjectionReferenceIdeal.τ).loc Cert.ContextProjectionReferenceIdeal.main_arg6)
          ∧ r.2.mem ((c.tc : Thread Cert.ContextProjectionReferenceIdeal.nD Cert.ContextProjectionReferenceIdeal.τ).loc Cert.ContextProjectionReferenceIdeal.main_arg7) = m' ((c.tc : Thread Cert.ContextProjectionReferenceIdeal.nD Cert.ContextProjectionReferenceIdeal.τ).loc Cert.ContextProjectionReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProjection : Cert.Projection.Facts) (hProjectionIdeal : Cert.ProjectionIdeal.Facts) (hProjectionReferenceIdeal : Cert.ProjectionReferenceIdeal.Facts) (hContextMerge : Cert.ContextMerge.Facts) (hContextMergeIdeal : Cert.ContextMergeIdeal.Facts) (hContextMergeReferenceIdeal : Cert.ContextMergeReferenceIdeal.Facts) (hContextProjection : Cert.ContextProjection.Facts) (hContextProjectionIdeal : Cert.ContextProjectionIdeal.Facts) (hContextProjectionReferenceIdeal : Cert.ContextProjectionReferenceIdeal.Facts) (hPre_finite : Cert.Pre_finite.Facts) (hPre_bounded : Cert.Pre_bounded.Facts) (hPre_bounded_context : Cert.Pre_bounded_context.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Projection (hProjection := hProjection)
    ∧ quiescent_ProjectionIdeal (hProjectionIdeal := hProjectionIdeal)
    ∧ quiescent_ProjectionIdeal_pre_bounded (hProjectionIdeal := hProjectionIdeal) (hPre_bounded := hPre_bounded)
    ∧ quiescent_ProjectionReferenceIdeal (hProjectionReferenceIdeal := hProjectionReferenceIdeal)
    ∧ quiescent_ProjectionReferenceIdeal_pre_bounded (hProjectionReferenceIdeal := hProjectionReferenceIdeal) (hPre_bounded := hPre_bounded)
    ∧ quiescent_ContextMerge (hContextMerge := hContextMerge)
    ∧ quiescent_ContextMergeIdeal (hContextMergeIdeal := hContextMergeIdeal)
    ∧ quiescent_ContextMergeReferenceIdeal (hContextMergeReferenceIdeal := hContextMergeReferenceIdeal)
    ∧ quiescent_ContextProjection (hContextProjection := hContextProjection)
    ∧ quiescent_ContextProjectionIdeal (hContextProjectionIdeal := hContextProjectionIdeal)
    ∧ quiescent_ContextProjectionIdeal_pre_bounded_context (hContextProjectionIdeal := hContextProjectionIdeal) (hPre_bounded_context := hPre_bounded_context)
    ∧ quiescent_ContextProjectionReferenceIdeal (hContextProjectionReferenceIdeal := hContextProjectionReferenceIdeal)
    ∧ quiescent_ContextProjectionReferenceIdeal_pre_bounded_context (hContextProjectionReferenceIdeal := hContextProjectionReferenceIdeal) (hPre_bounded_context := hPre_bounded_context)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Projection_ProjectionIdeal
    ∧ algebraic_ProjectionIdeal_ProjectionReferenceIdeal_pre_bounded (hProjectionIdeal := hProjectionIdeal) (hProjectionReferenceIdeal := hProjectionReferenceIdeal) (hPre_bounded := hPre_bounded)
    ∧ preserves_ContextMerge_ContextMergeIdeal
    ∧ algebraic_ContextMergeIdeal_ContextMergeReferenceIdeal (hContextMergeIdeal := hContextMergeIdeal) (hContextMergeReferenceIdeal := hContextMergeReferenceIdeal)
    ∧ preserves_ContextProjection_ContextProjectionIdeal
    ∧ algebraic_ContextProjectionIdeal_ContextProjectionReferenceIdeal_pre_bounded_context (hContextProjectionIdeal := hContextProjectionIdeal) (hContextProjectionReferenceIdeal := hContextProjectionReferenceIdeal) (hPre_bounded_context := hPre_bounded_context)
-- ==== Pre_bounded.lean ====
abbrev S16x2048x1024 : Shape := ⟨3, ![16, 2048, 1024]⟩
abbrev S16x1024 : Shape := ⟨2, ![16, 1024]⟩
abbrev S1024 : Shape := ⟨1, ![1024]⟩
abbrev S1024x3840 : Shape := ⟨2, ![1024, 3840]⟩
abbrev S2x32 : Shape := ⟨2, ![2, 32]⟩
abbrev S2x64 : Shape := ⟨2, ![2, 64]⟩
abbrev S2x256 : Shape := ⟨2, ![2, 256]⟩
abbrev S_ : Shape := ⟨0, ![]⟩

class Facts : Prop where
  bcast_S_S2x256 : S_.BroadcastsInDim S2x256 (![] : Fin 0 → Fin S2x256.rank)

variable [Facts]

def fn {F : FTy → Type} [FloatOps F] (main_arg0 : FVec F S16x2048x1024 .f32) (main_arg1 : FVec F S16x1024 .f32) (main_arg2 : FVec F S16x1024 .f32) (main_arg3 : FVec F S1024 .f32) (main_arg4 : FVec F S1024x3840 .f32) (main_arg5 : FVec F S2x32 .f32) (main_arg6 : FVec F S2x64 .f32) (main_arg7 : FVec F S2x256 .f32) : IVec S2x256 1 :=
  let main_cst : FVec F S_ .f32 := constant S_ .f32 0x3F800000#32
  let main_v0 : FVec F S2x256 .f32 := broadcastInDim S2x256 ![] bcast_S_S2x256 main_cst
  let main_v1 : IVec S2x256 1 := cmpf .ole main_arg7 main_v0
  main_v1
-- ==== Pre_bounded_context.lean ====
abbrev S16x256x1024 : Shape := ⟨3, ![16, 256, 1024]⟩
abbrev S1024 : Shape := ⟨1, ![1024]⟩
abbrev S1024x3840 : Shape := ⟨2, ![1024, 3840]⟩
abbrev S2x32 : Shape := ⟨2, ![2, 32]⟩
abbrev S2x64 : Shape := ⟨2, ![2, 64]⟩
abbrev S2x256 : Shape := ⟨2, ![2, 256]⟩
abbrev S_ : Shape := ⟨0, ![]⟩

class Facts : Prop where
  bcast_S_S2x256 : S_.BroadcastsInDim S2x256 (![] : Fin 0 → Fin S2x256.rank)

variable [Facts]

def fn {F : FTy → Type} [FloatOps F] (main_arg0 : FVec F S16x256x1024 .f32) (main_arg1 : FVec F S1024 .f32) (main_arg2 : FVec F S1024 .f32) (main_arg3 : FVec F S1024 .f32) (main_arg4 : FVec F S1024x3840 .f32) (main_arg5 : FVec F S2x32 .f32) (main_arg6 : FVec F S2x64 .f32) (main_arg7 : FVec F S2x256 .f32) : IVec S2x256 1 :=
  let main_cst : FVec F S_ .f32 := constant S_ .f32 0x3F800000#32
  let main_v0 : FVec F S2x256 .f32 := broadcastInDim S2x256 ![] bcast_S_S2x256 main_cst
  let main_v1 : IVec S2x256 1 := cmpf .ole main_arg7 main_v0
  main_v1
-- ==== Pre_finite.lean ====
abbrev S16x2048x8x32 : Shape := ⟨4, ![16, 2048, 8, 32]⟩
abbrev S16x2048x4x64 : Shape := ⟨4, ![16, 2048, 4, 64]⟩
abbrev S16x256x8x32 : Shape := ⟨4, ![16, 256, 8, 32]⟩
abbrev S16x256x4x64 : Shape := ⟨4, ![16, 256, 4, 64]⟩
abbrev S4x32 : Shape := ⟨2, ![4, 32]⟩
abbrev S64 : Shape := ⟨1, ![64]⟩
abbrev S_ : Shape := ⟨0, ![]⟩

class Facts : Prop where
  bcast_S_S16x2048x8x32 : S_.BroadcastsInDim S16x2048x8x32 (![] : Fin 0 → Fin S16x2048x8x32.rank)
  bcast_S_S16x2048x4x64 : S_.BroadcastsInDim S16x2048x4x64 (![] : Fin 0 → Fin S16x2048x4x64.rank)
  bcast_S_S16x256x8x32 : S_.BroadcastsInDim S16x256x8x32 (![] : Fin 0 → Fin S16x256x8x32.rank)
  bcast_S_S16x256x4x64 : S_.BroadcastsInDim S16x256x4x64 (![] : Fin 0 → Fin S16x256x4x64.rank)
  bcast_S_S4x32 : S_.BroadcastsInDim S4x32 (![] : Fin 0 → Fin S4x32.rank)

variable [Facts]

def fn {F : FTy → Type} [FloatOps F] (main_arg0 : FVec F S16x2048x8x32 .f32) (main_arg1 : FVec F S16x2048x8x32 .f32) (main_arg2 : FVec F S16x2048x4x64 .f32) (main_arg3 : FVec F S16x256x8x32 .f32) (main_arg4 : FVec F S16x256x4x64 .f32) (main_arg5 : FVec F S4x32 .f32) (main_arg6 : FVec F S64 .f32) : IVec S16x2048x8x32 1 × IVec S16x2048x8x32 1 × IVec S16x2048x4x64 1 × IVec S16x256x8x32 1 × IVec S16x256x4x64 1 × IVec S4x32 1 :=
  let main_v0 : FVec F S16x2048x8x32 .f32 := Host.absf main_arg0
  let main_cst : FVec F S_ .f32 := constant S_ .f32 0x7F800000#32
  let main_v1 : FVec F S16x2048x8x32 .f32 := broadcastInDim S16x2048x8x32 ![] bcast_S_S16x2048x8x32 main_cst
  let main_v2 : IVec S16x2048x8x32 1 := cmpf .olt main_v0 main_v1
  let main_v3 : FVec F S16x2048x8x32 .f32 := Host.absf main_arg1
  let main_cst_0 : FVec F S_ .f32 := constant S_ .f32 0x7F800000#32
  let main_v4 : FVec F S16x2048x8x32 .f32 := broadcastInDim S16x2048x8x32 ![] bcast_S_S16x2048x8x32 main_cst_0
  let main_v5 : IVec S16x2048x8x32 1 := cmpf .olt main_v3 main_v4
  let main_v6 : FVec F S16x2048x4x64 .f32 := Host.absf main_arg2
  let main_cst_1 : FVec F S_ .f32 := constant S_ .f32 0x7F800000#32
  let main_v7 : FVec F S16x2048x4x64 .f32 := broadcastInDim S16x2048x4x64 ![] bcast_S_S16x2048x4x64 main_cst_1
  let main_v8 : IVec S16x2048x4x64 1 := cmpf .olt main_v6 main_v7
  let main_v9 : FVec F S16x256x8x32 .f32 := Host.absf main_arg3
  let main_cst_2 : FVec F S_ .f32 := constant S_ .f32 0x7F800000#32
  let main_v10 : FVec F S16x256x8x32 .f32 := broadcastInDim S16x256x8x32 ![] bcast_S_S16x256x8x32 main_cst_2
  let main_v11 : IVec S16x256x8x32 1 := cmpf .olt main_v9 main_v10
  let main_v12 : FVec F S16x256x4x64 .f32 := Host.absf main_arg4
  let main_cst_3 : FVec F S_ .f32 := constant S_ .f32 0x7F800000#32
  let main_v13 : FVec F S16x256x4x64 .f32 := broadcastInDim S16x256x4x64 ![] bcast_S_S16x256x4x64 main_cst_3
  let main_v14 : IVec S16x256x4x64 1 := cmpf .olt main_v12 main_v13
  let main_v15 : FVec F S4x32 .f32 := Host.absf main_arg5
  let main_cst_4 : FVec F S_ .f32 := constant S_ .f32 0x7F800000#32
  let main_v16 : FVec F S4x32 .f32 := broadcastInDim S4x32 ![] bcast_S_S4x32 main_cst_4
  let main_v17 : IVec S4x32 1 := cmpf .olt main_v15 main_v16
  (main_v2, main_v5, main_v8, main_v11, main_v14, main_v17)
-- ==== Kernel.lean ====
abbrev S16x2048x8x32 : Shape := ⟨4, ![16, 2048, 8, 32]⟩
abbrev S16x2048x4x64 : Shape := ⟨4, ![16, 2048, 4, 64]⟩
abbrev S16x256x8x32 : Shape := ⟨4, ![16, 256, 8, 32]⟩
abbrev S16x256x4x64 : Shape := ⟨4, ![16, 256, 4, 64]⟩
abbrev S4x32 : Shape := ⟨2, ![4, 32]⟩
abbrev S64 : Shape := ⟨1, ![64]⟩
abbrev S1x32 : Shape := ⟨2, ![1, 32]⟩
abbrev S32 : Shape := ⟨1, ![32]⟩
abbrev S_ : Shape := ⟨0, ![]⟩
abbrev S32768x256 : Shape := ⟨2, ![32768, 256]⟩
abbrev S32768x1024 : Shape := ⟨2, ![32768, 1024]⟩
abbrev S32768x512 : Shape := ⟨2, ![32768, 512]⟩
abbrev S16x2048x4x128 : Shape := ⟨4, ![16, 2048, 4, 128]⟩
abbrev S32768x1280 : Shape := ⟨2, ![32768, 1280]⟩
abbrev S32768x3840 : Shape := ⟨2, ![32768, 3840]⟩
abbrev S4096x256 : Shape := ⟨2, ![4096, 256]⟩
abbrev S4096x1024 : Shape := ⟨2, ![4096, 1024]⟩
abbrev S4096x512 : Shape := ⟨2, ![4096, 512]⟩
abbrev S16x256x4x128 : Shape := ⟨4, ![16, 256, 4, 128]⟩
abbrev S4096x1280 : Shape := ⟨2, ![4096, 1280]⟩
abbrev S4096x3840 : Shape := ⟨2, ![4096, 3840]⟩
abbrev S1 : Shape := ⟨1, ![1]⟩
abbrev S1x64 : Shape := ⟨2, ![1, 64]⟩
abbrev S512x256 : Shape := ⟨2, ![512, 256]⟩
abbrev S2048x256 : Shape := ⟨2, ![2048, 256]⟩
abbrev S256x256 : Shape := ⟨2, ![256, 256]⟩
abbrev S2048x512 : Shape := ⟨2, ![2048, 512]⟩
abbrev S256x512 : Shape := ⟨2, ![256, 512]⟩
abbrev S8x512x2304 : Shape := ⟨3, ![8, 512, 2304]⟩
abbrev S1x512x2048 : Shape := ⟨3, ![1, 512, 2048]⟩
abbrev S512x2048 : Shape := ⟨2, ![512, 2048]⟩
abbrev S2048x128 : Shape := ⟨2, ![2048, 128]⟩
abbrev S512x128 : Shape := ⟨2, ![512, 128]⟩
abbrev S1x512x256 : Shape := ⟨3, ![1, 512, 256]⟩
abbrev S256x128 : Shape := ⟨2, ![256, 128]⟩
abbrev S512x64 : Shape := ⟨2, ![512, 64]⟩
abbrev S512x32 : Shape := ⟨2, ![512, 32]⟩
abbrev S2048x32 : Shape := ⟨2, ![2048, 32]⟩
abbrev S256x32 : Shape := ⟨2, ![256, 32]⟩
abbrev S512 : Shape := ⟨1, ![512]⟩
abbrev S512x1 : Shape := ⟨2, ![512, 1]⟩

abbrev nBuf : Space → Nat
  | .hbm => 66
  | .vmem => 14
  | .smem => 1
  | _ => 0

abbrev bufTy : (tb : Table) → Fin (tcTables nBuf tb) → BufTy
  | .hbm, ⟨0, _⟩ => ⟨S16x2048x8x32, .f32⟩
  | .hbm, ⟨1, _⟩ => ⟨S16x2048x8x32, .f32⟩
  | .hbm, ⟨2, _⟩ => ⟨S16x2048x4x64, .f32⟩
  | .hbm, ⟨3, _⟩ => ⟨S16x256x8x32, .f32⟩
  | .hbm, ⟨4, _⟩ => ⟨S16x256x4x64, .f32⟩
  | .hbm, ⟨5, _⟩ => ⟨S4x32, .f32⟩
  | .hbm, ⟨6, _⟩ => ⟨S64, .f32⟩
  | .hbm, ⟨7, _⟩ => ⟨S1x32, .f32⟩
  | .hbm, ⟨8, _⟩ => ⟨S32, .f32⟩
  | .hbm, ⟨9, _⟩ => ⟨S1x32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32768x256, .f32⟩
  | .hbm, ⟨31, _⟩ => ⟨S_, .f32⟩
  | .hbm, ⟨32, _⟩ => ⟨S_, .f32⟩
  | .hbm, ⟨33, _⟩ => ⟨S32768x256, .f32⟩
  | .hbm, ⟨34, _⟩ => ⟨S32768x256, .f32⟩
  | .hbm, ⟨35, _⟩ => ⟨S_, .f32⟩
  | .hbm, ⟨36, _⟩ => ⟨S16x2048x4x64, .f32⟩
  | .hbm, ⟨37, _⟩ => ⟨S_, .f32⟩
  | .hbm, ⟨38, _⟩ => ⟨S32768x1024, .f32⟩
  | .hbm, ⟨39, _⟩ => ⟨S32768x256, .f32⟩
  | .hbm, ⟨40, _⟩ => ⟨S_, .f32⟩
  | .hbm, ⟨41, _⟩ => ⟨S32768x512, .f32⟩
  | .hbm, ⟨42, _⟩ => ⟨S16x2048x4x128, .f32⟩
  | .hbm, ⟨43, _⟩ => ⟨S32768x512, .f32⟩
  | .hbm, ⟨44, _⟩ => ⟨S_, .f32⟩
  | .hbm, ⟨45, _⟩ => ⟨S32768x1280, .f32⟩
  | .hbm, ⟨46, _⟩ => ⟨S32768x3840, .f32⟩
  | .hbm, ⟨47, _⟩ => ⟨S32768x3840, .bf16⟩
  | .hbm, ⟨48, _⟩ => ⟨S_, .f32⟩
  | .hbm, ⟨49, _⟩ => ⟨S4096x256, .f32⟩
  | .hbm, ⟨50, _⟩ => ⟨S_, .f32⟩
  | .hbm, ⟨51, _⟩ => ⟨S16x256x4x64, .f32⟩
  | .hbm, ⟨52, _⟩ => ⟨S_, .f32⟩
  | .hbm, ⟨53, _⟩ => ⟨S4096x1024, .f32⟩
  | .hbm, ⟨54, _⟩ => ⟨S4096x256, .f32⟩
  | .hbm, ⟨55, _⟩ => ⟨S_, .f32⟩
  | .hbm, ⟨56, _⟩ => ⟨S4096x512, .f32⟩
  | .hbm, ⟨57, _⟩ => ⟨S16x256x4x128, .f32⟩
  | .hbm, ⟨58, _⟩ => ⟨S4096x512, .f32⟩
  | .hbm, ⟨59, _⟩ => ⟨S_, .f32⟩
  | .hbm, ⟨60, _⟩ => ⟨S4096x1280, .f32⟩
  | .hbm, ⟨61, _⟩ => ⟨S4096x3840, .f32⟩
  | .hbm, ⟨62, _⟩ => ⟨S4096x3840, .bf16⟩
  | .hbm, ⟨63, _⟩ => ⟨S1, .f32⟩
  | .hbm, ⟨64, _⟩ => ⟨S1x64, .f32⟩
  | .hbm, ⟨65, _⟩ => ⟨S32768x256, .bf16⟩
  | .local _ .vmem, ⟨0, _⟩ => ⟨S1x64, .f32⟩
  | .local _ .vmem, ⟨1, _⟩ => ⟨S512x256, .bf16⟩
  | .local _ .vmem, ⟨2, _⟩ => ⟨S512x256, .bf16⟩
  | .local _ .vmem, ⟨3, _⟩ => ⟨S2048x256, .bf16⟩
  | .local _ .vmem, ⟨4, _⟩ => ⟨S2048x256, .bf16⟩
  | .local _ .vmem, ⟨5, _⟩ => ⟨S256x256, .bf16⟩
  | .local _ .vmem, ⟨6, _⟩ => ⟨S256x256, .bf16⟩
  | .local _ .vmem, ⟨7, _⟩ => ⟨S2048x512, .bf16⟩
  | .local _ .vmem, ⟨8, _⟩ => ⟨S2048x512, .bf16⟩
  | .local _ .vmem, ⟨9, _⟩ => ⟨S256x512, .bf16⟩
  | .local _ .vmem, ⟨10, _⟩ => ⟨S256x512, .bf16⟩
  | .local _ .vmem, ⟨11, _⟩ => ⟨S512x256, .bf16⟩
  | .local _ .vmem, ⟨12, _⟩ => ⟨S512x256, .bf16⟩
  | .local _ .vmem, ⟨13, _⟩ => ⟨S8x512x2304, .bf16⟩
  | .local _ .smem, ⟨0, _⟩ => ⟨S1, .f32⟩
  | _, _ => ⟨S16x2048x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_4 : BitVec 32 := 0#32
  ![v17.toNat, c5_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_4 : BitVec 32 := 0#32
  ![v17.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  ![v18.toNat, c4_i32_6.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  ![v18.toNat, c4_i32_6.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x2048x8x32 : Shape := ⟨4, ![16, 2048, 8, 32]⟩
abbrev S16x2048x4x64 : Shape := ⟨4, ![16, 2048, 4, 64]⟩
abbrev S16x256x8x32 : Shape := ⟨4, ![16, 256, 8, 32]⟩
abbrev S16x256x4x64 : Shape := ⟨4, ![16, 256, 4, 64]⟩
abbrev S4x32 : Shape := ⟨2, ![4, 32]⟩
abbrev S64 : Shape := ⟨1, ![64]⟩
abbrev S16x2304x8x32 : Shape := ⟨4, ![16, 2304, 8, 32]⟩
abbrev S16x2304x4x64 : Shape := ⟨4, ![16, 2304, 4, 64]⟩
abbrev S1x32 : Shape := ⟨2, ![1, 32]⟩
abbrev S32 : Shape := ⟨1, ![32]⟩
abbrev S_ : Shape := ⟨0, ![]⟩
abbrev S16x8x2048x2304 : Shape := ⟨4, ![16, 8, 2048, 2304]⟩
abbrev S16x8x2048 : Shape := ⟨3, ![16, 8, 2048]⟩
abbrev S16x8x2048x1 : Shape := ⟨4, ![16, 8, 2048, 1]⟩
abbrev S16x4x2x2048x2304 : Shape := ⟨5, ![16, 4, 2, 2048, 2304]⟩
abbrev S16x4x1x2048x2304 : Shape := ⟨5, ![16, 4, 1, 2048, 2304]⟩
abbrev S16x4x2048x2304 : Shape := ⟨4, ![16, 4, 2048, 2304]⟩
abbrev S16x4x64x2048 : Shape := ⟨4, ![16, 4, 64, 2048]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩
abbrev S32768x256 : Shape := ⟨2, ![32768, 256]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x8x32, .f32⟩
  | .hbm, ⟨1, _⟩ => ⟨S16x2048x8x32, .f32⟩
  | .hbm, ⟨2, _⟩ => ⟨S16x2048x4x64, .f32⟩
  | .hbm, ⟨3, _⟩ => ⟨S16x256x8x32, .f32⟩
  | .hbm, ⟨4, _⟩ => ⟨S16x256x4x64, .f32⟩
  | .hbm, ⟨5, _⟩ => ⟨S4x32, .f32⟩
  | .hbm, ⟨6, _⟩ => ⟨S64, .f32⟩
  | .hbm, ⟨7, _⟩ => ⟨S16x2304x8x32, .f32⟩
  | .hbm, ⟨8, _⟩ => ⟨S16x2304x4x64, .f32⟩
  | .hbm, ⟨9, _⟩ => ⟨S1x32, .f32⟩
  | .hbm, ⟨10, _⟩ => ⟨S32, .f32⟩
  | .hbm, ⟨11, _⟩ => ⟨S1x32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x32, .f32⟩
  | .hbm, ⟨18, _⟩ => ⟨S32, .f32⟩
  | .hbm, ⟨19, _⟩ => ⟨S1x32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x8x2048x2304, .f32⟩
  | .hbm, ⟨29, _⟩ => ⟨S_, .f32⟩
  | .hbm, ⟨30, _⟩ => ⟨S16x8x2048x2304, .f32⟩
  | .hbm, ⟨31, _⟩ => ⟨S16x8x2048x2304, .f32⟩
  | .hbm, ⟨32, _⟩ => ⟨S_, .f32⟩
  | .hbm, ⟨33, _⟩ => ⟨S16x8x2048, .f32⟩
  | .hbm, ⟨34, _⟩ => ⟨S_, .f32⟩
  | .hbm, ⟨35, _⟩ => ⟨S16x8x2048, .f32⟩
  | .hbm, ⟨36, _⟩ => ⟨S16x8x2048, .f32⟩
  | .hbm, ⟨37, _⟩ => ⟨S16x8x2048x1, .f32⟩
  | .hbm, ⟨38, _⟩ => ⟨S16x8x2048x2304, .f32⟩
  | .hbm, ⟨39, _⟩ => ⟨S16x8x2048x2304, .f32⟩
  | .hbm, ⟨40, _⟩ => ⟨S16x8x2048x2304, .f32⟩
  | .hbm, ⟨41, _⟩ => ⟨S_, .f32⟩
  | .hbm, ⟨42, _⟩ => ⟨S16x8x2048, .f32⟩
  | .hbm, ⟨43, _⟩ => ⟨S16x8x2048x1, .f32⟩
  | .hbm, ⟨44, _⟩ => ⟨S16x8x2048x2304, .f32⟩
  | .hbm, ⟨45, _⟩ => ⟨S16x8x2048x2304, .f32⟩
  | .hbm, ⟨46, _⟩ => ⟨S16x4x2x2048x2304, .f32⟩
  | .hbm, ⟨47, _⟩ => ⟨S16x4x1x2048x2304, .f32⟩
  | .hbm, ⟨48, _⟩ => ⟨S16x4x2048x2304, .f32⟩
  | .hbm, ⟨49, _⟩ => ⟨S16x4x1x2048x2304, .f32⟩
  | .hbm, ⟨50, _⟩ => ⟨S16x4x2048x2304, .f32⟩
  | .hbm, ⟨51, _⟩ => ⟨S16x4x2048x2304, .f32⟩
  | .hbm, ⟨52, _⟩ => ⟨S16x4x2048x2304, .f32⟩
  | .hbm, ⟨53, _⟩ => ⟨S16x4x2048x2304, .f32⟩
  | .hbm, ⟨54, _⟩ => ⟨S16x4x64x2048, .f32⟩
  | .hbm, ⟨55, _⟩ => ⟨S16x2048x4x64, .f32⟩
  | .hbm, ⟨56, _⟩ => ⟨S16x2048x4x64, .f32⟩
  | .hbm, ⟨57, _⟩ => ⟨S_, .f32⟩
  | .hbm, ⟨58, _⟩ => ⟨S16x2048x4, .f32⟩
  | .hbm, ⟨59, _⟩ => ⟨S16x2048x4x1, .f32⟩
  | .hbm, ⟨60, _⟩ => ⟨S_, .f32⟩
  | .hbm, ⟨61, _⟩ => ⟨S16x2048x4x1, .f32⟩
  | .hbm, ⟨62, _⟩ => ⟨S16x2048x4x1, .f32⟩
  | .hbm, ⟨63, _⟩ => ⟨S_, .f32⟩
  | .hbm, ⟨64, _⟩ => ⟨S16x2048x4x1, .f32⟩
  | .hbm, ⟨65, _⟩ => ⟨S16x2048x4x1, .f32⟩
  | .hbm, ⟨66, _⟩ => ⟨S16x2048x4x1, .f32⟩
  | .hbm, ⟨67, _⟩ => ⟨S16x2048x4x64, .f32⟩
  | .hbm, ⟨68, _⟩ => ⟨S16x2048x4x64, .f32⟩
  | .hbm, ⟨69, _⟩ => ⟨S1x1x1x64, .f32⟩
  | .hbm, ⟨70, _⟩ => ⟨S16x2048x4x64, .f32⟩
  | .hbm, ⟨71, _⟩ => ⟨S16x2048x4x64, .f32⟩
  | .hbm, ⟨72, _⟩ => ⟨S_, .f32⟩
  | .hbm, ⟨73, _⟩ => ⟨S16x2048x4x64, .f32⟩
  | .hbm, ⟨74, _⟩ => ⟨S16x2048x4x64, .f32⟩
  | .hbm, ⟨75, _⟩ => ⟨S32768x256, .f32⟩
  | .hbm, ⟨76, _⟩ => ⟨S32768x256, .bf16⟩
  | _, _ => ⟨S16x2048x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Merge.lean ====
abbrev S16x2048x1024 : Shape := ⟨3, ![16, 2048, 1024]⟩
abbrev S16x1024 : Shape := ⟨2, ![16, 1024]⟩
abbrev S1024 : Shape := ⟨1, ![1024]⟩
abbrev S16x2048x256 : Shape := ⟨3, ![16, 2048, 256]⟩
abbrev S4x256x1024 : Shape := ⟨3, ![4, 256, 1024]⟩
abbrev S4x1024x1024 : Shape := ⟨3, ![4, 1024, 1024]⟩
abbrev S1024x1024 : Shape := ⟨2, ![1024, 1024]⟩
abbrev S16x1x1024 : Shape := ⟨3, ![16, 1, 1024]⟩
abbrev S16x3x1024 : Shape := ⟨3, ![16, 3, 1024]⟩
abbrev S_ : Shape := ⟨0, ![]⟩
abbrev S8x3x1024 : Shape := ⟨3, ![8, 3, 1024]⟩
abbrev S24x3x1024 : Shape := ⟨3, ![24, 3, 1024]⟩
abbrev S32768x1024 : Shape := ⟨2, ![32768, 1024]⟩
abbrev S32768x2816 : Shape := ⟨2, ![32768, 2816]⟩
abbrev S32768x3840 : Shape := ⟨2, ![32768, 3840]⟩
abbrev S32768x256 : Shape := ⟨2, ![32768, 256]⟩
abbrev S1x1024 : Shape := ⟨2, ![1, 1024]⟩
abbrev S512x1024 : Shape := ⟨2, ![512, 1024]⟩
abbrev S1x3x1024 : Shape := ⟨3, ![1, 3, 1024]⟩
abbrev S512x256 : Shape := ⟨2, ![512, 256]⟩
abbrev S512 : Shape := ⟨1, ![512]⟩
abbrev S512x1 : Shape := ⟨2, ![512, 1]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S256x1024 : Shape := ⟨2, ![256, 1024]⟩

abbrev nBuf : Space → Nat
  | .hbm => 48
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S1024, .f32⟩
  | .hbm, ⟨5, _⟩ => ⟨S16x2048x256, .f32⟩
  | .hbm, ⟨6, _⟩ => ⟨S16x2048x256, .f32⟩
  | .hbm, ⟨7, _⟩ => ⟨S16x2048x256, .f32⟩
  | .hbm, ⟨8, _⟩ => ⟨S16x2048x256, .f32⟩
  | .hbm, ⟨9, _⟩ => ⟨S16x2048x1024, .f32⟩
  | .hbm, ⟨10, _⟩ => ⟨S4x256x1024, .f32⟩
  | .hbm, ⟨11, _⟩ => ⟨S4x1024x1024, .f32⟩
  | .hbm, ⟨12, _⟩ => ⟨S1024x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x3x1024, .f32⟩
  | .hbm, ⟨17, _⟩ => ⟨S_, .f32⟩
  | .hbm, ⟨18, _⟩ => ⟨S8x3x1024, .f32⟩
  | .hbm, ⟨19, _⟩ => ⟨S24x3x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S32768x1024, .f32⟩
  | .hbm, ⟨30, _⟩ => ⟨S_, .f32⟩
  | .hbm, ⟨31, _⟩ => ⟨S32768x2816, .f32⟩
  | .hbm, ⟨32, _⟩ => ⟨S32768x3840, .f32⟩
  | .hbm, ⟨33, _⟩ => ⟨S32768x3840, .bf16⟩
  | .hbm, ⟨34, _⟩ => ⟨S32768x256, .f32⟩
  | .hbm, ⟨35, _⟩ => ⟨S32768x256, .bf16⟩
  | .hbm, ⟨36, _⟩ => ⟨S32768x256, .f32⟩
  | .hbm, ⟨37, _⟩ => ⟨S32768x256, .bf16⟩
  | .hbm, ⟨38, _⟩ => ⟨S32768x256, .f32⟩
  | .hbm, ⟨39, _⟩ => ⟨S32768x256, .bf16⟩
  | .hbm, ⟨40, _⟩ => ⟨S32768x256, .f32⟩
  | .hbm, ⟨41, _⟩ => ⟨S32768x256, .bf16⟩
  | .hbm, ⟨42, _⟩ => ⟨S32768x1024, .f32⟩
  | .hbm, ⟨43, _⟩ => ⟨S1x1024, .f32⟩
  | .hbm, ⟨44, _⟩ => ⟨S4x256x1024, .bf16⟩
  | .hbm, ⟨45, _⟩ => ⟨S4x1024x1024, .bf16⟩
  | .hbm, ⟨46, _⟩ => ⟨S1024x1024, .bf16⟩
  | .hbm, ⟨47, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x1024, .bf16⟩
  | .local _ .vmem, ⟨14, _⟩ => ⟨S512x1024, .bf16⟩
  | .local _ .vmem, ⟨15, _⟩ => ⟨S4x256x1024, .bf16⟩
  | .local _ .vmem, ⟨16, _⟩ => ⟨S4x1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S16x2048x1024 : Shape := ⟨3, ![16, 2048, 1024]⟩
abbrev S16x1024 : Shape := ⟨2, ![16, 1024]⟩
abbrev S1024 : Shape := ⟨1, ![1024]⟩
abbrev S16x2048x256 : Shape := ⟨3, ![16, 2048, 256]⟩
abbrev S4x256x1024 : Shape := ⟨3, ![4, 256, 1024]⟩
abbrev S4x1024x1024 : Shape := ⟨3, ![4, 1024, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1x256x1024 : Shape := ⟨3, ![1, 256, 1024]⟩
abbrev S256x1024 : Shape := ⟨2, ![256, 1024]⟩
abbrev S1x1024x1024 : Shape := ⟨3, ![1, 1024, 1024]⟩
abbrev S32768x1024 : Shape := ⟨2, ![32768, 1024]⟩

abbrev nBuf : Space → Nat
  | .hbm => 151
  | .vmem => 0
  | .smem => 0
  | _ => 0

abbrev hbmTy0_0 (i : Nat) : BufTy := match i % 128 with
  | 0 => ⟨S16x2048x1024, .f32⟩
  | 1 => ⟨S16x1024, .f32⟩
  | 2 => ⟨S16x1024, .f32⟩
  | 3 => ⟨S16x1024, .f32⟩
  | 4 => ⟨S1024, .f32⟩
  | 5 => ⟨S16x2048x256, .f32⟩
  | 6 => ⟨S16x2048x256, .f32⟩
  | 7 => ⟨S16x2048x256, .f32⟩
  | 8 => ⟨S16x2048x256, .f32⟩
  | 9 => ⟨S16x2048x1024, .f32⟩
  | 10 => ⟨S4x256x1024, .f32⟩
  | 11 => ⟨S4x1024x1024, .f32⟩
  | 12 => ⟨S1024x1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .f32⟩
  | 21 => ⟨S16x2048x1, .f32⟩
  | 22 => ⟨S16x2048x1, .f32⟩
  | 23 => ⟨S16x2048x1, .f32⟩
  | 24 => ⟨S16x2048x1024, .f32⟩
  | 25 => ⟨S16x2048x1024, .f32⟩
  | 26 => ⟨S1x1x1024, .f32⟩
  | 27 => ⟨S16x2048x1024, .f32⟩
  | 28 => ⟨S16x2048x1024, .f32⟩
  | 29 => ⟨S16x1x1024, .f32⟩
  | 30 => ⟨S_, .f32⟩
  | 31 => ⟨S16x1x1024, .f32⟩
  | 32 => ⟨S16x1x1024, .f32⟩
  | 33 => ⟨S16x2048x1024, .f32⟩
  | 34 => ⟨S16x2048x1024, .f32⟩
  | 35 => ⟨S16x1x1024, .f32⟩
  | 36 => ⟨S16x2048x1024, .f32⟩
  | 37 => ⟨S16x2048x1024, .f32⟩
  | 38 => ⟨S16x2048x256, .f32⟩
  | 39 => ⟨S16x2048x256, .f32⟩
  | 40 => ⟨S16x2048x256, .f32⟩
  | 41 => ⟨S16x2048x256, .f32⟩
  | 42 => ⟨S16x2048x256, .f32⟩
  | 43 => ⟨S16x2048x256, .f32⟩
  | 44 => ⟨S_, .f32⟩
  | 45 => ⟨S16x2048x256, .f32⟩
  | 46 => ⟨S16x2048x256, .f32⟩
  | 47 => ⟨S_, .f32⟩
  | 48 => ⟨S16x2048x256, .f32⟩
  | 49 => ⟨S16x2048x256, .f32⟩
  | 50 => ⟨S16x2048x256, .f32⟩
  | 51 => ⟨S16x2048x256, .f32⟩
  | 52 => ⟨S1x256x1024, .f32⟩
  | 53 => ⟨S256x1024, .f32⟩
  | 54 => ⟨S16x2048x1024, .f32⟩
  | 55 => ⟨S1x1024x1024, .f32⟩
  | 56 => ⟨S1024x1024, .f32⟩
  | 57 => ⟨S16x2048x1024, .f32⟩
  | 58 => ⟨S16x2048x1024, .f32⟩
  | 59 => ⟨S16x2048x1024, .f32⟩
  | 60 => ⟨S_, .f32⟩
  | 61 => ⟨S16x2048x1024, .f32⟩
  | 62 => ⟨S16x2048x1024, .f32⟩
  | 63 => ⟨S_, .f32⟩
  | 64 => ⟨S16x2048x1024, .f32⟩
  | 65 => ⟨S16x2048x1024, .f32⟩
  | 66 => ⟨S16x2048x1024, .f32⟩
  | 67 => ⟨S16x2048x256, .f32⟩
  | 68 => ⟨S16x2048x256, .f32⟩
  | 69 => ⟨S_, .f32⟩
  | 70 => ⟨S16x2048x256, .f32⟩
  | 71 => ⟨S16x2048x256, .f32⟩
  | 72 => ⟨S_, .f32⟩
  | 73 => ⟨S16x2048x256, .f32⟩
  | 74 => ⟨S16x2048x256, .f32⟩
  | 75 => ⟨S16x2048x256, .f32⟩
  | 76 => ⟨S16x2048x256, .f32⟩
  | 77 => ⟨S1x256x1024, .f32⟩
  | 78 => ⟨S256x1024, .f32⟩
  | 79 => ⟨S16x2048x1024, .f32⟩
  | 80 => ⟨S1x1024x1024, .f32⟩
  | 81 => ⟨S1024x1024, .f32⟩
  | 82 => ⟨S16x2048x1024, .f32⟩
  | 83 => ⟨S16x2048x1024, .f32⟩
  | 84 => ⟨S16x2048x1024, .f32⟩
  | 85 => ⟨S_, .f32⟩
  | 86 => ⟨S16x2048x1024, .f32⟩
  | 87 => ⟨S16x2048x1024, .f32⟩
  | 88 => ⟨S_, .f32⟩
  | 89 => ⟨S16x2048x1024, .f32⟩
  | 90 => ⟨S16x2048x1024, .f32⟩
  | 91 => ⟨S16x2048x1024, .f32⟩
  | 92 => ⟨S16x2048x1024, .f32⟩
  | 93 => ⟨S16x2048x256, .f32⟩
  | 94 => ⟨S16x2048x256, .f32⟩
  | 95 => ⟨S_, .f32⟩
  | 96 => ⟨S16x2048x256, .f32⟩
  | 97 => ⟨S16x2048x256, .f32⟩
  | 98 => ⟨S_, .f32⟩
  | 99 => ⟨S16x2048x256, .f32⟩
  | 100 => ⟨S16x2048x256, .f32⟩
  | 101 => ⟨S16x2048x256, .f32⟩
  | 102 => ⟨S16x2048x256, .f32⟩
  | 103 => ⟨S1x256x1024, .f32⟩
  | 104 => ⟨S256x1024, .f32⟩
  | 105 => ⟨S16x2048x1024, .f32⟩
  | 106 => ⟨S1x1024x1024, .f32⟩
  | 107 => ⟨S1024x1024, .f32⟩
  | 108 => ⟨S16x2048x1024, .f32⟩
  | 109 => ⟨S16x2048x1024, .f32⟩
  | 110 => ⟨S16x2048x1024, .f32⟩
  | 111 => ⟨S_, .f32⟩
  | 112 => ⟨S16x2048x1024, .f32⟩
  | 113 => ⟨S16x2048x1024, .f32⟩
  | 114 => ⟨S_, .f32⟩
  | 115 => ⟨S16x2048x1024, .f32⟩
  | 116 => ⟨S16x2048x1024, .f32⟩
  | 117 => ⟨S16x2048x1024, .f32⟩
  | 118 => ⟨S16x2048x1024, .f32⟩
  | 119 => ⟨S16x2048x256, .f32⟩
  | 120 => ⟨S16x2048x256, .f32⟩
  | 121 => ⟨S_, .f32⟩
  | 122 => ⟨S16x2048x256, .f32⟩
  | 123 => ⟨S16x2048x256, .f32⟩
  | 124 => ⟨S_, .f32⟩
  | 125 => ⟨S16x2048x256, .f32⟩
  | 126 => ⟨S16x2048x256, .f32⟩
  | 127 => ⟨S16x2048x256, .f32⟩
  | _ => ⟨S16x2048x1024, .f32⟩

abbrev hbmTy0_1 (i : Nat) : BufTy := match i % 128 with
  | 0 => ⟨S16x2048x256, .f32⟩
  | 1 => ⟨S1x256x1024, .f32⟩
  | 2 => ⟨S256x1024, .f32⟩
  | 3 => ⟨S16x2048x1024, .f32⟩
  | 4 => ⟨S1x1024x1024, .f32⟩
  | 5 => ⟨S1024x1024, .f32⟩
  | 6 => ⟨S16x2048x1024, .f32⟩
  | 7 => ⟨S16x2048x1024, .f32⟩
  | 8 => ⟨S16x2048x1024, .f32⟩
  | 9 => ⟨S_, .f32⟩
  | 10 => ⟨S16x2048x1024, .f32⟩
  | 11 => ⟨S16x2048x1024, .f32⟩
  | 12 => ⟨S_, .f32⟩
  | 13 => ⟨S16x2048x1024, .f32⟩
  | 14 => ⟨S16x2048x1024, .f32⟩
  | 15 => ⟨S16x2048x1024, .f32⟩
  | 16 => ⟨S16x2048x1024, .f32⟩
  | 17 => ⟨S16x1x1024, .f32⟩
  | 18 => ⟨S16x2048x1024, .f32⟩
  | 19 => ⟨S16x2048x1024, .f32⟩
  | 20 => ⟨S16x2048x1024, .f32⟩
  | 21 => ⟨S16x2048x1024, .f32⟩
  | 22 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_5 : Ref sig .tc := ⟨.hbm, 85, rfl⟩
abbrev main_v50 : Ref sig .tc := ⟨.hbm, 86, rfl⟩
abbrev main_v51 : Ref sig .tc := ⟨.hbm, 87, rfl⟩
abbrev main_cst_6 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_7 : Ref sig .tc := ⟨.hbm, 111, rfl⟩
abbrev main_v66 : Ref sig .tc := ⟨.hbm, 112, rfl⟩
abbrev main_v67 : Ref sig .tc := ⟨.hbm, 113, rfl⟩
abbrev main_cst_8 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_9 : Ref sig .tc := ⟨.hbm, 137, rfl⟩
abbrev main_v82 : Ref sig .tc := ⟨.hbm, 138, rfl⟩
abbrev main_v83 : Ref sig .tc := ⟨.hbm, 139, rfl⟩
abbrev main_cst_10 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩

abbrev nD : Nat := 1
abbrev τ : Topo := Topo.v7x

variable {F : FTy → Type} [FloatOps F]
-- ==== Projection.lean ====
abbrev S16x2048x1024 : Shape := ⟨3, ![16, 2048, 1024]⟩
abbrev S16x1024 : Shape := ⟨2, ![16, 1024]⟩
abbrev S1024 : Shape := ⟨1, ![1024]⟩
abbrev S1024x3840 : Shape := ⟨2, ![1024, 3840]⟩
abbrev S2x32 : Shape := ⟨2, ![2, 32]⟩
abbrev S2x64 : Shape := ⟨2, ![2, 64]⟩
abbrev S2x256 : Shape := ⟨2, ![2, 256]⟩
abbrev S_ : Shape := ⟨0, ![]⟩
abbrev S16x1x1024 : Shape := ⟨3, ![16, 1, 1024]⟩
abbrev S16x3x1024 : Shape := ⟨3, ![16, 3, 1024]⟩
abbrev S8x3x1024 : Shape := ⟨3, ![8, 3, 1024]⟩
abbrev S24x3x1024 : Shape := ⟨3, ![24, 3, 1024]⟩
abbrev S1x256 : Shape := ⟨2, ![1, 256]⟩
abbrev S256 : Shape := ⟨1, ![256]⟩
abbrev S4x256 : Shape := ⟨2, ![4, 256]⟩
abbrev S1x2x1x32 : Shape := ⟨4, ![1, 2, 1, 32]⟩
abbrev S1x2x8x32 : Shape := ⟨4, ![1, 2, 8, 32]⟩
abbrev S1x2x1x64 : Shape := ⟨4, ![1, 2, 1, 64]⟩
abbrev S1x2x4x64 : Shape := ⟨4, ![1, 2, 4, 64]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x32 : Shape := ⟨2, ![2048, 32]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S32768x1024 : Shape := ⟨2, ![32768, 1024]⟩
abbrev S1x1024 : Shape := ⟨2, ![1, 1024]⟩
abbrev S32768x3840 : Shape := ⟨2, ![32768, 3840]⟩
abbrev S32768x512 : Shape := ⟨2, ![32768, 512]⟩
abbrev S512x1024 : Shape := ⟨2, ![512, 1024]⟩
abbrev S1x3x1024 : Shape := ⟨3, ![1, 3, 1024]⟩
abbrev S512x256 : Shape := ⟨2, ![512, 256]⟩
abbrev S512x3840 : Shape := ⟨2, ![512, 3840]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S1024x256 : Shape := ⟨2, ![1024, 256]⟩
abbrev S256x256 : Shape := ⟨2, ![256, 256]⟩
abbrev S512x64 : Shape := ⟨2, ![512, 64]⟩

abbrev nBuf : Space → Nat
  | .hbm => 126
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x3840, .f32⟩
  | .hbm, ⟨5, _⟩ => ⟨S2x32, .f32⟩
  | .hbm, ⟨6, _⟩ => ⟨S2x64, .f32⟩
  | .hbm, ⟨7, _⟩ => ⟨S2x256, .f32⟩
  | .hbm, ⟨8, _⟩ => ⟨S_, .f32⟩
  | .hbm, ⟨9, _⟩ => ⟨S16x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x3x1024, .f32⟩
  | .hbm, ⟨14, _⟩ => ⟨S_, .f32⟩
  | .hbm, ⟨15, _⟩ => ⟨S8x3x1024, .f32⟩
  | .hbm, ⟨16, _⟩ => ⟨S24x3x1024, .f32⟩
  | .hbm, ⟨17, _⟩ => ⟨S_, .f32⟩
  | .hbm, ⟨18, _⟩ => ⟨S2x256, .f32⟩
  | .hbm, ⟨19, _⟩ => ⟨S2x256, .f32⟩
  | .hbm, ⟨20, _⟩ => ⟨S_, .f32⟩
  | .hbm, ⟨21, _⟩ => ⟨S2x256, .f32⟩
  | .hbm, ⟨22, _⟩ => ⟨S2x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S4x256, .f32⟩
  | .hbm, ⟨36, _⟩ => ⟨S1x2x1x32, .f32⟩
  | .hbm, ⟨37, _⟩ => ⟨S1x2x8x32, .f32⟩
  | .hbm, ⟨38, _⟩ => ⟨S2x256, .f32⟩
  | .hbm, ⟨39, _⟩ => ⟨S1x2x1x64, .f32⟩
  | .hbm, ⟨40, _⟩ => ⟨S1x2x4x64, .f32⟩
  | .hbm, ⟨41, _⟩ => ⟨S2x256, .f32⟩
  | .hbm, ⟨42, _⟩ => ⟨S2048, .i32⟩
  | .hbm, ⟨43, _⟩ => ⟨S_, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S_, .i32⟩
  | .hbm, ⟨71, _⟩ => ⟨S2048, .i32⟩
  | .hbm, ⟨72, _⟩ => ⟨S2048, .i1⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S_, .i32⟩
  | .hbm, ⟨77, _⟩ => ⟨S_, .i1⟩
  | .hbm, ⟨78, _⟩ => ⟨S2048, .i1⟩
  | .hbm, ⟨79, _⟩ => ⟨S2048, .i1⟩
  | .hbm, ⟨80, _⟩ => ⟨S2048, .i1⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S2048, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S_, .f32⟩
  | .hbm, ⟨90, _⟩ => ⟨S8, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S2048x1, .f32⟩
  | .hbm, ⟨100, _⟩ => ⟨S1x8, .f32⟩
  | .hbm, ⟨101, _⟩ => ⟨S2048x8, .f32⟩
  | .hbm, ⟨102, _⟩ => ⟨S2048x8, .f32⟩
  | .hbm, ⟨103, _⟩ => ⟨S2048x8, .f32⟩
  | .hbm, ⟨104, _⟩ => ⟨S2048x1, .f32⟩
  | .hbm, ⟨105, _⟩ => ⟨S1x8, .f32⟩
  | .hbm, ⟨106, _⟩ => ⟨S2048x8, .f32⟩
  | .hbm, ⟨107, _⟩ => ⟨S2048x8, .f32⟩
  | .hbm, ⟨108, _⟩ => ⟨S2048x8, .f32⟩
  | .hbm, ⟨109, _⟩ => ⟨S2048x16, .f32⟩
  | .hbm, ⟨110, _⟩ => ⟨S2048x16, .f32⟩
  | .hbm, ⟨111, _⟩ => ⟨S2048x16, .f32⟩
  | .hbm, ⟨112, _⟩ => ⟨S2048x32, .f32⟩
  | .hbm, ⟨113, _⟩ => ⟨S2048x16, .f32⟩
  | .hbm, ⟨114, _⟩ => ⟨S2048x32, .f32⟩
  | .hbm, ⟨115, _⟩ => ⟨S1x2048x1x32, .f32⟩
  | .hbm, ⟨116, _⟩ => ⟨S1x2048x8x32, .f32⟩
  | .hbm, ⟨117, _⟩ => ⟨S2048x256, .f32⟩
  | .hbm, ⟨118, _⟩ => ⟨S1x2048x1x32, .f32⟩
  | .hbm, ⟨119, _⟩ => ⟨S1x2048x8x32, .f32⟩
  | .hbm, ⟨120, _⟩ => ⟨S2048x256, .f32⟩
  | .hbm, ⟨121, _⟩ => ⟨S32768x1024, .f32⟩
  | .hbm, ⟨122, _⟩ => ⟨S1x1024, .f32⟩
  | .hbm, ⟨123, _⟩ => ⟨S1024x3840, .bf16⟩
  | .hbm, ⟨124, _⟩ => ⟨S32768x3840, .bf16⟩
  | .hbm, ⟨125, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x3840, .bf16⟩
  | .local _ .vmem, ⟨6, _⟩ => ⟨S2x256, .f32⟩
  | .local _ .vmem, ⟨7, _⟩ => ⟨S2x256, .f32⟩
  | .local _ .vmem, ⟨8, _⟩ => ⟨S4x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x3840, .bf16⟩
  | .local _ .vmem, ⟨14, _⟩ => ⟨S512x3840, .bf16⟩
  | .local _ .vmem, ⟨15, _⟩ => ⟨S512x512, .f32⟩
  | .local _ .vmem, ⟨16, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v31 : Ref sig .tc := ⟨.hbm, 60, rfl⟩
abbrev main_v32 : Ref sig .tc := ⟨.hbm, 61, rfl⟩
abbrev main_c_3 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_1 : Ref sig .tc := ⟨.hbm, 70, rfl⟩
abbrev main_call1_v5 : Ref sig .tc := ⟨.hbm, 71, rfl⟩
abbrev main_call1_v6 : Ref sig .tc := ⟨.hbm, 72, rfl⟩
abbrev main_call1_c_2 : Ref sig .tc := ⟨.hbm, 73, rfl⟩
abbrev main_call1_v7 : Ref sig .tc := ⟨.hbm, 74, rfl⟩
abbrev main_call1_v8 : Ref sig .tc := ⟨.hbm, 75, rfl⟩
abbrev main_call1_c_3 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_4 : Ref sig .tc := ⟨.hbm, 86, rfl⟩
abbrev main_v36 : Ref sig .tc := ⟨.hbm, 87, rfl⟩
abbrev main_v37 : Ref sig .tc := ⟨.hbm, 88, rfl⟩
abbrev main_cst_5 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_6 : Ref sig .tc := ⟨.hbm, 93, rfl⟩
abbrev main_v41 : Ref sig .tc := ⟨.hbm, 94, rfl⟩
abbrev main_v42 : Ref sig .tc := ⟨.hbm, 95, rfl⟩
abbrev main_cst_7 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70_0 : Ref sig .tc := ⟨.hbm, 124, rfl⟩
abbrev main_v70_1 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3840 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjectionReferenceIdeal.lean ====
abbrev S16x2048x1024 : Shape := ⟨3, ![16, 2048, 1024]⟩
abbrev S16x1024 : Shape := ⟨2, ![16, 1024]⟩
abbrev S1024 : Shape := ⟨1, ![1024]⟩
abbrev S1024x3840 : Shape := ⟨2, ![1024, 3840]⟩
abbrev S2x32 : Shape := ⟨2, ![2, 32]⟩
abbrev S2x64 : Shape := ⟨2, ![2, 64]⟩
abbrev S2x256 : Shape := ⟨2, ![2, 256]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x3840 : Shape := ⟨3, ![16, 2048, 3840]⟩
abbrev S16x2048x768 : Shape := ⟨3, ![16, 2048, 768]⟩
abbrev S16x2048x256 : Shape := ⟨3, ![16, 2048, 256]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S16x2048x8x32 : Shape := ⟨4, ![16, 2048, 8, 32]⟩
abbrev S1x32 : Shape := ⟨2, ![1, 32]⟩
abbrev S32 : Shape := ⟨1, ![32]⟩
abbrev S16x2048x8 : Shape := ⟨3, ![16, 2048, 8]⟩
abbrev S16x2048x8x1 : Shape := ⟨4, ![16, 2048, 8, 1]⟩
abbrev S1x1x1x32 : Shape := ⟨4, ![1, 1, 1, 32]⟩
abbrev S16x2048x8x16 : Shape := ⟨4, ![16, 2048, 8, 16]⟩
abbrev S1x2048x1x16 : Shape := ⟨4, ![1, 2048, 1, 16]⟩
abbrev S16x2048x4x64 : Shape := ⟨4, ![16, 2048, 4, 64]⟩
abbrev S1x64 : Shape := ⟨2, ![1, 64]⟩
abbrev S64 : Shape := ⟨1, ![64]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩
abbrev S16x2048x4x128 : Shape := ⟨4, ![16, 2048, 4, 128]⟩
abbrev S16x2048x512 : Shape := ⟨3, ![16, 2048, 512]⟩
abbrev S1x256 : Shape := ⟨2, ![1, 256]⟩
abbrev S256 : Shape := ⟨1, ![256]⟩
abbrev S1x1x256 : Shape := ⟨3, ![1, 1, 256]⟩
abbrev S32768x3840 : Shape := ⟨2, ![32768, 3840]⟩
abbrev S32768x512 : Shape := ⟨2, ![32768, 512]⟩

abbrev nBuf : Space → Nat
  | .hbm => 342
  | .vmem => 0
  | .smem => 0
  | _ => 0

abbrev hbmTy0_0 (i : Nat) : BufTy := match i % 128 with
  | 0 => ⟨S16x2048x1024, .f32⟩
  | 1 => ⟨S16x1024, .f32⟩
  | 2 => ⟨S16x1024, .f32⟩
  | 3 => ⟨S1024, .f32⟩
  | 4 => ⟨S1024x3840, .f32⟩
  | 5 => ⟨S2x32, .f32⟩
  | 6 => ⟨S2x64, .f32⟩
  | 7 => ⟨S2x256, .f32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x1x1024, .f32⟩
  | 25 => ⟨S_, .f32⟩
  | 26 => ⟨S16x1x1024, .f32⟩
  | 27 => ⟨S16x1x1024, .f32⟩
  | 28 => ⟨S16x2048x1024, .f32⟩
  | 29 => ⟨S16x2048x1024, .f32⟩
  | 30 => ⟨S16x1x1024, .f32⟩
  | 31 => ⟨S16x2048x1024, .f32⟩
  | 32 => ⟨S16x2048x1024, .f32⟩
  | 33 => ⟨S16x2048x3840, .f32⟩
  | 34 => ⟨S16x2048x768, .f32⟩
  | 35 => ⟨S16x2048x768, .f32⟩
  | 36 => ⟨S16x2048x1024, .f32⟩
  | 37 => ⟨S16x2048x256, .f32⟩
  | 38 => ⟨S16x2048x1024, .f32⟩
  | 39 => ⟨S2048, .i32⟩
  | 40 => ⟨S_, .i32⟩
  | 41 => ⟨S_, .i32⟩
  | 42 => ⟨S2048, .i32⟩
  | 43 => ⟨S2048, .i32⟩
  | 44 => ⟨S2048, .i32⟩
  | 45 => ⟨S_, .i32⟩
  | 46 => ⟨S2048, .i32⟩
  | 47 => ⟨S2048, .i1⟩
  | 48 => ⟨S2048, .i32⟩
  | 49 => ⟨S2048, .i32⟩
  | 50 => ⟨S_, .i32⟩
  | 51 => ⟨S2048, .i32⟩
  | 52 => ⟨S2048, .i1⟩
  | 53 => ⟨S2048, .i1⟩
  | 54 => ⟨S_, .i32⟩
  | 55 => ⟨S2048, .i32⟩
  | 56 => ⟨S2048, .i32⟩
  | 57 => ⟨S2048, .i32⟩
  | 58 => ⟨S2048, .f32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S2048, .i32⟩
  | 66 => ⟨S2048, .i32⟩
  | 67 => ⟨S_, .i32⟩
  | 68 => ⟨S2048, .i32⟩
  | 69 => ⟨S2048, .i1⟩
  | 70 => ⟨S_, .i32⟩
  | 71 => ⟨S2048, .i32⟩
  | 72 => ⟨S2048, .i1⟩
  | 73 => ⟨S_, .i32⟩
  | 74 => ⟨S_, .i1⟩
  | 75 => ⟨S2048, .i1⟩
  | 76 => ⟨S2048, .i1⟩
  | 77 => ⟨S2048, .i1⟩
  | 78 => ⟨S2048, .i32⟩
  | 79 => ⟨S2048, .i32⟩
  | 80 => ⟨S2048, .i32⟩
  | 81 => ⟨S2048, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S2048x1, .f32⟩
  | 97 => ⟨S1x8, .f32⟩
  | 98 => ⟨S2048x8, .f32⟩
  | 99 => ⟨S2048x8, .f32⟩
  | 100 => ⟨S2048x8, .f32⟩
  | 101 => ⟨S2048x1, .f32⟩
  | 102 => ⟨S1x8, .f32⟩
  | 103 => ⟨S2048x8, .f32⟩
  | 104 => ⟨S2048x8, .f32⟩
  | 105 => ⟨S2048x8, .f32⟩
  | 106 => ⟨S2048x16, .f32⟩
  | 107 => ⟨S2048x16, .f32⟩
  | 108 => ⟨S2048x16, .f32⟩
  | 109 => ⟨S16x2048x256, .f32⟩
  | 110 => ⟨S16x2048x256, .f32⟩
  | 111 => ⟨S16x2048x256, .f32⟩
  | 112 => ⟨S16x2048x8x32, .f32⟩
  | 113 => ⟨S1x32, .f32⟩
  | 114 => ⟨S32, .f32⟩
  | 115 => ⟨S16x2048x8x32, .f32⟩
  | 116 => ⟨S_, .f32⟩
  | 117 => ⟨S16x2048x8, .f32⟩
  | 118 => ⟨S16x2048x8x1, .f32⟩
  | 119 => ⟨S_, .f32⟩
  | 120 => ⟨S16x2048x8x1, .f32⟩
  | 121 => ⟨S16x2048x8x1, .f32⟩
  | 122 => ⟨S_, .f32⟩
  | 123 => ⟨S16x2048x8x1, .f32⟩
  | 124 => ⟨S16x2048x8x1, .f32⟩
  | 125 => ⟨S16x2048x8x1, .f32⟩
  | 126 => ⟨S16x2048x8x32, .f32⟩
  | 127 => ⟨S16x2048x8x32, .f32⟩
  | _ => ⟨S16x2048x1024, .f32⟩

abbrev hbmTy0_1 (i : Nat) : BufTy := match i % 128 with
  | 0 => ⟨S1x1x1x32, .f32⟩
  | 1 => ⟨S16x2048x8x32, .f32⟩
  | 2 => ⟨S16x2048x8x32, .f32⟩
  | 3 => ⟨S16x2048x8x16, .f32⟩
  | 4 => ⟨S16x2048x8x16, .f32⟩
  | 5 => ⟨S1x2048x1x16, .f32⟩
  | 6 => ⟨S1x2048x1x16, .f32⟩
  | 7 => ⟨S16x2048x8x16, .f32⟩
  | 8 => ⟨S16x2048x8x16, .f32⟩
  | 9 => ⟨S16x2048x8x16, .f32⟩
  | 10 => ⟨S16x2048x8x16, .f32⟩
  | 11 => ⟨S16x2048x8x16, .f32⟩
  | 12 => ⟨S16x2048x8x16, .f32⟩
  | 13 => ⟨S16x2048x8x16, .f32⟩
  | 14 => ⟨S16x2048x8x16, .f32⟩
  | 15 => ⟨S16x2048x8x16, .f32⟩
  | 16 => ⟨S16x2048x8x16, .f32⟩
  | 17 => ⟨S16x2048x8x32, .f32⟩
  | 18 => ⟨S16x2048x8x32, .f32⟩
  | 19 => ⟨S1x32, .f32⟩
  | 20 => ⟨S32, .f32⟩
  | 21 => ⟨S16x2048x8x32, .f32⟩
  | 22 => ⟨S_, .f32⟩
  | 23 => ⟨S16x2048x8, .f32⟩
  | 24 => ⟨S16x2048x8x1, .f32⟩
  | 25 => ⟨S_, .f32⟩
  | 26 => ⟨S16x2048x8x1, .f32⟩
  | 27 => ⟨S16x2048x8x1, .f32⟩
  | 28 => ⟨S_, .f32⟩
  | 29 => ⟨S16x2048x8x1, .f32⟩
  | 30 => ⟨S16x2048x8x1, .f32⟩
  | 31 => ⟨S16x2048x8x1, .f32⟩
  | 32 => ⟨S16x2048x8x32, .f32⟩
  | 33 => ⟨S16x2048x8x32, .f32⟩
  | 34 => ⟨S1x1x1x32, .f32⟩
  | 35 => ⟨S16x2048x8x32, .f32⟩
  | 36 => ⟨S16x2048x8x32, .f32⟩
  | 37 => ⟨S16x2048x8x16, .f32⟩
  | 38 => ⟨S16x2048x8x16, .f32⟩
  | 39 => ⟨S1x2048x1x16, .f32⟩
  | 40 => ⟨S1x2048x1x16, .f32⟩
  | 41 => ⟨S16x2048x8x16, .f32⟩
  | 42 => ⟨S16x2048x8x16, .f32⟩
  | 43 => ⟨S16x2048x8x16, .f32⟩
  | 44 => ⟨S16x2048x8x16, .f32⟩
  | 45 => ⟨S16x2048x8x16, .f32⟩
  | 46 => ⟨S16x2048x8x16, .f32⟩
  | 47 => ⟨S16x2048x8x16, .f32⟩
  | 48 => ⟨S16x2048x8x16, .f32⟩
  | 49 => ⟨S16x2048x8x16, .f32⟩
  | 50 => ⟨S16x2048x8x16, .f32⟩
  | 51 => ⟨S16x2048x8x32, .f32⟩
  | 52 => ⟨S16x2048x256, .f32⟩
  | 53 => ⟨S16x2048x256, .f32⟩
  | 54 => ⟨S16x2048x256, .f32⟩
  | 55 => ⟨S16x2048x4x64, .f32⟩
  | 56 => ⟨S1x64, .f32⟩
  | 57 => ⟨S64, .f32⟩
  | 58 => ⟨S16x2048x4x64, .f32⟩
  | 59 => ⟨S_, .f32⟩
  | 60 => ⟨S16x2048x4, .f32⟩
  | 61 => ⟨S16x2048x4x1, .f32⟩
  | 62 => ⟨S_, .f32⟩
  | 63 => ⟨S16x2048x4x1, .f32⟩
  | 64 => ⟨S16x2048x4x1, .f32⟩
  | 65 => ⟨S_, .f32⟩
  | 66 => ⟨S16x2048x4x1, .f32⟩
  | 67 => ⟨S16x2048x4x1, .f32⟩
  | 68 => ⟨S16x2048x4x1, .f32⟩
  | 69 => ⟨S16x2048x4x64, .f32⟩
  | 70 => ⟨S16x2048x4x64, .f32⟩
  | 71 => ⟨S1x1x1x64, .f32⟩
  | 72 => ⟨S16x2048x4x64, .f32⟩
  | 73 => ⟨S16x2048x4x64, .f32⟩
  | 74 => ⟨S16x2048x4x64, .f32⟩
  | 75 => ⟨S1x64, .f32⟩
  | 76 => ⟨S64, .f32⟩
  | 77 => ⟨S16x2048x4x64, .f32⟩
  | 78 => ⟨S_, .f32⟩
  | 79 => ⟨S16x2048x4, .f32⟩
  | 80 => ⟨S16x2048x4x1, .f32⟩
  | 81 => ⟨S_, .f32⟩
  | 82 => ⟨S16x2048x4x1, .f32⟩
  | 83 => ⟨S16x2048x4x1, .f32⟩
  | 84 => ⟨S_, .f32⟩
  | 85 => ⟨S16x2048x4x1, .f32⟩
  | 86 => ⟨S16x2048x4x1, .f32⟩
  | 87 => ⟨S16x2048x4x1, .f32⟩
  | 88 => ⟨S16x2048x4x64, .f32⟩
  | 89 => ⟨S16x2048x4x64, .f32⟩
  | 90 => ⟨S1x1x1x64, .f32⟩
  | 91 => ⟨S16x2048x4x64, .f32⟩
  | 92 => ⟨S16x2048x4x64, .f32⟩
  | 93 => ⟨S16x2048x256, .f32⟩
  | 94 => ⟨S16x2048x256, .f32⟩
  | 95 => ⟨S16x2048x256, .f32⟩
  | 96 => ⟨S16x2048x256, .f32⟩
  | 97 => ⟨S_, .f32⟩
  | 98 => ⟨S2x256, .f32⟩
  | 99 => ⟨S2x256, .f32⟩
  | 100 => ⟨S2x256, .f32⟩
  | 101 => ⟨S2x256, .f32⟩
  | 102 => ⟨S2x256, .f32⟩
  | 103 => ⟨S16x2048x1024, .f32⟩
  | 104 => ⟨S16x2048x1024, .f32⟩
  | 105 => ⟨S_, .f32⟩
  | 106 => ⟨S16x2048x1024, .f32⟩
  | 107 => ⟨S16x2048x1024, .f32⟩
  | 108 => ⟨S_, .f32⟩
  | 109 => ⟨S16x2048x1024, .f32⟩
  | 110 => ⟨S16x2048x1024, .f32⟩
  | 111 => ⟨S16x2048x1024, .f32⟩
  | 112 => ⟨S16x2048x256, .f32⟩
  | 113 => ⟨S16x2048x256, .f32⟩
  | 114 => ⟨S16x2048x256, .f32⟩
  | 115 => ⟨S16x2048x256, .f32⟩
  | 116 => ⟨S16x2048x4x64, .f32⟩
  | 117 => ⟨S_, .f32⟩
  | 118 => ⟨S16x2048x4x64, .f32⟩
  | 119 => ⟨S16x2048x4x128, .f32⟩
  | 120 => ⟨S16x2048x512, .f32⟩
  | 121 => ⟨S16x2048x4x64, .f32⟩
  | 122 => ⟨S_, .f32⟩
  | 123 => ⟨S16x2048x4x64, .f32⟩
  | 124 => ⟨S16x2048x4x128, .f32⟩
  | 125 => ⟨S16x2048x512, .f32⟩
  | 126 => ⟨S16x2048x256, .f32⟩
  | 127 => ⟨S16x2048x256, .f32⟩
  | _ => ⟨S16x2048x1024, .f32⟩

abbrev hbmTy0_2 (i : Nat) : BufTy := match i % 128 with
  | 0 => ⟨S_, .f32⟩
  | 1 => ⟨S16x2048x256, .f32⟩
  | 2 => ⟨S16x2048x256, .f32⟩
  | 3 => ⟨S_, .f32⟩
  | 4 => ⟨S16x2048x256, .f32⟩
  | 5 => ⟨S16x2048x256, .f32⟩
  | 6 => ⟨S16x2048x256, .f32⟩
  | 7 => ⟨S16x2048x3840, .f32⟩
  | 8 => ⟨S1x256, .f32⟩
  | 9 => ⟨S256, .f32⟩
  | 10 => ⟨S1x256, .f32⟩
  | 11 => ⟨S256, .f32⟩
  | 12 => ⟨S16x2048x256, .f32⟩
  | 13 => ⟨S_, .f32⟩
  | 14 => ⟨S16x2048x256, .f32⟩
  | 15 => ⟨S16x2048x256, .f32⟩
  | 16 => ⟨S16x2048x256, .f32⟩
  | 17 => ⟨S16x2048x256, .f32⟩
  | 18 => ⟨S16x2048x256, .i1⟩
  | 19 => ⟨S16x2048x256, .f32⟩
  | 20 => ⟨S16x2048x256, .f32⟩
  | 21 => ⟨S16x2048x256, .f32⟩
  | 22 => ⟨S16x2048x256, .f32⟩
  | 23 => ⟨S16x2048x256, .f32⟩
  | 24 => ⟨S16x2048x256, .f32⟩
  | 25 => ⟨S16x2048x256, .f32⟩
  | 26 => ⟨S16x2048x256, .f32⟩
  | 27 => ⟨S16x2048x256, .f32⟩
  | 28 => ⟨S1x1x256, .f32⟩
  | 29 => ⟨S16x2048x256, .f32⟩
  | 30 => ⟨S16x2048x256, .f32⟩
  | 31 => ⟨S1x1x256, .f32⟩
  | 32 => ⟨S16x2048x256, .f32⟩
  | 33 => ⟨S16x2048x256, .f32⟩
  | 34 => ⟨S16x2048x256, .f32⟩
  | 35 => ⟨S16x2048x256, .f32⟩
  | 36 => ⟨S16x2048x256, .i1⟩
  | 37 => ⟨S16x2048x256, .f32⟩
  | 38 => ⟨S16x2048x256, .f32⟩
  | 39 => ⟨S16x2048x256, .f32⟩
  | 40 => ⟨S16x2048x256, .f32⟩
  | 41 => ⟨S16x2048x256, .f32⟩
  | 42 => ⟨S16x2048x256, .f32⟩
  | 43 => ⟨S16x2048x256, .f32⟩
  | 44 => ⟨S16x2048x256, .f32⟩
  | 45 => ⟨S1x256, .f32⟩
  | 46 => ⟨S256, .f32⟩
  | 47 => ⟨S1x256, .f32⟩
  | 48 => ⟨S256, .f32⟩
  | 49 => ⟨S16x2048x256, .f32⟩
  | 50 => ⟨S_, .f32⟩
  | 51 => ⟨S16x2048x256, .f32⟩
  | 52 => ⟨S16x2048x256, .f32⟩
  | 53 => ⟨S16x2048x256, .f32⟩
  | 54 => ⟨S16x2048x256, .f32⟩
  | 55 => ⟨S16x2048x256, .i1⟩
  | 56 => ⟨S16x2048x256, .f32⟩
  | 57 => ⟨S16x2048x256, .f32⟩
  | 58 => ⟨S16x2048x256, .f32⟩
  | 59 => ⟨S16x2048x256, .f32⟩
  | 60 => ⟨S16x2048x256, .f32⟩
  | 61 => ⟨S16x2048x256, .f32⟩
  | 62 => ⟨S16x2048x256, .f32⟩
  | 63 => ⟨S16x2048x256, .f32⟩
  | 64 => ⟨S16x2048x256, .f32⟩
  | 65 => ⟨S1x1x256, .f32⟩
  | 66 => ⟨S16x2048x256, .f32⟩
  | 67 => ⟨S16x2048x256, .f32⟩
  | 68 => ⟨S1x1x256, .f32⟩
  | 69 => ⟨S16x2048x256, .f32⟩
  | 70 => ⟨S16x2048x256, .f32⟩
  | 71 => ⟨S16x2048x256, .f32⟩
  | 72 => ⟨S16x2048x256, .f32⟩
  | 73 => ⟨S16x2048x256, .i1⟩
  | 74 => ⟨S16x2048x256, .f32⟩
  | 75 => ⟨S16x2048x256, .f32⟩
  | 76 => ⟨S16x2048x256, .f32⟩
  | 77 => ⟨S16x2048x256, .f32⟩
  | 78 => ⟨S16x2048x256, .f32⟩
  | 79 => ⟨S16x2048x256, .f32⟩
  | 80 => ⟨S16x2048x256, .f32⟩
  | 81 => ⟨S16x2048x256, .f32⟩
  | 82 => ⟨S16x2048x512, .f32⟩
  | 83 => ⟨S32768x3840, .f32⟩
  | 84 => ⟨S32768x3840, .bf16⟩
  | 85 => ⟨S32768x512, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v28 : Ref sig .tc := ⟨.hbm, 57, rfl⟩
abbrev main_v29 : Ref sig .tc := ⟨.hbm, 58, rfl⟩
abbrev main_c_3 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst_4 : Ref sig .tc := ⟨.hbm, 83, rfl⟩
abbrev main_v33 : Ref sig .tc := ⟨.hbm, 84, rfl⟩
abbrev main_v34 : Ref sig .tc := ⟨.hbm, 85, rfl⟩
abbrev main_cst_5 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_6 : Ref sig .tc := ⟨.hbm, 90, rfl⟩
abbrev main_v38 : Ref sig .tc := ⟨.hbm, 91, rfl⟩
abbrev main_v39 : Ref sig .tc := ⟨.hbm, 92, rfl⟩
abbrev main_cst_7 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_8 : Ref sig .tc := ⟨.hbm, 116, rfl⟩
abbrev main_v62 : Ref sig .tc := ⟨.hbm, 117, rfl⟩
abbrev main_v63 : Ref sig .tc := ⟨.hbm, 118, rfl⟩
abbrev main_cst_9 : Ref sig .tc := ⟨.hbm, 119, rfl⟩
abbrev main_v64 : Ref sig .tc := ⟨.hbm, 120, rfl⟩
abbrev main_v65 : Ref sig .tc := ⟨.hbm, 121, rfl⟩
abbrev main_cst_10 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_11 : Ref sig .tc := ⟨.hbm, 150, rfl⟩
abbrev main_v93 : Ref sig .tc := ⟨.hbm, 151, rfl⟩
abbrev main_v94 : Ref sig .tc := ⟨.hbm, 152, rfl⟩
abbrev main_cst_12 : Ref sig .tc := ⟨.hbm, 153, rfl⟩
abbrev main_v95 : Ref sig .tc := ⟨.hbm, 154, rfl⟩
abbrev main_v96 : Ref sig .tc := ⟨.hbm, 155, rfl⟩
abbrev main_cst_13 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_14 : Ref sig .tc := ⟨.hbm, 187, rfl⟩
abbrev main_v127 : Ref sig .tc := ⟨.hbm, 188, rfl⟩
abbrev main_v128 : Ref sig .tc := ⟨.hbm, 189, rfl⟩
abbrev main_cst_15 : Ref sig .tc := ⟨.hbm, 190, rfl⟩
abbrev main_v129 : Ref sig .tc := ⟨.hbm, 191, rfl⟩
abbrev main_v130 : Ref sig .tc := ⟨.hbm, 192, rfl⟩
abbrev main_cst_16 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_17 : Ref sig .tc := ⟨.hbm, 206, rfl⟩
abbrev main_v143 : Ref sig .tc := ⟨.hbm, 207, rfl⟩
abbrev main_v144 : Ref sig .tc := ⟨.hbm, 208, rfl⟩
abbrev main_cst_18 : Ref sig .tc := ⟨.hbm, 209, rfl⟩
abbrev main_v145 : Ref sig .tc := ⟨.hbm, 210, rfl⟩
abbrev main_v146 : Ref sig .tc := ⟨.hbm, 211, rfl⟩
abbrev main_cst_19 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_20 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_call2_v0 : Ref sig .tc := ⟨.hbm, 231, rfl⟩
abbrev main_call2_v1 : Ref sig .tc := ⟨.hbm, 232, rfl⟩
abbrev main_call2_cst : Ref sig .tc := ⟨.hbm, 233, rfl⟩
abbrev main_call2_v2 : Ref sig .tc := ⟨.hbm, 234, rfl⟩
abbrev main_call2_v3 : Ref sig .tc := ⟨.hbm, 235, rfl⟩
abbrev main_call2_cst_0 : Ref sig .tc := ⟨.hbm, 236, rfl⟩
abbrev main_call2_v4 : Ref sig .tc := ⟨.hbm, 237, rfl⟩
abbrev main_call2_v5 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_cst_21 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_cst_22 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_call3_v0 : Ref sig .tc := ⟨.hbm, 254, rfl⟩
abbrev main_call3_v1 : Ref sig .tc := ⟨.hbm, 255, rfl⟩
abbrev main_call3_cst : Ref sig .tc := ⟨.hbm, 256, rfl⟩
abbrev main_call3_v2 : Ref sig .tc := ⟨.hbm, 257, rfl⟩
abbrev main_call3_v3 : Ref sig .tc := ⟨.hbm, 258, rfl⟩
abbrev main_call3_cst_0 : Ref sig .tc := ⟨.hbm, 259, rfl⟩
abbrev main_call3_v4 : Ref sig .tc := ⟨.hbm, 260, rfl⟩
abbrev main_call3_v5 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_call4_v0 : Ref sig .tc := ⟨.hbm, 268, rfl⟩
abbrev main_call4_call0_cst : Ref sig .tc := ⟨.hbm, 269, rfl⟩
abbrev main_call4_call0_v0 : Ref sig .tc := ⟨.hbm, 270, rfl⟩
abbrev main_call4_call0_v1 : Ref sig .tc := ⟨.hbm, 271, rfl⟩
abbrev main_call4_call0_v2 : Ref sig .tc := ⟨.hbm, 272, rfl⟩
abbrev main_call4_call0_v3 : Ref sig .tc := ⟨.hbm, 273, rfl⟩
abbrev main_call4_call0_v4 : Ref sig .tc := ⟨.hbm, 274, rfl⟩
abbrev main_call4_call0_v5 : Ref sig .tc := ⟨.hbm, 275, rfl⟩
abbrev main_call4_call0_v6 : Ref sig .tc := ⟨.hbm, 276, rfl⟩
abbrev main_call4_call0_v7 : Ref sig .tc := ⟨.hbm, 277, rfl⟩
abbrev main_call4_call0_v8 : Ref sig .tc := ⟨.hbm, 278, rfl⟩
abbrev main_call4_call0_v9 : Ref sig .tc := ⟨.hbm, 279, rfl⟩
abbrev main_call4_call0_v10 : Ref sig .tc := ⟨.hbm, 280, rfl⟩
abbrev main_call4_call0_v11 : Ref sig .tc := ⟨.hbm, 281, rfl⟩
abbrev main_call4_v1 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_call5_v0 : Ref sig .tc := ⟨.hbm, 305, rfl⟩
abbrev main_call5_call0_cst : Ref sig .tc := ⟨.hbm, 306, rfl⟩
abbrev main_call5_call0_v0 : Ref sig .tc := ⟨.hbm, 307, rfl⟩
abbrev main_call5_call0_v1 : Ref sig .tc := ⟨.hbm, 308, rfl⟩
abbrev main_call5_call0_v2 : Ref sig .tc := ⟨.hbm, 309, rfl⟩
abbrev main_call5_call0_v3 : Ref sig .tc := ⟨.hbm, 310, rfl⟩
abbrev main_call5_call0_v4 : Ref sig .tc := ⟨.hbm, 311, rfl⟩
abbrev main_call5_call0_v5 : Ref sig .tc := ⟨.hbm, 312, rfl⟩
abbrev main_call5_call0_v6 : Ref sig .tc := ⟨.hbm, 313, rfl⟩
abbrev main_call5_call0_v7 : Ref sig .tc := ⟨.hbm, 314, rfl⟩
abbrev main_call5_call0_v8 : Ref sig .tc := ⟨.hbm, 315, rfl⟩
abbrev main_call5_call0_v9 : Ref sig .tc := ⟨.hbm, 316, rfl⟩
abbrev main_call5_call0_v10 : Ref sig .tc := ⟨.hbm, 317, rfl⟩
abbrev main_call5_call0_v11 : Ref sig .tc := ⟨.hbm, 318, rfl⟩
abbrev main_call5_v1 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩

abbrev nD : Nat := 1
abbrev τ : Topo := Topo.v7x

variable {F : FTy → Type} [FloatOps F]
-- ==== ContextMerge.lean ====
abbrev S16x256x1024 : Shape := ⟨3, ![16, 256, 1024]⟩
abbrev S1024 : Shape := ⟨1, ![1024]⟩
abbrev S16x256x256 : Shape := ⟨3, ![16, 256, 256]⟩
abbrev S4x256x1024 : Shape := ⟨3, ![4, 256, 1024]⟩
abbrev S4x1024x1024 : Shape := ⟨3, ![4, 1024, 1024]⟩
abbrev S1024x1024 : Shape := ⟨2, ![1024, 1024]⟩
abbrev S1x1024 : Shape := ⟨2, ![1, 1024]⟩
abbrev S3x1024 : Shape := ⟨2, ![3, 1024]⟩
abbrev S1x3x1024 : Shape := ⟨3, ![1, 3, 1024]⟩
abbrev S_ : Shape := ⟨0, ![]⟩
abbrev S16x3x1024 : Shape := ⟨3, ![16, 3, 1024]⟩
abbrev S7x3x1024 : Shape := ⟨3, ![7, 3, 1024]⟩
abbrev S24x3x1024 : Shape := ⟨3, ![24, 3, 1024]⟩
abbrev S4096x1024 : Shape := ⟨2, ![4096, 1024]⟩
abbrev S4096x2816 : Shape := ⟨2, ![4096, 2816]⟩
abbrev S4096x3840 : Shape := ⟨2, ![4096, 3840]⟩
abbrev S4096x256 : Shape := ⟨2, ![4096, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x1x1024 : Shape := ⟨3, ![1, 1, 1024]⟩
abbrev S1x1024x1024 : Shape := ⟨3, ![1, 1024, 1024]⟩
abbrev S1x256x1024 : Shape := ⟨3, ![1, 256, 1024]⟩

abbrev nBuf : Space → Nat
  | .hbm => 51
  | .vmem => 20
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16x256x256, .f32⟩
  | .hbm, ⟨6, _⟩ => ⟨S16x256x256, .f32⟩
  | .hbm, ⟨7, _⟩ => ⟨S16x256x256, .f32⟩
  | .hbm, ⟨8, _⟩ => ⟨S16x256x256, .f32⟩
  | .hbm, ⟨9, _⟩ => ⟨S16x256x1024, .f32⟩
  | .hbm, ⟨10, _⟩ => ⟨S4x256x1024, .f32⟩
  | .hbm, ⟨11, _⟩ => ⟨S4x1024x1024, .f32⟩
  | .hbm, ⟨12, _⟩ => ⟨S1024x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S3x1024, .f32⟩
  | .hbm, ⟨17, _⟩ => ⟨S1x3x1024, .f32⟩
  | .hbm, ⟨18, _⟩ => ⟨S_, .f32⟩
  | .hbm, ⟨19, _⟩ => ⟨S16x3x1024, .f32⟩
  | .hbm, ⟨20, _⟩ => ⟨S_, .f32⟩
  | .hbm, ⟨21, _⟩ => ⟨S7x3x1024, .f32⟩
  | .hbm, ⟨22, _⟩ => ⟨S24x3x1024, .f32⟩
  | .hbm, ⟨23, _⟩ => ⟨S16x256x1024, .f32⟩
  | .hbm, ⟨24, _⟩ => ⟨S16x256x1024, .f32⟩
  | .hbm, ⟨25, _⟩ => ⟨S_, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S16x256x1024, .f32⟩
  | .hbm, ⟨30, _⟩ => ⟨S16x256x1024, .f32⟩
  | .hbm, ⟨31, _⟩ => ⟨S16x256x1024, .f32⟩
  | .hbm, ⟨32, _⟩ => ⟨S4096x1024, .f32⟩
  | .hbm, ⟨33, _⟩ => ⟨S_, .f32⟩
  | .hbm, ⟨34, _⟩ => ⟨S4096x2816, .f32⟩
  | .hbm, ⟨35, _⟩ => ⟨S4096x3840, .f32⟩
  | .hbm, ⟨36, _⟩ => ⟨S4096x3840, .bf16⟩
  | .hbm, ⟨37, _⟩ => ⟨S4096x256, .f32⟩
  | .hbm, ⟨38, _⟩ => ⟨S4096x256, .bf16⟩
  | .hbm, ⟨39, _⟩ => ⟨S4096x256, .f32⟩
  | .hbm, ⟨40, _⟩ => ⟨S4096x256, .bf16⟩
  | .hbm, ⟨41, _⟩ => ⟨S4096x256, .f32⟩
  | .hbm, ⟨42, _⟩ => ⟨S4096x256, .bf16⟩
  | .hbm, ⟨43, _⟩ => ⟨S4096x256, .f32⟩
  | .hbm, ⟨44, _⟩ => ⟨S4096x256, .bf16⟩
  | .hbm, ⟨45, _⟩ => ⟨S4096x1024, .f32⟩
  | .hbm, ⟨46, _⟩ => ⟨S1x1024, .f32⟩
  | .hbm, ⟨47, _⟩ => ⟨S4x256x1024, .bf16⟩
  | .hbm, ⟨48, _⟩ => ⟨S4x1024x1024, .bf16⟩
  | .hbm, ⟨49, _⟩ => ⟨S1024x1024, .bf16⟩
  | .hbm, ⟨50, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x1024, .bf16⟩
  | .local _ .vmem, ⟨14, _⟩ => ⟨S256x1024, .bf16⟩
  | .local _ .vmem, ⟨15, _⟩ => ⟨S4x256x1024, .bf16⟩
  | .local _ .vmem, ⟨16, _⟩ => ⟨S4x1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.addi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ContextMergeReferenceIdeal.lean ====
abbrev S16x256x1024 : Shape := ⟨3, ![16, 256, 1024]⟩
abbrev S1024 : Shape := ⟨1, ![1024]⟩
abbrev S16x256x256 : Shape := ⟨3, ![16, 256, 256]⟩
abbrev S4x256x1024 : Shape := ⟨3, ![4, 256, 1024]⟩
abbrev S4x1024x1024 : Shape := ⟨3, ![4, 1024, 1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x256x1024 : Shape := ⟨3, ![1, 256, 1024]⟩
abbrev S256x1024 : Shape := ⟨2, ![256, 1024]⟩
abbrev S1x1024x1024 : Shape := ⟨3, ![1, 1024, 1024]⟩
abbrev S4096x1024 : Shape := ⟨2, ![4096, 1024]⟩

abbrev nBuf : Space → Nat
  | .hbm => 151
  | .vmem => 0
  | .smem => 0
  | _ => 0

abbrev hbmTy0_0 (i : Nat) : BufTy := match i % 128 with
  | 0 => ⟨S16x256x1024, .f32⟩
  | 1 => ⟨S1024, .f32⟩
  | 2 => ⟨S1024, .f32⟩
  | 3 => ⟨S1024, .f32⟩
  | 4 => ⟨S1024, .f32⟩
  | 5 => ⟨S16x256x256, .f32⟩
  | 6 => ⟨S16x256x256, .f32⟩
  | 7 => ⟨S16x256x256, .f32⟩
  | 8 => ⟨S16x256x256, .f32⟩
  | 9 => ⟨S16x256x1024, .f32⟩
  | 10 => ⟨S4x256x1024, .f32⟩
  | 11 => ⟨S4x1024x1024, .f32⟩
  | 12 => ⟨S1024x1024, .f32⟩
  | 13 => ⟨S16x256x1024, .f32⟩
  | 14 => ⟨S_, .f32⟩
  | 15 => ⟨S16x256, .f32⟩
  | 16 => ⟨S16x256x1, .f32⟩
  | 17 => ⟨S_, .f32⟩
  | 18 => ⟨S16x256x1, .f32⟩
  | 19 => ⟨S16x256x1, .f32⟩
  | 20 => ⟨S_, .f32⟩
  | 21 => ⟨S16x256x1, .f32⟩
  | 22 => ⟨S16x256x1, .f32⟩
  | 23 => ⟨S16x256x1, .f32⟩
  | 24 => ⟨S16x256x1024, .f32⟩
  | 25 => ⟨S16x256x1024, .f32⟩
  | 26 => ⟨S1x1x1024, .f32⟩
  | 27 => ⟨S16x256x1024, .f32⟩
  | 28 => ⟨S16x256x1024, .f32⟩
  | 29 => ⟨S_, .f32⟩
  | 30 => ⟨S1024, .f32⟩
  | 31 => ⟨S1024, .f32⟩
  | 32 => ⟨S1x1x1024, .f32⟩
  | 33 => ⟨S16x256x1024, .f32⟩
  | 34 => ⟨S16x256x1024, .f32⟩
  | 35 => ⟨S1x1x1024, .f32⟩
  | 36 => ⟨S16x256x1024, .f32⟩
  | 37 => ⟨S16x256x1024, .f32⟩
  | 38 => ⟨S16x256x256, .f32⟩
  | 39 => ⟨S16x256x256, .f32⟩
  | 40 => ⟨S16x256x256, .f32⟩
  | 41 => ⟨S16x256x256, .f32⟩
  | 42 => ⟨S16x256x256, .f32⟩
  | 43 => ⟨S16x256x256, .f32⟩
  | 44 => ⟨S_, .f32⟩
  | 45 => ⟨S16x256x256, .f32⟩
  | 46 => ⟨S16x256x256, .f32⟩
  | 47 => ⟨S_, .f32⟩
  | 48 => ⟨S16x256x256, .f32⟩
  | 49 => ⟨S16x256x256, .f32⟩
  | 50 => ⟨S16x256x256, .f32⟩
  | 51 => ⟨S16x256x256, .f32⟩
  | 52 => ⟨S1x256x1024, .f32⟩
  | 53 => ⟨S256x1024, .f32⟩
  | 54 => ⟨S16x256x1024, .f32⟩
  | 55 => ⟨S1x1024x1024, .f32⟩
  | 56 => ⟨S1024x1024, .f32⟩
  | 57 => ⟨S16x256x1024, .f32⟩
  | 58 => ⟨S16x256x1024, .f32⟩
  | 59 => ⟨S16x256x1024, .f32⟩
  | 60 => ⟨S_, .f32⟩
  | 61 => ⟨S16x256x1024, .f32⟩
  | 62 => ⟨S16x256x1024, .f32⟩
  | 63 => ⟨S_, .f32⟩
  | 64 => ⟨S16x256x1024, .f32⟩
  | 65 => ⟨S16x256x1024, .f32⟩
  | 66 => ⟨S16x256x1024, .f32⟩
  | 67 => ⟨S16x256x256, .f32⟩
  | 68 => ⟨S16x256x256, .f32⟩
  | 69 => ⟨S_, .f32⟩
  | 70 => ⟨S16x256x256, .f32⟩
  | 71 => ⟨S16x256x256, .f32⟩
  | 72 => ⟨S_, .f32⟩
  | 73 => ⟨S16x256x256, .f32⟩
  | 74 => ⟨S16x256x256, .f32⟩
  | 75 => ⟨S16x256x256, .f32⟩
  | 76 => ⟨S16x256x256, .f32⟩
  | 77 => ⟨S1x256x1024, .f32⟩
  | 78 => ⟨S256x1024, .f32⟩
  | 79 => ⟨S16x256x1024, .f32⟩
  | 80 => ⟨S1x1024x1024, .f32⟩
  | 81 => ⟨S1024x1024, .f32⟩
  | 82 => ⟨S16x256x1024, .f32⟩
  | 83 => ⟨S16x256x1024, .f32⟩
  | 84 => ⟨S16x256x1024, .f32⟩
  | 85 => ⟨S_, .f32⟩
  | 86 => ⟨S16x256x1024, .f32⟩
  | 87 => ⟨S16x256x1024, .f32⟩
  | 88 => ⟨S_, .f32⟩
  | 89 => ⟨S16x256x1024, .f32⟩
  | 90 => ⟨S16x256x1024, .f32⟩
  | 91 => ⟨S16x256x1024, .f32⟩
  | 92 => ⟨S16x256x1024, .f32⟩
  | 93 => ⟨S16x256x256, .f32⟩
  | 94 => ⟨S16x256x256, .f32⟩
  | 95 => ⟨S_, .f32⟩
  | 96 => ⟨S16x256x256, .f32⟩
  | 97 => ⟨S16x256x256, .f32⟩
  | 98 => ⟨S_, .f32⟩
  | 99 => ⟨S16x256x256, .f32⟩
  | 100 => ⟨S16x256x256, .f32⟩
  | 101 => ⟨S16x256x256, .f32⟩
  | 102 => ⟨S16x256x256, .f32⟩
  | 103 => ⟨S1x256x1024, .f32⟩
  | 104 => ⟨S256x1024, .f32⟩
  | 105 => ⟨S16x256x1024, .f32⟩
  | 106 => ⟨S1x1024x1024, .f32⟩
  | 107 => ⟨S1024x1024, .f32⟩
  | 108 => ⟨S16x256x1024, .f32⟩
  | 109 => ⟨S16x256x1024, .f32⟩
  | 110 => ⟨S16x256x1024, .f32⟩
  | 111 => ⟨S_, .f32⟩
  | 112 => ⟨S16x256x1024, .f32⟩
  | 113 => ⟨S16x256x1024, .f32⟩
  | 114 => ⟨S_, .f32⟩
  | 115 => ⟨S16x256x1024, .f32⟩
  | 116 => ⟨S16x256x1024, .f32⟩
  | 117 => ⟨S16x256x1024, .f32⟩
  | 118 => ⟨S16x256x1024, .f32⟩
  | 119 => ⟨S16x256x256, .f32⟩
  | 120 => ⟨S16x256x256, .f32⟩
  | 121 => ⟨S_, .f32⟩
  | 122 => ⟨S16x256x256, .f32⟩
  | 123 => ⟨S16x256x256, .f32⟩
  | 124 => ⟨S_, .f32⟩
  | 125 => ⟨S16x256x256, .f32⟩
  | 126 => ⟨S16x256x256, .f32⟩
  | 127 => ⟨S16x256x256, .f32⟩
  | _ => ⟨S16x256x1024, .f32⟩

abbrev hbmTy0_1 (i : Nat) : BufTy := match i % 128 with
  | 0 => ⟨S16x256x256, .f32⟩
  | 1 => ⟨S1x256x1024, .f32⟩
  | 2 => ⟨S256x1024, .f32⟩
  | 3 => ⟨S16x256x1024, .f32⟩
  | 4 => ⟨S1x1024x1024, .f32⟩
  | 5 => ⟨S1024x1024, .f32⟩
  | 6 => ⟨S16x256x1024, .f32⟩
  | 7 => ⟨S16x256x1024, .f32⟩
  | 8 => ⟨S16x256x1024, .f32⟩
  | 9 => ⟨S_, .f32⟩
  | 10 => ⟨S16x256x1024, .f32⟩
  | 11 => ⟨S16x256x1024, .f32⟩
  | 12 => ⟨S_, .f32⟩
  | 13 => ⟨S16x256x1024, .f32⟩
  | 14 => ⟨S16x256x1024, .f32⟩
  | 15 => ⟨S16x256x1024, .f32⟩
  | 16 => ⟨S16x256x1024, .f32⟩
  | 17 => ⟨S16x256x1024, .f32⟩
  | 18 => ⟨S1x1x1024, .f32⟩
  | 19 => ⟨S16x256x1024, .f32⟩
  | 20 => ⟨S16x256x1024, .f32⟩
  | 21 => ⟨S16x256x1024, .f32⟩
  | 22 => ⟨S4096x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_5 : Ref sig .tc := ⟨.hbm, 85, rfl⟩
abbrev main_v50 : Ref sig .tc := ⟨.hbm, 86, rfl⟩
abbrev main_v51 : Ref sig .tc := ⟨.hbm, 87, rfl⟩
abbrev main_cst_6 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_7 : Ref sig .tc := ⟨.hbm, 111, rfl⟩
abbrev main_v66 : Ref sig .tc := ⟨.hbm, 112, rfl⟩
abbrev main_v67 : Ref sig .tc := ⟨.hbm, 113, rfl⟩
abbrev main_cst_8 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_9 : Ref sig .tc := ⟨.hbm, 137, rfl⟩
abbrev main_v82 : Ref sig .tc := ⟨.hbm, 138, rfl⟩
abbrev main_v83 : Ref sig .tc := ⟨.hbm, 139, rfl⟩
abbrev main_cst_10 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩

abbrev nD : Nat := 1
abbrev τ : Topo := Topo.v7x

variable {F : FTy → Type} [FloatOps F]
-- ==== ContextProjection.lean ====
abbrev S16x256x1024 : Shape := ⟨3, ![16, 256, 1024]⟩
abbrev S1024 : Shape := ⟨1, ![1024]⟩
abbrev S1024x3840 : Shape := ⟨2, ![1024, 3840]⟩
abbrev S2x32 : Shape := ⟨2, ![2, 32]⟩
abbrev S2x64 : Shape := ⟨2, ![2, 64]⟩
abbrev S2x256 : Shape := ⟨2, ![2, 256]⟩
abbrev S_ : Shape := ⟨0, ![]⟩
abbrev S1x1024 : Shape := ⟨2, ![1, 1024]⟩
abbrev S3x1024 : Shape := ⟨2, ![3, 1024]⟩
abbrev S1x3x1024 : Shape := ⟨3, ![1, 3, 1024]⟩
abbrev S16x3x1024 : Shape := ⟨3, ![16, 3, 1024]⟩
abbrev S7x3x1024 : Shape := ⟨3, ![7, 3, 1024]⟩
abbrev S24x3x1024 : Shape := ⟨3, ![24, 3, 1024]⟩
abbrev S1x256 : Shape := ⟨2, ![1, 256]⟩
abbrev S256 : Shape := ⟨1, ![256]⟩
abbrev S4x256 : Shape := ⟨2, ![4, 256]⟩
abbrev S1x2x1x32 : Shape := ⟨4, ![1, 2, 1, 32]⟩
abbrev S1x2x8x32 : Shape := ⟨4, ![1, 2, 8, 32]⟩
abbrev S1x2x1x64 : Shape := ⟨4, ![1, 2, 1, 64]⟩
abbrev S1x2x4x64 : Shape := ⟨4, ![1, 2, 4, 64]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x32 : Shape := ⟨2, ![2048, 32]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S4096x1024 : Shape := ⟨2, ![4096, 1024]⟩
abbrev S4096x3840 : Shape := ⟨2, ![4096, 3840]⟩
abbrev S4096x512 : Shape := ⟨2, ![4096, 512]⟩
abbrev S512x1024 : Shape := ⟨2, ![512, 1024]⟩
abbrev S512x256 : Shape := ⟨2, ![512, 256]⟩
abbrev S512x3840 : Shape := ⟨2, ![512, 3840]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S1024x256 : Shape := ⟨2, ![1024, 256]⟩
abbrev S256x256 : Shape := ⟨2, ![256, 256]⟩
abbrev S512x64 : Shape := ⟨2, ![512, 64]⟩

abbrev nBuf : Space → Nat
  | .hbm => 129
  | .vmem => 17
  | .smem => 0
  | _ => 0

abbrev hbmTy0_0 (i : Nat) : BufTy := match i % 128 with
  | 0 => ⟨S16x256x1024, .f32⟩
  | 1 => ⟨S1024, .f32⟩
  | 2 => ⟨S1024, .f32⟩
  | 3 => ⟨S1024, .f32⟩
  | 4 => ⟨S1024x3840, .f32⟩
  | 5 => ⟨S2x32, .f32⟩
  | 6 => ⟨S2x64, .f32⟩
  | 7 => ⟨S2x256, .f32⟩
  | 8 => ⟨S_, .f32⟩
  | 9 => ⟨S1024, .f32⟩
  | 10 => ⟨S1x1024, .f32⟩
  | 11 => ⟨S1x1024, .f32⟩
  | 12 => ⟨S1x1024, .f32⟩
  | 13 => ⟨S3x1024, .f32⟩
  | 14 => ⟨S1x3x1024, .f32⟩
  | 15 => ⟨S_, .f32⟩
  | 16 => ⟨S16x3x1024, .f32⟩
  | 17 => ⟨S_, .f32⟩
  | 18 => ⟨S7x3x1024, .f32⟩
  | 19 => ⟨S24x3x1024, .f32⟩
  | 20 => ⟨S_, .f32⟩
  | 21 => ⟨S2x256, .f32⟩
  | 22 => ⟨S2x256, .f32⟩
  | 23 => ⟨S_, .f32⟩
  | 24 => ⟨S2x256, .f32⟩
  | 25 => ⟨S2x256, .f32⟩
  | 26 => ⟨S1x256, .f32⟩
  | 27 => ⟨S256, .f32⟩
  | 28 => ⟨S1x256, .f32⟩
  | 29 => ⟨S256, .f32⟩
  | 30 => ⟨S1x256, .f32⟩
  | 31 => ⟨S256, .f32⟩
  | 32 => ⟨S1x256, .f32⟩
  | 33 => ⟨S256, .f32⟩
  | 34 => ⟨S1x256, .f32⟩
  | 35 => ⟨S1x256, .f32⟩
  | 36 => ⟨S1x256, .f32⟩
  | 37 => ⟨S1x256, .f32⟩
  | 38 => ⟨S4x256, .f32⟩
  | 39 => ⟨S1x2x1x32, .f32⟩
  | 40 => ⟨S1x2x8x32, .f32⟩
  | 41 => ⟨S2x256, .f32⟩
  | 42 => ⟨S1x2x1x64, .f32⟩
  | 43 => ⟨S1x2x4x64, .f32⟩
  | 44 => ⟨S2x256, .f32⟩
  | 45 => ⟨S2048, .i32⟩
  | 46 => ⟨S_, .i32⟩
  | 47 => ⟨S_, .i32⟩
  | 48 => ⟨S2048, .i32⟩
  | 49 => ⟨S2048, .i32⟩
  | 50 => ⟨S2048, .i32⟩
  | 51 => ⟨S_, .i32⟩
  | 52 => ⟨S2048, .i32⟩
  | 53 => ⟨S2048, .i1⟩
  | 54 => ⟨S2048, .i32⟩
  | 55 => ⟨S2048, .i32⟩
  | 56 => ⟨S_, .i32⟩
  | 57 => ⟨S2048, .i32⟩
  | 58 => ⟨S2048, .i1⟩
  | 59 => ⟨S2048, .i1⟩
  | 60 => ⟨S_, .i32⟩
  | 61 => ⟨S2048, .i32⟩
  | 62 => ⟨S2048, .i32⟩
  | 63 => ⟨S2048, .i32⟩
  | 64 => ⟨S2048, .f32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i1⟩
  | 76 => ⟨S_, .i32⟩
  | 77 => ⟨S2048, .i32⟩
  | 78 => ⟨S2048, .i1⟩
  | 79 => ⟨S_, .i32⟩
  | 80 => ⟨S_, .i1⟩
  | 81 => ⟨S2048, .i1⟩
  | 82 => ⟨S2048, .i1⟩
  | 83 => ⟨S2048, .i1⟩
  | 84 => ⟨S2048, .i32⟩
  | 85 => ⟨S2048, .i32⟩
  | 86 => ⟨S2048, .i32⟩
  | 87 => ⟨S2048, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S2048x1, .f32⟩
  | 103 => ⟨S1x8, .f32⟩
  | 104 => ⟨S2048x8, .f32⟩
  | 105 => ⟨S2048x8, .f32⟩
  | 106 => ⟨S2048x8, .f32⟩
  | 107 => ⟨S2048x1, .f32⟩
  | 108 => ⟨S1x8, .f32⟩
  | 109 => ⟨S2048x8, .f32⟩
  | 110 => ⟨S2048x8, .f32⟩
  | 111 => ⟨S2048x8, .f32⟩
  | 112 => ⟨S2048x16, .f32⟩
  | 113 => ⟨S2048x16, .f32⟩
  | 114 => ⟨S2048x16, .f32⟩
  | 115 => ⟨S2048x32, .f32⟩
  | 116 => ⟨S2048x16, .f32⟩
  | 117 => ⟨S2048x32, .f32⟩
  | 118 => ⟨S1x2048x1x32, .f32⟩
  | 119 => ⟨S1x2048x8x32, .f32⟩
  | 120 => ⟨S2048x256, .f32⟩
  | 121 => ⟨S1x2048x1x32, .f32⟩
  | 122 => ⟨S1x2048x8x32, .f32⟩
  | 123 => ⟨S2048x256, .f32⟩
  | 124 => ⟨S4096x1024, .f32⟩
  | 125 => ⟨S1x1024, .f32⟩
  | 126 => ⟨S1024x3840, .bf16⟩
  | 127 => ⟨S4096x3840, .bf16⟩
  | _ => ⟨S16x256x1024, .f32⟩

abbrev hbmTy0_1 (i : Nat) : BufTy := match i % 128 with
  | 0 => ⟨S4096x512, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x3840, .bf16⟩
  | .local _ .vmem, ⟨6, _⟩ => ⟨S2x256, .f32⟩
  | .local _ .vmem, ⟨7, _⟩ => ⟨S2x256, .f32⟩
  | .local _ .vmem, ⟨8, _⟩ => ⟨S4x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x3840, .bf16⟩
  | .local _ .vmem, ⟨14, _⟩ => ⟨S512x3840, .bf16⟩
  | .local _ .vmem, ⟨15, _⟩ => ⟨S512x512, .f32⟩
  | .local _ .vmem, ⟨16, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v33 : Ref sig .tc := ⟨.hbm, 63, rfl⟩
abbrev main_v34 : Ref sig .tc := ⟨.hbm, 64, rfl⟩
abbrev main_c_4 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_1 : Ref sig .tc := ⟨.hbm, 73, rfl⟩
abbrev main_call1_v5 : Ref sig .tc := ⟨.hbm, 74, rfl⟩
abbrev main_call1_v6 : Ref sig .tc := ⟨.hbm, 75, rfl⟩
abbrev main_call1_c_2 : Ref sig .tc := ⟨.hbm, 76, rfl⟩
abbrev main_call1_v7 : Ref sig .tc := ⟨.hbm, 77, rfl⟩
abbrev main_call1_v8 : Ref sig .tc := ⟨.hbm, 78, rfl⟩
abbrev main_call1_c_3 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_5 : Ref sig .tc := ⟨.hbm, 89, rfl⟩
abbrev main_v38 : Ref sig .tc := ⟨.hbm, 90, rfl⟩
abbrev main_v39 : Ref sig .tc := ⟨.hbm, 91, rfl⟩
abbrev main_cst_6 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_7 : Ref sig .tc := ⟨.hbm, 96, rfl⟩
abbrev main_v43 : Ref sig .tc := ⟨.hbm, 97, rfl⟩
abbrev main_v44 : Ref sig .tc := ⟨.hbm, 98, rfl⟩
abbrev main_cst_8 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72_0 : Ref sig .tc := ⟨.hbm, 127, rfl⟩
abbrev main_v72_1 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.addi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3840 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ContextProjectionReferenceIdeal.lean ====
abbrev S16x256x1024 : Shape := ⟨3, ![16, 256, 1024]⟩
abbrev S1024 : Shape := ⟨1, ![1024]⟩
abbrev S1024x3840 : Shape := ⟨2, ![1024, 3840]⟩
abbrev S2x32 : Shape := ⟨2, ![2, 32]⟩
abbrev S2x64 : Shape := ⟨2, ![2, 64]⟩
abbrev S2x256 : Shape := ⟨2, ![2, 256]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x3840 : Shape := ⟨3, ![16, 256, 3840]⟩
abbrev S16x256x768 : Shape := ⟨3, ![16, 256, 768]⟩
abbrev S16x256x256 : Shape := ⟨3, ![16, 256, 256]⟩
abbrev S16x256x8x32 : Shape := ⟨4, ![16, 256, 8, 32]⟩
abbrev S1x32 : Shape := ⟨2, ![1, 32]⟩
abbrev S32 : Shape := ⟨1, ![32]⟩
abbrev S16x256x8 : Shape := ⟨3, ![16, 256, 8]⟩
abbrev S16x256x8x1 : Shape := ⟨4, ![16, 256, 8, 1]⟩
abbrev S1x1x1x32 : Shape := ⟨4, ![1, 1, 1, 32]⟩
abbrev S16x256x4x64 : Shape := ⟨4, ![16, 256, 4, 64]⟩
abbrev S1x64 : Shape := ⟨2, ![1, 64]⟩
abbrev S64 : Shape := ⟨1, ![64]⟩
abbrev S16x256x4 : Shape := ⟨3, ![16, 256, 4]⟩
abbrev S16x256x4x1 : Shape := ⟨4, ![16, 256, 4, 1]⟩
abbrev S1x1x1x64 : Shape := ⟨4, ![1, 1, 1, 64]⟩
abbrev S16x256x4x128 : Shape := ⟨4, ![16, 256, 4, 128]⟩
abbrev S16x256x512 : Shape := ⟨3, ![16, 256, 512]⟩
abbrev S1x256 : Shape := ⟨2, ![1, 256]⟩
abbrev S256 : Shape := ⟨1, ![256]⟩
abbrev S1x1x256 : Shape := ⟨3, ![1, 1, 256]⟩
abbrev S4096x3840 : Shape := ⟨2, ![4096, 3840]⟩
abbrev S4096x512 : Shape := ⟨2, ![4096, 512]⟩

abbrev nBuf : Space → Nat
  | .hbm => 242
  | .vmem => 0
  | .smem => 0
  | _ => 0

abbrev hbmTy0_0 (i : Nat) : BufTy := match i % 128 with
  | 0 => ⟨S16x256x1024, .f32⟩
  | 1 => ⟨S1024, .f32⟩
  | 2 => ⟨S1024, .f32⟩
  | 3 => ⟨S1024, .f32⟩
  | 4 => ⟨S1024x3840, .f32⟩
  | 5 => ⟨S2x32, .f32⟩
  | 6 => ⟨S2x64, .f32⟩
  | 7 => ⟨S2x256, .f32⟩
  | 8 => ⟨S16x256x1024, .f32⟩
  | 9 => ⟨S_, .f32⟩
  | 10 => ⟨S16x256, .f32⟩
  | 11 => ⟨S16x256x1, .f32⟩
  | 12 => ⟨S_, .f32⟩
  | 13 => ⟨S16x256x1, .f32⟩
  | 14 => ⟨S16x256x1, .f32⟩
  | 15 => ⟨S_, .f32⟩
  | 16 => ⟨S16x256x1, .f32⟩
  | 17 => ⟨S16x256x1, .f32⟩
  | 18 => ⟨S16x256x1, .f32⟩
  | 19 => ⟨S16x256x1024, .f32⟩
  | 20 => ⟨S16x256x1024, .f32⟩
  | 21 => ⟨S1x1x1024, .f32⟩
  | 22 => ⟨S16x256x1024, .f32⟩
  | 23 => ⟨S16x256x1024, .f32⟩
  | 24 => ⟨S_, .f32⟩
  | 25 => ⟨S1024, .f32⟩
  | 26 => ⟨S1024, .f32⟩
  | 27 => ⟨S1x1x1024, .f32⟩
  | 28 => ⟨S16x256x1024, .f32⟩
  | 29 => ⟨S16x256x1024, .f32⟩
  | 30 => ⟨S1x1x1024, .f32⟩
  | 31 => ⟨S16x256x1024, .f32⟩
  | 32 => ⟨S16x256x1024, .f32⟩
  | 33 => ⟨S16x256x3840, .f32⟩
  | 34 => ⟨S16x256x768, .f32⟩
  | 35 => ⟨S16x256x768, .f32⟩
  | 36 => ⟨S16x256x1024, .f32⟩
  | 37 => ⟨S16x256x256, .f32⟩
  | 38 => ⟨S16x256x1024, .f32⟩
  | 39 => ⟨S16x256x256, .f32⟩
  | 40 => ⟨S16x256x256, .f32⟩
  | 41 => ⟨S16x256x256, .f32⟩
  | 42 => ⟨S16x256x8x32, .f32⟩
  | 43 => ⟨S1x32, .f32⟩
  | 44 => ⟨S32, .f32⟩
  | 45 => ⟨S16x256x8x32, .f32⟩
  | 46 => ⟨S_, .f32⟩
  | 47 => ⟨S16x256x8, .f32⟩
  | 48 => ⟨S16x256x8x1, .f32⟩
  | 49 => ⟨S_, .f32⟩
  | 50 => ⟨S16x256x8x1, .f32⟩
  | 51 => ⟨S16x256x8x1, .f32⟩
  | 52 => ⟨S_, .f32⟩
  | 53 => ⟨S16x256x8x1, .f32⟩
  | 54 => ⟨S16x256x8x1, .f32⟩
  | 55 => ⟨S16x256x8x1, .f32⟩
  | 56 => ⟨S16x256x8x32, .f32⟩
  | 57 => ⟨S16x256x8x32, .f32⟩
  | 58 => ⟨S1x1x1x32, .f32⟩
  | 59 => ⟨S16x256x8x32, .f32⟩
  | 60 => ⟨S16x256x8x32, .f32⟩
  | 61 => ⟨S16x256x8x32, .f32⟩
  | 62 => ⟨S1x32, .f32⟩
  | 63 => ⟨S32, .f32⟩
  | 64 => ⟨S16x256x8x32, .f32⟩
  | 65 => ⟨S_, .f32⟩
  | 66 => ⟨S16x256x8, .f32⟩
  | 67 => ⟨S16x256x8x1, .f32⟩
  | 68 => ⟨S_, .f32⟩
  | 69 => ⟨S16x256x8x1, .f32⟩
  | 70 => ⟨S16x256x8x1, .f32⟩
  | 71 => ⟨S_, .f32⟩
  | 72 => ⟨S16x256x8x1, .f32⟩
  | 73 => ⟨S16x256x8x1, .f32⟩
  | 74 => ⟨S16x256x8x1, .f32⟩
  | 75 => ⟨S16x256x8x32, .f32⟩
  | 76 => ⟨S16x256x8x32, .f32⟩
  | 77 => ⟨S1x1x1x32, .f32⟩
  | 78 => ⟨S16x256x8x32, .f32⟩
  | 79 => ⟨S16x256x8x32, .f32⟩
  | 80 => ⟨S16x256x256, .f32⟩
  | 81 => ⟨S16x256x256, .f32⟩
  | 82 => ⟨S16x256x256, .f32⟩
  | 83 => ⟨S16x256x4x64, .f32⟩
  | 84 => ⟨S1x64, .f32⟩
  | 85 => ⟨S64, .f32⟩
  | 86 => ⟨S16x256x4x64, .f32⟩
  | 87 => ⟨S_, .f32⟩
  | 88 => ⟨S16x256x4, .f32⟩
  | 89 => ⟨S16x256x4x1, .f32⟩
  | 90 => ⟨S_, .f32⟩
  | 91 => ⟨S16x256x4x1, .f32⟩
  | 92 => ⟨S16x256x4x1, .f32⟩
  | 93 => ⟨S_, .f32⟩
  | 94 => ⟨S16x256x4x1, .f32⟩
  | 95 => ⟨S16x256x4x1, .f32⟩
  | 96 => ⟨S16x256x4x1, .f32⟩
  | 97 => ⟨S16x256x4x64, .f32⟩
  | 98 => ⟨S16x256x4x64, .f32⟩
  | 99 => ⟨S1x1x1x64, .f32⟩
  | 100 => ⟨S16x256x4x64, .f32⟩
  | 101 => ⟨S16x256x4x64, .f32⟩
  | 102 => ⟨S16x256x4x64, .f32⟩
  | 103 => ⟨S1x64, .f32⟩
  | 104 => ⟨S64, .f32⟩
  | 105 => ⟨S16x256x4x64, .f32⟩
  | 106 => ⟨S_, .f32⟩
  | 107 => ⟨S16x256x4, .f32⟩
  | 108 => ⟨S16x256x4x1, .f32⟩
  | 109 => ⟨S_, .f32⟩
  | 110 => ⟨S16x256x4x1, .f32⟩
  | 111 => ⟨S16x256x4x1, .f32⟩
  | 112 => ⟨S_, .f32⟩
  | 113 => ⟨S16x256x4x1, .f32⟩
  | 114 => ⟨S16x256x4x1, .f32⟩
  | 115 => ⟨S16x256x4x1, .f32⟩
  | 116 => ⟨S16x256x4x64, .f32⟩
  | 117 => ⟨S16x256x4x64, .f32⟩
  | 118 => ⟨S1x1x1x64, .f32⟩
  | 119 => ⟨S16x256x4x64, .f32⟩
  | 120 => ⟨S16x256x4x64, .f32⟩
  | 121 => ⟨S16x256x256, .f32⟩
  | 122 => ⟨S16x256x256, .f32⟩
  | 123 => ⟨S16x256x256, .f32⟩
  | 124 => ⟨S16x256x256, .f32⟩
  | 125 => ⟨S_, .f32⟩
  | 126 => ⟨S2x256, .f32⟩
  | 127 => ⟨S2x256, .f32⟩
  | _ => ⟨S16x256x1024, .f32⟩

abbrev hbmTy0_1 (i : Nat) : BufTy := match i % 128 with
  | 0 => ⟨S2x256, .f32⟩
  | 1 => ⟨S2x256, .f32⟩
  | 2 => ⟨S2x256, .f32⟩
  | 3 => ⟨S16x256x1024, .f32⟩
  | 4 => ⟨S16x256x1024, .f32⟩
  | 5 => ⟨S_, .f32⟩
  | 6 => ⟨S16x256x1024, .f32⟩
  | 7 => ⟨S16x256x1024, .f32⟩
  | 8 => ⟨S_, .f32⟩
  | 9 => ⟨S16x256x1024, .f32⟩
  | 10 => ⟨S16x256x1024, .f32⟩
  | 11 => ⟨S16x256x1024, .f32⟩
  | 12 => ⟨S16x256x256, .f32⟩
  | 13 => ⟨S16x256x256, .f32⟩
  | 14 => ⟨S16x256x256, .f32⟩
  | 15 => ⟨S16x256x256, .f32⟩
  | 16 => ⟨S16x256x4x64, .f32⟩
  | 17 => ⟨S_, .f32⟩
  | 18 => ⟨S16x256x4x64, .f32⟩
  | 19 => ⟨S16x256x4x128, .f32⟩
  | 20 => ⟨S16x256x512, .f32⟩
  | 21 => ⟨S16x256x4x64, .f32⟩
  | 22 => ⟨S_, .f32⟩
  | 23 => ⟨S16x256x4x64, .f32⟩
  | 24 => ⟨S16x256x4x128, .f32⟩
  | 25 => ⟨S16x256x512, .f32⟩
  | 26 => ⟨S16x256x256, .f32⟩
  | 27 => ⟨S16x256x256, .f32⟩
  | 28 => ⟨S_, .f32⟩
  | 29 => ⟨S16x256x256, .f32⟩
  | 30 => ⟨S16x256x256, .f32⟩
  | 31 => ⟨S_, .f32⟩
  | 32 => ⟨S16x256x256, .f32⟩
  | 33 => ⟨S16x256x256, .f32⟩
  | 34 => ⟨S16x256x256, .f32⟩
  | 35 => ⟨S16x256x3840, .f32⟩
  | 36 => ⟨S1x256, .f32⟩
  | 37 => ⟨S256, .f32⟩
  | 38 => ⟨S1x256, .f32⟩
  | 39 => ⟨S256, .f32⟩
  | 40 => ⟨S16x256x256, .f32⟩
  | 41 => ⟨S_, .f32⟩
  | 42 => ⟨S16x256x256, .f32⟩
  | 43 => ⟨S16x256x256, .f32⟩
  | 44 => ⟨S16x256x256, .f32⟩
  | 45 => ⟨S16x256x256, .f32⟩
  | 46 => ⟨S16x256x256, .i1⟩
  | 47 => ⟨S16x256x256, .f32⟩
  | 48 => ⟨S16x256x256, .f32⟩
  | 49 => ⟨S16x256x256, .f32⟩
  | 50 => ⟨S16x256x256, .f32⟩
  | 51 => ⟨S16x256x256, .f32⟩
  | 52 => ⟨S16x256x256, .f32⟩
  | 53 => ⟨S16x256x256, .f32⟩
  | 54 => ⟨S16x256x256, .f32⟩
  | 55 => ⟨S16x256x256, .f32⟩
  | 56 => ⟨S1x1x256, .f32⟩
  | 57 => ⟨S16x256x256, .f32⟩
  | 58 => ⟨S16x256x256, .f32⟩
  | 59 => ⟨S1x1x256, .f32⟩
  | 60 => ⟨S16x256x256, .f32⟩
  | 61 => ⟨S16x256x256, .f32⟩
  | 62 => ⟨S16x256x256, .f32⟩
  | 63 => ⟨S16x256x256, .f32⟩
  | 64 => ⟨S16x256x256, .i1⟩
  | 65 => ⟨S16x256x256, .f32⟩
  | 66 => ⟨S16x256x256, .f32⟩
  | 67 => ⟨S16x256x256, .f32⟩
  | 68 => ⟨S16x256x256, .f32⟩
  | 69 => ⟨S16x256x256, .f32⟩
  | 70 => ⟨S16x256x256, .f32⟩
  | 71 => ⟨S16x256x256, .f32⟩
  | 72 => ⟨S16x256x256, .f32⟩
  | 73 => ⟨S1x256, .f32⟩
  | 74 => ⟨S256, .f32⟩
  | 75 => ⟨S1x256, .f32⟩
  | 76 => ⟨S256, .f32⟩
  | 77 => ⟨S16x256x256, .f32⟩
  | 78 => ⟨S_, .f32⟩
  | 79 => ⟨S16x256x256, .f32⟩
  | 80 => ⟨S16x256x256, .f32⟩
  | 81 => ⟨S16x256x256, .f32⟩
  | 82 => ⟨S16x256x256, .f32⟩
  | 83 => ⟨S16x256x256, .i1⟩
  | 84 => ⟨S16x256x256, .f32⟩
  | 85 => ⟨S16x256x256, .f32⟩
  | 86 => ⟨S16x256x256, .f32⟩
  | 87 => ⟨S16x256x256, .f32⟩
  | 88 => ⟨S16x256x256, .f32⟩
  | 89 => ⟨S16x256x256, .f32⟩
  | 90 => ⟨S16x256x256, .f32⟩
  | 91 => ⟨S16x256x256, .f32⟩
  | 92 => ⟨S16x256x256, .f32⟩
  | 93 => ⟨S1x1x256, .f32⟩
  | 94 => ⟨S16x256x256, .f32⟩
  | 95 => ⟨S16x256x256, .f32⟩
  | 96 => ⟨S1x1x256, .f32⟩
  | 97 => ⟨S16x256x256, .f32⟩
  | 98 => ⟨S16x256x256, .f32⟩
  | 99 => ⟨S16x256x256, .f32⟩
  | 100 => ⟨S16x256x256, .f32⟩
  | 101 => ⟨S16x256x256, .i1⟩
  | 102 => ⟨S16x256x256, .f32⟩
  | 103 => ⟨S16x256x256, .f32⟩
  | 104 => ⟨S16x256x256, .f32⟩
  | 105 => ⟨S16x256x256, .f32⟩
  | 106 => ⟨S16x256x256, .f32⟩
  | 107 => ⟨S16x256x256, .f32⟩
  | 108 => ⟨S16x256x256, .f32⟩
  | 109 => ⟨S16x256x256, .f32⟩
  | 110 => ⟨S16x256x512, .f32⟩
  | 111 => ⟨S4096x3840, .f32⟩
  | 112 => ⟨S4096x3840, .bf16⟩
  | 113 => ⟨S4096x512, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_12 : Ref sig .tc := ⟨.hbm, 106, rfl⟩
abbrev main_v85 : Ref sig .tc := ⟨.hbm, 107, rfl⟩
abbrev main_v86 : Ref sig .tc := ⟨.hbm, 108, rfl⟩
abbrev main_cst_13 : Ref sig .tc := ⟨.hbm, 109, rfl⟩
abbrev main_v87 : Ref sig .tc := ⟨.hbm, 110, rfl⟩
abbrev main_v88 : Ref sig .tc := ⟨.hbm, 111, rfl⟩
abbrev main_cst_14 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_15 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_call0_v5 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_16 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_17 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call1_v0 : Ref sig .tc := ⟨.hbm, 154, rfl⟩
abbrev main_call1_v1 : Ref sig .tc := ⟨.hbm, 155, rfl⟩
abbrev main_call1_cst : Ref sig .tc := ⟨.hbm, 156, rfl⟩
abbrev main_call1_v2 : Ref sig .tc := ⟨.hbm, 157, rfl⟩
abbrev main_call1_v3 : Ref sig .tc := ⟨.hbm, 158, rfl⟩
abbrev main_call1_cst_0 : Ref sig .tc := ⟨.hbm, 159, rfl⟩
abbrev main_call1_v4 : Ref sig .tc := ⟨.hbm, 160, rfl⟩
abbrev main_call1_v5 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_call2_v0 : Ref sig .tc := ⟨.hbm, 168, rfl⟩
abbrev main_call2_call0_cst : Ref sig .tc := ⟨.hbm, 169, rfl⟩
abbrev main_call2_call0_v0 : Ref sig .tc := ⟨.hbm, 170, rfl⟩
abbrev main_call2_call0_v1 : Ref sig .tc := ⟨.hbm, 171, rfl⟩
abbrev main_call2_call0_v2 : Ref sig .tc := ⟨.hbm, 172, rfl⟩
abbrev main_call2_call0_v3 : Ref sig .tc := ⟨.hbm, 173, rfl⟩
abbrev main_call2_call0_v4 : Ref sig .tc := ⟨.hbm, 174, rfl⟩
abbrev main_call2_call0_v5 : Ref sig .tc := ⟨.hbm, 175, rfl⟩
abbrev main_call2_call0_v6 : Ref sig .tc := ⟨.hbm, 176, rfl⟩
abbrev main_call2_call0_v7 : Ref sig .tc := ⟨.hbm, 177, rfl⟩
abbrev main_call2_call0_v8 : Ref sig .tc := ⟨.hbm, 178, rfl⟩
abbrev main_call2_call0_v9 : Ref sig .tc := ⟨.hbm, 179, rfl⟩
abbrev main_call2_call0_v10 : Ref sig .tc := ⟨.hbm, 180, rfl⟩
abbrev main_call2_call0_v11 : Ref sig .tc := ⟨.hbm, 181, rfl⟩
abbrev main_call2_v1 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_call3_v0 : Ref sig .tc := ⟨.hbm, 205, rfl⟩
abbrev main_call3_call0_cst : Ref sig .tc := ⟨.hbm, 206, rfl⟩
abbrev main_call3_call0_v0 : Ref sig .tc := ⟨.hbm, 207, rfl⟩
abbrev main_call3_call0_v1 : Ref sig .tc := ⟨.hbm, 208, rfl⟩
abbrev main_call3_call0_v2 : Ref sig .tc := ⟨.hbm, 209, rfl⟩
abbrev main_call3_call0_v3 : Ref sig .tc := ⟨.hbm, 210, rfl⟩
abbrev main_call3_call0_v4 : Ref sig .tc := ⟨.hbm, 211, rfl⟩
abbrev main_call3_call0_v5 : Ref sig .tc := ⟨.hbm, 212, rfl⟩
abbrev main_call3_call0_v6 : Ref sig .tc := ⟨.hbm, 213, rfl⟩
abbrev main_call3_call0_v7 : Ref sig .tc := ⟨.hbm, 214, rfl⟩
abbrev main_call3_call0_v8 : Ref sig .tc := ⟨.hbm, 215, rfl⟩
abbrev main_call3_call0_v9 : Ref sig .tc := ⟨.hbm, 216, rfl⟩
abbrev main_call3_call0_v10 : Ref sig .tc := ⟨.hbm, 217, rfl⟩
abbrev main_call3_call0_v11 : Ref sig .tc := ⟨.hbm, 218, rfl⟩
abbrev main_call3_v1 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩

abbrev nD : Nat := 1
abbrev τ : Topo := Topo.v7x

variable {F : FTy → Type} [FloatOps F]
-- ==== Proof.Reference.lean ====
module

public import proofs.«01_k».proof.Proof.Gen.ReferenceIdeal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- The scores as the reference computes them: the products of queries and keys, times the scale. -/
def scoresV (q : FVec Ideal S16x2048x8x32 .f32) (K : FVec Ideal S16x2304x8x32 .f32) : FVec Ideal S16x8x2048x2304 .f32 :=
  mulf (Host.dotGeneral dot_S16x2048x8x32_S16x2304x8x32_S16x8x2048x2304_3_3_1_1_02_02 none q K)
    (broadcastInDim S16x8x2048x2304 ![] bcast_S_S16x8x2048x2304 (constant S_ .f32 0x3E3504F3#32))

/-- The largest score of each row. -/
def maxV (s : FVec Ideal S16x8x2048x2304 .f32) (bot : FVec Ideal S_ .f32) : FVec Ideal S16x8x2048 .f32 :=
  Host.reduce FloatOps.maximumf s bot reducesTo_S16x8x2048x2304_S16x8x2048_d3 h_S_

/-- The exponentials of the scores less their row's largest. -/
def subV (s : FVec Ideal S16x8x2048x2304 .f32) (w : FVec Ideal S16x8x2048 .f32) (bot : FVec Ideal S_ .f32) : FVec Ideal S16x8x2048x2304 .f32 :=
  Host.exp (subf s (broadcastInDim S16x8x2048x2304 ![0, 1, 2, 3] bcast_S16x8x2048x1_S16x8x2048x2304_0_1_2_3
    (broadcastInDim S16x8x2048x1 ![0, 1, 2] bcast_S16x8x2048_S16x8x2048x1_0_1_2
      (maximumf (broadcastInDim S16x8x2048 ![] bcast_S_S16x8x2048 bot) w))))

/-- The exponentials, the maximum taken from negative infinity. -/
def expV (s : FVec Ideal S16x8x2048x2304 .f32) : FVec Ideal S16x8x2048x2304 .f32 :=
  subV s (maxV s (constant S_ .f32 0xFF800000#32)) (constant S_ .f32 0xFF800000#32)

/-- The softmax: the exponentials over their row's sum. -/
def probV (e : FVec Ideal S16x8x2048x2304 .f32) : FVec Ideal S16x8x2048x2304 .f32 :=
  Host.divf e (broadcastInDim S16x8x2048x2304 ![0, 1, 2, 3] bcast_S16x8x2048x1_S16x8x2048x2304_0_1_2_3
    (broadcastInDim S16x8x2048x1 ![0, 1, 2] bcast_S16x8x2048_S16x8x2048x1_0_1_2
      (Host.reduceAdd e (constant S_ .f32 0x00000000#32) reducesTo_S16x8x2048x2304_S16x8x2048_d3 h_S_)))

/-- The difference of the two maps of each head, the second times lambda. -/
def diffV (lam : FVec Ideal S_ .f32) (p : FVec Ideal S16x8x2048x2304 .f32) : FVec Ideal S16x4x2048x2304 .f32 :=
  subf (shapeCast S16x4x2048x2304 (extractStridedSlice S16x4x1x2048x2304 ![0, 0, 0, 0, 0] (shapeCast S16x4x2x2048x2304 p shapeCasts_S16x8x2048x2304_S16x4x2x2048x2304) slices_S16x4x2x2048x2304_S16x4x1x2048x2304_0_0_0_0_0) shapeCasts_S16x4x1x2048x2304_S16x4x2048x2304)
    (mulf (broadcastInDim S16x4x2048x2304 ![] bcast_S_S16x4x2048x2304 lam)
      (shapeCast S16x4x2048x2304 (extractStridedSlice S16x4x1x2048x2304 ![0, 0, 1, 0, 0] (shapeCast S16x4x2x2048x2304 p shapeCasts_S16x8x2048x2304_S16x4x2x2048x2304) slices_S16x4x2x2048x2304_S16x4x1x2048x2304_0_0_1_0_0) shapeCasts_S16x4x1x2048x2304_S16x4x2048x2304))

/-- The values weighted by the difference. -/
def outV (V : FVec Ideal S16x2304x4x64 .f32) (a : FVec Ideal S16x4x2048x2304 .f32) : FVec Ideal S16x2048x4x64 .f32 :=
  transpose S16x2048x4x64 [0, 3, 1, 2] (Host.dotGeneral dot_S16x2304x4x64_S16x4x2048x2304_S16x4x64x2048_1_3_3_2_02_01 none V a) transposes_S16x4x64x2048_S16x2048x4x64_0_3_1_2

/-- The root mean square normalisation, the gain and the last factor. -/
def normV (g : FVec Ideal S64 .f32) (o : FVec Ideal S16x2048x4x64 .f32) : FVec Ideal S32768x256 .bf16 :=
  truncf .bf16 (shapeCast S32768x256 (mulf (mulf (mulf o (broadcastInDim S16x2048x4x64 ![0, 1, 2, 3] bcast_S16x2048x4x1_S16x2048x4x64_0_1_2_3
    (Host.rsqrt (addf (Host.divf (broadcastInDim S16x2048x4x1 ![0, 1, 2] bcast_S16x2048x4_S16x2048x4x1_0_1_2
      (Host.reduceAdd (mulf o o) (constant S_ .f32 0x00000000#32) reducesTo_S16x2048x4x64_S16x2048x4_d3 h_S_))
      (broadcastInDim S16x2048x4x1 ![] bcast_S_S16x2048x4x1 (constant S_ .f32 0x42800000#32)))
      (broadcastInDim S16x2048x4x1 ![] bcast_S_S16x2048x4x1 (constant S_ .f32 0x358637BD#32))))))
    (broadcastInDim S16x2048x4x64 ![0, 1, 2, 3] bcast_S1x1x1x64_S16x2048x4x64_0_1_2_3 (broadcastInDim S1x1x1x64 ![3] bcast_S64_S1x1x1x64_3 g)))
    (broadcastInDim S16x2048x4x64 ![] bcast_S_S16x2048x4x64 (constant S_ .f32 0x3F4CCCCD#32))) shapeCasts_S16x2048x4x64_S32768x256) bitsLt_bf16_f32

/-- Lambda, from its four vectors. -/
def lamV (l : FVec Ideal S4x32 .f32) : FVec Ideal S_ .f32 :=
  addf (subf (Host.exp (Host.reduceAdd (mulf (shapeCast S32 (extractStridedSlice S1x32 ![0, 0] l slices_S4x32_S1x32_0_0) shapeCasts_S1x32_S32) (shapeCast S32 (extractStridedSlice S1x32 ![1, 0] l slices_S4x32_S1x32_1_0) shapeCasts_S1x32_S32)) (constant S_ .f32 0x00000000#32) reducesTo_S32_S_d0 h_S_))
    (Host.exp (Host.reduceAdd (mulf (shapeCast S32 (extractStridedSlice S1x32 ![2, 0] l slices_S4x32_S1x32_2_0) shapeCasts_S1x32_S32) (shapeCast S32 (extractStridedSlice S1x32 ![3, 0] l slices_S4x32_S1x32_3_0) shapeCasts_S1x32_S32)) (constant S_ .f32 0x00000000#32) reducesTo_S32_S_d0 h_S_))) (constant S_ .f32 0x3E4CCCCD#32)

/-- The keys of both kinds, one after the other. -/
def keysV (k : FVec Ideal S16x2048x8x32 .f32) (kc : FVec Ideal S16x256x8x32 .f32) : FVec Ideal S16x2304x8x32 .f32 :=
  concatenate S16x2304x8x32 1 [⟨S16x2048x8x32, k⟩, ⟨S16x256x8x32, kc⟩] concatenates_S16x2048x8x32_S16x256x8x32_S16x2304x8x32_d1

/-- The values of both kinds, one after the other. -/
def valsV (v : FVec Ideal S16x2048x4x64 .f32) (vc : FVec Ideal S16x256x4x64 .f32) : FVec Ideal S16x2304x4x64 .f32 :=
  concatenate S16x2304x4x64 1 [⟨S16x2048x4x64, v⟩, ⟨S16x256x4x64, vc⟩] concatenates_S16x2048x4x64_S16x256x4x64_S16x2304x4x64_d1

/-- The reference's result is these steps in turn. -/
theorem res_eq (m : (ℓ : Loc nD τ sig) → Buf (Elt Ideal) ℓ) (c : Dev nD) : Value.res_out0 m c
    = normV (m ((c.tc : Thread nD τ).loc main_arg6)) (outV (valsV (m ((c.tc : Thread nD τ).loc main_arg2)) (m ((c.tc : Thread nD τ).loc main_arg4)))
        (diffV (lamV (m ((c.tc : Thread nD τ).loc main_arg5))) (probV (expV (scoresV (m ((c.tc : Thread nD τ).loc main_arg0)) (keysV (m ((c.tc : Thread nD τ).loc main_arg1)) (m ((c.tc : Thread nD τ).loc main_arg3)))))))) := by
  rfl

/-- A score: the product of a query and a key over their 32 channels, scaled. -/
theorem scoresV_apply (q : FVec Ideal S16x2048x8x32 .f32) (K : FVec Ideal S16x2304x8x32 .f32) (b : Fin 16) (u : Fin 8) (r : Fin 2048) (j : Fin 2304) :
    scoresV q K (ix4 b u r j) = (∑ d : Fin 32, q (ix4 b r u d) * K (ix4 b j u d)) * Ideal.ofBits FTy.f32 0x3E3504F3#32 := by
  pointwise [scoresV]

/-- A row's largest score. -/
theorem maxV_apply (s : FVec Ideal S16x8x2048x2304 .f32) (bot : FVec Ideal S_ .f32) (b : Fin 16) (u : Fin 8) (r : Fin 2048) :
    maxV s bot (ix3 b u r) = Finset.univ.fold max (bot ix0) fun j : Fin 2304 => s (ix4 b u r j) := by
  have h0 : (Shape.Idx.first h_S_ : S_.Idx) = ix0 := funext fun a => a.elim0
  pointwise [maxV]
  rw [h0]

/-- An exponential of a score less the larger of two bounds. -/
theorem subV_apply (s : FVec Ideal S16x8x2048x2304 .f32) (w : FVec Ideal S16x8x2048 .f32) (bot : FVec Ideal S_ .f32) (b : Fin 16) (u : Fin 8) (r : Fin 2048) (j : Fin 2304) :
    subV s w bot (ix4 b u r j) = Ideal.exp (s (ix4 b u r j) - max (bot ix0) (w (ix3 b u r))) := by
  pointwise [subV]

/-- An exponential of a score less its row's largest. -/
theorem expV_apply (s : FVec Ideal S16x8x2048x2304 .f32) (b : Fin 16) (u : Fin 8) (r : Fin 2048) (j : Fin 2304) :
    expV s (ix4 b u r j) = Ideal.exp (s (ix4 b u r j) - max (Ideal.ofBits FTy.f32 0xFF800000#32) (Finset.univ.fold max (Ideal.ofBits FTy.f32 0xFF800000#32) fun j : Fin 2304 => s (ix4 b u r j))) := by
  unfold expV
  rw [subV_apply, maxV_apply]
  rfl

/-- An exponential over its row's sum. -/
theorem probV_apply (e : FVec Ideal S16x8x2048x2304 .f32) (b : Fin 16) (u : Fin 8) (r : Fin 2048) (j : Fin 2304) :
    probV e (ix4 b u r j) = Ideal.div (e (ix4 b u r j)) (∑ j : Fin 2304, e (ix4 b u r j)) := by
  pointwise [probV]

/-- A head's first map less lambda times its second. -/
theorem diffV_apply (lam : FVec Ideal S_ .f32) (p : FVec Ideal S16x8x2048x2304 .f32) (b : Fin 16) (h : Fin 4) (r : Fin 2048) (j : Fin 2304) :
    diffV lam p (ix4 b h r j) = p (ix4 b ⟨h.val * 2, by omega⟩ r j) - lam ix0 * p (ix4 b ⟨h.val * 2 + 1, by omega⟩ r j) := by
  pointwise [diffV]

/-- A value weighted by the difference of the maps. -/
theorem outV_apply (V : FVec Ideal S16x2304x4x64 .f32) (a : FVec Ideal S16x4x2048x2304 .f32) (b : Fin 16) (r : Fin 2048) (h : Fin 4) (e : Fin 64) :
    outV V a (ix4 b r h e) = ∑ j : Fin 2304, V (ix4 b j h e) * a (ix4 b h r j) := by
  pointwise [outV]

/-- An entry over the root of its mean square, times gain and factor. -/
theorem normV_apply (g : FVec Ideal S64 .f32) (o : FVec Ideal S16x2048x4x64 .f32) (i : Fin 32768) (n : Fin 256) :
    normV g o (ix2 i n) = o (ix4 ⟨i.val / 2048, by omega⟩ ⟨i.val % 2048, by omega⟩ ⟨n.val / 64, by omega⟩ ⟨n.val % 64, by omega⟩)
      * Ideal.rsqrt (Ideal.div (∑ k : Fin 64, o (ix4 ⟨i.val / 2048, by omega⟩ ⟨i.val % 2048, by omega⟩ ⟨n.val / 64, by omega⟩ k) * o (ix4 ⟨i.val / 2048, by omega⟩ ⟨i.val % 2048, by omega⟩ ⟨n.val / 64, by omega⟩ k)) (Ideal.ofBits FTy.f32 0x42800000#32) + Ideal.ofBits FTy.f32 0x358637BD#32)
      * g (ix1 ⟨n.val % 64, by omega⟩) * Ideal.ofBits FTy.f32 0x3F4CCCCD#32 := by
  pointwise [normV]

/-- A key: a latent one below 2048, one of the context from there on. -/
theorem keysV_apply (k : FVec Ideal S16x2048x8x32 .f32) (kc : FVec Ideal S16x256x8x32 .f32) (b : Fin 16) (j : Fin 2304) (u : Fin 8) (d : Fin 32) :
    keysV k kc (ix4 b j u d) = if h : j.val < 2048 then k (ix4 b ⟨j.val, h⟩ u d) else kc (ix4 b ⟨j.val - 2048, by omega⟩ u d) := by
  pointwise [keysV]

/-- A value, likewise. -/
theorem valsV_apply (v : FVec Ideal S16x2048x4x64 .f32) (vc : FVec Ideal S16x256x4x64 .f32) (b : Fin 16) (j : Fin 2304) (h : Fin 4) (e : Fin 64) :
    valsV v vc (ix4 b j h e) = if hj : j.val < 2048 then v (ix4 b ⟨j.val, hj⟩ h e) else vc (ix4 b ⟨j.val - 2048, by omega⟩ h e) := by
  pointwise [valsV]

/-- Lambda, from its four vectors. -/
theorem lamV_apply (l : FVec Ideal S4x32 .f32) :
    lamV l ix0 = Ideal.exp (∑ d : Fin 32, l (ix2 0 d) * l (ix2 1 d)) - Ideal.exp (∑ d : Fin 32, l (ix2 2 d) * l (ix2 3 d)) + Ideal.ofBits FTy.f32 0x3E4CCCCD#32 := by
  pointwise [lamV]

end Cert.ReferenceIdeal.Attn
-- ==== Proof.Block.lean ====
module

public import proofs.«01_k».proof.Proof.Gen.KernelIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Attn

open Cert.KernelIdeal Cert.KernelIdeal.Gen

/-- The weighted sum of one column of the values over both kinds of keys, for attention map `u` and head `h`; `x5` and `x6` are the latent and context values, `E` the table of weights. -/
def acc (x5 : Vec Ideal S2048x512 .bf16) (x6 : Vec Ideal S256x512 .bf16) (E : Vec Ideal S8x512x2304 .bf16) (h : ℕ) (hh : h < 4) (u : Fin 8) (r : Fin 512) (e : ℕ) (he : e < 128) : EReal :=
  (∑ j : Fin 2048, E (ix3 u r ⟨j.val, by omega⟩) * x5 (ix2 j ⟨128 * h + e, by omega⟩))
    + ∑ j : Fin 256, E (ix3 u r ⟨2048 + j.val, by omega⟩) * x6 (ix2 j ⟨128 * h + e, by omega⟩)

/-- The softmax-weighted value: the weighted sum of value column `e` over the weighted sum of the column 64 further on, which holds ones. -/
def att (x5 : Vec Ideal S2048x512 .bf16) (x6 : Vec Ideal S256x512 .bf16) (E : Vec Ideal S8x512x2304 .bf16) (h : ℕ) (hh : h < 4) (u : Fin 8) (r : Fin 512) (e : Fin 64) : EReal :=
  Ideal.div (acc x5 x6 E h hh u r e.val (by omega)) (acc x5 x6 E h hh u r ((e.val + 128 - 64) % 128) (by omega))

/-- The differential attention of head `h`: its first map less `x0` times its second. -/
def dif (x0 : Vec Ideal S1 .f32) (x5 : Vec Ideal S2048x512 .bf16) (x6 : Vec Ideal S256x512 .bf16) (E : Vec Ideal S8x512x2304 .bf16) (h : ℕ) (hh : h < 4) (r : Fin 512) (e : Fin 64) : EReal :=
  att x5 x6 E h hh ⟨2 * h, by omega⟩ r e - x0 (ix1 0) * att x5 x6 E h hh ⟨2 * h + 1, by omega⟩ r e

/-- The head's output: the difference over the root of its mean square, scaled by the gain `x1` and by 0.8. -/
def OH (x0 : Vec Ideal S1 .f32) (x1 : Vec Ideal S1x64 .f32) (x5 : Vec Ideal S2048x512 .bf16) (x6 : Vec Ideal S256x512 .bf16) (E : Vec Ideal S8x512x2304 .bf16) (h : ℕ) (hh : h < 4) (r : Fin 512) (e : Fin 64) : EReal :=
  dif x0 x5 x6 E h hh r e * Ideal.rsqrt (Ideal.div (∑ k : Fin 64, dif x0 x5 x6 E h hh r k * dif x0 x5 x6 E h hh r k) (Ideal.ofBits FTy.f32 0x42800000#32) + Ideal.ofBits FTy.f32 0x358637BD#32)
    * x1 (ix2 0 e) * Ideal.ofBits FTy.f32 0x3F4CCCCD#32

/-- The block's output: column `n` belongs to head `n / 64`. -/
def OO (x0 : Vec Ideal S1 .f32) (x1 : Vec Ideal S1x64 .f32) (x5 : Vec Ideal S2048x512 .bf16) (x6 : Vec Ideal S256x512 .bf16) (E : Vec Ideal S8x512x2304 .bf16) (r : Fin 512) (n : Fin 256) : EReal :=
  OH x0 x1 x5 x6 E (n.val / 64) (by omega) r ⟨n.val % 64, by omega⟩

/-- The block's output at column `64 h + e`. -/
theorem OO_at (x0 : Vec Ideal S1 .f32) (x1 : Vec Ideal S1x64 .f32) (x5 : Vec Ideal S2048x512 .bf16) (x6 : Vec Ideal S256x512 .bf16) (E : Vec Ideal S8x512x2304 .bf16) (r : Fin 512)
    (h : ℕ) (hh : h < 4) (e : ℕ) (he : e < 64) (n : Fin 256) (hn : n.val = 64 * h + e) : OO x0 x1 x5 x6 E r n = OH x0 x1 x5 x6 E h hh r ⟨e, he⟩ := by
  have h1 : n.val / 64 = h := by omega
  have h2 : n.val % 64 = e := by omega
  subst h1; subst h2; rfl

/-- The normalised difference of two attention outputs `A` and `B`, with factor `lam` and gain `g`. -/
def fin (lam : EReal) (A B : FVec Ideal S512x64 .f32) (g : Vec Ideal S1x64 .f32) (r : Fin 512) (e : Fin 64) : EReal :=
  (A (ix2 r e) - lam * B (ix2 r e)) * Ideal.rsqrt (Ideal.div (∑ k : Fin 64, (A (ix2 r k) - lam * B (ix2 r k)) * (A (ix2 r k) - lam * B (ix2 r k))) (Ideal.ofBits FTy.f32 0x42800000#32) + Ideal.ofBits FTy.f32 0x358637BD#32)
    * g (ix2 0 e) * Ideal.ofBits FTy.f32 0x3F4CCCCD#32

/-- What the body computes from the two maps of head 0. -/
theorem pay18_apply (lam : EReal) (A B : FVec Ideal S512x64 .f32) (g : Vec Ideal S1x64 .f32) (r : Fin 512) (e : Fin 64) :
    k0_pay18 (F := Ideal) lam A B g (ix2 r e) = fin lam A B g r e := by
  unfold fin
  pointwise [k0_pay18]

/-- What the body computes from the two maps of head 1. -/
theorem pay34_apply (lam : EReal) (A B : FVec Ideal S512x64 .f32) (g : Vec Ideal S1x64 .f32) (r : Fin 512) (e : Fin 64) :
    k0_pay34 (F := Ideal) lam A B g (ix2 r e) = fin lam A B g r e := by
  unfold fin
  pointwise [k0_pay34]

/-- What the body computes from the two maps of head 2. -/
theorem pay50_apply (lam : EReal) (A B : FVec Ideal S512x64 .f32) (g : Vec Ideal S1x64 .f32) (r : Fin 512) (e : Fin 64) :
    k0_pay50 (F := Ideal) lam A B g (ix2 r e) = fin lam A B g r e := by
  unfold fin
  pointwise [k0_pay50]

/-- The block the body stores: the four heads side by side, the last one computed here. -/
theorem pay1_apply (lam : EReal) (a b c A B : FVec Ideal S512x64 .f32) (g : Vec Ideal S1x64 .f32) (r : Fin 512) (n : Fin 256) :
    k0_pay1 (F := Ideal) lam a b c A B g (ix2 r n) = if h : n.val < 64 then a (ix2 r ⟨n.val, h⟩) else if h1 : n.val - 64 < 64 then b (ix2 r ⟨n.val - 64, h1⟩) else if h2 : n.val - 64 - 64 < 64 then c (ix2 r ⟨n.val - 64 - 64, h2⟩) else fin lam A B g r ⟨n.val - 64 - 64 - 64, by omega⟩ := by
  unfold fin
  pointwise [k0_pay1]

/-- Attention map 0 of the body is the softmax-weighted value. -/
theorem att0 (x5 : Vec Ideal S2048x512 .bf16) (x6 : Vec Ideal S256x512 .bf16) (xs0 : Vec Ideal S8x512x2304 .bf16) (r : Fin 512) (e : Fin 64) :
    (k0_pay3 (View.ld xs0 (Rect.unit ![0, 0, 0] ![1, 512, 2048] inb_S8x512x2304_S1x512x2048_0_0_0)) (View.ld x5 (Rect.unit ![0, 0] ![2048, 128] inb_S2048x512_S2048x128_0_0)) (View.ld xs0 (Rect.unit ![0, 0, 2048] ![1, 512, 256] inb_S8x512x2304_S1x512x256_0_0_2048)) (View.ld x6 (Rect.unit ![0, 0] ![256, 128] inb_S256x512_S256x128_0_0)) : FVec Ideal S512x64 .f32) (ix2 r e) = att x5 x6 xs0 0 (by omega) 0 r e := by
  unfold att acc
  unfold_payloads
  pointwise

/-- Attention map 1 of the body is the softmax-weighted value. -/
theorem att1 (x5 : Vec Ideal S2048x512 .bf16) (x6 : Vec Ideal S256x512 .bf16) (xs0 : Vec Ideal S8x512x2304 .bf16) (r : Fin 512) (e : Fin 64) :
    (k0_pay11 (View.ld xs0 (Rect.unit ![1, 0, 0] ![1, 512, 2048] inb_S8x512x2304_S1x512x2048_1_0_0)) (View.ld x5 (Rect.unit ![0, 0] ![2048, 128] inb_S2048x512_S2048x128_0_0)) (View.ld xs0 (Rect.unit ![1, 0, 2048] ![1, 512, 256] inb_S8x512x2304_S1x512x256_1_0_2048)) (View.ld x6 (Rect.unit ![0, 0] ![256, 128] inb_S256x512_S256x128_0_0)) : FVec Ideal S512x64 .f32) (ix2 r e) = att x5 x6 xs0 0 (by omega) 1 r e := by
  unfold att acc
  unfold_payloads
  pointwise

/-- Attention map 2 of the body is the softmax-weighted value. -/
theorem att2 (x5 : Vec Ideal S2048x512 .bf16) (x6 : Vec Ideal S256x512 .bf16) (xs0 : Vec Ideal S8x512x2304 .bf16) (r : Fin 512) (e : Fin 64) :
    (k0_pay19 (View.ld xs0 (Rect.unit ![2, 0, 0] ![1, 512, 2048] inb_S8x512x2304_S1x512x2048_2_0_0)) (View.ld x5 (Rect.unit ![0, 128] ![2048, 128] inb_S2048x512_S2048x128_0_128)) (View.ld xs0 (Rect.unit ![2, 0, 2048] ![1, 512, 256] inb_S8x512x2304_S1x512x256_2_0_2048)) (View.ld x6 (Rect.unit ![0, 128] ![256, 128] inb_S256x512_S256x128_0_128)) : FVec Ideal S512x64 .f32) (ix2 r e) = att x5 x6 xs0 1 (by omega) 2 r e := by
  unfold att acc
  unfold_payloads
  pointwise

/-- Attention map 3 of the body is the softmax-weighted value. -/
theorem att3 (x5 : Vec Ideal S2048x512 .bf16) (x6 : Vec Ideal S256x512 .bf16) (xs0 : Vec Ideal S8x512x2304 .bf16) (r : Fin 512) (e : Fin 64) :
    (k0_pay27 (View.ld xs0 (Rect.unit ![3, 0, 0] ![1, 512, 2048] inb_S8x512x2304_S1x512x2048_3_0_0)) (View.ld x5 (Rect.unit ![0, 128] ![2048, 128] inb_S2048x512_S2048x128_0_128)) (View.ld xs0 (Rect.unit ![3, 0, 2048] ![1, 512, 256] inb_S8x512x2304_S1x512x256_3_0_2048)) (View.ld x6 (Rect.unit ![0, 128] ![256, 128] inb_S256x512_S256x128_0_128)) : FVec Ideal S512x64 .f32) (ix2 r e) = att x5 x6 xs0 1 (by omega) 3 r e := by
  unfold att acc
  unfold_payloads
  pointwise

/-- Attention map 4 of the body is the softmax-weighted value. -/
theorem att4 (x5 : Vec Ideal S2048x512 .bf16) (x6 : Vec Ideal S256x512 .bf16) (xs0 : Vec Ideal S8x512x2304 .bf16) (r : Fin 512) (e : Fin 64) :
    (k0_pay36 (k0_pay35 (View.ld xs0 (Rect.unit ![4, 0, 0] ![1, 512, 2048] inb_S8x512x2304_S1x512x2048_4_0_0)) (View.ld x5 (Rect.unit ![0, 256] ![2048, 128] inb_S2048x512_S2048x128_0_256))) (View.ld xs0 (Rect.unit ![4, 0, 2048] ![1, 512, 256] inb_S8x512x2304_S1x512x256_4_0_2048)) (View.ld x6 (Rect.unit ![0, 256] ![256, 128] inb_S256x512_S256x128_0_256)) : FVec Ideal S512x64 .f32) (ix2 r e) = att x5 x6 xs0 2 (by omega) 4 r e := by
  unfold att acc
  unfold_payloads
  pointwise

/-- Attention map 5 of the body is the softmax-weighted value. -/
theorem att5 (x5 : Vec Ideal S2048x512 .bf16) (x6 : Vec Ideal S256x512 .bf16) (xs0 : Vec Ideal S8x512x2304 .bf16) (r : Fin 512) (e : Fin 64) :
    (k0_pay43 (View.ld xs0 (Rect.unit ![5, 0, 0] ![1, 512, 2048] inb_S8x512x2304_S1x512x2048_5_0_0)) (View.ld x5 (Rect.unit ![0, 256] ![2048, 128] inb_S2048x512_S2048x128_0_256)) (View.ld xs0 (Rect.unit ![5, 0, 2048] ![1, 512, 256] inb_S8x512x2304_S1x512x256_5_0_2048)) (View.ld x6 (Rect.unit ![0, 256] ![256, 128] inb_S256x512_S256x128_0_256)) : FVec Ideal S512x64 .f32) (ix2 r e) = att x5 x6 xs0 2 (by omega) 5 r e := by
  unfold att acc
  unfold_payloads
  pointwise

/-- Attention map 6 of the body is the softmax-weighted value. -/
theorem att6 (x5 : Vec Ideal S2048x512 .bf16) (x6 : Vec Ideal S256x512 .bf16) (xs0 : Vec Ideal S8x512x2304 .bf16) (r : Fin 512) (e : Fin 64) :
    (k0_pay52 (k0_pay51 (View.ld xs0 (Rect.unit ![6, 0, 0] ![1, 512, 2048] inb_S8x512x2304_S1x512x2048_6_0_0)) (View.ld x5 (Rect.unit ![0, 384] ![2048, 128] inb_S2048x512_S2048x128_0_384)) (View.ld xs0 (Rect.unit ![6, 0, 2048] ![1, 512, 256] inb_S8x512x2304_S1x512x256_6_0_2048)) (View.ld x6 (Rect.unit ![0, 384] ![256, 128] inb_S256x512_S256x128_0_384))) 64#32 : FVec Ideal S512x64 .f32) (ix2 r e) = att x5 x6 xs0 3 (by omega) 6 r e := by
  unfold att acc
  unfold_payloads
  pointwise

/-- Attention map 7 of the body is the softmax-weighted value. -/
theorem att7 (x5 : Vec Ideal S2048x512 .bf16) (x6 : Vec Ideal S256x512 .bf16) (xs0 : Vec Ideal S8x512x2304 .bf16) (r : Fin 512) (e : Fin 64) :
    (k0_pay60 (k0_pay59 (View.ld xs0 (Rect.unit ![7, 0, 0] ![1, 512, 2048] inb_S8x512x2304_S1x512x2048_7_0_0)) (View.ld x5 (Rect.unit ![0, 384] ![2048, 128] inb_S2048x512_S2048x128_0_384))) (View.ld xs0 (Rect.unit ![7, 0, 2048] ![1, 512, 256] inb_S8x512x2304_S1x512x256_7_0_2048)) (View.ld x6 (Rect.unit ![0, 384] ![256, 128] inb_S256x512_S256x128_0_384)) : FVec Ideal S512x64 .f32) (ix2 r e) = att x5 x6 xs0 3 (by omega) 7 r e := by
  unfold att acc
  unfold_payloads
  pointwise

/-- The normalised difference of a head's two maps is the head's output. -/
theorem OH_of (x0 : Vec Ideal S1 .f32) (x1 : Vec Ideal S1x64 .f32) (x5 : Vec Ideal S2048x512 .bf16) (x6 : Vec Ideal S256x512 .bf16) (E : Vec Ideal S8x512x2304 .bf16) (h : ℕ) (hh : h < 4)
    (lam : EReal) (A B : FVec Ideal S512x64 .f32) (g : Vec Ideal S1x64 .f32) (r : Fin 512) (e : Fin 64)
    (hl : lam = x0 (ix1 0)) (hA : ∀ k : Fin 64, A (ix2 r k) = att x5 x6 E h hh ⟨2 * h, by omega⟩ r k) (hB : ∀ k : Fin 64, B (ix2 r k) = att x5 x6 E h hh ⟨2 * h + 1, by omega⟩ r k)
    (hg : g (ix2 0 e) = x1 (ix2 0 e)) : fin lam A B g r e = OH x0 x1 x5 x6 E h hh r e := by
  unfold fin OH dif
  simp only [hl, hA, hB, hg]

set_option maxHeartbeats 1000000 in
/-- At a later grid point the output block is computed from the table of weights the point before left and from this point's values. -/
theorem out_B (c : Dev nD) (i : grid0.Coords) (arg1 : Memref sig .tc .smem S1 .f32) (harg1 : arg1.IsWhole) (arg2 : Memref sig .tc .vmem S1x64 .f32) (harg2 : arg2.IsWhole) (arg3 : Memref sig .tc .vmem S512x256 .bf16) (harg3 : arg3.IsWhole) (arg4 : Memref sig .tc .vmem S2048x256 .bf16) (harg4 : arg4.IsWhole) (arg5 : Memref sig .tc .vmem S256x256 .bf16) (harg5 : arg5.IsWhole) (arg6 : Memref sig .tc .vmem S2048x512 .bf16) (harg6 : arg6.IsWhole) (arg7 : Memref sig .tc .vmem S256x512 .bf16) (harg7 : arg7.IsWhole) (arg8 : Memref sig .tc .vmem S512x256 .bf16) (harg8 : arg8.IsWhole) (arg9 : Memref sig .tc .vmem S8x512x2304 .bf16) (harg9 : arg9.IsWhole) (hc0 : ¬cond0_0 i)
    (x0 : Vec Ideal S1 .f32) (x1 : Vec Ideal S1x64 .f32) (x2 : Vec Ideal S512x256 .bf16) (x3 : Vec Ideal S2048x256 .bf16) (x4 : Vec Ideal S256x256 .bf16) (x5 : Vec Ideal S2048x512 .bf16) (x6 : Vec Ideal S256x512 .bf16) (xs0 : Vec Ideal S8x512x2304 .bf16) (y : S512x256.Idx) :
    out0_B_7 c i arg1 harg1 arg2 harg2 arg3 harg3 arg4 harg4 arg5 harg5 arg6 harg6 arg7 harg7 arg8 harg8 arg9 harg9 hc0 x0 x1 x2 x3 x4 x5 x6 xs0 y = OO x0 x1 x5 x6 xs0 (y 0) (y 1) := by
  have hz : (![0, 0] : Fin 2 → Nat) = fun _ => 0 := funext fun a => by fin_cases a <;> rfl
  have hz1 : (![0] : Fin 1 → Nat) = fun _ => 0 := funext fun a => by fin_cases a <;> rfl
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  rw [View.canon_unit_zero hz]
  sl_unfold_words
  simp only [View.readAt_eq_ld, harg1.read_unread, harg2.read_unread, harg6.read_unread, harg7.read_unread, harg9.read_unread]
  have hl : View.ld x0 (Rect.unit ![0] ![1] inb_S1_S1_0) (Shape.Idx.first (by decide)) = x0 (ix1 0) := by
    pointwise
  have hg : ∀ e : Fin 64, View.ld x1 (Rect.unit ![0, 0] ![1, 64] inb_S1x64_S1x64_0_0) (ix2 0 e) = x1 (ix2 0 e) := by
    intro e
    pointwise
  idx_vars y
  rw [pay1_apply]
  show _ = OO x0 x1 x5 x6 xs0 y0 y1
  obtain ⟨n, hn⟩ := y1
  dsimp only
  by_cases h0 : n < 64
  · rw [dif_pos h0, pay18_apply, OO_at x0 x1 x5 x6 xs0 y0 0 (by omega) n h0 _ (by dsimp only; omega)]
    exact OH_of x0 x1 x5 x6 xs0 0 (by omega) _ _ _ _ _ _ hl (fun k => att0 x5 x6 xs0 y0 k) (fun k => att1 x5 x6 xs0 y0 k) (hg _)
  rw [dif_neg h0]
  by_cases h1 : n - 64 < 64
  · rw [dif_pos h1, pay34_apply, OO_at x0 x1 x5 x6 xs0 y0 1 (by omega) (n - 64) h1 _ (by dsimp only; omega)]
    exact OH_of x0 x1 x5 x6 xs0 1 (by omega) _ _ _ _ _ _ hl (fun k => att2 x5 x6 xs0 y0 k) (fun k => att3 x5 x6 xs0 y0 k) (hg _)
  rw [dif_neg h1]
  by_cases h2 : n - 64 - 64 < 64
  · rw [dif_pos h2, pay50_apply, OO_at x0 x1 x5 x6 xs0 y0 2 (by omega) (n - 64 - 64) h2 _ (by dsimp only; omega)]
    exact OH_of x0 x1 x5 x6 xs0 2 (by omega) _ _ _ _ _ _ hl (fun k => att4 x5 x6 xs0 y0 k) (fun k => att5 x5 x6 xs0 y0 k) (hg _)
  rw [dif_neg h2, OO_at x0 x1 x5 x6 xs0 y0 3 (by omega) (n - 64 - 64 - 64) (by omega) _ (by dsimp only; omega)]
  exact OH_of x0 x1 x5 x6 xs0 3 (by omega) _ _ _ _ _ _ hl (fun k => att6 x5 x6 xs0 y0 k) (fun k => att7 x5 x6 xs0 y0 k) (hg _)

end Cert.KernelIdeal.Attn
-- ==== Proof.Scores.lean ====
module

public import proofs.«01_k».proof.Proof.Gen.KernelIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Attn

open Cert.KernelIdeal Cert.KernelIdeal.Gen

/-- The score of latent key `j` for query row `r` of a block, for attention map `u`: the product of their 32 channels. -/
def sl (x2 : Vec Ideal S512x256 .bf16) (x3 : Vec Ideal S2048x256 .bf16) (u : ℕ) (hu : u < 8) (r : Fin 512) (j : Fin 2048) : EReal :=
  ∑ d : Fin 32, x2 (ix2 r ⟨32 * u + d.val, by omega⟩) * x3 (ix2 j ⟨32 * u + d.val, by omega⟩)

/-- The score of context key `j`, the same product. -/
def sc (x2 : Vec Ideal S512x256 .bf16) (x4 : Vec Ideal S256x256 .bf16) (u : ℕ) (hu : u < 8) (r : Fin 512) (j : Fin 256) : EReal :=
  ∑ d : Fin 32, x2 (ix2 r ⟨32 * u + d.val, by omega⟩) * x4 (ix2 j ⟨32 * u + d.val, by omega⟩)

/-- The largest score of a query row over both kinds of keys. -/
def mx (x2 : Vec Ideal S512x256 .bf16) (x3 : Vec Ideal S2048x256 .bf16) (x4 : Vec Ideal S256x256 .bf16) (u : ℕ) (hu : u < 8) (r : Fin 512) : EReal :=
  max (Finset.univ.fold max (Ideal.ofBits FTy.f32 0xFF800000#32) fun j : Fin 2048 => sl x2 x3 u hu r j) (Finset.univ.fold max (Ideal.ofBits FTy.f32 0xFF800000#32) fun j : Fin 256 => sc x2 x4 u hu r j)

/-- The table of weights one grid point leaves: entry `(u, r, j)` is two to the power of the score less the row's largest score; columns below 2048 are latent keys, the rest context keys. -/
def EE (x2 : Vec Ideal S512x256 .bf16) (x3 : Vec Ideal S2048x256 .bf16) (x4 : Vec Ideal S256x256 .bf16) (y : S8x512x2304.Idx) : EReal :=
  FloatOps.exp2 (F := Ideal) (φ := .f32) ((if h : (y 2).val < 2048 then sl x2 x3 (y 0).val (y 0).isLt (y 1) ⟨(y 2).val, h⟩ else sc x2 x4 (y 0).val (y 0).isLt (y 1) ⟨(y 2).val - 2048, by have := (y 2).isLt; change _ < 2304 at this; omega⟩) - mx x2 x3 x4 (y 0).val (y 0).isLt (y 1))

/-- The table at a latent key's column. -/
theorem EE_lat (x2 : Vec Ideal S512x256 .bf16) (x3 : Vec Ideal S2048x256 .bf16) (x4 : Vec Ideal S256x256 .bf16) (y : S8x512x2304.Idx)
    (u : ℕ) (hu : u < 8) (r : Fin 512) (j : Fin 2048) (h0 : (y 0).val = u) (h1 : (y 1).val = r.val) (h2 : (y 2).val = j.val) :
    EE x2 x3 x4 y = FloatOps.exp2 (F := Ideal) (φ := .f32) (sl x2 x3 u hu r j - mx x2 x3 x4 u hu r) := by
  subst h0
  obtain rfl : (y 1 : Fin 512) = r := Fin.ext h1
  unfold EE
  rw [dif_pos (by rw [h2]; exact j.isLt)]
  congr 2
  congr 1
  exact Fin.ext h2

/-- The table at a context key's column. -/
theorem EE_ctx (x2 : Vec Ideal S512x256 .bf16) (x3 : Vec Ideal S2048x256 .bf16) (x4 : Vec Ideal S256x256 .bf16) (y : S8x512x2304.Idx)
    (u : ℕ) (hu : u < 8) (r : Fin 512) (j : Fin 256) (h0 : (y 0).val = u) (h1 : (y 1).val = r.val) (h2 : (y 2).val = 2048 + j.val) :
    EE x2 x3 x4 y = FloatOps.exp2 (F := Ideal) (φ := .f32) (sc x2 x4 u hu r j - mx x2 x3 x4 u hu r) := by
  subst h0
  obtain rfl : (y 1 : Fin 512) = r := Fin.ext h1
  unfold EE
  rw [dif_neg (by rw [h2]; omega)]
  congr 2
  congr 1
  exact Fin.ext (by simp only [h2]; omega)

set_option maxHeartbeats 4000000 in
/-- At a later grid point the scratch ends as the table of weights of that point's queries and keys, whatever it held. -/
theorem sout_B (c : Dev nD) (i : grid0.Coords) (arg1 : Memref sig .tc .smem S1 .f32) (harg1 : arg1.IsWhole) (arg2 : Memref sig .tc .vmem S1x64 .f32) (harg2 : arg2.IsWhole) (arg3 : Memref sig .tc .vmem S512x256 .bf16) (harg3 : arg3.IsWhole) (arg4 : Memref sig .tc .vmem S2048x256 .bf16) (harg4 : arg4.IsWhole) (arg5 : Memref sig .tc .vmem S256x256 .bf16) (harg5 : arg5.IsWhole) (arg6 : Memref sig .tc .vmem S2048x512 .bf16) (harg6 : arg6.IsWhole) (arg7 : Memref sig .tc .vmem S256x512 .bf16) (harg7 : arg7.IsWhole) (arg8 : Memref sig .tc .vmem S512x256 .bf16) (harg8 : arg8.IsWhole) (arg9 : Memref sig .tc .vmem S8x512x2304 .bf16) (harg9 : arg9.IsWhole) (hc0 : ¬cond0_0 i)
    (x0 : Vec Ideal S1 .f32) (x1 : Vec Ideal S1x64 .f32) (x2 : Vec Ideal S512x256 .bf16) (x3 : Vec Ideal S2048x256 .bf16) (x4 : Vec Ideal S256x256 .bf16) (x5 : Vec Ideal S2048x512 .bf16) (x6 : Vec Ideal S256x512 .bf16) (xs0 : Vec Ideal S8x512x2304 .bf16) (y : S8x512x2304.Idx) :
    sout0_B_0 c i arg1 harg1 arg2 harg2 arg3 harg3 arg4 harg4 arg5 harg5 arg6 harg6 arg7 harg7 arg8 harg8 arg9 harg9 hc0 x0 x1 x2 x3 x4 x5 x6 xs0 y = EE x2 x3 x4 y := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 x6 xs0)]
  have hcov := (scover0_B_0 c i arg1 harg1 arg2 harg2 arg3 harg3 arg4 harg4 arg5 harg5 arg6 harg6 arg7 harg7 arg8 harg8 arg9 harg9 hc0 x0 x1 x2 x3 x4 x5 x6 xs0 y)
  revert hcov
  unfold kernelRun0_B
  dsimp only
  sl_unfold_words
  intro hcov
  canon_tiles x h using hcov
  all_goals clear hcov
  all_goals simp only [View.readAt_eq_ld, harg3.read_unread, harg4.read_unread, harg5.read_unread]
  all_goals unfold_payloads
  case piece0 =>
    rw [EE_ctx x2 x3 x4 y 7 (by omega) (x 1) (x 2) (by omega) (by omega) (by omega)]
    pointwise
    simp only [sl, sc, mx, Nat.reduceMul, zero_add]
  case piece1 =>
    rw [EE_lat x2 x3 x4 y 7 (by omega) (x 1) (x 2) (by omega) (by omega) (by omega)]
    pointwise
    simp only [sl, sc, mx, Nat.reduceMul, zero_add]
  case piece2 =>
    rw [EE_ctx x2 x3 x4 y 6 (by omega) (x 1) (x 2) (by omega) (by omega) (by omega)]
    pointwise
    simp only [sl, sc, mx, Nat.reduceMul, zero_add]
  case piece3 =>
    rw [EE_lat x2 x3 x4 y 6 (by omega) (x 1) (x 2) (by omega) (by omega) (by omega)]
    pointwise
    simp only [sl, sc, mx, Nat.reduceMul, zero_add]
  case piece4 =>
    rw [EE_ctx x2 x3 x4 y 5 (by omega) (x 1) (x 2) (by omega) (by omega) (by omega)]
    pointwise
    simp only [sl, sc, mx, Nat.reduceMul, zero_add]
  case piece5 =>
    rw [EE_lat x2 x3 x4 y 5 (by omega) (x 1) (x 2) (by omega) (by omega) (by omega)]
    pointwise
    simp only [sl, sc, mx, Nat.reduceMul, zero_add]
  case piece6 =>
    rw [EE_ctx x2 x3 x4 y 4 (by omega) (x 1) (x 2) (by omega) (by omega) (by omega)]
    pointwise
    simp only [sl, sc, mx, Nat.reduceMul, zero_add]
  case piece7 =>
    rw [EE_lat x2 x3 x4 y 4 (by omega) (x 1) (x 2) (by omega) (by omega) (by omega)]
    pointwise
    simp only [sl, sc, mx, Nat.reduceMul, zero_add]
  case piece8 =>
    rw [EE_ctx x2 x3 x4 y 3 (by omega) (x 1) (x 2) (by omega) (by omega) (by omega)]
    pointwise
    simp only [sl, sc, mx, Nat.reduceMul, zero_add]
  case piece9 =>
    rw [EE_lat x2 x3 x4 y 3 (by omega) (x 1) (x 2) (by omega) (by omega) (by omega)]
    pointwise
    simp only [sl, sc, mx, Nat.reduceMul, zero_add]
  case piece10 =>
    rw [EE_ctx x2 x3 x4 y 2 (by omega) (x 1) (x 2) (by omega) (by omega) (by omega)]
    pointwise
    simp only [sl, sc, mx, Nat.reduceMul, zero_add]
  case piece11 =>
    rw [EE_lat x2 x3 x4 y 2 (by omega) (x 1) (x 2) (by omega) (by omega) (by omega)]
    pointwise
    simp only [sl, sc, mx, Nat.reduceMul, zero_add]
  case piece12 =>
    rw [EE_ctx x2 x3 x4 y 1 (by omega) (x 1) (x 2) (by omega) (by omega) (by omega)]
    pointwise
    simp only [sl, sc, mx, Nat.reduceMul, zero_add]
  case piece13 =>
    rw [EE_lat x2 x3 x4 y 1 (by omega) (x 1) (x 2) (by omega) (by omega) (by omega)]
    pointwise
    simp only [sl, sc, mx, Nat.reduceMul, zero_add]
  case piece14 =>
    rw [EE_ctx x2 x3 x4 y 0 (by omega) (x 1) (x 2) (by omega) (by omega) (by omega)]
    pointwise
    simp only [sl, sc, mx, Nat.reduceMul, zero_add]
  case piece15 =>
    rw [EE_lat x2 x3 x4 y 0 (by omega) (x 1) (x 2) (by omega) (by omega) (by omega)]
    pointwise
    simp only [sl, sc, mx, Nat.reduceMul, zero_add]

end Cert.KernelIdeal.Attn
-- ==== Proof.ScoresFirst.lean ====
module

public import proofs.«01_k».proof.Proof.Scores
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Attn

open Cert.KernelIdeal Cert.KernelIdeal.Gen

/-- Where the later writes cover an index, the earlier writes do not matter there. -/
theorem canon_append_left {s : Shape} {e : EltTy} (L L' : List (View.Piece (Elt Ideal) s e)) (y : s.Idx) (h : ∃ p ∈ L, y ∈ p.1.set) :
    View.canon (L ++ L') y = View.canon L y := by
  induction L with
  | nil => obtain ⟨_, hm, _⟩ := h; exact absurd hm List.not_mem_nil
  | cons p L ih =>
    by_cases hy : y ∈ p.1.set
    · obtain ⟨x, -, rfl⟩ := Finset.mem_map.mp (by rw [Rect.map_emb_univ]; exact hy : y ∈ Finset.univ.map p.1.emb)
      obtain ⟨r, w⟩ := p
      rw [List.cons_append, View.canon_cons_emb, View.canon_cons_emb]
    · rw [List.cons_append, View.canon_cons_of_not_mem p _ hy, View.canon_cons_of_not_mem p _ hy]
      refine ih ?_
      obtain ⟨p', hm, hy'⟩ := h
      rcases List.mem_cons.mp hm with rfl | hm
      · exact absurd hy' hy
      · exact ⟨p', hm, hy'⟩

/-- Where the writes but the earliest cover an index, the earliest does not matter there. -/
theorem canon_dropLast {s : Shape} {e : EltTy} (L : List (View.Piece (Elt Ideal) s e)) (y : s.Idx) (h : ∃ p ∈ L.dropLast, y ∈ p.1.set) :
    View.canon L y = View.canon L.dropLast y := by
  have hL : L ≠ [] := by rintro rfl; obtain ⟨_, hm, _⟩ := h; exact absurd hm List.not_mem_nil
  conv_lhs => rw [← List.dropLast_append_getLast hL]
  exact canon_append_left _ _ y h

set_option maxHeartbeats 4000000 in
/-- At the first grid point, which also fills the scratch with ones beforehand, it ends as the table of weights of that point's queries and keys. -/
theorem sout_A (c : Dev nD) (i : grid0.Coords) (arg1 : Memref sig .tc .smem S1 .f32) (harg1 : arg1.IsWhole) (arg2 : Memref sig .tc .vmem S1x64 .f32) (harg2 : arg2.IsWhole) (arg3 : Memref sig .tc .vmem S512x256 .bf16) (harg3 : arg3.IsWhole) (arg4 : Memref sig .tc .vmem S2048x256 .bf16) (harg4 : arg4.IsWhole) (arg5 : Memref sig .tc .vmem S256x256 .bf16) (harg5 : arg5.IsWhole) (arg6 : Memref sig .tc .vmem S2048x512 .bf16) (harg6 : arg6.IsWhole) (arg7 : Memref sig .tc .vmem S256x512 .bf16) (harg7 : arg7.IsWhole) (arg8 : Memref sig .tc .vmem S512x256 .bf16) (harg8 : arg8.IsWhole) (arg9 : Memref sig .tc .vmem S8x512x2304 .bf16) (harg9 : arg9.IsWhole) (hc0 : cond0_0 i)
    (x0 : Vec Ideal S1 .f32) (x1 : Vec Ideal S1x64 .f32) (x2 : Vec Ideal S512x256 .bf16) (x3 : Vec Ideal S2048x256 .bf16) (x4 : Vec Ideal S256x256 .bf16) (x5 : Vec Ideal S2048x512 .bf16) (x6 : Vec Ideal S256x512 .bf16) (y : S8x512x2304.Idx) :
    sout0_A_0 c i arg1 harg1 arg2 harg2 arg3 harg3 arg4 harg4 arg5 harg5 arg6 harg6 arg7 harg7 arg8 harg8 arg9 harg9 hc0 x0 x1 x2 x3 x4 x5 x6 y = EE x2 x3 x4 y := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  have hcov := View.cover_of_tiledBy ((kernelRun0_A c i arg1 harg1 arg2 harg2 arg3 harg3 arg4 harg4 arg5 harg5 arg6 harg6 arg7 harg7 arg8 harg8 arg9 harg9 hc0 x0 x1 x2 x3 x4 x5 x6).2.1.dropLast) ![1, 512, 256] (by sl_kernel_rfl) y
  rw [canon_dropLast _ y hcov]
  revert hcov
  unfold kernelRun0_A
  dsimp only
  sl_unfold_words
  dsimp only [List.dropLast]
  intro hcov
  canon_tiles x h using hcov
  all_goals clear hcov
  all_goals simp only [View.readAt_eq_ld, harg3.read_unread, harg4.read_unread, harg5.read_unread]
  all_goals unfold_payloads
  case piece0 =>
    rw [EE_ctx x2 x3 x4 y 7 (by omega) (x 1) (x 2) (by omega) (by omega) (by omega)]
    pointwise
    simp only [sl, sc, mx, Nat.reduceMul, zero_add]
  case piece1 =>
    rw [EE_lat x2 x3 x4 y 7 (by omega) (x 1) (x 2) (by omega) (by omega) (by omega)]
    pointwise
    simp only [sl, sc, mx, Nat.reduceMul, zero_add]
  case piece2 =>
    rw [EE_ctx x2 x3 x4 y 6 (by omega) (x 1) (x 2) (by omega) (by omega) (by omega)]
    pointwise
    simp only [sl, sc, mx, Nat.reduceMul, zero_add]
  case piece3 =>
    rw [EE_lat x2 x3 x4 y 6 (by omega) (x 1) (x 2) (by omega) (by omega) (by omega)]
    pointwise
    simp only [sl, sc, mx, Nat.reduceMul, zero_add]
  case piece4 =>
    rw [EE_ctx x2 x3 x4 y 5 (by omega) (x 1) (x 2) (by omega) (by omega) (by omega)]
    pointwise
    simp only [sl, sc, mx, Nat.reduceMul, zero_add]
  case piece5 =>
    rw [EE_lat x2 x3 x4 y 5 (by omega) (x 1) (x 2) (by omega) (by omega) (by omega)]
    pointwise
    simp only [sl, sc, mx, Nat.reduceMul, zero_add]
  case piece6 =>
    rw [EE_ctx x2 x3 x4 y 4 (by omega) (x 1) (x 2) (by omega) (by omega) (by omega)]
    pointwise
    simp only [sl, sc, mx, Nat.reduceMul, zero_add]
  case piece7 =>
    rw [EE_lat x2 x3 x4 y 4 (by omega) (x 1) (x 2) (by omega) (by omega) (by omega)]
    pointwise
    simp only [sl, sc, mx, Nat.reduceMul, zero_add]
  case piece8 =>
    rw [EE_ctx x2 x3 x4 y 3 (by omega) (x 1) (x 2) (by omega) (by omega) (by omega)]
    pointwise
    simp only [sl, sc, mx, Nat.reduceMul, zero_add]
  case piece9 =>
    rw [EE_lat x2 x3 x4 y 3 (by omega) (x 1) (x 2) (by omega) (by omega) (by omega)]
    pointwise
    simp only [sl, sc, mx, Nat.reduceMul, zero_add]
  case piece10 =>
    rw [EE_ctx x2 x3 x4 y 2 (by omega) (x 1) (x 2) (by omega) (by omega) (by omega)]
    pointwise
    simp only [sl, sc, mx, Nat.reduceMul, zero_add]
  case piece11 =>
    rw [EE_lat x2 x3 x4 y 2 (by omega) (x 1) (x 2) (by omega) (by omega) (by omega)]
    pointwise
    simp only [sl, sc, mx, Nat.reduceMul, zero_add]
  case piece12 =>
    rw [EE_ctx x2 x3 x4 y 1 (by omega) (x 1) (x 2) (by omega) (by omega) (by omega)]
    pointwise
    simp only [sl, sc, mx, Nat.reduceMul, zero_add]
  case piece13 =>
    rw [EE_lat x2 x3 x4 y 1 (by omega) (x 1) (x 2) (by omega) (by omega) (by omega)]
    pointwise
    simp only [sl, sc, mx, Nat.reduceMul, zero_add]
  case piece14 =>
    rw [EE_ctx x2 x3 x4 y 0 (by omega) (x 1) (x 2) (by omega) (by omega) (by omega)]
    pointwise
    simp only [sl, sc, mx, Nat.reduceMul, zero_add]
  case piece15 =>
    rw [EE_lat x2 x3 x4 y 0 (by omega) (x 1) (x 2) (by omega) (by omega) (by omega)]
    pointwise
    simp only [sl, sc, mx, Nat.reduceMul, zero_add]

end Cert.KernelIdeal.Attn
-- ==== Proof.Array.lean ====
module

public import proofs.«01_k».proof.Proof.Block
public import proofs.«01_k».proof.Proof.Scores
public import proofs.«01_k».proof.Proof.ScoresFirst
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- Tile `s` of the queries: 512 rows, columns 1024 to 1279 of the array of all projections. -/
def qblk (S : Vec Ideal S32768x3840 .bf16) (s : ℕ) (hs : s < 64) : Vec Ideal S512x256 .bf16 := fun y =>
  S (ix2 ⟨512 * s + (y 0).val, by have : (y 0).val < 512 := (y 0).isLt; omega⟩ ⟨1024 + (y 1).val, by have : (y 1).val < 256 := (y 1).isLt; omega⟩)

/-- The latent keys of sequence `b`: 2048 rows, columns 1280 to 1535. -/
def kblk (S : Vec Ideal S32768x3840 .bf16) (b : ℕ) (hb : b < 16) : Vec Ideal S2048x256 .bf16 := fun y =>
  S (ix2 ⟨2048 * b + (y 0).val, by have : (y 0).val < 2048 := (y 0).isLt; omega⟩ ⟨1280 + (y 1).val, by have : (y 1).val < 256 := (y 1).isLt; omega⟩)

/-- The context keys of sequence `b`: 256 rows, columns 1280 to 1535. -/
def kcblk (S : Vec Ideal S4096x3840 .bf16) (b : ℕ) (hb : b < 16) : Vec Ideal S256x256 .bf16 := fun y =>
  S (ix2 ⟨256 * b + (y 0).val, by have : (y 0).val < 256 := (y 0).isLt; omega⟩ ⟨1280 + (y 1).val, by have : (y 1).val < 256 := (y 1).isLt; omega⟩)

/-- The latent values of sequence `b`: 2048 rows, columns 2048 to 2559. -/
def vblk (S : Vec Ideal S32768x3840 .bf16) (b : ℕ) (hb : b < 16) : Vec Ideal S2048x512 .bf16 := fun y =>
  S (ix2 ⟨2048 * b + (y 0).val, by have : (y 0).val < 2048 := (y 0).isLt; omega⟩ ⟨2048 + (y 1).val, by have : (y 1).val < 512 := (y 1).isLt; omega⟩)

/-- The context values of sequence `b`: 256 rows, columns 2048 to 2559. -/
def vcblk (S : Vec Ideal S4096x3840 .bf16) (b : ℕ) (hb : b < 16) : Vec Ideal S256x512 .bf16 := fun y =>
  S (ix2 ⟨256 * b + (y 0).val, by have : (y 0).val < 256 := (y 0).isLt; omega⟩ ⟨2048 + (y 1).val, by have : (y 1).val < 512 := (y 1).isLt; omega⟩)

/-- The array the kernel fills, from the projections `S`, `Sc`, the factor `L` and the gain `G`: row `512 s + r` is row `r` of tile `s`'s output. -/
def whole (L : Vec Ideal S1 .f32) (G : Vec Ideal S1x64 .f32) (S : Vec Ideal S32768x3840 .bf16) (Sc : Vec Ideal S4096x3840 .bf16) : Vec Ideal S32768x256 .bf16 := fun i =>
  OO L G (vblk S ((i 0).val / 2048) (by have : (i 0).val < 32768 := (i 0).isLt; omega)) (vcblk Sc ((i 0).val / 2048) (by have : (i 0).val < 32768 := (i 0).isLt; omega))
    (EE (qblk S ((i 0).val / 512) (by have : (i 0).val < 32768 := (i 0).isLt; omega)) (kblk S ((i 0).val / 2048) (by have : (i 0).val < 32768 := (i 0).isLt; omega))
      (kcblk Sc ((i 0).val / 2048) (by have : (i 0).val < 32768 := (i 0).isLt; omega)))
    ⟨(i 0).val % 512, by omega⟩ (i 1)

variable (m : (ℓ : Loc nD τ sig) → Buf (Elt Ideal) ℓ) (c : Dev nD)

/-- Where each window stands at each grid point: queries and keys at the point's own tile, values and output one tile behind. -/
theorem idx : ∀ t : Fin cfg0.N, (win0_2.index t 0 = min t.val 63 ∧ win0_2.index t 1 = 4)
    ∧ (win0_3.index t 0 = min t.val 63 / 4 ∧ win0_3.index t 1 = 5) ∧ (win0_4.index t 0 = min t.val 63 / 4 ∧ win0_4.index t 1 = 5)
    ∧ (win0_5.index t 0 = (t.val - 1) / 4 ∧ win0_5.index t 1 = 4) ∧ (win0_6.index t 0 = (t.val - 1) / 4 ∧ win0_6.index t 1 = 4)
    ∧ (win0_7.index t 0 = t.val - 1 ∧ win0_7.index t 1 = 0) ∧ win0_0.index t 0 = 0 ∧ (win0_1.index t 0 = 0 ∧ win0_1.index t 1 = 0) := by
  decide +kernel

/-- The output is written back at every point but the first. -/
theorem flush7 : ∀ t : Fin cfg0.N, (cfg0.win 7).flush t = true ↔ t.val ≠ 0 := by
  decide +kernel

/-- The query window's block. -/
theorem iblk2 (t : Fin cfg0.N) (ht : t.val < 64) : (iblk m c 2 t : Vec Ideal S512x256 .bf16) = qblk (V m c main_v30) t.val ht := by
  have h := (idx t).1
  funext j
  unfold iblk qblk
  rw [View.read_apply]
  show V m c main_v30 _ = V m c main_v30 _
  congr 1
  funext a
  apply Fin.ext
  match a with
  | ⟨0, _⟩ => show win0_2.index t 0 * 512 + 1 * (j 0).val = 512 * t.val + (j 0).val; rw [h.1]; omega
  | ⟨1, _⟩ => show win0_2.index t 1 * 256 + 1 * (j 1).val = 1024 + (j 1).val; rw [h.2]; omega

/-- The latent key window's block. -/
theorem iblk3 (t : Fin cfg0.N) (ht : t.val < 64) : (iblk m c 3 t : Vec Ideal S2048x256 .bf16) = kblk (V m c main_v30) (t.val / 4) (by omega) := by
  have h := (idx t).2.1
  funext j
  unfold iblk kblk
  rw [View.read_apply]
  show V m c main_v30 _ = V m c main_v30 _
  congr 1
  funext a
  apply Fin.ext
  match a with
  | ⟨0, _⟩ => show win0_3.index t 0 * 2048 + 1 * (j 0).val = 2048 * (t.val / 4) + (j 0).val; rw [h.1]; omega
  | ⟨1, _⟩ => show win0_3.index t 1 * 256 + 1 * (j 1).val = 1280 + (j 1).val; rw [h.2]; omega

/-- The context key window's block. -/
theorem iblk4 (t : Fin cfg0.N) (ht : t.val < 64) : (iblk m c 4 t : Vec Ideal S256x256 .bf16) = kcblk (V m c main_v40) (t.val / 4) (by omega) := by
  have h := (idx t).2.2.1
  funext j
  unfold iblk kcblk
  rw [View.read_apply]
  show V m c main_v40 _ = V m c main_v40 _
  congr 1
  funext a
  apply Fin.ext
  match a with
  | ⟨0, _⟩ => show win0_4.index t 0 * 256 + 1 * (j 0).val = 256 * (t.val / 4) + (j 0).val; rw [h.1]; omega
  | ⟨1, _⟩ => show win0_4.index t 1 * 256 + 1 * (j 1).val = 1280 + (j 1).val; rw [h.2]; omega

/-- The latent value window's block: the sequence of the tile one point behind. -/
theorem X5 (t : Fin cfg0.N) : (X0_5 m c t : Vec Ideal S2048x512 .bf16) = vblk (V m c main_v30) ((t.val - 1) / 4) (by have := t.isLt; have : cfg0.N = 65 := N_0; omega) := by
  have h := (idx t).2.2.2.1
  funext j
  unfold X0_5 Pipeline.Window.fill vblk iblk
  rw [dif_pos (moved0_5 t j), View.read_apply]
  show V m c main_v30 _ = V m c main_v30 _
  congr 1
  funext a
  apply Fin.ext
  match a with
  | ⟨0, _⟩ => show win0_5.index t 0 * 2048 + 1 * (j 0).val = 2048 * ((t.val - 1) / 4) + (j 0).val; rw [h.1]; omega
  | ⟨1, _⟩ => show win0_5.index t 1 * 512 + 1 * (j 1).val = 2048 + (j 1).val; rw [h.2]; omega

/-- The context value window's block. -/
theorem X6 (t : Fin cfg0.N) : (X0_6 m c t : Vec Ideal S256x512 .bf16) = vcblk (V m c main_v40) ((t.val - 1) / 4) (by have := t.isLt; have : cfg0.N = 65 := N_0; omega) := by
  have h := (idx t).2.2.2.2.1
  funext j
  unfold X0_6 Pipeline.Window.fill vcblk iblk
  rw [dif_pos (moved0_6 t j), View.read_apply]
  show V m c main_v40 _ = V m c main_v40 _
  congr 1
  funext a
  apply Fin.ext
  match a with
  | ⟨0, _⟩ => show win0_6.index t 0 * 256 + 1 * (j 0).val = 256 * ((t.val - 1) / 4) + (j 0).val; rw [h.1]; omega
  | ⟨1, _⟩ => show win0_6.index t 1 * 512 + 1 * (j 1).val = 2048 + (j 1).val; rw [h.2]; omega

/-- The factor's window: the whole array. -/
theorem iblk0 (t : Fin cfg0.N) : (iblk m c 0 t : Vec Ideal S1 .f32) = V m c main_v41 := by
  have h := (idx t).2.2.2.2.2.2.1
  funext j
  unfold iblk
  rw [View.read_apply]
  show V m c main_v41 _ = V m c main_v41 _
  congr 1
  funext a
  apply Fin.ext
  match a with
  | ⟨0, _⟩ => show win0_0.index t 0 * 1 + 1 * (j 0).val = (j 0).val; rw [h]; omega

/-- The gain's window: the whole array. -/
theorem iblk1 (t : Fin cfg0.N) : (iblk m c 1 t : Vec Ideal S1x64 .f32) = V m c main_v42 := by
  have h := (idx t).2.2.2.2.2.2.2
  funext j
  unfold iblk
  rw [View.read_apply]
  show V m c main_v42 _ = V m c main_v42 _
  congr 1
  funext a
  apply Fin.ext
  match a with
  | ⟨0, _⟩ => show win0_1.index t 0 * 1 + 1 * (j 0).val = (j 0).val; rw [h.1]; omega
  | ⟨1, _⟩ => show win0_1.index t 1 * 64 + 1 * (j 1).val = (j 1).val; rw [h.2]; omega

/-- The table of weights a point leaves, from the arrays. -/
theorem weights (t : Fin cfg0.N) (ht : t.val < 64) : (outsAt0 m c t.val t.isLt).2
    = EE (qblk (V m c main_v30) t.val ht) (kblk (V m c main_v30) (t.val / 4) (by omega)) (kcblk (V m c main_v40) (t.val / 4) (by omega)) := by
  rw [← iblk2 m c t ht, ← iblk3 m c t ht, ← iblk4 m c t ht]
  by_cases h0 : t.val % 65 = 0
  · rw [outsAt0_A m c t h0]
    dsimp only
    exact funext fun y => sout_A ..
  · rw [outsAt0_B m c t h0]
    dsimp only
    exact funext fun y => sout_B ..

/-- What the kernel's array is shown to hold. -/
abbrev result : Buf (Elt Ideal) ((c : Thread nD τ).loc main_v43) :=
  whole (V m c main_v41) (V m c main_v42) (V m c main_v30) (V m c main_v40)

/-- The kernel's array at tile `s`. -/
theorem whole_at (L : Vec Ideal S1 .f32) (G : Vec Ideal S1x64 .f32) (S : Vec Ideal S32768x3840 .bf16) (Sc : Vec Ideal S4096x3840 .bf16) (i : S32768x256.Idx)
    (s : ℕ) (hs : s < 64) (r : Fin 512) (h0 : (i 0).val = 512 * s + r.val) :
    whole L G S Sc i = OO L G (vblk S (s / 4) (by omega)) (vcblk Sc (s / 4) (by omega)) (EE (qblk S s hs) (kblk S (s / 4) (by omega)) (kcblk Sc (s / 4) (by omega))) r (i 1) := by
  have h1 : (i 0).val / 512 = s := by omega
  have h2 : (i 0).val / 2048 = s / 4 := by omega
  have h3 : (i 0).val % 512 = r.val := by omega
  have hr : (⟨(i 0).val % 512, by omega⟩ : Fin 512) = r := Fin.ext h3
  unfold whole
  rw [hr]
  generalize_proofs p1 p2 p3 p4 p5
  revert p1 p2
  rw [h1, h2]
  intros
  rfl

/-- What a point writes back is its tile of that array. -/
theorem flushed_eq (t : Fin cfg0.N) (hf : (cfg0.win 7).flush t = true) :
    (dats m 0 c).flushed 7 t = ((cfg0.win 7).blk t).view.read (Elt Ideal) (result m c) := by
  have ht : t.val ≠ 0 := (flush7 t).mp hf
  have hN : cfg0.N = 65 := N_0
  have hlt := t.isLt
  have h := (idx t).2.2.2.2.2.1
  rw [Value.flushed7_B m c t (by omega)]
  have hw := weights m c ⟨t.val - 1, by omega⟩ (by dsimp only; omega)
  dsimp only at hw
  funext j
  rw [View.read_apply]
  refine (out_B ..).trans ?_
  have e : (((cfg0.win 7).blk t).view.emb j 0).val = 512 * (t.val - 1) + (j 0).val := by
    show win0_7.index t 0 * 512 + 1 * (j 0).val = _
    rw [h.1]; omega
  refine Eq.trans ?_ (whole_at _ _ _ _ _ (t.val - 1) (by omega) (j 0) e).symm
  rw [hw, iblk0, iblk1, X5, X6]
  congr 1
  apply Fin.ext
  show (j 1).val = win0_7.index t 1 * 256 + 1 * (j 1).val
  rw [h.2]; omega

/-- The tiles cover the array. -/
theorem cover (i : S32768x256.Idx) : ∃ t : Fin cfg0.N, (cfg0.win 7).flush t = true ∧ i ∈ ((cfg0.win 7).blk t).view.set := by
  have h0 : (i 0 : ℕ) < 32768 := (i 0).isLt
  have h1 : (i 1 : ℕ) < 256 := (i 1).isLt
  have hN : cfg0.N = 65 := N_0
  obtain ⟨t, ht⟩ : ∃ t : Fin cfg0.N, t.val = (i 0).val / 512 + 1 := ⟨⟨(i 0).val / 512 + 1, by omega⟩, rfl⟩
  refine ⟨t, (flush7 t).mpr (by omega), ?_⟩
  have h := (idx t).2.2.2.2.2.1
  show i ∈ ((View.whole main_v43).slice (win0_7.rect t)).set
  rw [View.set_slice_whole, Rect.mem_set_unit]
  intro a
  match a with
  | ⟨0, _⟩ => show win0_7.index t 0 * 512 ≤ (i 0 : ℕ) ∧ (i 0 : ℕ) < win0_7.index t 0 * 512 + 512
              rw [h.1]; omega
  | ⟨1, _⟩ => show win0_7.index t 1 * 256 ≤ (i 1 : ℕ) ∧ (i 1 : ℕ) < win0_7.index t 1 * 256 + 256
              rw [h.2]; omega

/-- So the array ends as stated. -/
theorem final : (dats m 0 c).arrAt 7 cfg0.N = result m c :=
  (dats m 0 c).arrAt_eq_of_cover 7 (result m c) (flushed_eq m c) cover

end Cert.KernelIdeal.Attn
-- ==== Proof.Host.lean ====
module

public import proofs.«01_k».proof.Proof.Array
public import Idealize.ShloMosaic.Lib.StableHlo.Run
public import Idealize.ShloMosaic.Lib.Claim

@[expose] public section

set_option maxRecDepth 16384

noncomputable section

open Idealize.ShloMosaic Idealize.ShloMosaic.TcCoe Idealize.SL.Sem

namespace Cert.KernelIdeal.Attn

open Cert.KernelIdeal Cert.KernelIdeal.Gen

variable (m : (ℓ : Loc nD τ sig) → Buf (Elt Ideal) ℓ) (c : Dev nD)

/-- The kernel's array of projections, assembled: zeros, the queries, the keys, zeros, the values with a column of ones beside each head, zeros. -/
def slabV (q : FVec Ideal S32768x256 .f32) (k : FVec Ideal S16x2048x8x32 .f32) (v : FVec Ideal S16x2048x4x64 .f32) : FVec Ideal S32768x3840 .bf16 :=
  truncf .bf16 (concatenate S32768x3840 1 [⟨S32768x1024, broadcastInDim S32768x1024 ![] bcast_S_S32768x1024 (constant S_ .f32 0x00000000#32)⟩, ⟨S32768x256, q⟩,
    ⟨S32768x256, shapeCast S32768x256 k shapeCasts_S16x2048x8x32_S32768x256⟩, ⟨S32768x512, broadcastInDim S32768x512 ![] bcast_S_S32768x512 (constant S_ .f32 0x00000000#32)⟩,
    ⟨S32768x512, shapeCast S32768x512 (concatenate S16x2048x4x128 3 [⟨S16x2048x4x64, v⟩, ⟨S16x2048x4x64, broadcastInDim S16x2048x4x64 ![] bcast_S_S16x2048x4x64 (constant S_ .f32 0x3F800000#32)⟩] concatenates_S16x2048x4x64_S16x2048x4x64_S16x2048x4x128_d3) shapeCasts_S16x2048x4x128_S32768x512⟩,
    ⟨S32768x1280, broadcastInDim S32768x1280 ![] bcast_S_S32768x1280 (constant S_ .f32 0x00000000#32)⟩] concatenates_S32768x1024_S32768x256_S32768x256_S32768x512_S32768x512_S32768x1280_S32768x3840_d1) bitsLt_bf16_f32

/-- The kernel's array of the context's projections, assembled the same way: zeros, the queries, the keys, zeros, the values with a column of ones beside each head, zeros. -/
def slabCV (q : FVec Ideal S4096x256 .f32) (k : FVec Ideal S16x256x8x32 .f32) (v : FVec Ideal S16x256x4x64 .f32) : FVec Ideal S4096x3840 .bf16 :=
  truncf .bf16 (concatenate S4096x3840 1 [⟨S4096x1024, broadcastInDim S4096x1024 ![] bcast_S_S4096x1024 (constant S_ .f32 0x00000000#32)⟩, ⟨S4096x256, q⟩,
    ⟨S4096x256, shapeCast S4096x256 k shapeCasts_S16x256x8x32_S4096x256⟩, ⟨S4096x512, broadcastInDim S4096x512 ![] bcast_S_S4096x512 (constant S_ .f32 0x00000000#32)⟩,
    ⟨S4096x512, shapeCast S4096x512 (concatenate S16x256x4x128 3 [⟨S16x256x4x64, v⟩, ⟨S16x256x4x64, broadcastInDim S16x256x4x64 ![] bcast_S_S16x256x4x64 (constant S_ .f32 0x3F800000#32)⟩] concatenates_S16x256x4x64_S16x256x4x64_S16x256x4x128_d3) shapeCasts_S16x256x4x128_S4096x512⟩,
    ⟨S4096x1280, broadcastInDim S4096x1280 ![] bcast_S_S4096x1280 (constant S_ .f32 0x00000000#32)⟩] concatenates_S4096x1024_S4096x256_S4096x256_S4096x512_S4096x512_S4096x1280_S4096x3840_d1) bitsLt_bf16_f32

/-- The scaled queries. -/
def qV (q : FVec Ideal S16x2048x8x32 .f32) : FVec Ideal S32768x256 .f32 :=
  mulf (shapeCast S32768x256 q shapeCasts_S16x2048x8x32_S32768x256) (broadcastInDim S32768x256 ![] bcast_S_S32768x256
    (mulf (constant S_ .f32 0x3E3504F3#32) (Host.divf (constant S_ .f32 0x3F800000#32) (Host.log (constant S_ .f32 0x40000000#32)))))

set_option maxHeartbeats 1000000 in
/-- What the host leaves in the array of projections. -/
theorem V30 : V m c main_v30 = slabV (qV (m ((c.tc : Thread nD τ).loc main_arg0))) (m ((c.tc : Thread nD τ).loc main_arg1)) (m ((c.tc : Thread nD τ).loc main_arg2)) := by
  unfold_abbrev_sides
  after_results_simp
  rfl

set_option maxHeartbeats 1000000 in
/-- What the host leaves in the array of the context's projections. -/
theorem V40 : V m c main_v40 = slabCV (broadcastInDim S4096x256 ![] bcast_S_S4096x256 (constant S_ .f32 0x00000000#32)) (m ((c.tc : Thread nD τ).loc main_arg3)) (m ((c.tc : Thread nD τ).loc main_arg4)) := by
  unfold_abbrev_sides
  after_results_simp
  rfl

/-- Lambda, from its four vectors. -/
def lamV (l : FVec Ideal S4x32 .f32) : FVec Ideal S_ .f32 :=
  addf (subf (Host.exp (Host.reduceAdd (mulf (shapeCast S32 (extractStridedSlice S1x32 ![0, 0] l slices_S4x32_S1x32_0_0) shapeCasts_S1x32_S32) (shapeCast S32 (extractStridedSlice S1x32 ![1, 0] l slices_S4x32_S1x32_1_0) shapeCasts_S1x32_S32)) (constant S_ .f32 0x00000000#32) reducesTo_S32_S_d0 h_S_))
    (Host.exp (Host.reduceAdd (mulf (shapeCast S32 (extractStridedSlice S1x32 ![2, 0] l slices_S4x32_S1x32_2_0) shapeCasts_S1x32_S32) (shapeCast S32 (extractStridedSlice S1x32 ![3, 0] l slices_S4x32_S1x32_3_0) shapeCasts_S1x32_S32)) (constant S_ .f32 0x00000000#32) reducesTo_S32_S_d0 h_S_))) (constant S_ .f32 0x3E4CCCCD#32)

set_option maxHeartbeats 1000000 in
/-- What the host leaves in the factor's array. -/
theorem V41 : V m c main_v41 = shapeCast S1 (lamV (m ((c.tc : Thread nD τ).loc main_arg5))) shapeCasts_S_S1 := by
  unfold_abbrev_sides
  after_results_simp
  rfl

set_option maxHeartbeats 1000000 in
/-- What the host leaves in the gain's array. -/
theorem V42 : V m c main_v42 = shapeCast S1x64 (m ((c.tc : Thread nD τ).loc main_arg6)) shapeCasts_S64_S1x64 := by
  unfold_abbrev_sides
  after_results_simp
  rfl

/-- The query columns. -/
theorem slabV_q (q : FVec Ideal S32768x256 .f32) (k : FVec Ideal S16x2048x8x32 .f32) (v : FVec Ideal S16x2048x4x64 .f32) (i : Fin 32768) (x : Fin 256) (y : Fin 3840) (hy : y.val = 1024 + x.val) :
    slabV q k v (ix2 i y) = q (ix2 i x) := by
  obtain ⟨n, hn⟩ := y
  dsimp only at hy
  subst hy
  pointwise [slabV]

/-- The key columns. -/
theorem slabV_k (q : FVec Ideal S32768x256 .f32) (k : FVec Ideal S16x2048x8x32 .f32) (v : FVec Ideal S16x2048x4x64 .f32) (b : Fin 16) (r : Fin 2048) (u : Fin 8) (d : Fin 32) (i : Fin 32768) (y : Fin 3840)
    (hi : i.val = 2048 * b.val + r.val) (hy : y.val = 1280 + (32 * u.val + d.val)) :
    slabV q k v (ix2 i y) = k (ix4 b r u d) := by
  obtain ⟨n, hn⟩ := y
  obtain ⟨i, hi'⟩ := i
  dsimp only at hy hi
  subst hy hi
  pointwise [slabV]
  rw [dif_neg (by omega), dif_neg (by omega), dif_pos (by omega)]
  congr 2
  · exact Fin.ext (by dsimp only; omega)
  · exact Fin.ext (by dsimp only; omega)

/-- The value columns. -/
theorem slabV_v (q : FVec Ideal S32768x256 .f32) (k : FVec Ideal S16x2048x8x32 .f32) (v : FVec Ideal S16x2048x4x64 .f32) (b : Fin 16) (r : Fin 2048) (h : Fin 4) (e : Fin 64) (i : Fin 32768) (y : Fin 3840)
    (hi : i.val = 2048 * b.val + r.val) (hy : y.val = 2048 + (128 * h.val + e.val)) :
    slabV q k v (ix2 i y) = v (ix4 b r h e) := by
  obtain ⟨n, hn⟩ := y
  obtain ⟨i, hi'⟩ := i
  dsimp only at hy hi
  subst hy hi
  pointwise [slabV]
  rw [dif_neg (by omega), dif_neg (by omega), dif_neg (by omega), dif_neg (by omega), dif_pos (by omega), dif_pos (by omega)]
  congr 2
  · exact Fin.ext (by dsimp only; omega)
  · exact Fin.ext (by dsimp only; omega)

/-- The columns of ones. -/
theorem slabV_one (q : FVec Ideal S32768x256 .f32) (k : FVec Ideal S16x2048x8x32 .f32) (v : FVec Ideal S16x2048x4x64 .f32) (h : Fin 4) (e : Fin 64) (i : Fin 32768) (y : Fin 3840)
    (hy : y.val = 2048 + (128 * h.val + (64 + e.val))) :
    slabV q k v (ix2 i y) = Ideal.ofBits FTy.f32 0x3F800000#32 := by
  obtain ⟨n, hn⟩ := y
  dsimp only at hy
  subst hy
  pointwise [slabV]
  rw [dif_neg (by omega), dif_neg (by omega), dif_neg (by omega), dif_neg (by omega), dif_pos (by omega), dif_neg (by omega)]

/-- The key columns of the context's array. -/
theorem slabCV_k (q : FVec Ideal S4096x256 .f32) (k : FVec Ideal S16x256x8x32 .f32) (v : FVec Ideal S16x256x4x64 .f32) (b : Fin 16) (r : Fin 256) (u : Fin 8) (d : Fin 32) (i : Fin 4096) (y : Fin 3840)
    (hi : i.val = 256 * b.val + r.val) (hy : y.val = 1280 + (32 * u.val + d.val)) :
    slabCV q k v (ix2 i y) = k (ix4 b r u d) := by
  obtain ⟨n, hn⟩ := y
  obtain ⟨i, hi'⟩ := i
  dsimp only at hy hi
  subst hy hi
  pointwise [slabCV]
  rw [dif_neg (by omega), dif_neg (by omega), dif_pos (by omega)]
  congr 2
  · exact Fin.ext (by dsimp only; omega)
  · exact Fin.ext (by dsimp only; omega)

/-- The value columns of the context's array. -/
theorem slabCV_v (q : FVec Ideal S4096x256 .f32) (k : FVec Ideal S16x256x8x32 .f32) (v : FVec Ideal S16x256x4x64 .f32) (b : Fin 16) (r : Fin 256) (h : Fin 4) (e : Fin 64) (i : Fin 4096) (y : Fin 3840)
    (hi : i.val = 256 * b.val + r.val) (hy : y.val = 2048 + (128 * h.val + e.val)) :
    slabCV q k v (ix2 i y) = v (ix4 b r h e) := by
  obtain ⟨n, hn⟩ := y
  obtain ⟨i, hi'⟩ := i
  dsimp only at hy hi
  subst hy hi
  pointwise [slabCV]
  rw [dif_neg (by omega), dif_neg (by omega), dif_neg (by omega), dif_neg (by omega), dif_pos (by omega), dif_pos (by omega)]
  congr 2
  · exact Fin.ext (by dsimp only; omega)
  · exact Fin.ext (by dsimp only; omega)

/-- The columns of ones of the context's array. -/
theorem slabCV_one (q : FVec Ideal S4096x256 .f32) (k : FVec Ideal S16x256x8x32 .f32) (v : FVec Ideal S16x256x4x64 .f32) (h : Fin 4) (e : Fin 64) (i : Fin 4096) (y : Fin 3840)
    (hy : y.val = 2048 + (128 * h.val + (64 + e.val))) :
    slabCV q k v (ix2 i y) = Ideal.ofBits FTy.f32 0x3F800000#32 := by
  obtain ⟨n, hn⟩ := y
  dsimp only at hy
  subst hy
  pointwise [slabCV]
  rw [dif_neg (by omega), dif_neg (by omega), dif_neg (by omega), dif_neg (by omega), dif_pos (by omega), dif_neg (by omega)]

/-- A scaled query. -/
theorem qV_apply (q : FVec Ideal S16x2048x8x32 .f32) (b : Fin 16) (r : Fin 2048) (u : Fin 8) (d : Fin 32) (i : Fin 32768) (x : Fin 256)
    (hi : i.val = 2048 * b.val + r.val) (hx : x.val = 32 * u.val + d.val) :
    qV q (ix2 i x) = q (ix4 b r u d) * (Ideal.ofBits FTy.f32 0x3E3504F3#32 * Ideal.div (Ideal.ofBits FTy.f32 0x3F800000#32) (Ideal.log (Ideal.ofBits FTy.f32 0x40000000#32))) := by
  obtain ⟨n, hn⟩ := x
  obtain ⟨i, hi'⟩ := i
  dsimp only at hx hi
  subst hx hi
  pointwise [qV]

/-- Lambda. -/
theorem lamV_apply (l : FVec Ideal S4x32 .f32) :
    lamV l ix0 = Ideal.exp (∑ d : Fin 32, l (ix2 0 d) * l (ix2 1 d)) - Ideal.exp (∑ d : Fin 32, l (ix2 2 d) * l (ix2 3 d)) + Ideal.ofBits FTy.f32 0x3E4CCCCD#32 := by
  pointwise [lamV]

end Cert.KernelIdeal.Attn
-- ==== Proof.Row.lean ====
module

public import Idealize.ShloMosaic.PureOps
public import Idealize.ShloMosaic.Lib.IdealHost

@[expose] public section

noncomputable section

open Idealize.ShloMosaic

namespace Cert.Row

/-- The pattern of negative infinity is the least extended real. -/
theorem bot_lit : Ideal.ofBits FTy.f32 0xFF800000#32 = ⊥ := by simp [Ideal.ofBits, Ideal.ieee]

/-- The pattern of infinity is the greatest extended real. -/
theorem top_lit : Ideal.ofBits FTy.f32 0x7F800000#32 = ⊤ := by simp [Ideal.ofBits, Ideal.ieee]

/-- The pattern of two is two. -/
theorem two_lit : Ideal.ofBits FTy.f32 0x40000000#32 = ((2 : ℝ) : EReal) := by
  simp [Ideal.ofBits, Ideal.ieee, -EReal.coe_mul]; norm_num

/-- The score's scale is a real. -/
theorem scale_lit : ∃ κ : ℝ, Ideal.ofBits FTy.f32 0x3E3504F3#32 = (κ : EReal) := by
  simp [Ideal.ofBits, Ideal.ieee, -EReal.coe_mul]

/-- Lambda's offset is a real. -/
theorem offset_lit : ∃ κ : ℝ, Ideal.ofBits FTy.f32 0x3E4CCCCD#32 = (κ : EReal) := by
  simp [Ideal.ofBits, Ideal.ieee, -EReal.coe_mul]

/-- A value whose absolute value is below infinity is a real. -/
theorem real_of_abs_lt (a : EReal) (h : max a (-a) < ⊤) : ∃ r : ℝ, a = (r : EReal) := by
  induction a with
  | bot => simp at h
  | top => simp at h
  | coe r => exact ⟨r, rfl⟩

/-- The sum of reals is a real. -/
theorem coe_sum {n : ℕ} (f : Fin n → ℝ) : (∑ j, (f j : EReal)) = ((∑ j, f j : ℝ) : EReal) := by
  induction n with
  | zero => simp
  | succ n ih => rw [Fin.sum_univ_succ, Fin.sum_univ_succ, ih, EReal.coe_add]

/-- The largest of finitely many reals is a real. -/
theorem fold_real {n : ℕ} (hn : 0 < n) (f : Fin n → ℝ) : ∃ M : ℝ, (Finset.univ.fold max (⊥ : EReal) fun j => (f j : EReal)) = (M : EReal) := by
  obtain ⟨i, -, hi⟩ := Finset.exists_mem_eq_sup (Finset.univ : Finset (Fin n)) ⟨⟨0, hn⟩, Finset.mem_univ _⟩ fun j => (f j : EReal)
  exact ⟨f i, hi⟩

/-- The larger of two reals is a real. -/
theorem max_real (a b : ℝ) : max (a : EReal) (b : EReal) = ((max a b : ℝ) : EReal) := (EReal.coe_strictMono.monotone.map_max).symm

/-- A quotient of reals by a positive real is the real quotient. -/
theorem div_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The reciprocal of the logarithm of two. -/
theorem recip_log : Ideal.div (Ideal.ofBits FTy.f32 0x3F800000#32) (Ideal.log (Ideal.ofBits FTy.f32 0x40000000#32)) = ((1 / Real.log 2 : ℝ) : EReal) := by
  rw [Ideal.ofBits_one_f32, two_lit, show Ideal.log ((2 : ℝ) : EReal) = ((Real.log 2 : ℝ) : EReal) from if_neg (by norm_num),
    show (1 : EReal) = ((1 : ℝ) : EReal) from rfl, div_real _ _ (Real.log_pos (by norm_num))]

/-- Two to the power of a scaled score less any real is the exponential of the score times a constant. -/
theorem exp2_shift (s κ M : ℝ) : FloatOps.exp2 (F := Ideal) (φ := .f32) (((s * (κ * (1 / Real.log 2)) : ℝ) : EReal) - (M : EReal))
    = ((Real.exp (s * κ) * Real.exp (-(M * Real.log 2)) : ℝ) : EReal) := by
  have hl : Real.log 2 ≠ 0 := (Real.log_pos (by norm_num)).ne'
  rw [← EReal.coe_sub]
  show ((Real.rpow 2 _ : ℝ) : EReal) = _
  rw [← Real.exp_add]
  congr 1
  refine (Real.rpow_def_of_pos (by norm_num) _).trans (congrArg Real.exp ?_)
  field_simp
  try ring

/-- A sum over all 2304 keys is the sum over the 2048 latent ones and the 256 of the context. -/
theorem sum_split (f : Fin 2304 → ℝ) : ∑ j, f j = (∑ j : Fin 2048, f ⟨j.val, by omega⟩) + ∑ j : Fin 256, f ⟨2048 + j.val, by omega⟩ :=
  Fin.sum_univ_add (a := 2048) (b := 256) f

/-- The softmax's denominator is positive. -/
theorem denom_pos (t : Fin 2304 → ℝ) : 0 < ∑ j, Real.exp (t j) :=
  Finset.sum_pos (fun _ _ => Real.exp_pos _) ⟨0, Finset.mem_univ _⟩

/-- The softmax-weighted value in reals. -/
def soft (t v : Fin 2304 → ℝ) : ℝ := (∑ j, Real.exp (t j) * v j) / ∑ j, Real.exp (t j)

/-- The weighted sum over the sum of weights is the softmax-weighted value, whatever the constant factor of the weights. -/
theorem kernel_row (t v : Fin 2304 → ℝ) (A : ℝ) (hA : 0 < A) (EL vL oL : Fin 2048 → EReal) (EC vC oC : Fin 256 → EReal)
    (hEL : ∀ j : Fin 2048, EL j = ((Real.exp (t ⟨j.val, by omega⟩) * A : ℝ) : EReal)) (hEC : ∀ j : Fin 256, EC j = ((Real.exp (t ⟨2048 + j.val, by omega⟩) * A : ℝ) : EReal))
    (hvL : ∀ j : Fin 2048, vL j = (v ⟨j.val, by omega⟩ : EReal)) (hvC : ∀ j : Fin 256, vC j = (v ⟨2048 + j.val, by omega⟩ : EReal))
    (hoL : ∀ j, oL j = 1) (hoC : ∀ j, oC j = 1) :
    Ideal.div ((∑ j, EL j * vL j) + ∑ j, EC j * vC j) ((∑ j, EL j * oL j) + ∑ j, EC j * oC j) = (soft t v : EReal) := by
  simp only [hEL, hEC, hvL, hvC, hoL, hoC, mul_one, ← EReal.coe_mul, coe_sum, ← EReal.coe_add]
  have h1 := sum_split fun j => Real.exp (t j) * A * v j
  have h2 := sum_split fun j => Real.exp (t j) * A
  rw [← h1, ← h2]
  have h3 : ∑ j, Real.exp (t j) * A * v j = (∑ j, Real.exp (t j) * v j) * A := by
    rw [Finset.sum_mul]; exact Finset.sum_congr rfl fun j _ => by ring
  rw [h3, ← Finset.sum_mul, div_real _ _ (mul_pos (denom_pos t) hA), soft, mul_div_mul_right _ _ hA.ne']

/-- The softmax in reals. -/
def prob (t : Fin 2304 → ℝ) (j : Fin 2304) : ℝ := Real.exp (t j) / ∑ j, Real.exp (t j)

/-- The exponentials of the scores less any real, over their sum, are the softmax. -/
theorem reference_row (t : Fin 2304 → ℝ) (M : ℝ) (e : Fin 2304 → EReal) (he : ∀ j, e j = Ideal.exp ((t j : EReal) - (M : EReal))) (j : Fin 2304) :
    Ideal.div (e j) (∑ j, e j) = (prob t j : EReal) := by
  have he' : ∀ j, e j = ((Real.exp (t j) * Real.exp (-M) : ℝ) : EReal) := fun j => by
    rw [he, ← EReal.coe_sub, ← Real.exp_add, sub_eq_add_neg]; rfl
  simp only [he', coe_sum]
  rw [← Finset.sum_mul, div_real _ _ (mul_pos (denom_pos t) (Real.exp_pos _)), prob, mul_div_mul_right _ _ (Real.exp_pos _).ne']

/-- The values weighted by the difference of two softmaxes are the difference of the softmax-weighted values. -/
theorem row_eq (t t' v : Fin 2304 → ℝ) (l : ℝ) : soft t v - l * soft t' v = ∑ j, v j * (prob t j - l * prob t' j) := by
  unfold soft prob
  rw [Finset.sum_div, Finset.sum_div, Finset.mul_sum, ← Finset.sum_sub_distrib]
  exact Finset.sum_congr rfl fun j _ => by ring

/-- A score in extended reals is the real score. -/
theorem score_real (q k : Fin 32 → ℝ) : (∑ d, (q d : EReal) * (k d : EReal)) = ((∑ d, q d * k d : ℝ) : EReal) := by
  simp only [← EReal.coe_mul, coe_sum]

/-- A score of scaled queries is the score, scaled. -/
theorem score_scaled (q k : Fin 32 → ℝ) (c : ℝ) : (∑ d, (q d : EReal) * (c : EReal) * (k d : EReal)) = (((∑ d, q d * k d) * c : ℝ) : EReal) := by
  simp only [← EReal.coe_mul, coe_sum, Finset.sum_mul]
  congr 1
  exact Finset.sum_congr rfl fun d _ => by ring

end Cert.Row
-- ==== Proof.KernelRow.lean ====
module

public import proofs.«01_k».proof.Proof.Host
public import proofs.«01_k».proof.Proof.Row

@[expose] public section

set_option maxRecDepth 16384

noncomputable section

open Idealize.ShloMosaic Idealize.ShloMosaic.TcCoe Idealize.SL.Sem

namespace Cert.Row

/-- Key `j` of sequence `b`: a latent one below 2048, one of the context from there on. -/
def key (k : Fin 16 → Fin 2048 → Fin 8 → Fin 32 → ℝ) (kc : Fin 16 → Fin 256 → Fin 8 → Fin 32 → ℝ) (b : Fin 16) (j : Fin 2304) (u : Fin 8) (d : Fin 32) : ℝ :=
  if h : j.val < 2048 then k b ⟨j.val, h⟩ u d else kc b ⟨j.val - 2048, by omega⟩ u d

/-- Value `j` of sequence `b`, likewise. -/
def val (v : Fin 16 → Fin 2048 → Fin 4 → Fin 64 → ℝ) (vc : Fin 16 → Fin 256 → Fin 4 → Fin 64 → ℝ) (b : Fin 16) (h : Fin 4) (e : Fin 64) (j : Fin 2304) : ℝ :=
  if hj : j.val < 2048 then v b ⟨j.val, hj⟩ h e else vc b ⟨j.val - 2048, by omega⟩ h e

/-- The scaled score of query `r` and key `j` in map `u`. -/
def score (κ : ℝ) (q k : Fin 16 → Fin 2048 → Fin 8 → Fin 32 → ℝ) (kc : Fin 16 → Fin 256 → Fin 8 → Fin 32 → ℝ) (b : Fin 16) (u : Fin 8) (r : Fin 2048) (j : Fin 2304) : ℝ :=
  (∑ d, q b r u d * key k kc b j u d) * κ

end Cert.Row

namespace Cert.KernelIdeal.Attn

open Cert.KernelIdeal Cert.KernelIdeal.Gen Cert.Row

variable (κ : ℝ) (hκ : Ideal.ofBits FTy.f32 0x3E3504F3#32 = (κ : EReal))
variable (Q : FVec Ideal S16x2048x8x32 .f32) (K : FVec Ideal S16x2048x8x32 .f32) (W : FVec Ideal S16x2048x4x64 .f32) (Z : FVec Ideal S4096x256 .f32) (KC : FVec Ideal S16x256x8x32 .f32) (WC : FVec Ideal S16x256x4x64 .f32)
variable (q k : Fin 16 → Fin 2048 → Fin 8 → Fin 32 → ℝ) (v : Fin 16 → Fin 2048 → Fin 4 → Fin 64 → ℝ) (kc : Fin 16 → Fin 256 → Fin 8 → Fin 32 → ℝ) (vc : Fin 16 → Fin 256 → Fin 4 → Fin 64 → ℝ)
variable (hq : ∀ b r u d, Q (ix4 b r u d) = (q b r u d : EReal)) (hk : ∀ b r u d, K (ix4 b r u d) = (k b r u d : EReal)) (hv : ∀ b r h e, W (ix4 b r h e) = (v b r h e : EReal))
variable (hkc : ∀ b r u d, KC (ix4 b r u d) = (kc b r u d : EReal)) (hvc : ∀ b r h e, WC (ix4 b r h e) = (vc b r h e : EReal))
variable (s : ℕ) (hs : s < 64) (ro : Fin 512) (b : Fin 16) (r : Fin 2048) (hi : 512 * s + ro.val = 2048 * b.val + r.val)

include hκ hq hi in
/-- A query of a tile, in reals: scaled by the score's scale over the logarithm of two. -/
theorem query_real (u : ℕ) (hu : u < 8) (d : Fin 32) :
    qblk (slabV (qV Q) K W) s hs (ix2 ro ⟨32 * u + d.val, by omega⟩) = (q b r ⟨u, hu⟩ d : EReal) * ((κ * (1 / Real.log 2) : ℝ) : EReal) :=
  (slabV_q (qV Q) K W ⟨512 * s + ro.val, by omega⟩ ⟨32 * u + d.val, by omega⟩ ⟨1024 + (32 * u + d.val), by omega⟩ rfl).trans
    ((qV_apply Q b r ⟨u, hu⟩ d _ _ hi rfl).trans (by rw [hq, hκ, recip_log, ← EReal.coe_mul κ]))

include hκ hq hk hi in
/-- A latent key's score, in reals. -/
theorem sl_real (u : ℕ) (hu : u < 8) (j : Fin 2048) :
    sl (qblk (slabV (qV Q) K W) s hs) (kblk (slabV (qV Q) K W) b.val b.isLt) u hu ro j
      = (((∑ d, q b r ⟨u, hu⟩ d * k b j ⟨u, hu⟩ d) * (κ * (1 / Real.log 2)) : ℝ) : EReal) := by
  rw [← score_scaled]
  unfold sl
  refine Finset.sum_congr rfl fun d _ => congrArg₂ (· * ·) (query_real κ hκ Q K W q hq s hs ro b r hi u hu d) ?_
  exact (slabV_k (qV Q) K W b j ⟨u, hu⟩ d ⟨2048 * b.val + j.val, by omega⟩ ⟨1280 + (32 * u + d.val), by omega⟩ rfl rfl).trans (hk b j ⟨u, hu⟩ d)

include hκ hq hkc hi in
/-- A context key's score, in reals. -/
theorem sc_real (u : ℕ) (hu : u < 8) (j : Fin 256) :
    sc (qblk (slabV (qV Q) K W) s hs) (kcblk (slabCV Z KC WC) b.val b.isLt) u hu ro j
      = (((∑ d, q b r ⟨u, hu⟩ d * kc b j ⟨u, hu⟩ d) * (κ * (1 / Real.log 2)) : ℝ) : EReal) := by
  rw [← score_scaled]
  unfold sc
  refine Finset.sum_congr rfl fun d _ => congrArg₂ (· * ·) (query_real κ hκ Q K W q hq s hs ro b r hi u hu d) ?_
  exact (slabCV_k Z KC WC b j ⟨u, hu⟩ d ⟨256 * b.val + j.val, by omega⟩ ⟨1280 + (32 * u + d.val), by omega⟩ rfl rfl).trans (hkc b j ⟨u, hu⟩ d)

include hκ hq hk hkc hi in
/-- The largest score of a query is a real. -/
theorem mx_real (u : ℕ) (hu : u < 8) : ∃ M : ℝ,
    mx (qblk (slabV (qV Q) K W) s hs) (kblk (slabV (qV Q) K W) b.val b.isLt) (kcblk (slabCV Z KC WC) b.val b.isLt) u hu ro = (M : EReal) := by
  unfold mx
  simp only [sl_real κ hκ Q K W q k hq hk s hs ro b r hi, sc_real κ hκ Q K W Z KC WC q kc hq hkc s hs ro b r hi, bot_lit]
  obtain ⟨M, hM⟩ := fold_real (n := 2048) (by omega) fun j => (∑ d, q b r ⟨u, hu⟩ d * k b j ⟨u, hu⟩ d) * (κ * (1 / Real.log 2))
  obtain ⟨M', hM'⟩ := fold_real (n := 256) (by omega) fun j => (∑ d, q b r ⟨u, hu⟩ d * kc b j ⟨u, hu⟩ d) * (κ * (1 / Real.log 2))
  rw [hM, hM', max_real]
  exact ⟨_, rfl⟩

include hκ hq hk hkc hv hvc hi in
/-- The kernel's softmax-weighted value is the real one. -/
theorem att_real (h : ℕ) (hh : h < 4) (u : Fin 8) (e : Fin 64) :
    att (vblk (slabV (qV Q) K W) b.val b.isLt) (vcblk (slabCV Z KC WC) b.val b.isLt)
        (EE (qblk (slabV (qV Q) K W) s hs) (kblk (slabV (qV Q) K W) b.val b.isLt) (kcblk (slabCV Z KC WC) b.val b.isLt)) h hh u ro e
      = (soft (score κ q k kc b u r) (val v vc b ⟨h, hh⟩ e) : EReal) := by
  obtain ⟨M, hM⟩ := mx_real κ hκ Q K W Z KC WC q k kc hq hk hkc s hs ro b r hi u.val u.isLt
  unfold att acc
  refine kernel_row _ _ (Real.exp (-(M * Real.log 2))) (Real.exp_pos _) _ _ _ _ _ _ (fun j => ?_) (fun j => ?_) (fun j => ?_) (fun j => ?_) (fun j => ?_) (fun j => ?_)
  · refine (EE_lat _ _ _ _ u.val u.isLt ro j rfl rfl rfl).trans ?_
    rw [hM, sl_real κ hκ Q K W q k hq hk s hs ro b r hi, exp2_shift]
    unfold score key
    simp only [j.isLt, dite_true]
  · refine (EE_ctx _ _ _ _ u.val u.isLt ro j rfl rfl rfl).trans ?_
    rw [hM, sc_real κ hκ Q K W Z KC WC q kc hq hkc s hs ro b r hi, exp2_shift]
    have h1 : ¬ 2048 + j.val < 2048 := by omega
    have h2 : 2048 + j.val - 2048 = j.val := by omega
    unfold score key
    simp only [h1, dite_false, h2]
  · refine (slabV_v (qV Q) K W b j ⟨h, hh⟩ e ⟨2048 * b.val + j.val, by omega⟩ ⟨2048 + (128 * h + e.val), by omega⟩ rfl rfl).trans ((hv b j ⟨h, hh⟩ e).trans ?_)
    unfold val
    simp only [j.isLt, dite_true]
  · refine (slabCV_v Z KC WC b j ⟨h, hh⟩ e ⟨256 * b.val + j.val, by omega⟩ ⟨2048 + (128 * h + e.val), by omega⟩ rfl rfl).trans ((hvc b j ⟨h, hh⟩ e).trans ?_)
    have h1 : ¬ 2048 + j.val < 2048 := by omega
    have h2 : 2048 + j.val - 2048 = j.val := by omega
    unfold val
    simp only [h1, dite_false, h2]
  · exact (slabV_one (qV Q) K W ⟨h, hh⟩ e ⟨2048 * b.val + j.val, by omega⟩ ⟨2048 + (128 * h + (e.val + 128 - 64) % 128), by omega⟩ (by dsimp only; omega)).trans Ideal.ofBits_one_f32
  · exact (slabCV_one Z KC WC ⟨h, hh⟩ e ⟨256 * b.val + j.val, by omega⟩ ⟨2048 + (128 * h + (e.val + 128 - 64) % 128), by omega⟩ (by dsimp only; omega)).trans Ideal.ofBits_one_f32

end Cert.KernelIdeal.Attn
-- ==== Proof.ReferenceRow.lean ====
module

public import proofs.«01_k».proof.Proof.Reference
public import proofs.«01_k».proof.Proof.KernelRow

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Row

variable (κ : ℝ) (hκ : Ideal.ofBits FTy.f32 0x3E3504F3#32 = (κ : EReal))
variable (Q : FVec Ideal S16x2048x8x32 .f32) (K : FVec Ideal S16x2048x8x32 .f32) (W : FVec Ideal S16x2048x4x64 .f32) (KC : FVec Ideal S16x256x8x32 .f32) (WC : FVec Ideal S16x256x4x64 .f32) (lam : FVec Ideal S_ .f32)
variable (q k : Fin 16 → Fin 2048 → Fin 8 → Fin 32 → ℝ) (v : Fin 16 → Fin 2048 → Fin 4 → Fin 64 → ℝ) (kc : Fin 16 → Fin 256 → Fin 8 → Fin 32 → ℝ) (vc : Fin 16 → Fin 256 → Fin 4 → Fin 64 → ℝ) (l : ℝ)
variable (hq : ∀ b r u d, Q (ix4 b r u d) = (q b r u d : EReal)) (hk : ∀ b r u d, K (ix4 b r u d) = (k b r u d : EReal)) (hv : ∀ b r h e, W (ix4 b r h e) = (v b r h e : EReal))
variable (hkc : ∀ b r u d, KC (ix4 b r u d) = (kc b r u d : EReal)) (hvc : ∀ b r h e, WC (ix4 b r h e) = (vc b r h e : EReal)) (hl : lam ix0 = (l : EReal))

include hκ hq hk hkc in
/-- A score, in reals. -/
theorem scores_real (b : Fin 16) (u : Fin 8) (r : Fin 2048) (j : Fin 2304) : scoresV Q (keysV K KC) (ix4 b u r j) = (score κ q k kc b u r j : EReal) := by
  have hkey : ∀ d, keysV K KC (ix4 b j u d) = (key k kc b j u d : EReal) := fun d => by
    rw [keysV_apply]
    unfold key
    split
    · exact hk ..
    · exact hkc ..
  rw [scoresV_apply, hκ]
  simp only [hq, hkey]
  rw [score_real, ← EReal.coe_mul]
  rfl

include hκ hq hk hkc in
/-- A softmax weight, in reals. -/
theorem prob_real (b : Fin 16) (u : Fin 8) (r : Fin 2048) (j : Fin 2304) : probV (expV (scoresV Q (keysV K KC))) (ix4 b u r j) = (prob (score κ q k kc b u r) j : EReal) := by
  obtain ⟨M, hM⟩ := fold_real (n := 2304) (by omega) (score κ q k kc b u r)
  rw [probV_apply]
  refine reference_row _ M (fun j => expV (scoresV Q (keysV K KC)) (ix4 b u r j)) (fun j => ?_) j
  rw [expV_apply]
  simp only [scores_real κ hκ Q K KC q k kc hq hk hkc, bot_lit]
  rw [hM, max_bot_left]

include hκ hq hk hkc hv hvc hl in
/-- The reference's attention of head `h` before its normalisation, in reals. -/
theorem out_real (b : Fin 16) (r : Fin 2048) (h : Fin 4) (e : Fin 64) :
    outV (valsV W WC) (diffV lam (probV (expV (scoresV Q (keysV K KC))))) (ix4 b r h e)
      = ((soft (score κ q k kc b ⟨h.val * 2, by omega⟩ r) (val v vc b h e) - l * soft (score κ q k kc b ⟨h.val * 2 + 1, by omega⟩ r) (val v vc b h e) : ℝ) : EReal) := by
  have hval : ∀ j, valsV W WC (ix4 b j h e) = (val v vc b h e j : EReal) := fun j => by
    rw [valsV_apply]
    unfold val
    split
    · exact hv ..
    · exact hvc ..
  rw [outV_apply]
  simp only [diffV_apply, hval, prob_real κ hκ Q K KC q k kc hq hk hkc, hl, ← EReal.coe_mul, ← EReal.coe_sub, coe_sum]
  rw [row_eq]

/-- Lambda of finite vectors is a real. -/
theorem lam_real (L : FVec Ideal S4x32 .f32) (x : Fin 4 → Fin 32 → ℝ) (hL : ∀ a d, L (ix2 a d) = (x a d : EReal)) : ∃ l : ℝ, lamV L ix0 = (l : EReal) := by
  obtain ⟨o, ho⟩ := offset_lit
  rw [lamV_apply, ho]
  simp only [hL, score_real]
  exact ⟨Real.exp (∑ d, x 0 d * x 1 d) - Real.exp (∑ d, x 2 d * x 3 d) + o, rfl⟩

end Cert.ReferenceIdeal.Attn
-- ==== Proof.Equation.lean ====
module

public import proofs.«01_k».proof.Proof.ReferenceRow
public import proofs.«01_k».proof.Proof.Gen.Pre_finite
public import proofs.«01_k».proof.Defs

@[expose] public section

set_option maxRecDepth 16384

noncomputable section

open Idealize.ShloMosaic Idealize.ShloMosaic.TcCoe Idealize.SL.Sem

namespace Cert.Equation

open Cert.Row
open Cert.KernelIdeal (S1 S1x64 S16x2048x8x32 S16x2048x4x64 S16x256x8x32 S16x256x4x64 S4096x256 S4x32 S64 S32768x256)
open Cert.KernelIdeal.Attn (slabV slabCV qV whole OO OH dif)
open Cert.ReferenceIdeal.Attn (normV outV valsV diffV probV expV scoresV keysV)

/-- Where every entry of an array is below infinity in absolute value, every entry is a real. -/
theorem real_of_mask {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) : ∃ r : ℝ, x i = (r : EReal) := by
  have h1 : Ideal.cmp .olt (max (x i) (-(x i))) (Ideal.ofBits FTy.f32 0x7F800000#32) = 1#1 := congrFun h i
  rw [top_lit] at h1
  refine real_of_abs_lt _ ?_
  by_contra hn
  simp [Ideal.cmp, hn] at h1

variable (Q : FVec Ideal S16x2048x8x32 .f32) (K : FVec Ideal S16x2048x8x32 .f32) (W : FVec Ideal S16x2048x4x64 .f32) (Z : FVec Ideal S4096x256 .f32) (KC : FVec Ideal S16x256x8x32 .f32) (WC : FVec Ideal S16x256x4x64 .f32)
  (L : FVec Ideal S4x32 .f32) (g : FVec Ideal S64 .f32)

/-- The gain's row is the gain. -/
theorem gain_apply (e : Fin 64) : shapeCast S1x64 g Cert.KernelIdeal.Gen.shapeCasts_S64_S1x64 (ix2 0 e) = g (ix1 e) := by
  pointwise

/-- The factor's single entry is lambda. -/
theorem factor_apply : shapeCast S1 (Cert.KernelIdeal.Attn.lamV L) Cert.KernelIdeal.Gen.shapeCasts_S_S1 (ix1 0) = Cert.ReferenceIdeal.Attn.lamV L ix0 := by
  rw [Cert.ReferenceIdeal.Attn.lamV_apply, ← Cert.KernelIdeal.Attn.lamV_apply]
  show Cert.KernelIdeal.Attn.lamV L _ = _
  exact congrArg _ (funext fun a => a.elim0)

/-- From finite queries, keys, values and lambda vectors the array the kernel fills is the reference's result. -/
theorem whole_eq (hQ : ∀ i, ∃ r : ℝ, Q i = (r : EReal)) (hK : ∀ i, ∃ r : ℝ, K i = (r : EReal)) (hW : ∀ i, ∃ r : ℝ, W i = (r : EReal))
    (hKC : ∀ i, ∃ r : ℝ, KC i = (r : EReal)) (hWC : ∀ i, ∃ r : ℝ, WC i = (r : EReal)) (hL : ∀ i, ∃ r : ℝ, L i = (r : EReal)) :
    whole (shapeCast S1 (Cert.KernelIdeal.Attn.lamV L) Cert.KernelIdeal.Gen.shapeCasts_S_S1) (shapeCast S1x64 g Cert.KernelIdeal.Gen.shapeCasts_S64_S1x64) (slabV (qV Q) K W) (slabCV Z KC WC)
      = normV g (outV (valsV W WC) (diffV (Cert.ReferenceIdeal.Attn.lamV L) (probV (expV (scoresV Q (keysV K KC)))))) := by
  choose q hq using hQ
  choose k hk using hK
  choose v hv using hW
  choose kc hkc using hKC
  choose vc hvc using hWC
  choose x hx using hL
  obtain ⟨κ, hκ⟩ := scale_lit
  obtain ⟨l, hl⟩ := Cert.ReferenceIdeal.Attn.lam_real L (fun a d => x (ix2 a d)) (fun a d => hx _)
  have key : ∀ (i : Fin 32768) (h : Fin 4) (e : Fin 64),
      dif (shapeCast S1 (Cert.KernelIdeal.Attn.lamV L) Cert.KernelIdeal.Gen.shapeCasts_S_S1) (Cert.KernelIdeal.Attn.vblk (slabV (qV Q) K W) (i.val / 2048) (by omega)) (Cert.KernelIdeal.Attn.vcblk (slabCV Z KC WC) (i.val / 2048) (by omega))
        (Cert.KernelIdeal.Attn.EE (Cert.KernelIdeal.Attn.qblk (slabV (qV Q) K W) (i.val / 512) (by omega)) (Cert.KernelIdeal.Attn.kblk (slabV (qV Q) K W) (i.val / 2048) (by omega)) (Cert.KernelIdeal.Attn.kcblk (slabCV Z KC WC) (i.val / 2048) (by omega)))
        h.val h.isLt ⟨i.val % 512, by omega⟩ e
      = outV (valsV W WC) (diffV (Cert.ReferenceIdeal.Attn.lamV L) (probV (expV (scoresV Q (keysV K KC))))) (ix4 ⟨i.val / 2048, by omega⟩ ⟨i.val % 2048, by omega⟩ h e) := by
    intro i h e
    rw [Cert.ReferenceIdeal.Attn.out_real κ hκ Q K W KC WC _ (fun b r u d => q (ix4 b r u d)) (fun b r u d => k (ix4 b r u d)) (fun b r h e => v (ix4 b r h e)) (fun b r u d => kc (ix4 b r u d)) (fun b r h e => vc (ix4 b r h e)) l
      (fun _ _ _ _ => hq _) (fun _ _ _ _ => hk _) (fun _ _ _ _ => hv _) (fun _ _ _ _ => hkc _) (fun _ _ _ _ => hvc _) hl]
    have a := Cert.KernelIdeal.Attn.att_real κ hκ Q K W Z KC WC (fun b r u d => q (ix4 b r u d)) (fun b r u d => k (ix4 b r u d)) (fun b r h e => v (ix4 b r h e)) (fun b r u d => kc (ix4 b r u d)) (fun b r h e => vc (ix4 b r h e))
      (fun _ _ _ _ => hq _) (fun _ _ _ _ => hk _) (fun _ _ _ _ => hv _) (fun _ _ _ _ => hkc _) (fun _ _ _ _ => hvc _) (i.val / 512) (by omega) ⟨i.val % 512, by omega⟩ ⟨i.val / 2048, by omega⟩ ⟨i.val % 2048, by omega⟩
      (by dsimp only; omega) h.val h.isLt
    unfold dif
    rw [a, a, factor_apply, hl, ← EReal.coe_mul, ← EReal.coe_sub]
    simp only [Nat.mul_comm 2 h.val]
  funext y
  obtain ⟨i, n, rfl⟩ : ∃ (i : Fin 32768) (n : Fin 256), y = ix2 i n := ⟨y 0, y 1, funext fun a => by fin_cases a <;> rfl⟩
  rw [Cert.ReferenceIdeal.Attn.normV_apply]
  have e0 := fun e => key i ⟨n.val / 64, by omega⟩ e
  unfold whole OO OH
  refine congrArg₂ (· * ·) (congrArg₂ (· * ·) (congrArg₂ (· * ·) (e0 _) ?_) (gain_apply g _)) rfl
  refine congrArg (fun z => Ideal.rsqrt (Ideal.div z _ + _)) (Finset.sum_congr rfl fun k _ => congrArg₂ (· * ·) (e0 k) (e0 k))

end Cert.Equation
-- ==== Proof.MergeRow.lean ====
module

public import Idealize.ShloMosaic.PureOps.Ideal

@[expose] public section

noncomputable section

open Idealize.ShloMosaic

namespace Cert.Mix

/-- One row of the modulated norm: the row over its root mean square, times gain and one plus scale, plus shift. -/
def hrow (x ng sc sh : Fin 1024 → EReal) (k : Fin 1024) : EReal :=
  x k * Ideal.rsqrt (Ideal.div (∑ j : Fin 1024, x j * x j) (Ideal.ofBits .f32 0x44800000#32) + Ideal.ofBits .f32 0x358637BD#32)
    * (ng k * (Ideal.ofBits .f32 0x3F800000#32 + sc k)) + sh k

/-- One branch's entry in a merged row: the sigmoid of the row's merge product, times the gated branch output's product with its up projection. -/
def branch (h : Fin 1024 → EReal) (w : Fin 1024 → Fin 1024 → EReal) (y s : Fin 256 → EReal) (u : Fin 256 → Fin 1024 → EReal) (n : Fin 1024) : EReal :=
  Ideal.logistic (∑ k : Fin 1024, h k * w k n) * ∑ j : Fin 256, (y j * s j) * u j n

/-- One entry of the result: the input plus the gate times the merged row's product with the output projection. -/
def merged (x ga a : Fin 1024 → EReal) (wo : Fin 1024 → Fin 1024 → EReal) (n : Fin 1024) : EReal :=
  x n + ga n * ∑ k : Fin 1024, a k * wo k n

/-- The four branches of one row summed; branch `i` is gated by columns `256 i` on of the row's gates. -/
def total (h : Fin 1024 → EReal) (w : Fin 4 → Fin 1024 → Fin 1024 → EReal) (y0 y1 y2 y3 : Fin 256 → EReal) (s : Fin 1024 → EReal) (u : Fin 4 → Fin 256 → Fin 1024 → EReal) (n : Fin 1024) : EReal :=
  branch h (w 0) y0 (fun j => s ⟨j.val, by omega⟩) (u 0) n + branch h (w 1) y1 (fun j => s ⟨256 + j.val, by omega⟩) (u 1) n
    + branch h (w 2) y2 (fun j => s ⟨512 + j.val, by omega⟩) (u 2) n + branch h (w 3) y3 (fun j => s ⟨768 + j.val, by omega⟩) (u 3) n

/-- One entry of the result, from its row of the input, the modulation, the branches' outputs and the gates. -/
def entry (x ng sc sh ga : Fin 1024 → EReal) (y0 y1 y2 y3 : Fin 256 → EReal) (s : Fin 1024 → EReal) (w : Fin 4 → Fin 1024 → Fin 1024 → EReal) (u : Fin 4 → Fin 256 → Fin 1024 → EReal)
    (wo : Fin 1024 → Fin 1024 → EReal) (n : Fin 1024) : EReal :=
  merged x ga (total (hrow x ng sc sh) w y0 y1 y2 y3 s u) wo n

/-- The result's entry, from pieces each equal to what it is read from. -/
theorem entry_of (x ng sc sh ga x' ng' sc' sh' ga' : Fin 1024 → EReal) (y0 y1 y2 y3 y0' y1' y2' y3' s0' s1' s2' s3' : Fin 256 → EReal) (s : Fin 1024 → EReal)
    (w : Fin 4 → Fin 1024 → Fin 1024 → EReal) (w0' w1' w2' w3' : Fin 1024 → Fin 1024 → EReal) (u : Fin 4 → Fin 256 → Fin 1024 → EReal) (u0' u1' u2' u3' : Fin 256 → Fin 1024 → EReal)
    (wo wo' : Fin 1024 → Fin 1024 → EReal) (n : Fin 1024) (hx : ∀ k, x' k = x k) (hng : ∀ k, ng' k = ng k) (hsc : ∀ k, sc' k = sc k) (hsh : ∀ k, sh' k = sh k) (hga : ∀ k, ga' k = ga k)
    (hy0 : ∀ j, y0' j = y0 j) (hy1 : ∀ j, y1' j = y1 j) (hy2 : ∀ j, y2' j = y2 j) (hy3 : ∀ j, y3' j = y3 j)
    (hs0 : ∀ j : Fin 256, s0' j = s ⟨j.val, by omega⟩) (hs1 : ∀ j : Fin 256, s1' j = s ⟨256 + j.val, by omega⟩) (hs2 : ∀ j : Fin 256, s2' j = s ⟨512 + j.val, by omega⟩) (hs3 : ∀ j : Fin 256, s3' j = s ⟨768 + j.val, by omega⟩)
    (hw0 : ∀ k n, w0' k n = w 0 k n) (hw1 : ∀ k n, w1' k n = w 1 k n) (hw2 : ∀ k n, w2' k n = w 2 k n) (hw3 : ∀ k n, w3' k n = w 3 k n)
    (hu0 : ∀ j n, u0' j n = u 0 j n) (hu1 : ∀ j n, u1' j n = u 1 j n) (hu2 : ∀ j n, u2' j n = u 2 j n) (hu3 : ∀ j n, u3' j n = u 3 j n) (hwo : ∀ k n, wo' k n = wo k n) :
    merged x' ga' (fun k => branch (hrow x' ng' sc' sh') w0' y0' s0' u0' k + branch (hrow x' ng' sc' sh') w1' y1' s1' u1' k
      + branch (hrow x' ng' sc' sh') w2' y2' s2' u2' k + branch (hrow x' ng' sc' sh') w3' y3' s3' u3' k) wo' n = entry x ng sc sh ga y0 y1 y2 y3 s w u wo n := by
  obtain rfl : x' = x := funext hx
  obtain rfl : ng' = ng := funext hng
  obtain rfl : sc' = sc := funext hsc
  obtain rfl : sh' = sh := funext hsh
  obtain rfl : ga' = ga := funext hga
  obtain rfl : y0' = y0 := funext hy0
  obtain rfl : y1' = y1 := funext hy1
  obtain rfl : y2' = y2 := funext hy2
  obtain rfl : y3' = y3 := funext hy3
  obtain rfl : wo' = wo := funext fun k => funext (hwo k)
  obtain rfl : s0' = _ := funext hs0
  obtain rfl : s1' = _ := funext hs1
  obtain rfl : s2' = _ := funext hs2
  obtain rfl : s3' = _ := funext hs3
  obtain rfl : w0' = w 0 := funext fun k => funext (hw0 k)
  obtain rfl : w1' = w 1 := funext fun k => funext (hw1 k)
  obtain rfl : w2' = w 2 := funext fun k => funext (hw2 k)
  obtain rfl : w3' = w 3 := funext fun k => funext (hw3 k)
  obtain rfl : u0' = u 0 := funext fun k => funext (hu0 k)
  obtain rfl : u1' = u 1 := funext fun k => funext (hu1 k)
  obtain rfl : u2' = u 2 := funext fun k => funext (hu2 k)
  obtain rfl : u3' = u 3 := funext fun k => funext (hu3 k)
  rfl

end Cert.Mix

end
-- ==== Proof.MergeBlock.lean ====
module

public import proofs.«01_k».proof.Proof.MergeRow
public import proofs.«01_k».proof.Proof.Gen.MergeIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MergeIdeal.Mrg

open Cert.MergeIdeal Cert.MergeIdeal.Gen Cert.Mix

/-- The rows as the body reads them. -/
theorem pay2_apply (x : Vec Ideal S512x1024 .f32) (r : Fin 512) (n : Fin 1024) : k0_pay2 (F := Ideal) x (ix2 r n) = x (ix2 r n) := by
  pointwise [k0_pay2]

/-- The rows after the modulated norm. -/
theorem pay3_apply (x : Vec Ideal S512x1024 .f32) (ng : Vec Ideal S1x1024 .f32) (sc sh : Vec Ideal S1x1x1024 .f32) (r : Fin 512) (n : Fin 1024) :
    k0_pay3 (F := Ideal) x ng sc sh (ix2 r n) = hrow (fun k => x (ix2 r k)) (fun k => ng (ix2 0 k)) (fun k => sc (ix3 0 0 k)) (fun k => sh (ix3 0 0 k)) n := by
  unfold hrow
  pointwise [k0_pay3, k0_pay2]

/-- A gated branch output. -/
theorem pay4_apply (y s : Vec Ideal S512x256 .bf16) (r : Fin 512) (n : Fin 256) : k0_pay4 (F := Ideal) y s (ix2 r n) = y (ix2 r n) * s (ix2 r n) := by
  pointwise [k0_pay4]

/-- A gated branch output. -/
theorem pay7_apply (y s : Vec Ideal S512x256 .bf16) (r : Fin 512) (n : Fin 256) : k0_pay7 (F := Ideal) y s (ix2 r n) = y (ix2 r n) * s (ix2 r n) := by
  pointwise [k0_pay7]

/-- The first branch's merge product. -/
theorem pay5_apply (x : Vec Ideal S512x1024 .f32) (ng : Vec Ideal S1x1024 .f32) (sc sh : Vec Ideal S1x1x1024 .f32) (w : Vec Ideal S1x1024x1024 .bf16) (r : Fin 512) (n : Fin 1024) :
    k0_pay5 (F := Ideal) x ng sc sh w (ix2 r n) = ∑ k : Fin 1024, k0_pay3 (F := Ideal) x ng sc sh (ix2 r k) * w (ix3 0 k n) := by
  pointwise [k0_pay5]

/-- The sigmoid of the third branch's merge product. -/
theorem pay8_apply (h : FVec Ideal S512x1024 .bf16) (w : Vec Ideal S1x1024x1024 .bf16) (r : Fin 512) (n : Fin 1024) :
    k0_pay8 (F := Ideal) h w (ix2 r n) = Ideal.logistic (∑ k : Fin 1024, h (ix2 r k) * w (ix3 0 k n)) := by
  pointwise [k0_pay8]

/-- The first two branches merged. -/
theorem pay6_apply (h : FVec Ideal S512x1024 .bf16) (y0 : FVec Ideal S512x256 .bf16) (p : FVec Ideal S512x1024 .f32) (u0 : Vec Ideal S1x256x1024 .bf16) (y s : Vec Ideal S512x256 .bf16)
    (w : Vec Ideal S1x1024x1024 .bf16) (u : Vec Ideal S1x256x1024 .bf16) (r : Fin 512) (n : Fin 1024) :
    k0_pay6 (F := Ideal) h y0 p u0 y s w u (ix2 r n) = Ideal.logistic (p (ix2 r n)) * (∑ j : Fin 256, y0 (ix2 r j) * u0 (ix3 0 j n))
      + branch (fun k => h (ix2 r k)) (fun k n => w (ix3 0 k n)) (fun j => y (ix2 r j)) (fun j => s (ix2 r j)) (fun j n => u (ix3 0 j n)) n := by
  unfold branch
  pointwise [k0_pay6]

/-- The stored rows, from the first two branches merged, the third's pieces and the fourth's. -/
theorem pay1_apply (x : FVec Ideal S512x1024 .f32) (h : FVec Ideal S512x1024 .bf16) (a : FVec Ideal S512x1024 .f32) (y2 : FVec Ideal S512x256 .bf16) (g : FVec Ideal S512x1024 .f32)
    (u2 : Vec Ideal S1x256x1024 .bf16) (y s : Vec Ideal S512x256 .bf16) (w : Vec Ideal S1x1024x1024 .bf16) (u : Vec Ideal S1x256x1024 .bf16) (ga : Vec Ideal S1x1x1024 .f32) (wo : Vec Ideal S1024x1024 .bf16)
    (r : Fin 512) (n : Fin 1024) :
    k0_pay1 (F := Ideal) x h a y2 g u2 y s w u ga wo (ix2 r n) = merged (fun k => x (ix2 r k)) (fun k => ga (ix3 0 0 k))
      (fun k => a (ix2 r k) + g (ix2 r k) * (∑ j : Fin 256, y2 (ix2 r j) * u2 (ix3 0 j k))
        + branch (fun k => h (ix2 r k)) (fun k n => w (ix3 0 k n)) (fun j => y (ix2 r j)) (fun j => s (ix2 r j)) (fun j n => u (ix3 0 j n)) k)
      (fun k n => wo (ix2 k n)) n := by
  unfold merged branch
  pointwise [k0_pay1]

/-- The input block read whole. -/
theorem ld_x (x : Vec Ideal S512x1024 .f32) (r : Fin 512) (k : Fin 1024) : View.ld x (Rect.unit ![0, 0] ![512, 1024] inb_S512x1024_S512x1024_0_0) (ix2 r k) = x (ix2 r k) := by
  pointwise

/-- The gain read whole. -/
theorem ld_ng (x : Vec Ideal S1x1024 .f32) (k : Fin 1024) : View.ld x (Rect.unit ![0, 0] ![1, 1024] inb_S1x1024_S1x1024_0_0) (ix2 0 k) = x (ix2 0 k) := by
  pointwise

/-- The shift read from the modulation. -/
theorem ld_md0 (x : Vec Ideal S1x3x1024 .f32) (k : Fin 1024) : View.ld x (Rect.unit ![0, 0, 0] ![1, 1, 1024] inb_S1x3x1024_S1x1x1024_0_0_0) (ix3 0 0 k) = x (ix3 0 0 k) := by
  pointwise

/-- The scale read from the modulation. -/
theorem ld_md1 (x : Vec Ideal S1x3x1024 .f32) (k : Fin 1024) : View.ld x (Rect.unit ![0, 1, 0] ![1, 1, 1024] inb_S1x3x1024_S1x1x1024_0_1_0) (ix3 0 0 k) = x (ix3 0 1 k) := by
  pointwise

/-- The gate read from the modulation. -/
theorem ld_md2 (x : Vec Ideal S1x3x1024 .f32) (k : Fin 1024) : View.ld x (Rect.unit ![0, 2, 0] ![1, 1, 1024] inb_S1x3x1024_S1x1x1024_0_2_0) (ix3 0 0 k) = x (ix3 0 2 k) := by
  pointwise

/-- A branch's output read whole. -/
theorem ld_y (x : Vec Ideal S512x256 .bf16) (r : Fin 512) (j : Fin 256) : View.ld x (Rect.unit ![0, 0] ![512, 256] inb_S512x256_S512x256_0_0) (ix2 r j) = x (ix2 r j) := by
  pointwise

/-- The gates of branch 0 read. -/
theorem ld_s0 (x : Vec Ideal S512x1024 .bf16) (r : Fin 512) (j : Fin 256) : View.ld x (Rect.unit ![0, 0] ![512, 256] inb_S512x1024_S512x256_0_0) (ix2 r j) = x (ix2 r ⟨j.val, by omega⟩) := by
  pointwise

/-- The up projection of branch 0 read. -/
theorem ld_u0 (x : Vec Ideal S4x256x1024 .bf16) (j : Fin 256) (n : Fin 1024) : View.ld x (Rect.unit ![0, 0, 0] ![1, 256, 1024] inb_S4x256x1024_S1x256x1024_0_0_0) (ix3 0 j n) = x (ix3 0 j n) := by
  pointwise

/-- The merge weights of branch 0 read. -/
theorem ld_w0 (x : Vec Ideal S4x1024x1024 .bf16) (k : Fin 1024) (n : Fin 1024) : View.ld x (Rect.unit ![0, 0, 0] ![1, 1024, 1024] inb_S4x1024x1024_S1x1024x1024_0_0_0) (ix3 0 k n) = x (ix3 0 k n) := by
  pointwise

/-- The gates of branch 1 read. -/
theorem ld_s1 (x : Vec Ideal S512x1024 .bf16) (r : Fin 512) (j : Fin 256) : View.ld x (Rect.unit ![0, 256] ![512, 256] inb_S512x1024_S512x256_0_256) (ix2 r j) = x (ix2 r ⟨256 + j.val, by omega⟩) := by
  pointwise

/-- The up projection of branch 1 read. -/
theorem ld_u1 (x : Vec Ideal S4x256x1024 .bf16) (j : Fin 256) (n : Fin 1024) : View.ld x (Rect.unit ![1, 0, 0] ![1, 256, 1024] inb_S4x256x1024_S1x256x1024_1_0_0) (ix3 0 j n) = x (ix3 1 j n) := by
  pointwise

/-- The merge weights of branch 1 read. -/
theorem ld_w1 (x : Vec Ideal S4x1024x1024 .bf16) (k : Fin 1024) (n : Fin 1024) : View.ld x (Rect.unit ![1, 0, 0] ![1, 1024, 1024] inb_S4x1024x1024_S1x1024x1024_1_0_0) (ix3 0 k n) = x (ix3 1 k n) := by
  pointwise

/-- The gates of branch 2 read. -/
theorem ld_s2 (x : Vec Ideal S512x1024 .bf16) (r : Fin 512) (j : Fin 256) : View.ld x (Rect.unit ![0, 512] ![512, 256] inb_S512x1024_S512x256_0_512) (ix2 r j) = x (ix2 r ⟨512 + j.val, by omega⟩) := by
  pointwise

/-- The up projection of branch 2 read. -/
theorem ld_u2 (x : Vec Ideal S4x256x1024 .bf16) (j : Fin 256) (n : Fin 1024) : View.ld x (Rect.unit ![2, 0, 0] ![1, 256, 1024] inb_S4x256x1024_S1x256x1024_2_0_0) (ix3 0 j n) = x (ix3 2 j n) := by
  pointwise

/-- The merge weights of branch 2 read. -/
theorem ld_w2 (x : Vec Ideal S4x1024x1024 .bf16) (k : Fin 1024) (n : Fin 1024) : View.ld x (Rect.unit ![2, 0, 0] ![1, 1024, 1024] inb_S4x1024x1024_S1x1024x1024_2_0_0) (ix3 0 k n) = x (ix3 2 k n) := by
  pointwise

/-- The gates of branch 3 read. -/
theorem ld_s3 (x : Vec Ideal S512x1024 .bf16) (r : Fin 512) (j : Fin 256) : View.ld x (Rect.unit ![0, 768] ![512, 256] inb_S512x1024_S512x256_0_768) (ix2 r j) = x (ix2 r ⟨768 + j.val, by omega⟩) := by
  pointwise

/-- The up projection of branch 3 read. -/
theorem ld_u3 (x : Vec Ideal S4x256x1024 .bf16) (j : Fin 256) (n : Fin 1024) : View.ld x (Rect.unit ![3, 0, 0] ![1, 256, 1024] inb_S4x256x1024_S1x256x1024_3_0_0) (ix3 0 j n) = x (ix3 3 j n) := by
  pointwise

/-- The merge weights of branch 3 read. -/
theorem ld_w3 (x : Vec Ideal S4x1024x1024 .bf16) (k : Fin 1024) (n : Fin 1024) : View.ld x (Rect.unit ![3, 0, 0] ![1, 1024, 1024] inb_S4x1024x1024_S1x1024x1024_3_0_0) (ix3 0 k n) = x (ix3 3 k n) := by
  pointwise

/-- The output projection read whole. -/
theorem ld_wo (x : Vec Ideal S1024x1024 .bf16) (k n : Fin 1024) : View.ld x (Rect.unit ![0, 0] ![1024, 1024] inb_S1024x1024_S1024x1024_0_0) (ix2 k n) = x (ix2 k n) := by
  pointwise

/-- What the body stores, from its blocks. -/
theorem out_A (c : Dev nD) (i : grid0.Coords) (arg1 : Memref sig .tc .vmem S512x1024 .f32) (harg1 : arg1.IsWhole) (arg2 : Memref sig .tc .vmem S1x3x1024 .f32) (harg2 : arg2.IsWhole) (arg3 : Memref sig .tc .vmem S1x1024 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x1024 .bf16) (harg8 : arg8.IsWhole) (arg9 : Memref sig .tc .vmem S4x256x1024 .bf16) (harg9 : arg9.IsWhole) (arg10 : Memref sig .tc .vmem S4x1024x1024 .bf16) (harg10 : arg10.IsWhole) (arg11 : Memref sig .tc .vmem S1024x1024 .bf16) (harg11 : arg11.IsWhole) (arg12 : Memref sig .tc .vmem S512x1024 .f32) (harg12 : arg12.IsWhole)
    (x0 : Vec Ideal S512x1024 .f32) (x1 : Vec Ideal S1x3x1024 .f32) (x2 : Vec Ideal S1x1024 .f32) (x3 : Vec Ideal S512x256 .bf16) (x4 : Vec Ideal S512x256 .bf16) (x5 : Vec Ideal S512x256 .bf16) (x6 : Vec Ideal S512x256 .bf16) (x7 : Vec Ideal S512x1024 .bf16) (x8 : Vec Ideal S4x256x1024 .bf16) (x9 : Vec Ideal S4x1024x1024 .bf16) (x10 : Vec Ideal S1024x1024 .bf16) (y : S512x1024.Idx) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y = entry (fun k => x0 (ix2 (y 0) k)) (fun k => x2 (ix2 0 k)) (fun k => x1 (ix3 0 1 k)) (fun k => x1 (ix3 0 0 k)) (fun k => x1 (ix3 0 2 k))
      (fun j => x3 (ix2 (y 0) j)) (fun j => x4 (ix2 (y 0) j)) (fun j => x5 (ix2 (y 0) j)) (fun j => x6 (ix2 (y 0) j)) (fun k => x7 (ix2 (y 0) k))
      (fun i k n => x9 (ix3 i k n)) (fun i j n => x8 (ix3 i j n)) (fun k n => x10 (ix2 k n)) (y 1) := by
  have hz : (![0, 0] : Fin 2 → Nat) = fun _ => 0 := funext fun a => by fin_cases a <;> rfl
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun0_A
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  idx_vars y
  rw [pay1_apply]
  simp only [pay6_apply, pay8_apply, pay7_apply, pay5_apply, pay4_apply, pay3_apply, pay2_apply]
  exact entry_of (n := y1) (hx := fun k => ld_x x0 y0 k) (hng := fun k => ld_ng x2 k) (hsc := fun k => ld_md1 x1 k) (hsh := fun k => ld_md0 x1 k) (hga := fun k => ld_md2 x1 k)
    (hy0 := fun j => ld_y x3 y0 j) (hy1 := fun j => ld_y x4 y0 j) (hy2 := fun j => ld_y x5 y0 j) (hy3 := fun j => ld_y x6 y0 j)
    (hs0 := fun j => ld_s0 x7 y0 j) (hs1 := fun j => ld_s1 x7 y0 j) (hs2 := fun j => ld_s2 x7 y0 j) (hs3 := fun j => ld_s3 x7 y0 j)
    (hw0 := fun k n => ld_w0 x9 k n) (hw1 := fun k n => ld_w1 x9 k n) (hw2 := fun k n => ld_w2 x9 k n) (hw3 := fun k n => ld_w3 x9 k n)
    (hu0 := fun k n => ld_u0 x8 k n) (hu1 := fun k n => ld_u1 x8 k n) (hu2 := fun k n => ld_u2 x8 k n) (hu3 := fun k n => ld_u3 x8 k n) (hwo := fun k n => ld_wo x10 k n)

end Cert.MergeIdeal.Mrg

end
-- ==== Proof.MergeArray.lean ====
module

public import proofs.«01_k».proof.Proof.MergeBlock
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MergeIdeal.Mrg

open Cert.MergeIdeal Cert.MergeIdeal.Gen Cert.Mix

/-- The array the kernel fills, row by row, from the arrays it reads: 2048 rows share one row of the modulation. -/
def whole (X : Vec Ideal S32768x1024 .f32) (M : Vec Ideal S24x3x1024 .f32) (G : Vec Ideal S1x1024 .f32) (A B H F : Vec Ideal S32768x256 .bf16) (S : Vec Ideal S32768x3840 .bf16)
    (U : Vec Ideal S4x256x1024 .bf16) (W : Vec Ideal S4x1024x1024 .bf16) (O : Vec Ideal S1024x1024 .bf16) : Vec Ideal S32768x1024 .f32 := fun i =>
  entry (fun k => X (ix2 (i 0) k)) (fun k => G (ix2 0 k)) (fun k => M (ix3 ⟨(i 0).val / 2048, by have : (i 0).val < 32768 := (i 0).isLt; omega⟩ 1 k))
    (fun k => M (ix3 ⟨(i 0).val / 2048, by have : (i 0).val < 32768 := (i 0).isLt; omega⟩ 0 k)) (fun k => M (ix3 ⟨(i 0).val / 2048, by have : (i 0).val < 32768 := (i 0).isLt; omega⟩ 2 k))
    (fun j => A (ix2 (i 0) j)) (fun j => B (ix2 (i 0) j)) (fun j => H (ix2 (i 0) j)) (fun j => F (ix2 (i 0) j)) (fun k => S (ix2 (i 0) ⟨k.val, by omega⟩))
    (fun e k n => W (ix3 e k n)) (fun e j n => U (ix3 e j n)) (fun k n => O (ix2 k n)) (i 1)

variable (m : (ℓ : Loc nD τ sig) → Buf (Elt Ideal) ℓ) (c : Dev nD)

/-- Where each window stands at each grid point: the rows at the point's own tile, the modulation at its sequence, the rest whole. -/
theorem idx : ∀ t : Fin cfg0.N, (win0_0.index t 0 = t.val ∧ win0_0.index t 1 = 0) ∧ (win0_1.index t 0 = t.val / 4 ∧ win0_1.index t 1 = 0 ∧ win0_1.index t 2 = 0)
    ∧ (win0_2.index t 0 = 0 ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0)
    ∧ (win0_8.index t 0 = 0 ∧ win0_8.index t 1 = 0 ∧ win0_8.index t 2 = 0) ∧ (win0_9.index t 0 = 0 ∧ win0_9.index t 1 = 0 ∧ win0_9.index t 2 = 0)
    ∧ (win0_10.index t 0 = 0 ∧ win0_10.index t 1 = 0) ∧ (win0_11.index t 0 = t.val ∧ win0_11.index t 1 = 0) := by
  decide +kernel

/-- The output is written back at every point. -/
theorem flush11 : ∀ t : Fin cfg0.N, (cfg0.win 11).flush t = true := by
  decide +kernel

/-- The input window's block. -/
theorem iblk0 (t : Fin cfg0.N) (r : Fin 512) (k : Fin 1024) : (iblk m c 0 t : Vec Ideal S512x1024 .f32) (ix2 r k) = V m c main_v19 (ix2 ⟨512 * t.val + r.val, by have := t.isLt; have : cfg0.N = 64 := N_0; omega⟩ k) := by
  have h := (idx t).1
  unfold iblk
  rw [View.read_apply]
  show V m c main_v19 _ = V m c main_v19 _
  congr 1
  funext a
  apply Fin.ext
  match a with
  | ⟨0, _⟩ => show win0_0.index t 0 * 512 + 1 * r.val = 512 * t.val + r.val; rw [h.1]; omega
  | ⟨1, _⟩ => show win0_0.index t 1 * 1024 + 1 * k.val = k.val; rw [h.2]; omega

/-- The modulation window's block. -/
theorem iblk1 (t : Fin cfg0.N) (e : Fin 3) (k : Fin 1024) : (iblk m c 1 t : Vec Ideal S1x3x1024 .f32) (ix3 0 e k) = V m c main_v5 (ix3 ⟨t.val / 4, by have := t.isLt; have : cfg0.N = 64 := N_0; omega⟩ e k) := by
  have h := (idx t).2.1
  unfold iblk
  rw [View.read_apply]
  show V m c main_v5 _ = V m c main_v5 _
  congr 1
  funext a
  apply Fin.ext
  match a with
  | ⟨0, _⟩ => show win0_1.index t 0 * 1 + 1 * 0 = t.val / 4; rw [h.1]; omega
  | ⟨1, _⟩ => show win0_1.index t 1 * 3 + 1 * e.val = e.val; rw [h.2.1]; omega
  | ⟨2, _⟩ => show win0_1.index t 2 * 1024 + 1 * k.val = k.val; rw [h.2.2]; omega

/-- The gain's window: the whole array. -/
theorem iblk2 (t : Fin cfg0.N) (k : Fin 1024) : (iblk m c 2 t : Vec Ideal S1x1024 .f32) (ix2 0 k) = V m c main_v20 (ix2 0 k) := by
  have h := (idx t).2.2.1
  unfold iblk
  rw [View.read_apply]
  show V m c main_v20 _ = V m c main_v20 _
  congr 1
  funext a
  apply Fin.ext
  match a with
  | ⟨0, _⟩ => show win0_2.index t 0 * 1 + 1 * 0 = 0; rw [h.1]
  | ⟨1, _⟩ => show win0_2.index t 1 * 1024 + 1 * k.val = k.val; rw [h.2]; omega

/-- The block of branch 0's outputs. -/
theorem iblk3 (t : Fin cfg0.N) (r : Fin 512) (k : Fin 256) : (iblk m c 3 t : Vec Ideal S512x256 .bf16) (ix2 r k) = V m c main_v12 (ix2 ⟨512 * t.val + r.val, by have := t.isLt; have : cfg0.N = 64 := N_0; omega⟩ k) := by
  have h := (idx t).2.2.2.1
  unfold iblk
  rw [View.read_apply]
  show V m c main_v12 _ = V m c main_v12 _
  congr 1
  funext a
  apply Fin.ext
  match a with
  | ⟨0, _⟩ => show win0_3.index t 0 * 512 + 1 * r.val = 512 * t.val + r.val; rw [h.1]; omega
  | ⟨1, _⟩ => show win0_3.index t 1 * 256 + 1 * k.val = k.val; rw [h.2]; omega

/-- The block of branch 1's outputs. -/
theorem iblk4 (t : Fin cfg0.N) (r : Fin 512) (k : Fin 256) : (iblk m c 4 t : Vec Ideal S512x256 .bf16) (ix2 r k) = V m c main_v14 (ix2 ⟨512 * t.val + r.val, by have := t.isLt; have : cfg0.N = 64 := N_0; omega⟩ k) := by
  have h := (idx t).2.2.2.2.1
  unfold iblk
  rw [View.read_apply]
  show V m c main_v14 _ = V m c main_v14 _
  congr 1
  funext a
  apply Fin.ext
  match a with
  | ⟨0, _⟩ => show win0_4.index t 0 * 512 + 1 * r.val = 512 * t.val + r.val; rw [h.1]; omega
  | ⟨1, _⟩ => show win0_4.index t 1 * 256 + 1 * k.val = k.val; rw [h.2]; omega

/-- The block of branch 2's outputs. -/
theorem iblk5 (t : Fin cfg0.N) (r : Fin 512) (k : Fin 256) : (iblk m c 5 t : Vec Ideal S512x256 .bf16) (ix2 r k) = V m c main_v16 (ix2 ⟨512 * t.val + r.val, by have := t.isLt; have : cfg0.N = 64 := N_0; omega⟩ k) := by
  have h := (idx t).2.2.2.2.2.1
  unfold iblk
  rw [View.read_apply]
  show V m c main_v16 _ = V m c main_v16 _
  congr 1
  funext a
  apply Fin.ext
  match a with
  | ⟨0, _⟩ => show win0_5.index t 0 * 512 + 1 * r.val = 512 * t.val + r.val; rw [h.1]; omega
  | ⟨1, _⟩ => show win0_5.index t 1 * 256 + 1 * k.val = k.val; rw [h.2]; omega

/-- The block of branch 3's outputs. -/
theorem iblk6 (t : Fin cfg0.N) (r : Fin 512) (k : Fin 256) : (iblk m c 6 t : Vec Ideal S512x256 .bf16) (ix2 r k) = V m c main_v18 (ix2 ⟨512 * t.val + r.val, by have := t.isLt; have : cfg0.N = 64 := N_0; omega⟩ k) := by
  have h := (idx t).2.2.2.2.2.2.1
  unfold iblk
  rw [View.read_apply]
  show V m c main_v18 _ = V m c main_v18 _
  congr 1
  funext a
  apply Fin.ext
  match a with
  | ⟨0, _⟩ => show win0_6.index t 0 * 512 + 1 * r.val = 512 * t.val + r.val; rw [h.1]; omega
  | ⟨1, _⟩ => show win0_6.index t 1 * 256 + 1 * k.val = k.val; rw [h.2]; omega

/-- The gates' block: the first 1024 columns of their array. -/
theorem iblk7 (t : Fin cfg0.N) (r : Fin 512) (k : Fin 1024) : (X0_7 m c t : Vec Ideal S512x1024 .bf16) (ix2 r k) = V m c main_v10 (ix2 ⟨512 * t.val + r.val, by have := t.isLt; have : cfg0.N = 64 := N_0; omega⟩ ⟨k.val, by omega⟩) := by
  have h := (idx t).2.2.2.2.2.2.2.1
  unfold X0_7 Pipeline.Window.fill iblk
  rw [dif_pos (moved0_7 t _), View.read_apply]
  show V m c main_v10 _ = V m c main_v10 _
  congr 1
  funext a
  apply Fin.ext
  match a with
  | ⟨0, _⟩ => show win0_7.index t 0 * 512 + 1 * r.val = 512 * t.val + r.val; rw [h.1]; omega
  | ⟨1, _⟩ => show win0_7.index t 1 * 1024 + 1 * k.val = k.val; rw [h.2]; omega

/-- The up projections' window: the whole array. -/
theorem iblk8 (t : Fin cfg0.N) (e : Fin 4) (j : Fin 256) (n : Fin 1024) : (iblk m c 8 t : Vec Ideal S4x256x1024 .bf16) (ix3 e j n) = V m c main_v21 (ix3 e j n) := by
  have h := (idx t).2.2.2.2.2.2.2.2.1
  unfold iblk
  rw [View.read_apply]
  show V m c main_v21 _ = V m c main_v21 _
  congr 1
  funext a
  apply Fin.ext
  match a with
  | ⟨0, _⟩ => show win0_8.index t 0 * 4 + 1 * e.val = e.val; rw [h.1]; omega
  | ⟨1, _⟩ => show win0_8.index t 1 * 256 + 1 * j.val = j.val; rw [h.2.1]; omega
  | ⟨2, _⟩ => show win0_8.index t 2 * 1024 + 1 * n.val = n.val; rw [h.2.2]; omega

/-- The merge weights' window: the whole array. -/
theorem iblk9 (t : Fin cfg0.N) (e : Fin 4) (k n : Fin 1024) : (iblk m c 9 t : Vec Ideal S4x1024x1024 .bf16) (ix3 e k n) = V m c main_v22 (ix3 e k n) := by
  have h := (idx t).2.2.2.2.2.2.2.2.2.1
  unfold iblk
  rw [View.read_apply]
  show V m c main_v22 _ = V m c main_v22 _
  congr 1
  funext a
  apply Fin.ext
  match a with
  | ⟨0, _⟩ => show win0_9.index t 0 * 4 + 1 * e.val = e.val; rw [h.1]; omega
  | ⟨1, _⟩ => show win0_9.index t 1 * 1024 + 1 * k.val = k.val; rw [h.2.1]; omega
  | ⟨2, _⟩ => show win0_9.index t 2 * 1024 + 1 * n.val = n.val; rw [h.2.2]; omega

/-- The output projection's window: the whole array. -/
theorem iblk10 (t : Fin cfg0.N) (k n : Fin 1024) : (iblk m c 10 t : Vec Ideal S1024x1024 .bf16) (ix2 k n) = V m c main_v23 (ix2 k n) := by
  have h := (idx t).2.2.2.2.2.2.2.2.2.2.1
  unfold iblk
  rw [View.read_apply]
  show V m c main_v23 _ = V m c main_v23 _
  congr 1
  funext a
  apply Fin.ext
  match a with
  | ⟨0, _⟩ => show win0_10.index t 0 * 1024 + 1 * k.val = k.val; rw [h.1]; omega
  | ⟨1, _⟩ => show win0_10.index t 1 * 1024 + 1 * n.val = n.val; rw [h.2]; omega

/-- What the kernel's array is shown to hold. -/
abbrev result : Buf (Elt Ideal) ((c : Thread nD τ).loc main_v24) :=
  whole (V m c main_v19) (V m c main_v5) (V m c main_v20) (V m c main_v12) (V m c main_v14) (V m c main_v16) (V m c main_v18) (V m c main_v10) (V m c main_v21) (V m c main_v22) (V m c main_v23)

/-- The kernel's array at row `r` of tile `s`. -/
theorem whole_at (X : Vec Ideal S32768x1024 .f32) (M : Vec Ideal S24x3x1024 .f32) (G : Vec Ideal S1x1024 .f32) (A B H F : Vec Ideal S32768x256 .bf16) (S : Vec Ideal S32768x3840 .bf16)
    (U : Vec Ideal S4x256x1024 .bf16) (W : Vec Ideal S4x1024x1024 .bf16) (O : Vec Ideal S1024x1024 .bf16) (s : ℕ) (hs : s < 64) (r : Fin 512) (i : S32768x1024.Idx) (n : Fin 1024)
    (h0 : (i 0).val = 512 * s + r.val) (h1 : (i 1).val = n.val) :
    whole X M G A B H F S U W O i = entry (fun k => X (ix2 ⟨512 * s + r.val, by omega⟩ k)) (fun k => G (ix2 0 k)) (fun k => M (ix3 ⟨s / 4, by omega⟩ 1 k))
      (fun k => M (ix3 ⟨s / 4, by omega⟩ 0 k)) (fun k => M (ix3 ⟨s / 4, by omega⟩ 2 k))
      (fun j => A (ix2 ⟨512 * s + r.val, by omega⟩ j)) (fun j => B (ix2 ⟨512 * s + r.val, by omega⟩ j)) (fun j => H (ix2 ⟨512 * s + r.val, by omega⟩ j)) (fun j => F (ix2 ⟨512 * s + r.val, by omega⟩ j))
      (fun k => S (ix2 ⟨512 * s + r.val, by omega⟩ ⟨k.val, by omega⟩))
      (fun e k n => W (ix3 e k n)) (fun e j n => U (ix3 e j n)) (fun k n => O (ix2 k n)) n := by
  idx_vars i
  obtain rfl : i0 = ⟨512 * s + r.val, by clear h0; omega⟩ := Fin.ext h0
  obtain rfl : i1 = n := Fin.ext h1
  have e : (⟨(512 * s + r.val) / 2048, by omega⟩ : Fin 24) = ⟨s / 4, by omega⟩ := Fin.ext (by show (512 * s + r.val) / 2048 = s / 4; omega)
  rw [← e]
  rfl

/-- The body's result at a point, from the blocks, is that from the arrays. -/
theorem point (t : Fin cfg0.N) (r : Fin 512) (n : Fin 1024) :
    entry (fun k => (iblk m c 0 t : Vec Ideal S512x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k)) (fun k => (iblk m c 1 t : Vec Ideal S1x3x1024 .f32) (ix3 0 2 k))
      (fun j => (iblk m c 3 t : Vec Ideal S512x256 .bf16) (ix2 r j)) (fun j => (iblk m c 4 t : Vec Ideal S512x256 .bf16) (ix2 r j))
      (fun j => (iblk m c 5 t : Vec Ideal S512x256 .bf16) (ix2 r j)) (fun j => (iblk m c 6 t : Vec Ideal S512x256 .bf16) (ix2 r j)) (fun k => (X0_7 m c t : Vec Ideal S512x1024 .bf16) (ix2 r k))
      (fun e k n => (iblk m c 9 t : Vec Ideal S4x1024x1024 .bf16) (ix3 e k n)) (fun e j n => (iblk m c 8 t : Vec Ideal S4x256x1024 .bf16) (ix3 e j n)) (fun k n => (iblk m c 10 t : Vec Ideal S1024x1024 .bf16) (ix2 k n)) n
    = entry (fun k => V m c main_v19 (ix2 ⟨512 * t.val + r.val, by have := t.isLt; have : cfg0.N = 64 := N_0; omega⟩ k)) (fun k => V m c main_v20 (ix2 0 k)) (fun k => V m c main_v5 (ix3 ⟨t.val / 4, by have := t.isLt; have : cfg0.N = 64 := N_0; omega⟩ 1 k)) (fun k => V m c main_v5 (ix3 ⟨t.val / 4, by have := t.isLt; have : cfg0.N = 64 := N_0; omega⟩ 0 k)) (fun k => V m c main_v5 (ix3 ⟨t.val / 4, by have := t.isLt; have : cfg0.N = 64 := N_0; omega⟩ 2 k))
      (fun j => V m c main_v12 (ix2 ⟨512 * t.val + r.val, by have := t.isLt; have : cfg0.N = 64 := N_0; omega⟩ j)) (fun j => V m c main_v14 (ix2 ⟨512 * t.val + r.val, by have := t.isLt; have : cfg0.N = 64 := N_0; omega⟩ j)) (fun j => V m c main_v16 (ix2 ⟨512 * t.val + r.val, by have := t.isLt; have : cfg0.N = 64 := N_0; omega⟩ j)) (fun j => V m c main_v18 (ix2 ⟨512 * t.val + r.val, by have := t.isLt; have : cfg0.N = 64 := N_0; omega⟩ j))
      (fun k => V m c main_v10 (ix2 ⟨512 * t.val + r.val, by have := t.isLt; have : cfg0.N = 64 := N_0; omega⟩ ⟨k.val, by omega⟩))
      (fun e k n => V m c main_v22 (ix3 e k n)) (fun e j n => V m c main_v21 (ix3 e j n)) (fun k n => V m c main_v23 (ix2 k n)) n := by
  simp only [iblk0, iblk1, iblk2, iblk3, iblk4, iblk5, iblk6, iblk7, iblk8, iblk9, iblk10]

/-- What a point writes back is its tile of that array. -/
theorem flushed_eq (t : Fin cfg0.N) (hf : (cfg0.win 11).flush t = true) :
    (dats m 0 c).flushed 11 t = ((cfg0.win 11).blk t).view.read (Elt Ideal) (result m c) := by
  have hN : cfg0.N = 64 := N_0
  have hlt := t.isLt
  have h := (idx t).2.2.2.2.2.2.2.2.2.2.2
  rw [Value.flushed11_A m c t]
  funext j
  rw [View.read_apply]
  refine (out_A ..).trans ?_
  refine Eq.trans ?_ (whole_at _ _ _ _ _ _ _ _ _ _ _ t.val (by omega) ((cfg0.win 11).xinj (grid0.coords t) j 0) _ ((cfg0.win 11).xinj (grid0.coords t) j 1) ?_ ?_).symm
  · exact point m c t _ _
  · show win0_11.index t 0 * 512 + 1 * (j 0).val = 512 * t.val + (j 0).val
    rw [h.1]; omega
  · show win0_11.index t 1 * 1024 + 1 * (j 1).val = (j 1).val
    rw [h.2]; omega

/-- The tiles cover the array. -/
theorem cover (i : S32768x1024.Idx) : ∃ t : Fin cfg0.N, (cfg0.win 11).flush t = true ∧ i ∈ ((cfg0.win 11).blk t).view.set := by
  have h0 : (i 0 : ℕ) < 32768 := (i 0).isLt
  have h1 : (i 1 : ℕ) < 1024 := (i 1).isLt
  have hN : cfg0.N = 64 := N_0
  obtain ⟨t, ht⟩ : ∃ t : Fin cfg0.N, t.val = (i 0).val / 512 := ⟨⟨(i 0).val / 512, by omega⟩, rfl⟩
  refine ⟨t, flush11 t, ?_⟩
  have h := (idx t).2.2.2.2.2.2.2.2.2.2.2
  show i ∈ ((View.whole main_v24).slice (win0_11.rect t)).set
  rw [View.set_slice_whole, Rect.mem_set_unit]
  intro a
  match a with
  | ⟨0, _⟩ => show win0_11.index t 0 * 512 ≤ (i 0 : ℕ) ∧ (i 0 : ℕ) < win0_11.index t 0 * 512 + 512
              rw [h.1]; omega
  | ⟨1, _⟩ => show win0_11.index t 1 * 1024 ≤ (i 1 : ℕ) ∧ (i 1 : ℕ) < win0_11.index t 1 * 1024 + 1024
              rw [h.2]; omega

/-- So the array ends as stated. -/
theorem final : (dats m 0 c).arrAt 11 cfg0.N = result m c :=
  (dats m 0 c).arrAt_eq_of_cover 11 (result m c) (flushed_eq m c) cover

end Cert.MergeIdeal.Mrg

end
-- ==== Proof.MergeHost.lean ====
module

public import proofs.«01_k».proof.Proof.MergeArray
public import Idealize.ShloMosaic.Lib.StableHlo.Run
public import Idealize.ShloMosaic.Lib.Claim

@[expose] public section

set_option maxRecDepth 16384

noncomputable section

open Idealize.ShloMosaic Idealize.ShloMosaic.TcCoe Idealize.SL.Sem

namespace Cert.MergeIdeal.Mrg

open Cert.MergeIdeal Cert.MergeIdeal.Gen Cert.Mix

variable (m : (ℓ : Loc nD τ sig) → Buf (Elt Ideal) ℓ) (c : Dev nD)

/-- The modulation's three rows for each sequence, stacked, then eight rows of zeros. -/
def modV (sh sc ga : FVec Ideal S16x1024 .f32) : FVec Ideal S24x3x1024 .f32 :=
  concatenate S24x3x1024 0 [⟨S16x3x1024, concatenate S16x3x1024 1 [⟨S16x1x1024, broadcastInDim S16x1x1024 ![0, 2] bcast_S16x1024_S16x1x1024_0_2 sh⟩, ⟨S16x1x1024, broadcastInDim S16x1x1024 ![0, 2] bcast_S16x1024_S16x1x1024_0_2 sc⟩,
      ⟨S16x1x1024, broadcastInDim S16x1x1024 ![0, 2] bcast_S16x1024_S16x1x1024_0_2 ga⟩] concatenates_S16x1x1024_S16x1x1024_S16x1x1024_S16x3x1024_d1⟩,
    ⟨S8x3x1024, broadcastInDim S8x3x1024 ![] bcast_S_S8x3x1024 (constant S_ .f32 0x00000000#32)⟩] concatenates_S16x3x1024_S8x3x1024_S24x3x1024_d0

/-- The gates: the gate path times its sigmoid. -/
def siluV (g : FVec Ideal S16x2048x1024 .f32) : FVec Ideal S16x2048x1024 .f32 :=
  mulf g (Host.divf (broadcastInDim S16x2048x1024 ![] bcast_S_S16x2048x1024 (constant S_ .f32 0x3F800000#32))
    (addf (broadcastInDim S16x2048x1024 ![] bcast_S_S16x2048x1024 (constant S_ .f32 0x3F800000#32)) (Host.exp (Host.negf g))))

/-- The array the gates stand in: gates, then zeros. -/
def gatesV (g : FVec Ideal S16x2048x1024 .f32) : FVec Ideal S32768x3840 .bf16 :=
  truncf .bf16 (concatenate S32768x3840 1 [⟨S32768x1024, shapeCast S32768x1024 g shapeCasts_S16x2048x1024_S32768x1024⟩,
    ⟨S32768x2816, broadcastInDim S32768x2816 ![] bcast_S_S32768x2816 (constant S_ .f32 0x00000000#32)⟩] concatenates_S32768x1024_S32768x2816_S32768x3840_d1) bitsLt_bf16_f32

/-- A branch's outputs, one row a token. -/
def yV (y : FVec Ideal S16x2048x256 .f32) : FVec Ideal S32768x256 .bf16 := truncf .bf16 (shapeCast S32768x256 y shapeCasts_S16x2048x256_S32768x256) bitsLt_bf16_f32

/-- The input, one row a token. -/
def xV (x : FVec Ideal S16x2048x1024 .f32) : FVec Ideal S32768x1024 .f32 := shapeCast S32768x1024 x shapeCasts_S16x2048x1024_S32768x1024

/-- The gain as a row. -/
def ngV (g : FVec Ideal S1024 .f32) : FVec Ideal S1x1024 .f32 := shapeCast S1x1024 g shapeCasts_S1024_S1x1024

/-- The up projections, in the narrower type. -/
def uV (w : FVec Ideal S4x256x1024 .f32) : FVec Ideal S4x256x1024 .bf16 := truncf .bf16 w bitsLt_bf16_f32

/-- The merge weights, in the narrower type. -/
def wV (w : FVec Ideal S4x1024x1024 .f32) : FVec Ideal S4x1024x1024 .bf16 := truncf .bf16 w bitsLt_bf16_f32

/-- The output projection, in the narrower type. -/
def oV (w : FVec Ideal S1024x1024 .f32) : FVec Ideal S1024x1024 .bf16 := truncf .bf16 w bitsLt_bf16_f32

set_option maxHeartbeats 1000000 in
/-- What the host leaves in the array of the modulation's rows. -/
theorem V5 : V m c main_v5 = modV (m ((c.tc : Thread nD τ).loc main_arg1)) (m ((c.tc : Thread nD τ).loc main_arg2)) (m ((c.tc : Thread nD τ).loc main_arg3)) := by
  unfold_abbrev_sides
  rfl

set_option maxHeartbeats 1000000 in
/-- What the host leaves in the array of the gates' array. -/
theorem V10 : V m c main_v10 = gatesV (siluV (m ((c.tc : Thread nD τ).loc main_arg9))) := by
  unfold_abbrev_sides
  rfl

set_option maxHeartbeats 1000000 in
/-- What the host leaves in the array of branch 0's outputs. -/
theorem V12 : V m c main_v12 = yV (m ((c.tc : Thread nD τ).loc main_arg5)) := by
  unfold_abbrev_sides
  rfl

set_option maxHeartbeats 1000000 in
/-- What the host leaves in the array of branch 1's outputs. -/
theorem V14 : V m c main_v14 = yV (m ((c.tc : Thread nD τ).loc main_arg6)) := by
  unfold_abbrev_sides
  rfl

set_option maxHeartbeats 1000000 in
/-- What the host leaves in the array of branch 2's outputs. -/
theorem V16 : V m c main_v16 = yV (m ((c.tc : Thread nD τ).loc main_arg7)) := by
  unfold_abbrev_sides
  rfl

set_option maxHeartbeats 1000000 in
/-- What the host leaves in the array of branch 3's outputs. -/
theorem V18 : V m c main_v18 = yV (m ((c.tc : Thread nD τ).loc main_arg8)) := by
  unfold_abbrev_sides
  rfl

set_option maxHeartbeats 1000000 in
/-- What the host leaves in the array of the input's rows. -/
theorem V19 : V m c main_v19 = xV (m ((c.tc : Thread nD τ).loc main_arg0)) := by
  unfold_abbrev_sides
  rfl

set_option maxHeartbeats 1000000 in
/-- What the host leaves in the array of the gain's row. -/
theorem V20 : V m c main_v20 = ngV (m ((c.tc : Thread nD τ).loc main_arg4)) := by
  unfold_abbrev_sides
  rfl

set_option maxHeartbeats 1000000 in
/-- What the host leaves in the array of the up projections. -/
theorem V21 : V m c main_v21 = uV (m ((c.tc : Thread nD τ).loc main_arg10)) := by
  unfold_abbrev_sides
  rfl

set_option maxHeartbeats 1000000 in
/-- What the host leaves in the array of the merge weights. -/
theorem V22 : V m c main_v22 = wV (m ((c.tc : Thread nD τ).loc main_arg11)) := by
  unfold_abbrev_sides
  rfl

set_option maxHeartbeats 1000000 in
/-- What the host leaves in the array of the output projection. -/
theorem V23 : V m c main_v23 = oV (m ((c.tc : Thread nD τ).loc main_arg12)) := by
  unfold_abbrev_sides
  rfl

/-- Row 0 of a sequence's modulation. -/
theorem modV_sh (sh sc ga : FVec Ideal S16x1024 .f32) (b : ℕ) (hb : b < 16) (k : Fin 1024) : modV sh sc ga (ix3 ⟨b, by omega⟩ 0 k) = sh (ix2 ⟨b, hb⟩ k) := by
  pointwise [modV]
  rw [dif_pos hb]

/-- Row 1 of a sequence's modulation. -/
theorem modV_sc (sh sc ga : FVec Ideal S16x1024 .f32) (b : ℕ) (hb : b < 16) (k : Fin 1024) : modV sh sc ga (ix3 ⟨b, by omega⟩ 1 k) = sc (ix2 ⟨b, hb⟩ k) := by
  pointwise [modV]
  rw [dif_pos hb]

/-- Row 2 of a sequence's modulation. -/
theorem modV_ga (sh sc ga : FVec Ideal S16x1024 .f32) (b : ℕ) (hb : b < 16) (k : Fin 1024) : modV sh sc ga (ix3 ⟨b, by omega⟩ 2 k) = ga (ix2 ⟨b, hb⟩ k) := by
  pointwise [modV]
  rw [dif_pos hb]

/-- The sigmoid-weighted gate path at an entry. -/
theorem siluV_apply (g : FVec Ideal S16x2048x1024 .f32) (b : Fin 16) (p : Fin 2048) (k : Fin 1024) : siluV g (ix3 b p k) = g (ix3 b p k) * Ideal.logistic (g (ix3 b p k)) := by
  pointwise [siluV]
  rfl

/-- The gates' array at one of its first columns. -/
theorem gatesV_apply (g : FVec Ideal S16x2048x1024 .f32) (i : Fin 32768) (k : Fin 1024) : gatesV g (ix2 i ⟨k.val, by omega⟩) = g (ix3 ⟨i.val / 2048, by omega⟩ ⟨i.val % 2048, by omega⟩ k) := by
  pointwise [gatesV]

/-- A branch's outputs at a row. -/
theorem yV_apply (y : FVec Ideal S16x2048x256 .f32) (i : Fin 32768) (k : Fin 256) : yV y (ix2 i k) = y (ix3 ⟨i.val / 2048, by omega⟩ ⟨i.val % 2048, by omega⟩ k) := by
  pointwise [yV]

/-- The input at a row. -/
theorem xV_apply (x : FVec Ideal S16x2048x1024 .f32) (i : Fin 32768) (k : Fin 1024) : xV x (ix2 i k) = x (ix3 ⟨i.val / 2048, by omega⟩ ⟨i.val % 2048, by omega⟩ k) := by
  pointwise [xV]

/-- The gain's row is the gain. -/
theorem ngV_apply (g : FVec Ideal S1024 .f32) (k : Fin 1024) : ngV g (ix2 0 k) = g (ix1 k) := by
  pointwise [ngV]

/-- The up projections at an entry: over the extended reals a cast changes nothing. -/
theorem uV_apply (w : FVec Ideal S4x256x1024 .f32) (e : Fin 4) (j : Fin 256) (n : Fin 1024) : uV w (ix3 e j n) = w (ix3 e j n) := by
  pointwise [uV]

/-- The merge weights at an entry: over the extended reals a cast changes nothing. -/
theorem wV_apply (w : FVec Ideal S4x1024x1024 .f32) (e : Fin 4) (k n : Fin 1024) : wV w (ix3 e k n) = w (ix3 e k n) := by
  pointwise [wV]

/-- The output projection at an entry: over the extended reals a cast changes nothing. -/
theorem oV_apply (w : FVec Ideal S1024x1024 .f32) (k n : Fin 1024) : oV w (ix2 k n) = w (ix2 k n) := by
  pointwise [oV]

end Cert.MergeIdeal.Mrg

end
-- ==== Proof.MergeReference.lean ====
module

public import proofs.«01_k».proof.Proof.MergeRow
public import proofs.«01_k».proof.Proof.Gen.MergeReferenceIdeal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MergeReferenceIdeal.Mrg

open Cert.MergeReferenceIdeal Cert.MergeReferenceIdeal.Gen Cert.Mix

/-- The rows over their root mean squares. -/
def normV (x : FVec Ideal S16x2048x1024 .f32) : FVec Ideal S16x2048x1024 .f32 :=
  mulf x (broadcastInDim S16x2048x1024 ![0, 1, 2] bcast_S16x2048x1_S16x2048x1024_0_1_2 (Host.rsqrt (addf (Host.divf (broadcastInDim S16x2048x1 ![0, 1] bcast_S16x2048_S16x2048x1_0_1
    (Host.reduceAdd (mulf x x) (constant S_ .f32 0x00000000#32) reducesTo_S16x2048x1024_S16x2048_d2 h_S_)) (broadcastInDim S16x2048x1 ![] bcast_S_S16x2048x1 (constant S_ .f32 0x44800000#32)))
    (broadcastInDim S16x2048x1 ![] bcast_S_S16x2048x1 (constant S_ .f32 0x358637BD#32)))))

/-- The modulated norm: times gain, times one plus scale, plus shift. -/
def hV (x : FVec Ideal S16x2048x1024 .f32) (sh sc : FVec Ideal S16x1024 .f32) (ng : FVec Ideal S1024 .f32) : FVec Ideal S16x2048x1024 .f32 :=
  addf (mulf (mulf (normV x) (broadcastInDim S16x2048x1024 ![0, 1, 2] bcast_S1x1x1024_S16x2048x1024_0_1_2 (broadcastInDim S1x1x1024 ![2] bcast_S1024_S1x1x1024_2 ng)))
    (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 sc))))
    (broadcastInDim S16x2048x1024 ![0, 1, 2] bcast_S16x1x1024_S16x2048x1024_0_1_2 (broadcastInDim S16x1x1024 ![0, 2] bcast_S16x1024_S16x1x1024_0_2 sh))

/-- A branch's gates: its slice of the gate path times the slice's sigmoid. -/
def siluV (g : FVec Ideal S16x2048x256 .f32) : FVec Ideal S16x2048x256 .f32 := mulf g (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf g))))

/-- A branch: the sigmoid of its merge product times its gated output's up projection. -/
def branchV (h : FVec Ideal S16x2048x1024 .f32) (w : FVec Ideal S1024x1024 .f32) (y s : FVec Ideal S16x2048x256 .f32) (u : FVec Ideal S256x1024 .f32) : FVec Ideal S16x2048x1024 .f32 :=
  mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (Host.dotGeneral dot_S16x2048x1024_S1024x1024_S16x2048x1024_2_0_01_1_n_n none h w))))) (Host.dotGeneral dot_S16x2048x256_S256x1024_S16x2048x1024_2_0_01_1_n_n none (mulf y s) u)

/-- The result: the input plus the gate times the merged branches' output projection. -/
def outV (x : FVec Ideal S16x2048x1024 .f32) (ga : FVec Ideal S16x1024 .f32) (a : FVec Ideal S16x2048x1024 .f32) (wo : FVec Ideal S1024x1024 .f32) : FVec Ideal S32768x1024 .f32 :=
  shapeCast S32768x1024 (addf x (mulf (broadcastInDim S16x2048x1024 ![0, 1, 2] bcast_S16x1x1024_S16x2048x1024_0_1_2 (broadcastInDim S16x1x1024 ![0, 2] bcast_S16x1024_S16x1x1024_0_2 ga)) (Host.dotGeneral dot_S16x2048x1024_S1024x1024_S16x2048x1024_2_0_01_1_n_n none a wo))) shapeCasts_S16x2048x1024_S32768x1024

/-- Branch 0's merge weights. -/
def w0V (w : FVec Ideal S4x1024x1024 .f32) : FVec Ideal S1024x1024 .f32 :=
  shapeCast S1024x1024 (extractStridedSlice S1x1024x1024 ![0, 0, 0] w slices_S4x1024x1024_S1x1024x1024_0_0_0) shapeCasts_S1x1024x1024_S1024x1024

/-- Branch 0's up projection. -/
def u0V (u : FVec Ideal S4x256x1024 .f32) : FVec Ideal S256x1024 .f32 :=
  shapeCast S256x1024 (extractStridedSlice S1x256x1024 ![0, 0, 0] u slices_S4x256x1024_S1x256x1024_0_0_0) shapeCasts_S1x256x1024_S256x1024

/-- Branch 0's slice of the gate path. -/
def g0V (g : FVec Ideal S16x2048x1024 .f32) : FVec Ideal S16x2048x256 .f32 := extractStridedSlice S16x2048x256 ![0, 0, 0] g slices_S16x2048x1024_S16x2048x256_0_0_0

/-- Branch 1's merge weights. -/
def w1V (w : FVec Ideal S4x1024x1024 .f32) : FVec Ideal S1024x1024 .f32 :=
  shapeCast S1024x1024 (extractStridedSlice S1x1024x1024 ![1, 0, 0] w slices_S4x1024x1024_S1x1024x1024_1_0_0) shapeCasts_S1x1024x1024_S1024x1024

/-- Branch 1's up projection. -/
def u1V (u : FVec Ideal S4x256x1024 .f32) : FVec Ideal S256x1024 .f32 :=
  shapeCast S256x1024 (extractStridedSlice S1x256x1024 ![1, 0, 0] u slices_S4x256x1024_S1x256x1024_1_0_0) shapeCasts_S1x256x1024_S256x1024

/-- Branch 1's slice of the gate path. -/
def g1V (g : FVec Ideal S16x2048x1024 .f32) : FVec Ideal S16x2048x256 .f32 := extractStridedSlice S16x2048x256 ![0, 0, 256] g slices_S16x2048x1024_S16x2048x256_0_0_256

/-- Branch 2's merge weights. -/
def w2V (w : FVec Ideal S4x1024x1024 .f32) : FVec Ideal S1024x1024 .f32 :=
  shapeCast S1024x1024 (extractStridedSlice S1x1024x1024 ![2, 0, 0] w slices_S4x1024x1024_S1x1024x1024_2_0_0) shapeCasts_S1x1024x1024_S1024x1024

/-- Branch 2's up projection. -/
def u2V (u : FVec Ideal S4x256x1024 .f32) : FVec Ideal S256x1024 .f32 :=
  shapeCast S256x1024 (extractStridedSlice S1x256x1024 ![2, 0, 0] u slices_S4x256x1024_S1x256x1024_2_0_0) shapeCasts_S1x256x1024_S256x1024

/-- Branch 2's slice of the gate path. -/
def g2V (g : FVec Ideal S16x2048x1024 .f32) : FVec Ideal S16x2048x256 .f32 := extractStridedSlice S16x2048x256 ![0, 0, 512] g slices_S16x2048x1024_S16x2048x256_0_0_512

/-- Branch 3's merge weights. -/
def w3V (w : FVec Ideal S4x1024x1024 .f32) : FVec Ideal S1024x1024 .f32 :=
  shapeCast S1024x1024 (extractStridedSlice S1x1024x1024 ![3, 0, 0] w slices_S4x1024x1024_S1x1024x1024_3_0_0) shapeCasts_S1x1024x1024_S1024x1024

/-- Branch 3's up projection. -/
def u3V (u : FVec Ideal S4x256x1024 .f32) : FVec Ideal S256x1024 .f32 :=
  shapeCast S256x1024 (extractStridedSlice S1x256x1024 ![3, 0, 0] u slices_S4x256x1024_S1x256x1024_3_0_0) shapeCasts_S1x256x1024_S256x1024

/-- Branch 3's slice of the gate path. -/
def g3V (g : FVec Ideal S16x2048x1024 .f32) : FVec Ideal S16x2048x256 .f32 := extractStridedSlice S16x2048x256 ![0, 0, 768] g slices_S16x2048x1024_S16x2048x256_0_0_768

/-- The branches summed. -/
def totalV (h : FVec Ideal S16x2048x1024 .f32) (y0 y1 y2 y3 : FVec Ideal S16x2048x256 .f32) (g : FVec Ideal S16x2048x1024 .f32) (u : FVec Ideal S4x256x1024 .f32) (w : FVec Ideal S4x1024x1024 .f32) : FVec Ideal S16x2048x1024 .f32 :=
  addf (addf (addf (branchV h (w0V w) y0 (siluV (g0V g)) (u0V u)) (branchV h (w1V w) y1 (siluV (g1V g)) (u1V u))) (branchV h (w2V w) y2 (siluV (g2V g)) (u2V u))) (branchV h (w3V w) y3 (siluV (g3V g)) (u3V u))

/-- What the reference computes, in these pieces. -/
theorem res_eq (m : (ℓ : Loc nD τ sig) → Buf (Elt Ideal) ℓ) (c : Dev nD) : Value.res_main_v93 m c
    = outV (m ((c.tc : Thread nD τ).loc main_arg0)) (m ((c.tc : Thread nD τ).loc main_arg3)) (totalV (hV (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) := rfl

/-- The modulated norm at an entry: the reference multiplies the gain and one plus the scale in turn. -/
theorem hV_apply (x : FVec Ideal S16x2048x1024 .f32) (sh sc : FVec Ideal S16x1024 .f32) (ng : FVec Ideal S1024 .f32) (b : Fin 16) (p : Fin 2048) (k : Fin 1024) :
    hV x sh sc ng (ix3 b p k) = hrow (fun k => x (ix3 b p k)) (fun k => ng (ix1 k)) (fun k => sc (ix2 b k)) (fun k => sh (ix2 b k)) k := by
  unfold hrow
  rw [← mul_assoc]
  pointwise [hV, normV]

/-- The gates at an entry. -/
theorem siluV_apply (g : FVec Ideal S16x2048x256 .f32) (b : Fin 16) (p : Fin 2048) (j : Fin 256) : siluV g (ix3 b p j) = g (ix3 b p j) * Ideal.logistic (g (ix3 b p j)) := by
  pointwise [siluV]
  rfl

/-- A branch at an entry. -/
theorem branchV_apply (h : FVec Ideal S16x2048x1024 .f32) (w : FVec Ideal S1024x1024 .f32) (y s : FVec Ideal S16x2048x256 .f32) (u : FVec Ideal S256x1024 .f32) (b : Fin 16) (p : Fin 2048) (n : Fin 1024) :
    branchV h w y s u (ix3 b p n) = branch (fun k => h (ix3 b p k)) (fun k n => w (ix2 k n)) (fun j => y (ix3 b p j)) (fun j => s (ix3 b p j)) (fun j n => u (ix2 j n)) n := by
  unfold branch
  pointwise [branchV]
  rfl

/-- The result at an entry. -/
theorem outV_apply (x : FVec Ideal S16x2048x1024 .f32) (ga : FVec Ideal S16x1024 .f32) (a : FVec Ideal S16x2048x1024 .f32) (wo : FVec Ideal S1024x1024 .f32) (i : Fin 32768) (n : Fin 1024) :
    outV x ga a wo (ix2 i n) = merged (fun k => x (ix3 ⟨i.val / 2048, by omega⟩ ⟨i.val % 2048, by omega⟩ k)) (fun k => ga (ix2 ⟨i.val / 2048, by omega⟩ k))
      (fun k => a (ix3 ⟨i.val / 2048, by omega⟩ ⟨i.val % 2048, by omega⟩ k)) (fun k n => wo (ix2 k n)) n := by
  unfold merged
  pointwise [outV]

/-- Branch 0's merge weights at an entry. -/
theorem w0V_apply (w : FVec Ideal S4x1024x1024 .f32) (k n : Fin 1024) : w0V w (ix2 k n) = w (ix3 0 k n) := by
  pointwise [w0V]

/-- Branch 0's up projection at an entry. -/
theorem u0V_apply (u : FVec Ideal S4x256x1024 .f32) (j : Fin 256) (n : Fin 1024) : u0V u (ix2 j n) = u (ix3 0 j n) := by
  pointwise [u0V]

/-- Branch 0's slice of the gate path at an entry. -/
theorem g0V_apply (g : FVec Ideal S16x2048x1024 .f32) (b : Fin 16) (p : Fin 2048) (j : Fin 256) : g0V g (ix3 b p j) = g (ix3 b p ⟨j.val, by omega⟩) := by
  pointwise [g0V]

/-- Branch 1's merge weights at an entry. -/
theorem w1V_apply (w : FVec Ideal S4x1024x1024 .f32) (k n : Fin 1024) : w1V w (ix2 k n) = w (ix3 1 k n) := by
  pointwise [w1V]

/-- Branch 1's up projection at an entry. -/
theorem u1V_apply (u : FVec Ideal S4x256x1024 .f32) (j : Fin 256) (n : Fin 1024) : u1V u (ix2 j n) = u (ix3 1 j n) := by
  pointwise [u1V]

/-- Branch 1's slice of the gate path at an entry. -/
theorem g1V_apply (g : FVec Ideal S16x2048x1024 .f32) (b : Fin 16) (p : Fin 2048) (j : Fin 256) : g1V g (ix3 b p j) = g (ix3 b p ⟨256 + j.val, by omega⟩) := by
  pointwise [g1V]

/-- Branch 2's merge weights at an entry. -/
theorem w2V_apply (w : FVec Ideal S4x1024x1024 .f32) (k n : Fin 1024) : w2V w (ix2 k n) = w (ix3 2 k n) := by
  pointwise [w2V]

/-- Branch 2's up projection at an entry. -/
theorem u2V_apply (u : FVec Ideal S4x256x1024 .f32) (j : Fin 256) (n : Fin 1024) : u2V u (ix2 j n) = u (ix3 2 j n) := by
  pointwise [u2V]

/-- Branch 2's slice of the gate path at an entry. -/
theorem g2V_apply (g : FVec Ideal S16x2048x1024 .f32) (b : Fin 16) (p : Fin 2048) (j : Fin 256) : g2V g (ix3 b p j) = g (ix3 b p ⟨512 + j.val, by omega⟩) := by
  pointwise [g2V]

/-- Branch 3's merge weights at an entry. -/
theorem w3V_apply (w : FVec Ideal S4x1024x1024 .f32) (k n : Fin 1024) : w3V w (ix2 k n) = w (ix3 3 k n) := by
  pointwise [w3V]

/-- Branch 3's up projection at an entry. -/
theorem u3V_apply (u : FVec Ideal S4x256x1024 .f32) (j : Fin 256) (n : Fin 1024) : u3V u (ix2 j n) = u (ix3 3 j n) := by
  pointwise [u3V]

/-- Branch 3's slice of the gate path at an entry. -/
theorem g3V_apply (g : FVec Ideal S16x2048x1024 .f32) (b : Fin 16) (p : Fin 2048) (j : Fin 256) : g3V g (ix3 b p j) = g (ix3 b p ⟨768 + j.val, by omega⟩) := by
  pointwise [g3V]

/-- The branches' sum at an entry. -/
theorem totalV_apply (h : FVec Ideal S16x2048x1024 .f32) (y0 y1 y2 y3 : FVec Ideal S16x2048x256 .f32) (g : FVec Ideal S16x2048x1024 .f32) (u : FVec Ideal S4x256x1024 .f32) (w : FVec Ideal S4x1024x1024 .f32) (b : Fin 16) (p : Fin 2048) (n : Fin 1024) :
    totalV h y0 y1 y2 y3 g u w (ix3 b p n) = total (fun k => h (ix3 b p k)) (fun e k n => w (ix3 e k n)) (fun j => y0 (ix3 b p j)) (fun j => y1 (ix3 b p j)) (fun j => y2 (ix3 b p j)) (fun j => y3 (ix3 b p j))
      (fun k => g (ix3 b p k) * Ideal.logistic (g (ix3 b p k))) (fun e j n => u (ix3 e j n)) n := by
  show branchV h (w0V w) y0 (siluV (g0V g)) (u0V u) (ix3 b p n) + branchV h (w1V w) y1 (siluV (g1V g)) (u1V u) (ix3 b p n) + branchV h (w2V w) y2 (siluV (g2V g)) (u2V u) (ix3 b p n)
    + branchV h (w3V w) y3 (siluV (g3V g)) (u3V u) (ix3 b p n) = _
  unfold total
  simp only [branchV_apply, siluV_apply, w0V_apply, w1V_apply, w2V_apply, w3V_apply, u0V_apply, u1V_apply, u2V_apply, u3V_apply, g0V_apply, g1V_apply, g2V_apply, g3V_apply]

end Cert.MergeReferenceIdeal.Mrg

end
-- ==== Proof.MergeEquation.lean ====
module

public import proofs.«01_k».proof.Proof.MergeHost
public import proofs.«01_k».proof.Proof.MergeReference

@[expose] public section

set_option maxRecDepth 16384

noncomputable section

open Idealize.ShloMosaic Idealize.ShloMosaic.TcCoe Idealize.SL.Sem

namespace Cert.MergeEquation

open Cert.MergeIdeal Cert.MergeIdeal.Mrg Cert.Mix
open Cert.MergeReferenceIdeal.Mrg (outV totalV hV outV_apply totalV_apply hV_apply)

/-- The array the kernel fills is the reference's result, whatever the arguments hold. -/
theorem whole_eq (x : FVec Ideal S16x2048x1024 .f32) (sh sc ga : FVec Ideal S16x1024 .f32) (ng : FVec Ideal S1024 .f32) (y0 y1 y2 y3 : FVec Ideal S16x2048x256 .f32) (g : FVec Ideal S16x2048x1024 .f32)
    (u : FVec Ideal S4x256x1024 .f32) (w : FVec Ideal S4x1024x1024 .f32) (o : FVec Ideal S1024x1024 .f32) :
    whole (xV x) (modV sh sc ga) (ngV ng) (yV y0) (yV y1) (yV y2) (yV y3) (gatesV (siluV g)) (uV u) (wV w) (oV o)
      = outV x ga (totalV (hV x sh sc ng) y0 y1 y2 y3 g u w) o := by
  funext z
  obtain ⟨i, n, rfl⟩ : ∃ (i : Fin 32768) (n : Fin 1024), z = ix2 i n := ⟨z 0, z 1, funext fun a => by fin_cases a <;> rfl⟩
  have hb : i.val / 2048 < 16 := by omega
  refine Eq.trans ?_ (outV_apply x ga _ o i n).symm
  simp only [totalV_apply, hV_apply]
  show entry (fun k => xV x (ix2 i k)) (fun k => ngV ng (ix2 0 k)) (fun k => modV sh sc ga (ix3 ⟨i.val / 2048, by omega⟩ 1 k)) (fun k => modV sh sc ga (ix3 ⟨i.val / 2048, by omega⟩ 0 k))
    (fun k => modV sh sc ga (ix3 ⟨i.val / 2048, by omega⟩ 2 k)) (fun j => yV y0 (ix2 i j)) (fun j => yV y1 (ix2 i j)) (fun j => yV y2 (ix2 i j)) (fun j => yV y3 (ix2 i j))
    (fun k => gatesV (siluV g) (ix2 i ⟨k.val, by omega⟩)) (fun e k n => wV w (ix3 e k n)) (fun e j n => uV u (ix3 e j n)) (fun k n => oV o (ix2 k n)) n = _
  simp only [xV_apply, ngV_apply, modV_sh _ _ _ _ hb, modV_sc _ _ _ _ hb, modV_ga _ _ _ _ hb, yV_apply, gatesV_apply, siluV_apply, wV_apply, uV_apply, oV_apply]
  rfl

end Cert.MergeEquation

end
-- ==== Proof.ContextMergeBlock.lean ====
module

public import proofs.«01_k».proof.Proof.MergeRow
public import proofs.«01_k».proof.Proof.Gen.ContextMergeIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ContextMergeIdeal.Mrg

open Cert.ContextMergeIdeal Cert.ContextMergeIdeal.Gen Cert.Mix

/-- The rows as the body reads them. -/
theorem pay2_apply (x : Vec Ideal S256x1024 .f32) (r : Fin 256) (n : Fin 1024) : k0_pay2 (F := Ideal) x (ix2 r n) = x (ix2 r n) := by
  pointwise [k0_pay2]

/-- The rows after the modulated norm. -/
theorem pay3_apply (x : Vec Ideal S256x1024 .f32) (ng : Vec Ideal S1x1024 .f32) (sc sh : Vec Ideal S1x1x1024 .f32) (r : Fin 256) (n : Fin 1024) :
    k0_pay3 (F := Ideal) x ng sc sh (ix2 r n) = hrow (fun k => x (ix2 r k)) (fun k => ng (ix2 0 k)) (fun k => sc (ix3 0 0 k)) (fun k => sh (ix3 0 0 k)) n := by
  unfold hrow
  pointwise [k0_pay3, k0_pay2]

/-- A gated branch output. -/
theorem pay4_apply (y s : Vec Ideal S256x256 .bf16) (r : Fin 256) (n : Fin 256) : k0_pay4 (F := Ideal) y s (ix2 r n) = y (ix2 r n) * s (ix2 r n) := by
  pointwise [k0_pay4]

/-- A gated branch output. -/
theorem pay7_apply (y s : Vec Ideal S256x256 .bf16) (r : Fin 256) (n : Fin 256) : k0_pay7 (F := Ideal) y s (ix2 r n) = y (ix2 r n) * s (ix2 r n) := by
  pointwise [k0_pay7]

/-- The first branch's merge product. -/
theorem pay5_apply (x : Vec Ideal S256x1024 .f32) (ng : Vec Ideal S1x1024 .f32) (sc sh : Vec Ideal S1x1x1024 .f32) (w : Vec Ideal S1x1024x1024 .bf16) (r : Fin 256) (n : Fin 1024) :
    k0_pay5 (F := Ideal) x ng sc sh w (ix2 r n) = ∑ k : Fin 1024, k0_pay3 (F := Ideal) x ng sc sh (ix2 r k) * w (ix3 0 k n) := by
  pointwise [k0_pay5]

/-- The sigmoid of the third branch's merge product. -/
theorem pay8_apply (h : FVec Ideal S256x1024 .bf16) (w : Vec Ideal S1x1024x1024 .bf16) (r : Fin 256) (n : Fin 1024) :
    k0_pay8 (F := Ideal) h w (ix2 r n) = Ideal.logistic (∑ k : Fin 1024, h (ix2 r k) * w (ix3 0 k n)) := by
  pointwise [k0_pay8]

/-- The first two branches merged. -/
theorem pay6_apply (h : FVec Ideal S256x1024 .bf16) (y0 : FVec Ideal S256x256 .bf16) (p : FVec Ideal S256x1024 .f32) (u0 : Vec Ideal S1x256x1024 .bf16) (y s : Vec Ideal S256x256 .bf16)
    (w : Vec Ideal S1x1024x1024 .bf16) (u : Vec Ideal S1x256x1024 .bf16) (r : Fin 256) (n : Fin 1024) :
    k0_pay6 (F := Ideal) h y0 p u0 y s w u (ix2 r n) = Ideal.logistic (p (ix2 r n)) * (∑ j : Fin 256, y0 (ix2 r j) * u0 (ix3 0 j n))
      + branch (fun k => h (ix2 r k)) (fun k n => w (ix3 0 k n)) (fun j => y (ix2 r j)) (fun j => s (ix2 r j)) (fun j n => u (ix3 0 j n)) n := by
  unfold branch
  pointwise [k0_pay6]

/-- The stored rows, from the first two branches merged, the third's pieces and the fourth's. -/
theorem pay1_apply (x : FVec Ideal S256x1024 .f32) (h : FVec Ideal S256x1024 .bf16) (a : FVec Ideal S256x1024 .f32) (y2 : FVec Ideal S256x256 .bf16) (g : FVec Ideal S256x1024 .f32)
    (u2 : Vec Ideal S1x256x1024 .bf16) (y s : Vec Ideal S256x256 .bf16) (w : Vec Ideal S1x1024x1024 .bf16) (u : Vec Ideal S1x256x1024 .bf16) (ga : Vec Ideal S1x1x1024 .f32) (wo : Vec Ideal S1024x1024 .bf16)
    (r : Fin 256) (n : Fin 1024) :
    k0_pay1 (F := Ideal) x h a y2 g u2 y s w u ga wo (ix2 r n) = merged (fun k => x (ix2 r k)) (fun k => ga (ix3 0 0 k))
      (fun k => a (ix2 r k) + g (ix2 r k) * (∑ j : Fin 256, y2 (ix2 r j) * u2 (ix3 0 j k))
        + branch (fun k => h (ix2 r k)) (fun k n => w (ix3 0 k n)) (fun j => y (ix2 r j)) (fun j => s (ix2 r j)) (fun j n => u (ix3 0 j n)) k)
      (fun k n => wo (ix2 k n)) n := by
  unfold merged branch
  pointwise [k0_pay1]

/-- The input block read whole. -/
theorem ld_x (x : Vec Ideal S256x1024 .f32) (r : Fin 256) (k : Fin 1024) : View.ld x (Rect.unit ![0, 0] ![256, 1024] inb_S256x1024_S256x1024_0_0) (ix2 r k) = x (ix2 r k) := by
  pointwise

/-- The gain read whole. -/
theorem ld_ng (x : Vec Ideal S1x1024 .f32) (k : Fin 1024) : View.ld x (Rect.unit ![0, 0] ![1, 1024] inb_S1x1024_S1x1024_0_0) (ix2 0 k) = x (ix2 0 k) := by
  pointwise

/-- The shift read from the modulation. -/
theorem ld_md0 (x : Vec Ideal S1x3x1024 .f32) (k : Fin 1024) : View.ld x (Rect.unit ![0, 0, 0] ![1, 1, 1024] inb_S1x3x1024_S1x1x1024_0_0_0) (ix3 0 0 k) = x (ix3 0 0 k) := by
  pointwise

/-- The scale read from the modulation. -/
theorem ld_md1 (x : Vec Ideal S1x3x1024 .f32) (k : Fin 1024) : View.ld x (Rect.unit ![0, 1, 0] ![1, 1, 1024] inb_S1x3x1024_S1x1x1024_0_1_0) (ix3 0 0 k) = x (ix3 0 1 k) := by
  pointwise

/-- The gate read from the modulation. -/
theorem ld_md2 (x : Vec Ideal S1x3x1024 .f32) (k : Fin 1024) : View.ld x (Rect.unit ![0, 2, 0] ![1, 1, 1024] inb_S1x3x1024_S1x1x1024_0_2_0) (ix3 0 0 k) = x (ix3 0 2 k) := by
  pointwise

/-- A branch's output read whole. -/
theorem ld_y (x : Vec Ideal S256x256 .bf16) (r : Fin 256) (j : Fin 256) : View.ld x (Rect.unit ![0, 0] ![256, 256] inb_S256x256_S256x256_0_0) (ix2 r j) = x (ix2 r j) := by
  pointwise

/-- The gates of branch 0 read. -/
theorem ld_s0 (x : Vec Ideal S256x1024 .bf16) (r : Fin 256) (j : Fin 256) : View.ld x (Rect.unit ![0, 0] ![256, 256] inb_S256x1024_S256x256_0_0) (ix2 r j) = x (ix2 r ⟨j.val, by omega⟩) := by
  pointwise

/-- The up projection of branch 0 read. -/
theorem ld_u0 (x : Vec Ideal S4x256x1024 .bf16) (j : Fin 256) (n : Fin 1024) : View.ld x (Rect.unit ![0, 0, 0] ![1, 256, 1024] inb_S4x256x1024_S1x256x1024_0_0_0) (ix3 0 j n) = x (ix3 0 j n) := by
  pointwise

/-- The merge weights of branch 0 read. -/
theorem ld_w0 (x : Vec Ideal S4x1024x1024 .bf16) (k : Fin 1024) (n : Fin 1024) : View.ld x (Rect.unit ![0, 0, 0] ![1, 1024, 1024] inb_S4x1024x1024_S1x1024x1024_0_0_0) (ix3 0 k n) = x (ix3 0 k n) := by
  pointwise

/-- The gates of branch 1 read. -/
theorem ld_s1 (x : Vec Ideal S256x1024 .bf16) (r : Fin 256) (j : Fin 256) : View.ld x (Rect.unit ![0, 256] ![256, 256] inb_S256x1024_S256x256_0_256) (ix2 r j) = x (ix2 r ⟨256 + j.val, by omega⟩) := by
  pointwise

/-- The up projection of branch 1 read. -/
theorem ld_u1 (x : Vec Ideal S4x256x1024 .bf16) (j : Fin 256) (n : Fin 1024) : View.ld x (Rect.unit ![1, 0, 0] ![1, 256, 1024] inb_S4x256x1024_S1x256x1024_1_0_0) (ix3 0 j n) = x (ix3 1 j n) := by
  pointwise

/-- The merge weights of branch 1 read. -/
theorem ld_w1 (x : Vec Ideal S4x1024x1024 .bf16) (k : Fin 1024) (n : Fin 1024) : View.ld x (Rect.unit ![1, 0, 0] ![1, 1024, 1024] inb_S4x1024x1024_S1x1024x1024_1_0_0) (ix3 0 k n) = x (ix3 1 k n) := by
  pointwise

/-- The gates of branch 2 read. -/
theorem ld_s2 (x : Vec Ideal S256x1024 .bf16) (r : Fin 256) (j : Fin 256) : View.ld x (Rect.unit ![0, 512] ![256, 256] inb_S256x1024_S256x256_0_512) (ix2 r j) = x (ix2 r ⟨512 + j.val, by omega⟩) := by
  pointwise

/-- The up projection of branch 2 read. -/
theorem ld_u2 (x : Vec Ideal S4x256x1024 .bf16) (j : Fin 256) (n : Fin 1024) : View.ld x (Rect.unit ![2, 0, 0] ![1, 256, 1024] inb_S4x256x1024_S1x256x1024_2_0_0) (ix3 0 j n) = x (ix3 2 j n) := by
  pointwise

/-- The merge weights of branch 2 read. -/
theorem ld_w2 (x : Vec Ideal S4x1024x1024 .bf16) (k : Fin 1024) (n : Fin 1024) : View.ld x (Rect.unit ![2, 0, 0] ![1, 1024, 1024] inb_S4x1024x1024_S1x1024x1024_2_0_0) (ix3 0 k n) = x (ix3 2 k n) := by
  pointwise

/-- The gates of branch 3 read. -/
theorem ld_s3 (x : Vec Ideal S256x1024 .bf16) (r : Fin 256) (j : Fin 256) : View.ld x (Rect.unit ![0, 768] ![256, 256] inb_S256x1024_S256x256_0_768) (ix2 r j) = x (ix2 r ⟨768 + j.val, by omega⟩) := by
  pointwise

/-- The up projection of branch 3 read. -/
theorem ld_u3 (x : Vec Ideal S4x256x1024 .bf16) (j : Fin 256) (n : Fin 1024) : View.ld x (Rect.unit ![3, 0, 0] ![1, 256, 1024] inb_S4x256x1024_S1x256x1024_3_0_0) (ix3 0 j n) = x (ix3 3 j n) := by
  pointwise

/-- The merge weights of branch 3 read. -/
theorem ld_w3 (x : Vec Ideal S4x1024x1024 .bf16) (k : Fin 1024) (n : Fin 1024) : View.ld x (Rect.unit ![3, 0, 0] ![1, 1024, 1024] inb_S4x1024x1024_S1x1024x1024_3_0_0) (ix3 0 k n) = x (ix3 3 k n) := by
  pointwise

/-- The output projection read whole. -/
theorem ld_wo (x : Vec Ideal S1024x1024 .bf16) (k n : Fin 1024) : View.ld x (Rect.unit ![0, 0] ![1024, 1024] inb_S1024x1024_S1024x1024_0_0) (ix2 k n) = x (ix2 k n) := by
  pointwise

/-- What the body stores, from its blocks. -/
theorem out_A (c : Dev nD) (i : grid0.Coords) (arg1 : Memref sig .tc .vmem S256x1024 .f32) (harg1 : arg1.IsWhole) (arg2 : Memref sig .tc .vmem S1x3x1024 .f32) (harg2 : arg2.IsWhole) (arg3 : Memref sig .tc .vmem S1x1024 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x1024 .bf16) (harg8 : arg8.IsWhole) (arg9 : Memref sig .tc .vmem S4x256x1024 .bf16) (harg9 : arg9.IsWhole) (arg10 : Memref sig .tc .vmem S4x1024x1024 .bf16) (harg10 : arg10.IsWhole) (arg11 : Memref sig .tc .vmem S1024x1024 .bf16) (harg11 : arg11.IsWhole) (arg12 : Memref sig .tc .vmem S256x1024 .f32) (harg12 : arg12.IsWhole)
    (x0 : Vec Ideal S256x1024 .f32) (x1 : Vec Ideal S1x3x1024 .f32) (x2 : Vec Ideal S1x1024 .f32) (x3 : Vec Ideal S256x256 .bf16) (x4 : Vec Ideal S256x256 .bf16) (x5 : Vec Ideal S256x256 .bf16) (x6 : Vec Ideal S256x256 .bf16) (x7 : Vec Ideal S256x1024 .bf16) (x8 : Vec Ideal S4x256x1024 .bf16) (x9 : Vec Ideal S4x1024x1024 .bf16) (x10 : Vec Ideal S1024x1024 .bf16) (y : S256x1024.Idx) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y = entry (fun k => x0 (ix2 (y 0) k)) (fun k => x2 (ix2 0 k)) (fun k => x1 (ix3 0 1 k)) (fun k => x1 (ix3 0 0 k)) (fun k => x1 (ix3 0 2 k))
      (fun j => x3 (ix2 (y 0) j)) (fun j => x4 (ix2 (y 0) j)) (fun j => x5 (ix2 (y 0) j)) (fun j => x6 (ix2 (y 0) j)) (fun k => x7 (ix2 (y 0) k))
      (fun i k n => x9 (ix3 i k n)) (fun i j n => x8 (ix3 i j n)) (fun k n => x10 (ix2 k n)) (y 1) := by
  have hz : (![0, 0] : Fin 2 → Nat) = fun _ => 0 := funext fun a => by fin_cases a <;> rfl
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun0_A
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  idx_vars y
  rw [pay1_apply]
  simp only [pay6_apply, pay8_apply, pay7_apply, pay5_apply, pay4_apply, pay3_apply, pay2_apply]
  exact entry_of (n := y1) (hx := fun k => ld_x x0 y0 k) (hng := fun k => ld_ng x2 k) (hsc := fun k => ld_md1 x1 k) (hsh := fun k => ld_md0 x1 k) (hga := fun k => ld_md2 x1 k)
    (hy0 := fun j => ld_y x3 y0 j) (hy1 := fun j => ld_y x4 y0 j) (hy2 := fun j => ld_y x5 y0 j) (hy3 := fun j => ld_y x6 y0 j)
    (hs0 := fun j => ld_s0 x7 y0 j) (hs1 := fun j => ld_s1 x7 y0 j) (hs2 := fun j => ld_s2 x7 y0 j) (hs3 := fun j => ld_s3 x7 y0 j)
    (hw0 := fun k n => ld_w0 x9 k n) (hw1 := fun k n => ld_w1 x9 k n) (hw2 := fun k n => ld_w2 x9 k n) (hw3 := fun k n => ld_w3 x9 k n)
    (hu0 := fun k n => ld_u0 x8 k n) (hu1 := fun k n => ld_u1 x8 k n) (hu2 := fun k n => ld_u2 x8 k n) (hu3 := fun k n => ld_u3 x8 k n) (hwo := fun k n => ld_wo x10 k n)

end Cert.ContextMergeIdeal.Mrg

end
-- ==== Proof.ContextMergeArray.lean ====
module

public import proofs.«01_k».proof.Proof.ContextMergeBlock
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.ContextMergeIdeal.Mrg

open Cert.ContextMergeIdeal Cert.ContextMergeIdeal.Gen Cert.Mix

/-- The array the kernel fills, row by row, from the arrays it reads: all rows share row 16 of the modulation. -/
def whole (X : Vec Ideal S4096x1024 .f32) (M : Vec Ideal S24x3x1024 .f32) (G : Vec Ideal S1x1024 .f32) (A B H F : Vec Ideal S4096x256 .bf16) (S : Vec Ideal S4096x3840 .bf16)
    (U : Vec Ideal S4x256x1024 .bf16) (W : Vec Ideal S4x1024x1024 .bf16) (O : Vec Ideal S1024x1024 .bf16) : Vec Ideal S4096x1024 .f32 := fun i =>
  entry (fun k => X (ix2 (i 0) k)) (fun k => G (ix2 0 k)) (fun k => M (ix3 16 1 k))
    (fun k => M (ix3 16 0 k)) (fun k => M (ix3 16 2 k))
    (fun j => A (ix2 (i 0) j)) (fun j => B (ix2 (i 0) j)) (fun j => H (ix2 (i 0) j)) (fun j => F (ix2 (i 0) j)) (fun k => S (ix2 (i 0) ⟨k.val, by omega⟩))
    (fun e k n => W (ix3 e k n)) (fun e j n => U (ix3 e j n)) (fun k n => O (ix2 k n)) (i 1)

variable (m : (ℓ : Loc nD τ sig) → Buf (Elt Ideal) ℓ) (c : Dev nD)

/-- Where each window stands at each grid point: the rows at the point's own tile, the modulation at row 16, the rest whole. -/
theorem idx : ∀ t : Fin cfg0.N, (win0_0.index t 0 = t.val ∧ win0_0.index t 1 = 0) ∧ (win0_1.index t 0 = 16 ∧ win0_1.index t 1 = 0 ∧ win0_1.index t 2 = 0)
    ∧ (win0_2.index t 0 = 0 ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0)
    ∧ (win0_8.index t 0 = 0 ∧ win0_8.index t 1 = 0 ∧ win0_8.index t 2 = 0) ∧ (win0_9.index t 0 = 0 ∧ win0_9.index t 1 = 0 ∧ win0_9.index t 2 = 0)
    ∧ (win0_10.index t 0 = 0 ∧ win0_10.index t 1 = 0) ∧ (win0_11.index t 0 = t.val ∧ win0_11.index t 1 = 0) := by
  decide +kernel

/-- The output is written back at every point. -/
theorem flush11 : ∀ t : Fin cfg0.N, (cfg0.win 11).flush t = true := by
  decide +kernel

/-- The input window's block. -/
theorem iblk0 (t : Fin cfg0.N) (r : Fin 256) (k : Fin 1024) : (iblk m c 0 t : Vec Ideal S256x1024 .f32) (ix2 r k) = V m c main_v21 (ix2 ⟨256 * t.val + r.val, by have := t.isLt; have : cfg0.N = 16 := N_0; omega⟩ k) := by
  have h := (idx t).1
  unfold iblk
  rw [View.read_apply]
  show V m c main_v21 _ = V m c main_v21 _
  congr 1
  funext a
  apply Fin.ext
  match a with
  | ⟨0, _⟩ => show win0_0.index t 0 * 256 + 1 * r.val = 256 * t.val + r.val; rw [h.1]; omega
  | ⟨1, _⟩ => show win0_0.index t 1 * 1024 + 1 * k.val = k.val; rw [h.2]; omega

/-- The modulation window's block. -/
theorem iblk1 (t : Fin cfg0.N) (e : Fin 3) (k : Fin 1024) : (iblk m c 1 t : Vec Ideal S1x3x1024 .f32) (ix3 0 e k) = V m c main_v7 (ix3 16 e k) := by
  have h := (idx t).2.1
  unfold iblk
  rw [View.read_apply]
  show V m c main_v7 _ = V m c main_v7 _
  congr 1
  funext a
  apply Fin.ext
  match a with
  | ⟨0, _⟩ => show win0_1.index t 0 * 1 + 1 * 0 = 16; rw [h.1]
  | ⟨1, _⟩ => show win0_1.index t 1 * 3 + 1 * e.val = e.val; rw [h.2.1]; omega
  | ⟨2, _⟩ => show win0_1.index t 2 * 1024 + 1 * k.val = k.val; rw [h.2.2]; omega

/-- The gain's window: the whole array. -/
theorem iblk2 (t : Fin cfg0.N) (k : Fin 1024) : (iblk m c 2 t : Vec Ideal S1x1024 .f32) (ix2 0 k) = V m c main_v22 (ix2 0 k) := by
  have h := (idx t).2.2.1
  unfold iblk
  rw [View.read_apply]
  show V m c main_v22 _ = V m c main_v22 _
  congr 1
  funext a
  apply Fin.ext
  match a with
  | ⟨0, _⟩ => show win0_2.index t 0 * 1 + 1 * 0 = 0; rw [h.1]
  | ⟨1, _⟩ => show win0_2.index t 1 * 1024 + 1 * k.val = k.val; rw [h.2]; omega

/-- The block of branch 0's outputs. -/
theorem iblk3 (t : Fin cfg0.N) (r : Fin 256) (k : Fin 256) : (iblk m c 3 t : Vec Ideal S256x256 .bf16) (ix2 r k) = V m c main_v14 (ix2 ⟨256 * t.val + r.val, by have := t.isLt; have : cfg0.N = 16 := N_0; omega⟩ k) := by
  have h := (idx t).2.2.2.1
  unfold iblk
  rw [View.read_apply]
  show V m c main_v14 _ = V m c main_v14 _
  congr 1
  funext a
  apply Fin.ext
  match a with
  | ⟨0, _⟩ => show win0_3.index t 0 * 256 + 1 * r.val = 256 * t.val + r.val; rw [h.1]; omega
  | ⟨1, _⟩ => show win0_3.index t 1 * 256 + 1 * k.val = k.val; rw [h.2]; omega

/-- The block of branch 1's outputs. -/
theorem iblk4 (t : Fin cfg0.N) (r : Fin 256) (k : Fin 256) : (iblk m c 4 t : Vec Ideal S256x256 .bf16) (ix2 r k) = V m c main_v16 (ix2 ⟨256 * t.val + r.val, by have := t.isLt; have : cfg0.N = 16 := N_0; omega⟩ k) := by
  have h := (idx t).2.2.2.2.1
  unfold iblk
  rw [View.read_apply]
  show V m c main_v16 _ = V m c main_v16 _
  congr 1
  funext a
  apply Fin.ext
  match a with
  | ⟨0, _⟩ => show win0_4.index t 0 * 256 + 1 * r.val = 256 * t.val + r.val; rw [h.1]; omega
  | ⟨1, _⟩ => show win0_4.index t 1 * 256 + 1 * k.val = k.val; rw [h.2]; omega

/-- The block of branch 2's outputs. -/
theorem iblk5 (t : Fin cfg0.N) (r : Fin 256) (k : Fin 256) : (iblk m c 5 t : Vec Ideal S256x256 .bf16) (ix2 r k) = V m c main_v18 (ix2 ⟨256 * t.val + r.val, by have := t.isLt; have : cfg0.N = 16 := N_0; omega⟩ k) := by
  have h := (idx t).2.2.2.2.2.1
  unfold iblk
  rw [View.read_apply]
  show V m c main_v18 _ = V m c main_v18 _
  congr 1
  funext a
  apply Fin.ext
  match a with
  | ⟨0, _⟩ => show win0_5.index t 0 * 256 + 1 * r.val = 256 * t.val + r.val; rw [h.1]; omega
  | ⟨1, _⟩ => show win0_5.index t 1 * 256 + 1 * k.val = k.val; rw [h.2]; omega

/-- The block of branch 3's outputs. -/
theorem iblk6 (t : Fin cfg0.N) (r : Fin 256) (k : Fin 256) : (iblk m c 6 t : Vec Ideal S256x256 .bf16) (ix2 r k) = V m c main_v20 (ix2 ⟨256 * t.val + r.val, by have := t.isLt; have : cfg0.N = 16 := N_0; omega⟩ k) := by
  have h := (idx t).2.2.2.2.2.2.1
  unfold iblk
  rw [View.read_apply]
  show V m c main_v20 _ = V m c main_v20 _
  congr 1
  funext a
  apply Fin.ext
  match a with
  | ⟨0, _⟩ => show win0_6.index t 0 * 256 + 1 * r.val = 256 * t.val + r.val; rw [h.1]; omega
  | ⟨1, _⟩ => show win0_6.index t 1 * 256 + 1 * k.val = k.val; rw [h.2]; omega

/-- The gates' block: the first 1024 columns of their array. -/
theorem iblk7 (t : Fin cfg0.N) (r : Fin 256) (k : Fin 1024) : (X0_7 m c t : Vec Ideal S256x1024 .bf16) (ix2 r k) = V m c main_v12 (ix2 ⟨256 * t.val + r.val, by have := t.isLt; have : cfg0.N = 16 := N_0; omega⟩ ⟨k.val, by omega⟩) := by
  have h := (idx t).2.2.2.2.2.2.2.1
  unfold X0_7 Pipeline.Window.fill iblk
  rw [dif_pos (moved0_7 t _), View.read_apply]
  show V m c main_v12 _ = V m c main_v12 _
  congr 1
  funext a
  apply Fin.ext
  match a with
  | ⟨0, _⟩ => show win0_7.index t 0 * 256 + 1 * r.val = 256 * t.val + r.val; rw [h.1]; omega
  | ⟨1, _⟩ => show win0_7.index t 1 * 1024 + 1 * k.val = k.val; rw [h.2]; omega

/-- The up projections' window: the whole array. -/
theorem iblk8 (t : Fin cfg0.N) (e : Fin 4) (j : Fin 256) (n : Fin 1024) : (iblk m c 8 t : Vec Ideal S4x256x1024 .bf16) (ix3 e j n) = V m c main_v23 (ix3 e j n) := by
  have h := (idx t).2.2.2.2.2.2.2.2.1
  unfold iblk
  rw [View.read_apply]
  show V m c main_v23 _ = V m c main_v23 _
  congr 1
  funext a
  apply Fin.ext
  match a with
  | ⟨0, _⟩ => show win0_8.index t 0 * 4 + 1 * e.val = e.val; rw [h.1]; omega
  | ⟨1, _⟩ => show win0_8.index t 1 * 256 + 1 * j.val = j.val; rw [h.2.1]; omega
  | ⟨2, _⟩ => show win0_8.index t 2 * 1024 + 1 * n.val = n.val; rw [h.2.2]; omega

/-- The merge weights' window: the whole array. -/
theorem iblk9 (t : Fin cfg0.N) (e : Fin 4) (k n : Fin 1024) : (iblk m c 9 t : Vec Ideal S4x1024x1024 .bf16) (ix3 e k n) = V m c main_v24 (ix3 e k n) := by
  have h := (idx t).2.2.2.2.2.2.2.2.2.1
  unfold iblk
  rw [View.read_apply]
  show V m c main_v24 _ = V m c main_v24 _
  congr 1
  funext a
  apply Fin.ext
  match a with
  | ⟨0, _⟩ => show win0_9.index t 0 * 4 + 1 * e.val = e.val; rw [h.1]; omega
  | ⟨1, _⟩ => show win0_9.index t 1 * 1024 + 1 * k.val = k.val; rw [h.2.1]; omega
  | ⟨2, _⟩ => show win0_9.index t 2 * 1024 + 1 * n.val = n.val; rw [h.2.2]; omega

/-- The output projection's window: the whole array. -/
theorem iblk10 (t : Fin cfg0.N) (k n : Fin 1024) : (iblk m c 10 t : Vec Ideal S1024x1024 .bf16) (ix2 k n) = V m c main_v25 (ix2 k n) := by
  have h := (idx t).2.2.2.2.2.2.2.2.2.2.1
  unfold iblk
  rw [View.read_apply]
  show V m c main_v25 _ = V m c main_v25 _
  congr 1
  funext a
  apply Fin.ext
  match a with
  | ⟨0, _⟩ => show win0_10.index t 0 * 1024 + 1 * k.val = k.val; rw [h.1]; omega
  | ⟨1, _⟩ => show win0_10.index t 1 * 1024 + 1 * n.val = n.val; rw [h.2]; omega

/-- What the kernel's array is shown to hold. -/
abbrev result : Buf (Elt Ideal) ((c : Thread nD τ).loc main_v26) :=
  whole (V m c main_v21) (V m c main_v7) (V m c main_v22) (V m c main_v14) (V m c main_v16) (V m c main_v18) (V m c main_v20) (V m c main_v12) (V m c main_v23) (V m c main_v24) (V m c main_v25)

/-- The kernel's array at row `r` of tile `s`. -/
theorem whole_at (X : Vec Ideal S4096x1024 .f32) (M : Vec Ideal S24x3x1024 .f32) (G : Vec Ideal S1x1024 .f32) (A B H F : Vec Ideal S4096x256 .bf16) (S : Vec Ideal S4096x3840 .bf16)
    (U : Vec Ideal S4x256x1024 .bf16) (W : Vec Ideal S4x1024x1024 .bf16) (O : Vec Ideal S1024x1024 .bf16) (s : ℕ) (hs : s < 16) (r : Fin 256) (i : S4096x1024.Idx) (n : Fin 1024)
    (h0 : (i 0).val = 256 * s + r.val) (h1 : (i 1).val = n.val) :
    whole X M G A B H F S U W O i = entry (fun k => X (ix2 ⟨256 * s + r.val, by omega⟩ k)) (fun k => G (ix2 0 k)) (fun k => M (ix3 16 1 k))
      (fun k => M (ix3 16 0 k)) (fun k => M (ix3 16 2 k))
      (fun j => A (ix2 ⟨256 * s + r.val, by omega⟩ j)) (fun j => B (ix2 ⟨256 * s + r.val, by omega⟩ j)) (fun j => H (ix2 ⟨256 * s + r.val, by omega⟩ j)) (fun j => F (ix2 ⟨256 * s + r.val, by omega⟩ j))
      (fun k => S (ix2 ⟨256 * s + r.val, by omega⟩ ⟨k.val, by omega⟩))
      (fun e k n => W (ix3 e k n)) (fun e j n => U (ix3 e j n)) (fun k n => O (ix2 k n)) n := by
  idx_vars i
  obtain rfl : i0 = ⟨256 * s + r.val, by clear h0; omega⟩ := Fin.ext h0
  obtain rfl : i1 = n := Fin.ext h1
  rfl

/-- The body's result at a point, from the blocks, is that from the arrays. -/
theorem point (t : Fin cfg0.N) (r : Fin 256) (n : Fin 1024) :
    entry (fun k => (iblk m c 0 t : Vec Ideal S256x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k)) (fun k => (iblk m c 1 t : Vec Ideal S1x3x1024 .f32) (ix3 0 2 k))
      (fun j => (iblk m c 3 t : Vec Ideal S256x256 .bf16) (ix2 r j)) (fun j => (iblk m c 4 t : Vec Ideal S256x256 .bf16) (ix2 r j))
      (fun j => (iblk m c 5 t : Vec Ideal S256x256 .bf16) (ix2 r j)) (fun j => (iblk m c 6 t : Vec Ideal S256x256 .bf16) (ix2 r j)) (fun k => (X0_7 m c t : Vec Ideal S256x1024 .bf16) (ix2 r k))
      (fun e k n => (iblk m c 9 t : Vec Ideal S4x1024x1024 .bf16) (ix3 e k n)) (fun e j n => (iblk m c 8 t : Vec Ideal S4x256x1024 .bf16) (ix3 e j n)) (fun k n => (iblk m c 10 t : Vec Ideal S1024x1024 .bf16) (ix2 k n)) n
    = entry (fun k => V m c main_v21 (ix2 ⟨256 * t.val + r.val, by have := t.isLt; have : cfg0.N = 16 := N_0; omega⟩ k)) (fun k => V m c main_v22 (ix2 0 k)) (fun k => V m c main_v7 (ix3 16 1 k)) (fun k => V m c main_v7 (ix3 16 0 k)) (fun k => V m c main_v7 (ix3 16 2 k))
      (fun j => V m c main_v14 (ix2 ⟨256 * t.val + r.val, by have := t.isLt; have : cfg0.N = 16 := N_0; omega⟩ j)) (fun j => V m c main_v16 (ix2 ⟨256 * t.val + r.val, by have := t.isLt; have : cfg0.N = 16 := N_0; omega⟩ j)) (fun j => V m c main_v18 (ix2 ⟨256 * t.val + r.val, by have := t.isLt; have : cfg0.N = 16 := N_0; omega⟩ j)) (fun j => V m c main_v20 (ix2 ⟨256 * t.val + r.val, by have := t.isLt; have : cfg0.N = 16 := N_0; omega⟩ j))
      (fun k => V m c main_v12 (ix2 ⟨256 * t.val + r.val, by have := t.isLt; have : cfg0.N = 16 := N_0; omega⟩ ⟨k.val, by omega⟩))
      (fun e k n => V m c main_v24 (ix3 e k n)) (fun e j n => V m c main_v23 (ix3 e j n)) (fun k n => V m c main_v25 (ix2 k n)) n := by
  simp only [iblk0, iblk1, iblk2, iblk3, iblk4, iblk5, iblk6, iblk7, iblk8, iblk9, iblk10]

/-- What a point writes back is its tile of that array. -/
theorem flushed_eq (t : Fin cfg0.N) (hf : (cfg0.win 11).flush t = true) :
    (dats m 0 c).flushed 11 t = ((cfg0.win 11).blk t).view.read (Elt Ideal) (result m c) := by
  have hN : cfg0.N = 16 := N_0
  have hlt := t.isLt
  have h := (idx t).2.2.2.2.2.2.2.2.2.2.2
  rw [Value.flushed11_A m c t]
  funext j
  rw [View.read_apply]
  refine (out_A ..).trans ?_
  refine Eq.trans ?_ (whole_at _ _ _ _ _ _ _ _ _ _ _ t.val (by omega) ((cfg0.win 11).xinj (grid0.coords t) j 0) _ ((cfg0.win 11).xinj (grid0.coords t) j 1) ?_ ?_).symm
  · exact point m c t _ _
  · show win0_11.index t 0 * 256 + 1 * (j 0).val = 256 * t.val + (j 0).val
    rw [h.1]; omega
  · show win0_11.index t 1 * 1024 + 1 * (j 1).val = (j 1).val
    rw [h.2]; omega

/-- The tiles cover the array. -/
theorem cover (i : S4096x1024.Idx) : ∃ t : Fin cfg0.N, (cfg0.win 11).flush t = true ∧ i ∈ ((cfg0.win 11).blk t).view.set := by
  have h0 : (i 0 : ℕ) < 4096 := (i 0).isLt
  have h1 : (i 1 : ℕ) < 1024 := (i 1).isLt
  have hN : cfg0.N = 16 := N_0
  obtain ⟨t, ht⟩ : ∃ t : Fin cfg0.N, t.val = (i 0).val / 256 := ⟨⟨(i 0).val / 256, by omega⟩, rfl⟩
  refine ⟨t, flush11 t, ?_⟩
  have h := (idx t).2.2.2.2.2.2.2.2.2.2.2
  show i ∈ ((View.whole main_v26).slice (win0_11.rect t)).set
  rw [View.set_slice_whole, Rect.mem_set_unit]
  intro a
  match a with
  | ⟨0, _⟩ => show win0_11.index t 0 * 256 ≤ (i 0 : ℕ) ∧ (i 0 : ℕ) < win0_11.index t 0 * 256 + 256
              rw [h.1]; omega
  | ⟨1, _⟩ => show win0_11.index t 1 * 1024 ≤ (i 1 : ℕ) ∧ (i 1 : ℕ) < win0_11.index t 1 * 1024 + 1024
              rw [h.2]; omega

/-- So the array ends as stated. -/
theorem final : (dats m 0 c).arrAt 11 cfg0.N = result m c :=
  (dats m 0 c).arrAt_eq_of_cover 11 (result m c) (flushed_eq m c) cover

end Cert.ContextMergeIdeal.Mrg

end
-- ==== Proof.ContextMergeHost.lean ====
module

public import proofs.«01_k».proof.Proof.ContextMergeArray
public import Idealize.ShloMosaic.Lib.StableHlo.Run
public import Idealize.ShloMosaic.Lib.Claim

@[expose] public section

set_option maxRecDepth 16384

noncomputable section

open Idealize.ShloMosaic Idealize.ShloMosaic.TcCoe Idealize.SL.Sem

namespace Cert.ContextMergeIdeal.Mrg

open Cert.ContextMergeIdeal Cert.ContextMergeIdeal.Gen Cert.Mix

variable (m : (ℓ : Loc nD τ sig) → Buf (Elt Ideal) ℓ) (c : Dev nD)

/-- Sixteen rows of zeros, then the modulation's three rows, stacked, then seven rows of zeros. -/
def modV (sh sc ga : FVec Ideal S1024 .f32) : FVec Ideal S24x3x1024 .f32 :=
  concatenate S24x3x1024 0 [⟨S16x3x1024, broadcastInDim S16x3x1024 ![] bcast_S_S16x3x1024 (constant S_ .f32 0x00000000#32)⟩,
    ⟨S1x3x1024, broadcastInDim S1x3x1024 ![1, 2] bcast_S3x1024_S1x3x1024_1_2 (concatenate S3x1024 0 [⟨S1x1024, broadcastInDim S1x1024 ![1] bcast_S1024_S1x1024_1 sh⟩, ⟨S1x1024, broadcastInDim S1x1024 ![1] bcast_S1024_S1x1024_1 sc⟩,
      ⟨S1x1024, broadcastInDim S1x1024 ![1] bcast_S1024_S1x1024_1 ga⟩] concatenates_S1x1024_S1x1024_S1x1024_S3x1024_d0)⟩,
    ⟨S7x3x1024, broadcastInDim S7x3x1024 ![] bcast_S_S7x3x1024 (constant S_ .f32 0x00000000#32)⟩] concatenates_S16x3x1024_S1x3x1024_S7x3x1024_S24x3x1024_d0

/-- The gates: the gate path times its sigmoid. -/
def siluV (g : FVec Ideal S16x256x1024 .f32) : FVec Ideal S16x256x1024 .f32 :=
  mulf g (Host.divf (broadcastInDim S16x256x1024 ![] bcast_S_S16x256x1024 (constant S_ .f32 0x3F800000#32))
    (addf (broadcastInDim S16x256x1024 ![] bcast_S_S16x256x1024 (constant S_ .f32 0x3F800000#32)) (Host.exp (Host.negf g))))

/-- The array the gates stand in: gates, then zeros. -/
def gatesV (g : FVec Ideal S16x256x1024 .f32) : FVec Ideal S4096x3840 .bf16 :=
  truncf .bf16 (concatenate S4096x3840 1 [⟨S4096x1024, shapeCast S4096x1024 g shapeCasts_S16x256x1024_S4096x1024⟩,
    ⟨S4096x2816, broadcastInDim S4096x2816 ![] bcast_S_S4096x2816 (constant S_ .f32 0x00000000#32)⟩] concatenates_S4096x1024_S4096x2816_S4096x3840_d1) bitsLt_bf16_f32

/-- A branch's outputs, one row a token. -/
def yV (y : FVec Ideal S16x256x256 .f32) : FVec Ideal S4096x256 .bf16 := truncf .bf16 (shapeCast S4096x256 y shapeCasts_S16x256x256_S4096x256) bitsLt_bf16_f32

/-- The input, one row a token. -/
def xV (x : FVec Ideal S16x256x1024 .f32) : FVec Ideal S4096x1024 .f32 := shapeCast S4096x1024 x shapeCasts_S16x256x1024_S4096x1024

/-- The gain as a row. -/
def ngV (g : FVec Ideal S1024 .f32) : FVec Ideal S1x1024 .f32 := shapeCast S1x1024 g shapeCasts_S1024_S1x1024

/-- The up projections, in the narrower type. -/
def uV (w : FVec Ideal S4x256x1024 .f32) : FVec Ideal S4x256x1024 .bf16 := truncf .bf16 w bitsLt_bf16_f32

/-- The merge weights, in the narrower type. -/
def wV (w : FVec Ideal S4x1024x1024 .f32) : FVec Ideal S4x1024x1024 .bf16 := truncf .bf16 w bitsLt_bf16_f32

/-- The output projection, in the narrower type. -/
def oV (w : FVec Ideal S1024x1024 .f32) : FVec Ideal S1024x1024 .bf16 := truncf .bf16 w bitsLt_bf16_f32

set_option maxHeartbeats 1000000 in
/-- What the host leaves in the array of the modulation's rows. -/
theorem V7 : V m c main_v7 = modV (m ((c.tc : Thread nD τ).loc main_arg1)) (m ((c.tc : Thread nD τ).loc main_arg2)) (m ((c.tc : Thread nD τ).loc main_arg3)) := by
  unfold_abbrev_sides
  rfl

set_option maxHeartbeats 1000000 in
/-- What the host leaves in the array of the gates' array. -/
theorem V12 : V m c main_v12 = gatesV (siluV (m ((c.tc : Thread nD τ).loc main_arg9))) := by
  unfold_abbrev_sides
  rfl

set_option maxHeartbeats 1000000 in
/-- What the host leaves in the array of branch 0's outputs. -/
theorem V14 : V m c main_v14 = yV (m ((c.tc : Thread nD τ).loc main_arg5)) := by
  unfold_abbrev_sides
  rfl

set_option maxHeartbeats 1000000 in
/-- What the host leaves in the array of branch 1's outputs. -/
theorem V16 : V m c main_v16 = yV (m ((c.tc : Thread nD τ).loc main_arg6)) := by
  unfold_abbrev_sides
  rfl

set_option maxHeartbeats 1000000 in
/-- What the host leaves in the array of branch 2's outputs. -/
theorem V18 : V m c main_v18 = yV (m ((c.tc : Thread nD τ).loc main_arg7)) := by
  unfold_abbrev_sides
  rfl

set_option maxHeartbeats 1000000 in
/-- What the host leaves in the array of branch 3's outputs. -/
theorem V20 : V m c main_v20 = yV (m ((c.tc : Thread nD τ).loc main_arg8)) := by
  unfold_abbrev_sides
  rfl

set_option maxHeartbeats 1000000 in
/-- What the host leaves in the array of the input's rows. -/
theorem V21 : V m c main_v21 = xV (m ((c.tc : Thread nD τ).loc main_arg0)) := by
  unfold_abbrev_sides
  rfl

set_option maxHeartbeats 1000000 in
/-- What the host leaves in the array of the gain's row. -/
theorem V22 : V m c main_v22 = ngV (m ((c.tc : Thread nD τ).loc main_arg4)) := by
  unfold_abbrev_sides
  rfl

set_option maxHeartbeats 1000000 in
/-- What the host leaves in the array of the up projections. -/
theorem V23 : V m c main_v23 = uV (m ((c.tc : Thread nD τ).loc main_arg10)) := by
  unfold_abbrev_sides
  rfl

set_option maxHeartbeats 1000000 in
/-- What the host leaves in the array of the merge weights. -/
theorem V24 : V m c main_v24 = wV (m ((c.tc : Thread nD τ).loc main_arg11)) := by
  unfold_abbrev_sides
  rfl

set_option maxHeartbeats 1000000 in
/-- What the host leaves in the array of the output projection. -/
theorem V25 : V m c main_v25 = oV (m ((c.tc : Thread nD τ).loc main_arg12)) := by
  unfold_abbrev_sides
  rfl

/-- The modulation's shift is in its row 16. -/
theorem modV_sh (sh sc ga : FVec Ideal S1024 .f32) (k : Fin 1024) : modV sh sc ga (ix3 16 0 k) = sh (ix1 k) := by
  pointwise [modV]

/-- The modulation's scale is in its row 16. -/
theorem modV_sc (sh sc ga : FVec Ideal S1024 .f32) (k : Fin 1024) : modV sh sc ga (ix3 16 1 k) = sc (ix1 k) := by
  pointwise [modV]

/-- The modulation's gate is in its row 16. -/
theorem modV_ga (sh sc ga : FVec Ideal S1024 .f32) (k : Fin 1024) : modV sh sc ga (ix3 16 2 k) = ga (ix1 k) := by
  pointwise [modV]

/-- The sigmoid-weighted gate path at an entry. -/
theorem siluV_apply (g : FVec Ideal S16x256x1024 .f32) (b : Fin 16) (p : Fin 256) (k : Fin 1024) : siluV g (ix3 b p k) = g (ix3 b p k) * Ideal.logistic (g (ix3 b p k)) := by
  pointwise [siluV]
  rfl

/-- The gates' array at one of its first columns. -/
theorem gatesV_apply (g : FVec Ideal S16x256x1024 .f32) (i : Fin 4096) (k : Fin 1024) : gatesV g (ix2 i ⟨k.val, by omega⟩) = g (ix3 ⟨i.val / 256, by omega⟩ ⟨i.val % 256, by omega⟩ k) := by
  pointwise [gatesV]

/-- A branch's outputs at a row. -/
theorem yV_apply (y : FVec Ideal S16x256x256 .f32) (i : Fin 4096) (k : Fin 256) : yV y (ix2 i k) = y (ix3 ⟨i.val / 256, by omega⟩ ⟨i.val % 256, by omega⟩ k) := by
  pointwise [yV]

/-- The input at a row. -/
theorem xV_apply (x : FVec Ideal S16x256x1024 .f32) (i : Fin 4096) (k : Fin 1024) : xV x (ix2 i k) = x (ix3 ⟨i.val / 256, by omega⟩ ⟨i.val % 256, by omega⟩ k) := by
  pointwise [xV]

/-- The gain's row is the gain. -/
theorem ngV_apply (g : FVec Ideal S1024 .f32) (k : Fin 1024) : ngV g (ix2 0 k) = g (ix1 k) := by
  pointwise [ngV]

/-- The up projections at an entry: over the extended reals a cast changes nothing. -/
theorem uV_apply (w : FVec Ideal S4x256x1024 .f32) (e : Fin 4) (j : Fin 256) (n : Fin 1024) : uV w (ix3 e j n) = w (ix3 e j n) := by
  pointwise [uV]

/-- The merge weights at an entry: over the extended reals a cast changes nothing. -/
theorem wV_apply (w : FVec Ideal S4x1024x1024 .f32) (e : Fin 4) (k n : Fin 1024) : wV w (ix3 e k n) = w (ix3 e k n) := by
  pointwise [wV]

/-- The output projection at an entry: over the extended reals a cast changes nothing. -/
theorem oV_apply (w : FVec Ideal S1024x1024 .f32) (k n : Fin 1024) : oV w (ix2 k n) = w (ix2 k n) := by
  pointwise [oV]

end Cert.ContextMergeIdeal.Mrg

end
-- ==== Proof.ContextMergeReference.lean ====
module

public import proofs.«01_k».proof.Proof.MergeRow
public import proofs.«01_k».proof.Proof.Gen.ContextMergeReferenceIdeal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ContextMergeReferenceIdeal.Mrg

open Cert.ContextMergeReferenceIdeal Cert.ContextMergeReferenceIdeal.Gen Cert.Mix

/-- The rows over their root mean squares. -/
def normV (x : FVec Ideal S16x256x1024 .f32) : FVec Ideal S16x256x1024 .f32 :=
  mulf x (broadcastInDim S16x256x1024 ![0, 1, 2] bcast_S16x256x1_S16x256x1024_0_1_2 (Host.rsqrt (addf (Host.divf (broadcastInDim S16x256x1 ![0, 1] bcast_S16x256_S16x256x1_0_1
    (Host.reduceAdd (mulf x x) (constant S_ .f32 0x00000000#32) reducesTo_S16x256x1024_S16x256_d2 h_S_)) (broadcastInDim S16x256x1 ![] bcast_S_S16x256x1 (constant S_ .f32 0x44800000#32)))
    (broadcastInDim S16x256x1 ![] bcast_S_S16x256x1 (constant S_ .f32 0x358637BD#32)))))

/-- The modulated norm: times gain, times one plus scale, plus shift. -/
def hV (x : FVec Ideal S16x256x1024 .f32) (sh sc : FVec Ideal S1024 .f32) (ng : FVec Ideal S1024 .f32) : FVec Ideal S16x256x1024 .f32 :=
  addf (mulf (mulf (normV x) (broadcastInDim S16x256x1024 ![0, 1, 2] bcast_S1x1x1024_S16x256x1024_0_1_2 (broadcastInDim S1x1x1024 ![2] bcast_S1024_S1x1x1024_2 ng)))
    (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) sc))))
    (broadcastInDim S16x256x1024 ![0, 1, 2] bcast_S1x1x1024_S16x256x1024_0_1_2 (broadcastInDim S1x1x1024 ![2] bcast_S1024_S1x1x1024_2 sh))

/-- A branch's gates: its slice of the gate path times the slice's sigmoid. -/
def siluV (g : FVec Ideal S16x256x256 .f32) : FVec Ideal S16x256x256 .f32 := mulf g (Host.divf (broadcastInDim S16x256x256 ![] bcast_S_S16x256x256 (constant S_ .f32 0x3F800000#32)) (addf (broadcastInDim S16x256x256 ![] bcast_S_S16x256x256 (constant S_ .f32 0x3F800000#32)) (Host.exp (Host.negf g))))

/-- A branch: the sigmoid of its merge product times its gated output's up projection. -/
def branchV (h : FVec Ideal S16x256x1024 .f32) (w : FVec Ideal S1024x1024 .f32) (y s : FVec Ideal S16x256x256 .f32) (u : FVec Ideal S256x1024 .f32) : FVec Ideal S16x256x1024 .f32 :=
  mulf (Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf (Host.dotGeneral dot_S16x256x1024_S1024x1024_S16x256x1024_2_0_01_1_n_n none h w))))) (Host.dotGeneral dot_S16x256x256_S256x1024_S16x256x1024_2_0_01_1_n_n none (mulf y s) u)

/-- The result: the input plus the gate times the merged branches' output projection. -/
def outV (x : FVec Ideal S16x256x1024 .f32) (ga : FVec Ideal S1024 .f32) (a : FVec Ideal S16x256x1024 .f32) (wo : FVec Ideal S1024x1024 .f32) : FVec Ideal S4096x1024 .f32 :=
  shapeCast S4096x1024 (addf x (mulf (broadcastInDim S16x256x1024 ![0, 1, 2] bcast_S1x1x1024_S16x256x1024_0_1_2 (broadcastInDim S1x1x1024 ![2] bcast_S1024_S1x1x1024_2 ga)) (Host.dotGeneral dot_S16x256x1024_S1024x1024_S16x256x1024_2_0_01_1_n_n none a wo))) shapeCasts_S16x256x1024_S4096x1024

/-- Branch 0's merge weights. -/
def w0V (w : FVec Ideal S4x1024x1024 .f32) : FVec Ideal S1024x1024 .f32 :=
  shapeCast S1024x1024 (extractStridedSlice S1x1024x1024 ![0, 0, 0] w slices_S4x1024x1024_S1x1024x1024_0_0_0) shapeCasts_S1x1024x1024_S1024x1024

/-- Branch 0's up projection. -/
def u0V (u : FVec Ideal S4x256x1024 .f32) : FVec Ideal S256x1024 .f32 :=
  shapeCast S256x1024 (extractStridedSlice S1x256x1024 ![0, 0, 0] u slices_S4x256x1024_S1x256x1024_0_0_0) shapeCasts_S1x256x1024_S256x1024

/-- Branch 0's slice of the gate path. -/
def g0V (g : FVec Ideal S16x256x1024 .f32) : FVec Ideal S16x256x256 .f32 := extractStridedSlice S16x256x256 ![0, 0, 0] g slices_S16x256x1024_S16x256x256_0_0_0

/-- Branch 1's merge weights. -/
def w1V (w : FVec Ideal S4x1024x1024 .f32) : FVec Ideal S1024x1024 .f32 :=
  shapeCast S1024x1024 (extractStridedSlice S1x1024x1024 ![1, 0, 0] w slices_S4x1024x1024_S1x1024x1024_1_0_0) shapeCasts_S1x1024x1024_S1024x1024

/-- Branch 1's up projection. -/
def u1V (u : FVec Ideal S4x256x1024 .f32) : FVec Ideal S256x1024 .f32 :=
  shapeCast S256x1024 (extractStridedSlice S1x256x1024 ![1, 0, 0] u slices_S4x256x1024_S1x256x1024_1_0_0) shapeCasts_S1x256x1024_S256x1024

/-- Branch 1's slice of the gate path. -/
def g1V (g : FVec Ideal S16x256x1024 .f32) : FVec Ideal S16x256x256 .f32 := extractStridedSlice S16x256x256 ![0, 0, 256] g slices_S16x256x1024_S16x256x256_0_0_256

/-- Branch 2's merge weights. -/
def w2V (w : FVec Ideal S4x1024x1024 .f32) : FVec Ideal S1024x1024 .f32 :=
  shapeCast S1024x1024 (extractStridedSlice S1x1024x1024 ![2, 0, 0] w slices_S4x1024x1024_S1x1024x1024_2_0_0) shapeCasts_S1x1024x1024_S1024x1024

/-- Branch 2's up projection. -/
def u2V (u : FVec Ideal S4x256x1024 .f32) : FVec Ideal S256x1024 .f32 :=
  shapeCast S256x1024 (extractStridedSlice S1x256x1024 ![2, 0, 0] u slices_S4x256x1024_S1x256x1024_2_0_0) shapeCasts_S1x256x1024_S256x1024

/-- Branch 2's slice of the gate path. -/
def g2V (g : FVec Ideal S16x256x1024 .f32) : FVec Ideal S16x256x256 .f32 := extractStridedSlice S16x256x256 ![0, 0, 512] g slices_S16x256x1024_S16x256x256_0_0_512

/-- Branch 3's merge weights. -/
def w3V (w : FVec Ideal S4x1024x1024 .f32) : FVec Ideal S1024x1024 .f32 :=
  shapeCast S1024x1024 (extractStridedSlice S1x1024x1024 ![3, 0, 0] w slices_S4x1024x1024_S1x1024x1024_3_0_0) shapeCasts_S1x1024x1024_S1024x1024

/-- Branch 3's up projection. -/
def u3V (u : FVec Ideal S4x256x1024 .f32) : FVec Ideal S256x1024 .f32 :=
  shapeCast S256x1024 (extractStridedSlice S1x256x1024 ![3, 0, 0] u slices_S4x256x1024_S1x256x1024_3_0_0) shapeCasts_S1x256x1024_S256x1024

/-- Branch 3's slice of the gate path. -/
def g3V (g : FVec Ideal S16x256x1024 .f32) : FVec Ideal S16x256x256 .f32 := extractStridedSlice S16x256x256 ![0, 0, 768] g slices_S16x256x1024_S16x256x256_0_0_768

/-- The branches summed. -/
def totalV (h : FVec Ideal S16x256x1024 .f32) (y0 y1 y2 y3 : FVec Ideal S16x256x256 .f32) (g : FVec Ideal S16x256x1024 .f32) (u : FVec Ideal S4x256x1024 .f32) (w : FVec Ideal S4x1024x1024 .f32) : FVec Ideal S16x256x1024 .f32 :=
  addf (addf (addf (branchV h (w0V w) y0 (siluV (g0V g)) (u0V u)) (branchV h (w1V w) y1 (siluV (g1V g)) (u1V u))) (branchV h (w2V w) y2 (siluV (g2V g)) (u2V u))) (branchV h (w3V w) y3 (siluV (g3V g)) (u3V u))

/-- What the reference computes, in these pieces. -/
theorem res_eq (m : (ℓ : Loc nD τ sig) → Buf (Elt Ideal) ℓ) (c : Dev nD) : Value.res_main_v93 m c
    = outV (m ((c.tc : Thread nD τ).loc main_arg0)) (m ((c.tc : Thread nD τ).loc main_arg3)) (totalV (hV (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) := rfl

/-- The modulated norm at an entry: the reference multiplies the gain and one plus the scale in turn. -/
theorem hV_apply (x : FVec Ideal S16x256x1024 .f32) (sh sc : FVec Ideal S1024 .f32) (ng : FVec Ideal S1024 .f32) (b : Fin 16) (p : Fin 256) (k : Fin 1024) :
    hV x sh sc ng (ix3 b p k) = hrow (fun k => x (ix3 b p k)) (fun k => ng (ix1 k)) (fun k => sc (ix1 k)) (fun k => sh (ix1 k)) k := by
  unfold hrow
  rw [← mul_assoc]
  pointwise [hV, normV]

/-- The gates at an entry. -/
theorem siluV_apply (g : FVec Ideal S16x256x256 .f32) (b : Fin 16) (p : Fin 256) (j : Fin 256) : siluV g (ix3 b p j) = g (ix3 b p j) * Ideal.logistic (g (ix3 b p j)) := by
  pointwise [siluV]
  rfl

/-- A branch at an entry. -/
theorem branchV_apply (h : FVec Ideal S16x256x1024 .f32) (w : FVec Ideal S1024x1024 .f32) (y s : FVec Ideal S16x256x256 .f32) (u : FVec Ideal S256x1024 .f32) (b : Fin 16) (p : Fin 256) (n : Fin 1024) :
    branchV h w y s u (ix3 b p n) = branch (fun k => h (ix3 b p k)) (fun k n => w (ix2 k n)) (fun j => y (ix3 b p j)) (fun j => s (ix3 b p j)) (fun j n => u (ix2 j n)) n := by
  unfold branch
  pointwise [branchV]
  rfl

/-- The result at an entry. -/
theorem outV_apply (x : FVec Ideal S16x256x1024 .f32) (ga : FVec Ideal S1024 .f32) (a : FVec Ideal S16x256x1024 .f32) (wo : FVec Ideal S1024x1024 .f32) (i : Fin 4096) (n : Fin 1024) :
    outV x ga a wo (ix2 i n) = merged (fun k => x (ix3 ⟨i.val / 256, by omega⟩ ⟨i.val % 256, by omega⟩ k)) (fun k => ga (ix1 k))
      (fun k => a (ix3 ⟨i.val / 256, by omega⟩ ⟨i.val % 256, by omega⟩ k)) (fun k n => wo (ix2 k n)) n := by
  unfold merged
  pointwise [outV]

/-- Branch 0's merge weights at an entry. -/
theorem w0V_apply (w : FVec Ideal S4x1024x1024 .f32) (k n : Fin 1024) : w0V w (ix2 k n) = w (ix3 0 k n) := by
  pointwise [w0V]

/-- Branch 0's up projection at an entry. -/
theorem u0V_apply (u : FVec Ideal S4x256x1024 .f32) (j : Fin 256) (n : Fin 1024) : u0V u (ix2 j n) = u (ix3 0 j n) := by
  pointwise [u0V]

/-- Branch 0's slice of the gate path at an entry. -/
theorem g0V_apply (g : FVec Ideal S16x256x1024 .f32) (b : Fin 16) (p : Fin 256) (j : Fin 256) : g0V g (ix3 b p j) = g (ix3 b p ⟨j.val, by omega⟩) := by
  pointwise [g0V]

/-- Branch 1's merge weights at an entry. -/
theorem w1V_apply (w : FVec Ideal S4x1024x1024 .f32) (k n : Fin 1024) : w1V w (ix2 k n) = w (ix3 1 k n) := by
  pointwise [w1V]

/-- Branch 1's up projection at an entry. -/
theorem u1V_apply (u : FVec Ideal S4x256x1024 .f32) (j : Fin 256) (n : Fin 1024) : u1V u (ix2 j n) = u (ix3 1 j n) := by
  pointwise [u1V]

/-- Branch 1's slice of the gate path at an entry. -/
theorem g1V_apply (g : FVec Ideal S16x256x1024 .f32) (b : Fin 16) (p : Fin 256) (j : Fin 256) : g1V g (ix3 b p j) = g (ix3 b p ⟨256 + j.val, by omega⟩) := by
  pointwise [g1V]

/-- Branch 2's merge weights at an entry. -/
theorem w2V_apply (w : FVec Ideal S4x1024x1024 .f32) (k n : Fin 1024) : w2V w (ix2 k n) = w (ix3 2 k n) := by
  pointwise [w2V]

/-- Branch 2's up projection at an entry. -/
theorem u2V_apply (u : FVec Ideal S4x256x1024 .f32) (j : Fin 256) (n : Fin 1024) : u2V u (ix2 j n) = u (ix3 2 j n) := by
  pointwise [u2V]

/-- Branch 2's slice of the gate path at an entry. -/
theorem g2V_apply (g : FVec Ideal S16x256x1024 .f32) (b : Fin 16) (p : Fin 256) (j : Fin 256) : g2V g (ix3 b p j) = g (ix3 b p ⟨512 + j.val, by omega⟩) := by
  pointwise [g2V]

/-- Branch 3's merge weights at an entry. -/
theorem w3V_apply (w : FVec Ideal S4x1024x1024 .f32) (k n : Fin 1024) : w3V w (ix2 k n) = w (ix3 3 k n) := by
  pointwise [w3V]

/-- Branch 3's up projection at an entry. -/
theorem u3V_apply (u : FVec Ideal S4x256x1024 .f32) (j : Fin 256) (n : Fin 1024) : u3V u (ix2 j n) = u (ix3 3 j n) := by
  pointwise [u3V]

/-- Branch 3's slice of the gate path at an entry. -/
theorem g3V_apply (g : FVec Ideal S16x256x1024 .f32) (b : Fin 16) (p : Fin 256) (j : Fin 256) : g3V g (ix3 b p j) = g (ix3 b p ⟨768 + j.val, by omega⟩) := by
  pointwise [g3V]

/-- The branches' sum at an entry. -/
theorem totalV_apply (h : FVec Ideal S16x256x1024 .f32) (y0 y1 y2 y3 : FVec Ideal S16x256x256 .f32) (g : FVec Ideal S16x256x1024 .f32) (u : FVec Ideal S4x256x1024 .f32) (w : FVec Ideal S4x1024x1024 .f32) (b : Fin 16) (p : Fin 256) (n : Fin 1024) :
    totalV h y0 y1 y2 y3 g u w (ix3 b p n) = total (fun k => h (ix3 b p k)) (fun e k n => w (ix3 e k n)) (fun j => y0 (ix3 b p j)) (fun j => y1 (ix3 b p j)) (fun j => y2 (ix3 b p j)) (fun j => y3 (ix3 b p j))
      (fun k => g (ix3 b p k) * Ideal.logistic (g (ix3 b p k))) (fun e j n => u (ix3 e j n)) n := by
  show branchV h (w0V w) y0 (siluV (g0V g)) (u0V u) (ix3 b p n) + branchV h (w1V w) y1 (siluV (g1V g)) (u1V u) (ix3 b p n) + branchV h (w2V w) y2 (siluV (g2V g)) (u2V u) (ix3 b p n)
    + branchV h (w3V w) y3 (siluV (g3V g)) (u3V u) (ix3 b p n) = _
  unfold total
  simp only [branchV_apply, siluV_apply, w0V_apply, w1V_apply, w2V_apply, w3V_apply, u0V_apply, u1V_apply, u2V_apply, u3V_apply, g0V_apply, g1V_apply, g2V_apply, g3V_apply]

end Cert.ContextMergeReferenceIdeal.Mrg

end
-- ==== Proof.ContextMergeEquation.lean ====
module

public import proofs.«01_k».proof.Proof.ContextMergeHost
public import proofs.«01_k».proof.Proof.ContextMergeReference

@[expose] public section

set_option maxRecDepth 16384

noncomputable section

open Idealize.ShloMosaic Idealize.ShloMosaic.TcCoe Idealize.SL.Sem

namespace Cert.ContextMergeEquation

open Cert.ContextMergeIdeal Cert.ContextMergeIdeal.Mrg Cert.Mix
open Cert.ContextMergeReferenceIdeal.Mrg (outV totalV hV outV_apply totalV_apply hV_apply)

/-- The array the kernel fills is the reference's result, whatever the arguments hold. -/
theorem whole_eq (x : FVec Ideal S16x256x1024 .f32) (sh sc ga : FVec Ideal S1024 .f32) (ng : FVec Ideal S1024 .f32) (y0 y1 y2 y3 : FVec Ideal S16x256x256 .f32) (g : FVec Ideal S16x256x1024 .f32)
    (u : FVec Ideal S4x256x1024 .f32) (w : FVec Ideal S4x1024x1024 .f32) (o : FVec Ideal S1024x1024 .f32) :
    whole (xV x) (modV sh sc ga) (ngV ng) (yV y0) (yV y1) (yV y2) (yV y3) (gatesV (siluV g)) (uV u) (wV w) (oV o)
      = outV x ga (totalV (hV x sh sc ng) y0 y1 y2 y3 g u w) o := by
  funext z
  obtain ⟨i, n, rfl⟩ : ∃ (i : Fin 4096) (n : Fin 1024), z = ix2 i n := ⟨z 0, z 1, funext fun a => by fin_cases a <;> rfl⟩
  refine Eq.trans ?_ (outV_apply x ga _ o i n).symm
  simp only [totalV_apply, hV_apply]
  show entry (fun k => xV x (ix2 i k)) (fun k => ngV ng (ix2 0 k)) (fun k => modV sh sc ga (ix3 16 1 k)) (fun k => modV sh sc ga (ix3 16 0 k))
    (fun k => modV sh sc ga (ix3 16 2 k)) (fun j => yV y0 (ix2 i j)) (fun j => yV y1 (ix2 i j)) (fun j => yV y2 (ix2 i j)) (fun j => yV y3 (ix2 i j))
    (fun k => gatesV (siluV g) (ix2 i ⟨k.val, by omega⟩)) (fun e k n => wV w (ix3 e k n)) (fun e j n => uV u (ix3 e j n)) (fun k n => oV o (ix2 k n)) n = _
  simp only [xV_apply, ngV_apply, modV_sh, modV_sc, modV_ga, yV_apply, gatesV_apply, siluV_apply, wV_apply, uV_apply, oV_apply]
  rfl

end Cert.ContextMergeEquation

end
-- ==== Proof.ProjectionRow.lean ====
module

public import Idealize.ShloMosaic.PureOps.Ideal
public import proofs.«01_k».proof.Proof.MergeRow

@[expose] public section

noncomputable section

open Idealize.ShloMosaic

namespace Cert.Proj

/-- One row of the projection: the modulated row's product with the projection's weights. -/
def col (h : Fin 1024 → EReal) (w : Fin 1024 → Fin 3840 → EReal) (n : Fin 3840) : EReal := ∑ k : Fin 1024, h k * w k n

/-- The 256 columns of a row from column `256 c` on. -/
def seg (z : Fin 3840 → EReal) (c : Fin 15) (j : Fin 256) : EReal := z ⟨256 * c.val + j.val, by omega⟩

/-- An entry times its sigmoid. -/
def silu (v : EReal) : EReal := v * Ideal.logistic v

/-- One row normalized head by head, `g` columns a head: each entry over the root of its head's mean square, `κ` being one over `g`, times the gain. -/
def gnorm (g : ℕ) (κ : EReal) (v gain : Fin 256 → EReal) (j : Fin 256) : EReal :=
  v j * Ideal.rsqrt ((∑ i : Fin 256, v i * v i * (if i.val / g = j.val / g then κ else 0)) + Ideal.ofBits .f32 0x358637BD#32) * gain j

/-- One row rotated: each entry times its cosine plus its partner's — sixteen columns away in the same head — times the signed sine. -/
def rot (u cs sn : Fin 256 → EReal) (j : Fin 256) : EReal :=
  u j * cs j + (if j.val % 32 < 16 then u ⟨(j.val + 16) % 256, by omega⟩ else u ⟨(j.val + 240) % 256, by omega⟩) * sn j

/-- One row of values, each head's 64 columns followed by 64 ones. -/
def ones (v : Fin 256 → EReal) (j : Fin 512) : EReal := if h : j.val % 128 < 64 then v ⟨64 * (j.val / 128) + j.val % 128, by omega⟩ else Ideal.ofBits .f32 0x3F800000#32

/-- A forget gate's logarithm, from its floored lower bound and one minus its lower bound. -/
def forget (a b f : EReal) : EReal := Ideal.log (a + b * Ideal.logistic f)

/-- A head of 32 columns' mean takes a thirty-second of each. -/
def κa : EReal := Ideal.ofBits .f32 0x3D000000#32

/-- A head of 64 columns' mean takes a sixty-fourth of each. -/
def κb : EReal := Ideal.ofBits .f32 0x3C800000#32

/-- One row of the array of results: the gates, rotated queries and keys, the other queries and keys, both branches' values with ones, the third branch's query and input, the fourth's input. -/
def slab (z : Fin 3840 → EReal) (ga gb : Fin 2 → Fin 256 → EReal) (cs sn : Fin 256 → EReal) (n : Fin 3840) : EReal :=
  if h0 : n.val < 1024 then silu (z ⟨n.val + 2816, by omega⟩)
  else if h1 : n.val < 1280 then rot (gnorm 32 κa (seg z 0) (ga 0)) cs sn ⟨n.val - 1024, by omega⟩
  else if h2 : n.val < 1536 then rot (gnorm 32 κa (seg z 1) (ga 1)) cs sn ⟨n.val - 1280, by omega⟩
  else if h3 : n.val < 1792 then gnorm 64 κb (seg z 3) (gb 0) ⟨n.val - 1536, by omega⟩
  else if h4 : n.val < 2048 then gnorm 64 κb (seg z 4) (gb 1) ⟨n.val - 1792, by omega⟩
  else if h5 : n.val < 2560 then ones (seg z 2) ⟨n.val - 2048, by omega⟩
  else if h6 : n.val < 3072 then ones (seg z 5) ⟨n.val - 2560, by omega⟩
  else if h7 : n.val < 3328 then silu (seg z 6 ⟨n.val - 3072, by omega⟩)
  else if h8 : n.val < 3584 then seg z 9 ⟨n.val - 3328, by omega⟩
  else seg z 10 ⟨n.val - 3584, by omega⟩

/-- One row of the forget gates' logarithms, one direction after the other. -/
def gates (z : Fin 3840 → EReal) (lb : Fin 4 → Fin 256 → EReal) (n : Fin 512) : EReal :=
  if h : n.val < 256 then forget (lb 0 ⟨n.val, h⟩) (lb 1 ⟨n.val, h⟩) (seg z 7 ⟨n.val, h⟩)
  else forget (lb 2 ⟨n.val - 256, by omega⟩) (lb 3 ⟨n.val - 256, by omega⟩) (seg z 8 ⟨n.val - 256, by omega⟩)

variable (z : Fin 3840 → EReal) (ga gb : Fin 2 → Fin 256 → EReal) (cs sn : Fin 256 → EReal) (lb : Fin 4 → Fin 256 → EReal)

/-- The row's gates: four runs of 256 columns. -/
theorem slab_gate (n : Fin 3840) (c : Fin 15) (j : Fin 256) (hc : 11 ≤ c.val) (h : n.val = 256 * (c.val - 11) + j.val) : slab z ga gb cs sn n = silu (seg z c j) := by
  have hn : n.val < 1024 := by omega
  unfold slab seg
  rw [dif_pos hn]
  exact congrArg (fun i => silu (z i)) (Fin.ext (by show n.val + 2816 = 256 * c.val + j.val; omega))

/-- The row's gates, column by column. -/
theorem slab_gate' (n : Fin 3840) (j : Fin 1024) (h : n.val = j.val) : slab z ga gb cs sn n = silu (z ⟨2816 + j.val, by omega⟩) := by
  have hn : n.val < 1024 := by omega
  unfold slab
  rw [dif_pos hn]
  exact congrArg (fun i => silu (z i)) (Fin.ext (by show n.val + 2816 = 2816 + j.val; omega))

/-- The row's rotated queries. -/
theorem slab_qa (n : Fin 3840) (j : Fin 256) (h : n.val = 1024 + j.val) : slab z ga gb cs sn n = rot (gnorm 32 κa (seg z 0) (ga 0)) cs sn j := by
  have e : (⟨n.val - 1024, by omega⟩ : Fin 256) = j := Fin.ext (by show n.val - 1024 = j.val; omega)
  unfold slab
  rw [dif_neg (by omega), dif_pos (by omega), e]

/-- The row's rotated keys. -/
theorem slab_ka (n : Fin 3840) (j : Fin 256) (h : n.val = 1280 + j.val) : slab z ga gb cs sn n = rot (gnorm 32 κa (seg z 1) (ga 1)) cs sn j := by
  have e : (⟨n.val - 1280, by omega⟩ : Fin 256) = j := Fin.ext (by show n.val - 1280 = j.val; omega)
  unfold slab
  rw [dif_neg (by omega), dif_neg (by omega), dif_pos (by omega), e]

/-- The row's second queries. -/
theorem slab_qb (n : Fin 3840) (j : Fin 256) (h : n.val = 1536 + j.val) : slab z ga gb cs sn n = gnorm 64 κb (seg z 3) (gb 0) j := by
  have e : (⟨n.val - 1536, by omega⟩ : Fin 256) = j := Fin.ext (by show n.val - 1536 = j.val; omega)
  unfold slab
  rw [dif_neg (by omega), dif_neg (by omega), dif_neg (by omega), dif_pos (by omega), e]

/-- The row's second keys. -/
theorem slab_kb (n : Fin 3840) (j : Fin 256) (h : n.val = 1792 + j.val) : slab z ga gb cs sn n = gnorm 64 κb (seg z 4) (gb 1) j := by
  have e : (⟨n.val - 1792, by omega⟩ : Fin 256) = j := Fin.ext (by show n.val - 1792 = j.val; omega)
  unfold slab
  rw [dif_neg (by omega), dif_neg (by omega), dif_neg (by omega), dif_neg (by omega), dif_pos (by omega), e]

/-- The row's values with ones. -/
theorem slab_va (n : Fin 3840) (j : Fin 512) (h : n.val = 2048 + j.val) : slab z ga gb cs sn n = ones (seg z 2) j := by
  have e : (⟨n.val - 2048, by omega⟩ : Fin 512) = j := Fin.ext (by show n.val - 2048 = j.val; omega)
  unfold slab
  rw [dif_neg (by omega), dif_neg (by omega), dif_neg (by omega), dif_neg (by omega), dif_neg (by omega), dif_pos (by omega), e]

/-- The row's second values with ones. -/
theorem slab_vb (n : Fin 3840) (j : Fin 512) (h : n.val = 2560 + j.val) : slab z ga gb cs sn n = ones (seg z 5) j := by
  have e : (⟨n.val - 2560, by omega⟩ : Fin 512) = j := Fin.ext (by show n.val - 2560 = j.val; omega)
  unfold slab
  rw [dif_neg (by omega), dif_neg (by omega), dif_neg (by omega), dif_neg (by omega), dif_neg (by omega), dif_neg (by omega), dif_pos (by omega), e]

/-- The row's third query. -/
theorem slab_hq (n : Fin 3840) (j : Fin 256) (h : n.val = 3072 + j.val) : slab z ga gb cs sn n = silu (seg z 6 j) := by
  have e : (⟨n.val - 3072, by omega⟩ : Fin 256) = j := Fin.ext (by show n.val - 3072 = j.val; omega)
  unfold slab
  rw [dif_neg (by omega), dif_neg (by omega), dif_neg (by omega), dif_neg (by omega), dif_neg (by omega), dif_neg (by omega), dif_neg (by omega), dif_pos (by omega), e]

/-- The row's third input. -/
theorem slab_hi (n : Fin 3840) (j : Fin 256) (h : n.val = 3328 + j.val) : slab z ga gb cs sn n = seg z 9 j := by
  have e : (⟨n.val - 3328, by omega⟩ : Fin 256) = j := Fin.ext (by show n.val - 3328 = j.val; omega)
  unfold slab
  rw [dif_neg (by omega), dif_neg (by omega), dif_neg (by omega), dif_neg (by omega), dif_neg (by omega), dif_neg (by omega), dif_neg (by omega), dif_neg (by omega), dif_pos (by omega), e]

/-- The row's fourth input. -/
theorem slab_u (n : Fin 3840) (j : Fin 256) (h : n.val = 3584 + j.val) : slab z ga gb cs sn n = seg z 10 j := by
  have e : (⟨n.val - 3584, by omega⟩ : Fin 256) = j := Fin.ext (by show n.val - 3584 = j.val; omega)
  unfold slab
  rw [dif_neg (by omega), dif_neg (by omega), dif_neg (by omega), dif_neg (by omega), dif_neg (by omega), dif_neg (by omega), dif_neg (by omega), dif_neg (by omega), dif_neg (by omega), e]

/-- The forward gates. -/
theorem gates_f (n : Fin 512) (j : Fin 256) (h : n.val = j.val) : gates z lb n = forget (lb 0 j) (lb 1 j) (seg z 7 j) := by
  have e : (⟨n.val, by omega⟩ : Fin 256) = j := Fin.ext (by show n.val = j.val; omega)
  unfold gates
  rw [dif_pos (by omega), e]

/-- The backward gates. -/
theorem gates_b (n : Fin 512) (j : Fin 256) (h : n.val = 256 + j.val) : gates z lb n = forget (lb 2 j) (lb 3 j) (seg z 8 j) := by
  have e : (⟨n.val - 256, by omega⟩ : Fin 256) = j := Fin.ext (by show n.val - 256 = j.val; omega)
  unfold gates
  rw [dif_neg (by omega), e]

/-- A column of the projection, from a row and weights each equal to what it is read from. -/
theorem prod_of {h h' : Fin 1024 → EReal} {w : Fin 1024 → Fin 3840 → EReal} {w' : Fin 1024 → EReal} {c : Fin 15} {j : Fin 256} (hh : ∀ k, h' k = h k)
    (hw : ∀ k, w' k = w k ⟨256 * c.val + j.val, by omega⟩) : ∑ k : Fin 1024, h' k * w' k = seg (col h w) c j := by
  unfold seg col
  exact Finset.sum_congr rfl fun k _ => by rw [hh, hw]

/-- A normalized row, from pieces. -/
theorem gnorm_of {g : ℕ} {κ : EReal} {v v' a a' : Fin 256 → EReal} {j : Fin 256} (hv : ∀ i, v' i = v i) (ha : ∀ i, a' i = a i) : gnorm g κ v' a' j = gnorm g κ v a j := by
  obtain rfl : v' = v := funext hv
  obtain rfl : a' = a := funext ha
  rfl

/-- A rotated row, from pieces. -/
theorem rot_of {u u' a a' b b' : Fin 256 → EReal} {j : Fin 256} (hu : ∀ i, u' i = u i) (ha : ∀ i, a' i = a i) (hb : ∀ i, b' i = b i) : rot u' a' b' j = rot u a b j := by
  obtain rfl : u' = u := funext hu
  obtain rfl : a' = a := funext ha
  obtain rfl : b' = b := funext hb
  rfl

/-- A row of values with ones, from pieces. -/
theorem ones_of {v v' : Fin 256 → EReal} {j : Fin 512} (hv : ∀ i, v' i = v i) : ones v' j = ones v j := by
  obtain rfl : v' = v := funext hv
  rfl

/-- A forget gate's logarithm, from pieces. -/
theorem forget_of {a a' b b' f f' : EReal} (ha : a' = a) (hb : b' = b) (hf : f' = f) : forget a' b' f' = forget a b f := by
  rw [ha, hb, hf]

/-- A modulated row, from pieces. -/
theorem hrow_of {x x' ng ng' sc sc' sh sh' : Fin 1024 → EReal} {k : Fin 1024} (hx : ∀ k, x' k = x k) (hn : ∀ k, ng' k = ng k) (hc : ∀ k, sc' k = sc k) (hs : ∀ k, sh' k = sh k) :
    Cert.Mix.hrow x' ng' sc' sh' k = Cert.Mix.hrow x ng sc sh k := by
  obtain rfl : x' = x := funext hx
  obtain rfl : ng' = ng := funext hn
  obtain rfl : sc' = sc := funext hc
  obtain rfl : sh' = sh := funext hs
  rfl

end Cert.Proj

end
-- ==== Proof.ProjectionPieces.lean ====
module

public import proofs.«01_k».proof.Proof.ProjectionRow
public import proofs.«01_k».proof.Proof.Gen.ProjectionIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ProjectionIdeal.Prj

open Cert.ProjectionIdeal Cert.ProjectionIdeal.Gen Cert.Proj

/-- A choice by equality of two small numbers' words is the choice by the numbers' equality. -/
theorem sel_eq (a b : ℕ) (ha : a < 256) (hb : b < 256) (v : EReal) : Scalar.select (IntOp.cmpi .eq (BitVec.ofNat 32 a) (BitVec.ofNat 32 b)) v 0 = if a = b then v else 0 := by
  by_cases h : a = b
  · subst h
    rw [if_pos rfl]
    show (if BitVec.ofBool (BitVec.ofNat 32 a == BitVec.ofNat 32 a) = 1#1 then v else 0) = v
    rw [beq_self_eq_true]
    rfl
  · rw [if_neg h]
    have hne : (BitVec.ofNat 32 a == BitVec.ofNat 32 b) = false := by
      rw [beq_eq_false_iff_ne]
      intro he
      have := congrArg BitVec.toNat he
      rw [BitVec.toNat_ofNat, BitVec.toNat_ofNat, Nat.mod_eq_of_lt (by omega), Nat.mod_eq_of_lt (by omega)] at this
      exact h this
    show (if BitVec.ofBool (BitVec.ofNat 32 a == BitVec.ofNat 32 b) = 1#1 then v else 0) = 0
    rw [hne]
    rfl

/-- The first table of head numbers, by row. -/
theorem rows32_apply (i j : Fin 256) : (k0_pay12 (iota .tc S256x256 32 [0] iota_S256x256_d0_w32) 32#32 k0_pay11) (ix2 i j) = BitVec.ofNat 32 (i.val / 32) := by
  pointwise [k0_pay12, k0_pay11]
  revert i
  decide +kernel

/-- The first table of head numbers, by column. -/
theorem cols32_apply (i j : Fin 256) : (select k0_pay14 k0_pay15 k0_pay13) (ix2 i j) = BitVec.ofNat 32 (j.val / 32) := by
  pointwise [k0_pay13, k0_pay14, k0_pay15]
  revert j
  decide +kernel

/-- The queries normalized head by head. -/
theorem pay16_apply (v : FVec Ideal S512x256 .f32) (g : Vec Ideal S1x256 .f32) (r : Fin 512) (j : Fin 256) :
    k0_pay16 (F := Ideal) v g (k0_pay10 v) (k0_pay12 (iota .tc S256x256 32 [0] iota_S256x256_d0_w32) 32#32 k0_pay11) k0_pay13 k0_pay14 k0_pay15 (ix2 r j) = gnorm 32 κa (fun i => v (ix2 r i)) (fun i => g (ix2 0 i)) j := by
  unfold gnorm κa
  pointwise [k0_pay16, k0_pay10]
  refine congrArg (fun s => v (ix2 r j) * Ideal.rsqrt (s + Ideal.ofBits .f32 0x358637BD#32) * g (ix2 0 j)) (Finset.sum_congr rfl fun i _ => ?_)
  rw [mul_ite, mul_zero]
  exact (congrArg₂ (fun a b => Scalar.select (IntOp.cmpi .eq a b) (v (ix2 r i) * v (ix2 r i) * Ideal.ofBits .f32 0x3D000000#32) 0) (rows32_apply i j) (cols32_apply i j)).trans
    (sel_eq (i.val / 32) (j.val / 32) (by omega) (by omega) _)

/-- The keys normalized head by head. -/
theorem pay21_apply (v : FVec Ideal S512x256 .f32) (g : Vec Ideal S1x256 .f32) (r : Fin 512) (j : Fin 256) :
    k0_pay21 (F := Ideal) v g (k0_pay17 v) k0_pay18 (iota .tc S256x256 32 [1] iota_S256x256_d1_w32) 32#32 k0_pay19 k0_pay20 (ix2 r j) = gnorm 32 κa (fun i => v (ix2 r i)) (fun i => g (ix2 0 i)) j := by
  exact pay16_apply v g r j

/-- The second table of equal heads. -/
theorem pay39_apply (i j : Fin 256) : k0_pay39 (iota .tc S256x256 32 [0] iota_S256x256_d0_w32) 64#32 k0_pay37 k0_pay38 0#32 (ix2 i j) = IntOp.cmpi .eq (BitVec.ofNat 32 (i.val / 64)) (BitVec.ofNat 32 (j.val / 64)) := by
  pointwise [k0_pay39, k0_pay37, k0_pay38]
  refine congrArg₂ (IntOp.cmpi .eq) ?_ ?_
  · revert i
    decide +kernel
  · revert j
    decide +kernel

/-- The second keys normalized head by head. -/
theorem pay42_apply (v : FVec Ideal S512x256 .f32) (g : Vec Ideal S1x256 .f32) (r : Fin 512) (j : Fin 256) :
    k0_pay42 (F := Ideal) v g (k0_pay36 v) (k0_pay39 (iota .tc S256x256 32 [0] iota_S256x256_d0_w32) 64#32 k0_pay37 k0_pay38 0#32) k0_pay40 k0_pay41 (ix2 r j) = gnorm 64 κb (fun i => v (ix2 r i)) (fun i => g (ix2 0 i)) j := by
  unfold gnorm κb
  pointwise [k0_pay42, k0_pay36, k0_pay40, k0_pay41]
  refine congrArg (fun s => v (ix2 r j) * Ideal.rsqrt (s + Ideal.ofBits .f32 0x358637BD#32) * g (ix2 0 j)) (Finset.sum_congr rfl fun i _ => ?_)
  rw [mul_ite, mul_zero]
  exact (congrArg (fun a => Scalar.select a (v (ix2 r i) * v (ix2 r i) * Ideal.ofBits .f32 0x3C800000#32) 0) (pay39_apply i j)).trans
    (sel_eq (i.val / 64) (j.val / 64) (by omega) (by omega) _)

/-- The second queries normalized head by head. -/
theorem pay35_apply (v : FVec Ideal S512x256 .f32) (g : Vec Ideal S1x256 .f32) (r : Fin 512) (j : Fin 256) :
    k0_pay35 (F := Ideal) v g (k0_pay31 v) k0_pay32 (iota .tc S256x256 32 [1] iota_S256x256_d1_w32) 64#32 k0_pay33 k0_pay34 (ix2 r j) = gnorm 64 κb (fun i => v (ix2 r i)) (fun i => g (ix2 0 i)) j := by
  exact pay42_apply v g r j

/-- Where a lane stands in the first half of its head. -/
theorem pay28_apply (r : Fin 512) (j : Fin 256) : k0_pay28 (ix2 r j) = if j.val % 32 < 16 then 1#1 else 0#1 := by
  pointwise [k0_pay28]
  revert j
  decide +kernel

/-- The rotated keys. -/
theorem pay30_apply (u cs sn : FVec Ideal S512x256 .f32) (r : Fin 512) (j : Fin 256) :
    k0_pay30 (F := Ideal) u (k0_pay26 cs) (k0_pay27 sn) k0_pay28 240#32 (ix2 r j) = rot (fun i => u (ix2 r i)) (fun i => cs (ix2 r i)) (fun i => sn (ix2 r i)) j := by
  unfold rot
  pointwise [k0_pay30, k0_pay26, k0_pay27]
  rw [pay28_apply]
  have e1 : j.val + 256 - 240 = j.val + 16 := by omega
  have e2 : j.val + 256 - 16 = j.val + 240 := by omega
  split_ifs
  · simp only [e1]; rfl
  · simp only [e2]; rfl

/-- The rotated queries. -/
theorem pay29_apply (u cs sn : FVec Ideal S512x256 .f32) (r : Fin 512) (j : Fin 256) :
    k0_pay29 (F := Ideal) (k0_pay25 u (k0_pay22 cs) (k0_pay23 sn) 32#32 k0_pay24 0#32) (ix2 r j) = rot (fun i => u (ix2 r i)) (fun i => cs (ix2 r i)) (fun i => sn (ix2 r i)) j := by
  exact pay30_apply u cs sn r j

/-- The rows after the modulated norm. -/
theorem pay3_apply (x : Vec Ideal S512x1024 .f32) (ng : Vec Ideal S1x1024 .f32) (sc sh : Vec Ideal S1x1x1024 .f32) (r : Fin 512) (n : Fin 1024) :
    k0_pay3 (F := Ideal) x ng sc sh (ix2 r n) = Cert.Mix.hrow (fun k => x (ix2 r k)) (fun k => ng (ix2 0 k)) (fun k => sc (ix3 0 0 k)) (fun k => sh (ix3 0 0 k)) n := by
  unfold Cert.Mix.hrow
  pointwise [k0_pay3]

/-- The queries' product. -/
theorem pay4_apply (x : Vec Ideal S512x1024 .f32) (ng : Vec Ideal S1x1024 .f32) (sc sh : Vec Ideal S1x1x1024 .f32) (w : Vec Ideal S1024x256 .bf16) (r : Fin 512) (j : Fin 256) :
    k0_pay4 (F := Ideal) x ng sc sh w (ix2 r j) = ∑ k : Fin 1024, k0_pay3 (F := Ideal) x ng sc sh (ix2 r k) * w (ix2 k j) := by
  pointwise [k0_pay4]

/-- The keys' product. -/
theorem pay5_apply (x : Vec Ideal S512x1024 .f32) (ng : Vec Ideal S1x1024 .f32) (sc sh : Vec Ideal S1x1x1024 .f32) (w : Vec Ideal S1024x256 .bf16) (r : Fin 512) (j : Fin 256) :
    k0_pay5 (F := Ideal) x ng sc sh w (ix2 r j) = ∑ k : Fin 1024, k0_pay3 (F := Ideal) x ng sc sh (ix2 r k) * w (ix2 k j) := by
  pointwise [k0_pay5]

/-- The second queries' product. -/
theorem pay6_apply (x : Vec Ideal S512x1024 .f32) (ng : Vec Ideal S1x1024 .f32) (sc sh : Vec Ideal S1x1x1024 .f32) (w : Vec Ideal S1024x256 .bf16) (r : Fin 512) (j : Fin 256) :
    k0_pay6 (F := Ideal) x ng sc sh w (ix2 r j) = ∑ k : Fin 1024, k0_pay3 (F := Ideal) x ng sc sh (ix2 r k) * w (ix2 k j) := by
  pointwise [k0_pay6]

/-- The second keys' product. -/
theorem pay7_apply (h : FVec Ideal S512x1024 .bf16) (w : Vec Ideal S1024x256 .bf16) (r : Fin 512) (j : Fin 256) :
    k0_pay7 (F := Ideal) h w (ix2 r j) = ∑ k : Fin 1024, h (ix2 r k) * w (ix2 k j) := by
  pointwise [k0_pay7]

/-- The third input's product. -/
theorem pay1_apply (h : FVec Ideal S512x1024 .bf16) (w : Vec Ideal S1024x256 .bf16) (r : Fin 512) (j : Fin 256) :
    k0_pay1 (F := Ideal) h w (ix2 r j) = ∑ k : Fin 1024, h (ix2 r k) * w (ix2 k j) := by
  pointwise [k0_pay1]

/-- The fourth input's product. -/
theorem pay2_apply (h : FVec Ideal S512x1024 .bf16) (w : Vec Ideal S1024x256 .bf16) (r : Fin 512) (j : Fin 256) :
    k0_pay2 (F := Ideal) h w (ix2 r j) = ∑ k : Fin 1024, h (ix2 r k) * w (ix2 k j) := by
  pointwise [k0_pay2]

/-- The first run of gates. -/
theorem pay43_apply (h : FVec Ideal S512x1024 .bf16) (w : Vec Ideal S1024x256 .bf16) (r : Fin 512) (j : Fin 256) :
    k0_pay43 (F := Ideal) h w (ix2 r j) = silu (∑ k : Fin 1024, h (ix2 r k) * w (ix2 k j)) := by
  unfold silu
  pointwise [k0_pay43]

/-- The second run of gates. -/
theorem pay44_apply (h : FVec Ideal S512x1024 .bf16) (w : Vec Ideal S1024x256 .bf16) (r : Fin 512) (j : Fin 256) :
    k0_pay44 (F := Ideal) h w (ix2 r j) = silu (∑ k : Fin 1024, h (ix2 r k) * w (ix2 k j)) := by
  unfold silu
  pointwise [k0_pay44]

/-- The third run of gates. -/
theorem pay45_apply (h : FVec Ideal S512x1024 .bf16) (w : Vec Ideal S1024x256 .bf16) (r : Fin 512) (j : Fin 256) :
    k0_pay45 (F := Ideal) h w (ix2 r j) = silu (∑ k : Fin 1024, h (ix2 r k) * w (ix2 k j)) := by
  unfold silu
  pointwise [k0_pay45]

/-- The fourth run of gates. -/
theorem pay47_apply (h : FVec Ideal S512x1024 .bf16) (w : Vec Ideal S1024x256 .bf16) (r : Fin 512) (j : Fin 256) :
    k0_pay47 (F := Ideal) h (k0_pay46 w) (ix2 r j) = silu (∑ k : Fin 1024, h (ix2 r k) * w (ix2 k j)) := by
  unfold silu
  pointwise [k0_pay47, k0_pay46]

/-- The third query. -/
theorem pay48_apply (h : FVec Ideal S512x1024 .bf16) (w : Vec Ideal S1024x256 .bf16) (r : Fin 512) (j : Fin 256) :
    k0_pay48 (F := Ideal) h w (ix2 r j) = silu (∑ k : Fin 1024, h (ix2 r k) * w (ix2 k j)) := by
  unfold silu
  pointwise [k0_pay48]

/-- The values with ones. -/
theorem pay49_apply (h : FVec Ideal S512x1024 .bf16) (w : Vec Ideal S1024x256 .bf16) (r : Fin 512) (j : Fin 512) :
    k0_pay49 (F := Ideal) h w (ix2 r j) = ones (fun i => ∑ k : Fin 1024, h (ix2 r k) * w (ix2 k i)) j := by
  unfold ones
  pointwise [k0_pay49]
  split_ifs <;> first
    | rfl
    | omega
    | (rw [dif_neg (by omega)]; done)
    | (rw [dif_pos (by omega)]; done)
    | rw [dif_pos (by omega)]; exact congrArg (fun i : Fin 256 => ∑ k : Fin 1024, h (ix2 r k) * w (ix2 k i)) (Fin.ext (by dsimp only; omega))

/-- The second values with ones. -/
theorem pay50_apply (h : FVec Ideal S512x1024 .bf16) (w : Vec Ideal S1024x256 .bf16) (r : Fin 512) (j : Fin 512) :
    k0_pay50 (F := Ideal) h w (ix2 r j) = ones (fun i => ∑ k : Fin 1024, h (ix2 r k) * w (ix2 k i)) j := by
  unfold ones
  pointwise [k0_pay50]
  split_ifs <;> first
    | rfl
    | omega
    | (rw [dif_neg (by omega)]; done)
    | (rw [dif_pos (by omega)]; done)
    | rw [dif_pos (by omega)]; exact congrArg (fun i : Fin 256 => ∑ k : Fin 1024, h (ix2 r k) * w (ix2 k i)) (Fin.ext (by dsimp only; omega))

/-- The forward gates' logarithms. -/
theorem pay8_apply (h : FVec Ideal S512x1024 .bf16) (w : Vec Ideal S1024x256 .bf16) (a b : Vec Ideal S1x256 .f32) (r : Fin 512) (j : Fin 256) :
    k0_pay8 (F := Ideal) h w a b (ix2 r j) = forget (a (ix2 0 j)) (b (ix2 0 j)) (∑ k : Fin 1024, h (ix2 r k) * w (ix2 k j)) := by
  unfold forget
  pointwise [k0_pay8]

/-- The backward gates' logarithms. -/
theorem pay9_apply (h : FVec Ideal S512x1024 .bf16) (w : Vec Ideal S1024x256 .bf16) (a b : Vec Ideal S1x256 .f32) (r : Fin 512) (j : Fin 256) :
    k0_pay9 (F := Ideal) h w a b (ix2 r j) = forget (a (ix2 0 j)) (b (ix2 0 j)) (∑ k : Fin 1024, h (ix2 r k) * w (ix2 k j)) := by
  unfold forget
  pointwise [k0_pay9]

end Cert.ProjectionIdeal.Prj

end
-- ==== Proof.ProjectionBlock.lean ====
module

public import proofs.«01_k».proof.Proof.ProjectionPieces
public import proofs.«01_k».proof.Proof.Gen.ProjectionIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ProjectionIdeal.Prj

open Cert.ProjectionIdeal Cert.ProjectionIdeal.Gen Cert.Proj

/-- The input block read whole. -/
theorem ld_x (x : Vec Ideal S512x1024 .f32) (r : Fin 512) (k : Fin 1024) : View.ld x (Rect.unit ![0, 0] ![512, 1024] inb_S512x1024_S512x1024_0_0) (ix2 r k) = x (ix2 r k) := by
  pointwise

/-- The gain read whole. -/
theorem ld_ng (x : Vec Ideal S1x1024 .f32) (k : Fin 1024) : View.ld x (Rect.unit ![0, 0] ![1, 1024] inb_S1x1024_S1x1024_0_0) (ix2 0 k) = x (ix2 0 k) := by
  pointwise

/-- The shift read from the modulation. -/
theorem ld_md0 (x : Vec Ideal S1x3x1024 .f32) (k : Fin 1024) : View.ld x (Rect.unit ![0, 0, 0] ![1, 1, 1024] inb_S1x3x1024_S1x1x1024_0_0_0) (ix3 0 0 k) = x (ix3 0 0 k) := by
  pointwise

/-- The scale read from the modulation. -/
theorem ld_md1 (x : Vec Ideal S1x3x1024 .f32) (k : Fin 1024) : View.ld x (Rect.unit ![0, 1, 0] ![1, 1, 1024] inb_S1x3x1024_S1x1x1024_0_1_0) (ix3 0 0 k) = x (ix3 0 1 k) := by
  pointwise

/-- A table of cosines or sines read whole. -/
theorem ld_cs (x : Vec Ideal S512x256 .f32) (r : Fin 512) (j : Fin 256) : View.ld x (Rect.unit ![0, 0] ![512, 256] inb_S512x256_S512x256_0_0) (ix2 r j) = x (ix2 r j) := by
  pointwise

/-- Row 0 of a pair of gains read. -/
theorem ld_g0 (x : Vec Ideal S2x256 .f32) (j : Fin 256) : View.ld x (Rect.unit ![0, 0] ![1, 256] inb_S2x256_S1x256_0_0) (ix2 0 j) = x (ix2 0 j) := by
  pointwise

/-- Row 1 of a pair of gains read. -/
theorem ld_g1 (x : Vec Ideal S2x256 .f32) (j : Fin 256) : View.ld x (Rect.unit ![1, 0] ![1, 256] inb_S2x256_S1x256_1_0) (ix2 0 j) = x (ix2 1 j) := by
  pointwise

/-- Row 0 of the forget gates' bounds read. -/
theorem ld_lb0 (x : Vec Ideal S4x256 .f32) (j : Fin 256) : View.ld x (Rect.unit ![0, 0] ![1, 256] inb_S4x256_S1x256_0_0) (ix2 0 j) = x (ix2 0 j) := by
  pointwise

/-- Row 1 of the forget gates' bounds read. -/
theorem ld_lb1 (x : Vec Ideal S4x256 .f32) (j : Fin 256) : View.ld x (Rect.unit ![1, 0] ![1, 256] inb_S4x256_S1x256_1_0) (ix2 0 j) = x (ix2 1 j) := by
  pointwise

/-- Row 2 of the forget gates' bounds read. -/
theorem ld_lb2 (x : Vec Ideal S4x256 .f32) (j : Fin 256) : View.ld x (Rect.unit ![2, 0] ![1, 256] inb_S4x256_S1x256_2_0) (ix2 0 j) = x (ix2 2 j) := by
  pointwise

/-- Row 3 of the forget gates' bounds read. -/
theorem ld_lb3 (x : Vec Ideal S4x256 .f32) (j : Fin 256) : View.ld x (Rect.unit ![3, 0] ![1, 256] inb_S4x256_S1x256_3_0) (ix2 0 j) = x (ix2 3 j) := by
  pointwise

/-- Run 0 of the projection's weights read. -/
theorem ld_w0 (x : Vec Ideal S1024x3840 .bf16) (k : Fin 1024) (j : Fin 256) :
    View.ld x (Rect.unit ![0, 0] ![1024, 256] inb_S1024x3840_S1024x256_0_0) (ix2 k j) = x (ix2 k ⟨256 * (0 : Fin 15).val + j.val, by omega⟩) := by
  pointwise

/-- Run 1 of the projection's weights read. -/
theorem ld_w1 (x : Vec Ideal S1024x3840 .bf16) (k : Fin 1024) (j : Fin 256) :
    View.ld x (Rect.unit ![0, 256] ![1024, 256] inb_S1024x3840_S1024x256_0_256) (ix2 k j) = x (ix2 k ⟨256 * (1 : Fin 15).val + j.val, by omega⟩) := by
  pointwise

/-- Run 2 of the projection's weights read. -/
theorem ld_w2 (x : Vec Ideal S1024x3840 .bf16) (k : Fin 1024) (j : Fin 256) :
    View.ld x (Rect.unit ![0, 512] ![1024, 256] inb_S1024x3840_S1024x256_0_512) (ix2 k j) = x (ix2 k ⟨256 * (2 : Fin 15).val + j.val, by omega⟩) := by
  pointwise

/-- Run 3 of the projection's weights read. -/
theorem ld_w3 (x : Vec Ideal S1024x3840 .bf16) (k : Fin 1024) (j : Fin 256) :
    View.ld x (Rect.unit ![0, 768] ![1024, 256] inb_S1024x3840_S1024x256_0_768) (ix2 k j) = x (ix2 k ⟨256 * (3 : Fin 15).val + j.val, by omega⟩) := by
  pointwise

/-- Run 4 of the projection's weights read. -/
theorem ld_w4 (x : Vec Ideal S1024x3840 .bf16) (k : Fin 1024) (j : Fin 256) :
    View.ld x (Rect.unit ![0, 1024] ![1024, 256] inb_S1024x3840_S1024x256_0_1024) (ix2 k j) = x (ix2 k ⟨256 * (4 : Fin 15).val + j.val, by omega⟩) := by
  pointwise

/-- Run 5 of the projection's weights read. -/
theorem ld_w5 (x : Vec Ideal S1024x3840 .bf16) (k : Fin 1024) (j : Fin 256) :
    View.ld x (Rect.unit ![0, 1280] ![1024, 256] inb_S1024x3840_S1024x256_0_1280) (ix2 k j) = x (ix2 k ⟨256 * (5 : Fin 15).val + j.val, by omega⟩) := by
  pointwise

/-- Run 6 of the projection's weights read. -/
theorem ld_w6 (x : Vec Ideal S1024x3840 .bf16) (k : Fin 1024) (j : Fin 256) :
    View.ld x (Rect.unit ![0, 1536] ![1024, 256] inb_S1024x3840_S1024x256_0_1536) (ix2 k j) = x (ix2 k ⟨256 * (6 : Fin 15).val + j.val, by omega⟩) := by
  pointwise

/-- Run 7 of the projection's weights read. -/
theorem ld_w7 (x : Vec Ideal S1024x3840 .bf16) (k : Fin 1024) (j : Fin 256) :
    View.ld x (Rect.unit ![0, 1792] ![1024, 256] inb_S1024x3840_S1024x256_0_1792) (ix2 k j) = x (ix2 k ⟨256 * (7 : Fin 15).val + j.val, by omega⟩) := by
  pointwise

/-- Run 8 of the projection's weights read. -/
theorem ld_w8 (x : Vec Ideal S1024x3840 .bf16) (k : Fin 1024) (j : Fin 256) :
    View.ld x (Rect.unit ![0, 2048] ![1024, 256] inb_S1024x3840_S1024x256_0_2048) (ix2 k j) = x (ix2 k ⟨256 * (8 : Fin 15).val + j.val, by omega⟩) := by
  pointwise

/-- Run 9 of the projection's weights read. -/
theorem ld_w9 (x : Vec Ideal S1024x3840 .bf16) (k : Fin 1024) (j : Fin 256) :
    View.ld x (Rect.unit ![0, 2304] ![1024, 256] inb_S1024x3840_S1024x256_0_2304) (ix2 k j) = x (ix2 k ⟨256 * (9 : Fin 15).val + j.val, by omega⟩) := by
  pointwise

/-- Run 10 of the projection's weights read. -/
theorem ld_w10 (x : Vec Ideal S1024x3840 .bf16) (k : Fin 1024) (j : Fin 256) :
    View.ld x (Rect.unit ![0, 2560] ![1024, 256] inb_S1024x3840_S1024x256_0_2560) (ix2 k j) = x (ix2 k ⟨256 * (10 : Fin 15).val + j.val, by omega⟩) := by
  pointwise

/-- Run 11 of the projection's weights read. -/
theorem ld_w11 (x : Vec Ideal S1024x3840 .bf16) (k : Fin 1024) (j : Fin 256) :
    View.ld x (Rect.unit ![0, 2816] ![1024, 256] inb_S1024x3840_S1024x256_0_2816) (ix2 k j) = x (ix2 k ⟨256 * (11 : Fin 15).val + j.val, by omega⟩) := by
  pointwise

/-- Run 12 of the projection's weights read. -/
theorem ld_w12 (x : Vec Ideal S1024x3840 .bf16) (k : Fin 1024) (j : Fin 256) :
    View.ld x (Rect.unit ![0, 3072] ![1024, 256] inb_S1024x3840_S1024x256_0_3072) (ix2 k j) = x (ix2 k ⟨256 * (12 : Fin 15).val + j.val, by omega⟩) := by
  pointwise

/-- Run 13 of the projection's weights read. -/
theorem ld_w13 (x : Vec Ideal S1024x3840 .bf16) (k : Fin 1024) (j : Fin 256) :
    View.ld x (Rect.unit ![0, 3328] ![1024, 256] inb_S1024x3840_S1024x256_0_3328) (ix2 k j) = x (ix2 k ⟨256 * (13 : Fin 15).val + j.val, by omega⟩) := by
  pointwise

/-- Run 14 of the projection's weights read. -/
theorem ld_w14 (x : Vec Ideal S1024x3840 .bf16) (k : Fin 1024) (j : Fin 256) :
    View.ld x (Rect.unit ![0, 3584] ![1024, 256] inb_S1024x3840_S1024x256_0_3584) (ix2 k j) = x (ix2 k ⟨256 * (14 : Fin 15).val + j.val, by omega⟩) := by
  pointwise

/-- The rows after the modulated norm, from the blocks. -/
theorem row_of (x0 : Vec Ideal S512x1024 .f32) (x1 : Vec Ideal S1x3x1024 .f32) (x2 : Vec Ideal S1x1024 .f32) (r : Fin 512) (k : Fin 1024) :
    k0_pay3 (F := Ideal) (View.ld x0 (Rect.unit ![0, 0] ![512, 1024] inb_S512x1024_S512x1024_0_0)) (View.ld x2 (Rect.unit ![0, 0] ![1, 1024] inb_S1x1024_S1x1024_0_0))
      (View.ld x1 (Rect.unit ![0, 1, 0] ![1, 1, 1024] inb_S1x3x1024_S1x1x1024_0_1_0)) (View.ld x1 (Rect.unit ![0, 0, 0] ![1, 1, 1024] inb_S1x3x1024_S1x1x1024_0_0_0)) (ix2 r k)
    = Cert.Mix.hrow (fun k => x0 (ix2 r k)) (fun k => x2 (ix2 0 k)) (fun k => x1 (ix3 0 1 k)) (fun k => x1 (ix3 0 0 k)) k :=
  (pay3_apply _ _ _ _ r k).trans (hrow_of (k := k) (hx := fun k => ld_x x0 r k) (hn := fun k => ld_ng x2 k) (hc := fun k => ld_md1 x1 k) (hs := fun k => ld_md0 x1 k))

set_option maxHeartbeats 4000000 in
/-- What the body stores into the array of results, from its blocks. -/
theorem out_slab (c : Dev nD) (i : grid0.Coords) (arg1 : Memref sig .tc .vmem S512x1024 .f32) (harg1 : arg1.IsWhole) (arg2 : Memref sig .tc .vmem S1x3x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S2x256 .f32) (harg5 : arg5.IsWhole) (arg6 : Memref sig .tc .vmem S2x256 .f32) (harg6 : arg6.IsWhole) (arg7 : Memref sig .tc .vmem S4x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x3840 .bf16) (harg10 : arg10.IsWhole) (arg11 : Memref sig .tc .vmem S512x512 .f32) (harg11 : arg11.IsWhole)
    (x0 : Vec Ideal S512x1024 .f32) (x1 : Vec Ideal S1x3x1024 .f32) (x2 : Vec Ideal S1x1024 .f32) (x3 : Vec Ideal S1024x3840 .bf16) (x4 : Vec Ideal S2x256 .f32) (x5 : Vec Ideal S2x256 .f32) (x6 : Vec Ideal S4x256 .f32) (x7 : Vec Ideal S512x256 .f32) (x8 : Vec Ideal S512x256 .f32) (y : S512x3840.Idx) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 y = slab (col (Cert.Mix.hrow (fun k => x0 (ix2 (y 0) k)) (fun k => x2 (ix2 0 k)) (fun k => x1 (ix3 0 1 k)) (fun k => x1 (ix3 0 0 k))) (fun k n => x3 (ix2 k n))) (fun e j => x4 (ix2 e j)) (fun e j => x5 (ix2 e j)) (fun j => x7 (ix2 (y 0) j)) (fun j => x8 (ix2 (y 0) j)) (y 1) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  have hcov := cover0_A_9 c i arg1 harg1 arg2 harg2 arg3 harg3 arg4 harg4 arg5 harg5 arg6 harg6 arg7 harg7 arg8 harg8 arg9 harg9 arg10 harg10 arg11 harg11 x0 x1 x2 x3 x4 x5 x6 x7 x8 y
  revert hcov
  unfold kernelRun0_A
  dsimp only
  sl_unfold_words
  intro hcov
  canon_tiles x h using hcov
  all_goals clear hcov
  all_goals simp only [View.readAt_eq_ld, harg1.read_unread, harg2.read_unread, harg3.read_unread, harg4.read_unread, harg5.read_unread, harg6.read_unread, harg7.read_unread, harg8.read_unread, harg9.read_unread]
  all_goals obtain ⟨x_0, hx0⟩ : ∃ r : Fin 512, r = x 0 := ⟨_, rfl⟩
  all_goals have hy : (y 0 : Fin 512) = x_0 := (Fin.ext h0).trans hx0.symm
  all_goals rw [hy]
  case piece0 =>
    obtain ⟨x_1, hx1⟩ : ∃ j : Fin 256, j = x 1 := ⟨_, rfl⟩
    obtain rfl : x = ix2 x_0 x_1 := by rw [hx0, hx1]; exact (ix2_eta x).symm
    refine Eq.trans ?_ (slab_u _ _ _ _ _ _ x_1 ?_).symm
    · exact (pay2_apply _ _ x_0 x_1).trans (prod_of (c := 10) (hh := fun k => row_of x0 x1 x2 x_0 k) (hw := fun k => ld_w10 x3 k x_1))
    · exact h1
  case piece1 =>
    obtain ⟨x_1, hx1⟩ : ∃ j : Fin 256, j = x 1 := ⟨_, rfl⟩
    obtain rfl : x = ix2 x_0 x_1 := by rw [hx0, hx1]; exact (ix2_eta x).symm
    refine Eq.trans ?_ (slab_hi _ _ _ _ _ _ x_1 ?_).symm
    · exact (pay1_apply _ _ x_0 x_1).trans (prod_of (c := 9) (hh := fun k => row_of x0 x1 x2 x_0 k) (hw := fun k => ld_w9 x3 k x_1))
    · exact h1
  case piece2 =>
    obtain ⟨x_1, hx1⟩ : ∃ j : Fin 512, j = x 1 := ⟨_, rfl⟩
    obtain rfl : x = ix2 x_0 x_1 := by rw [hx0, hx1]; exact (ix2_eta x).symm
    refine Eq.trans ?_ (slab_vb _ _ _ _ _ _ x_1 ?_).symm
    · exact (pay50_apply _ _ x_0 x_1).trans (ones_of (hv := fun j => prod_of (c := 5) (hh := fun k => row_of x0 x1 x2 x_0 k) (hw := fun k => ld_w5 x3 k j)))
    · exact h1
  case piece3 =>
    obtain ⟨x_1, hx1⟩ : ∃ j : Fin 512, j = x 1 := ⟨_, rfl⟩
    obtain rfl : x = ix2 x_0 x_1 := by rw [hx0, hx1]; exact (ix2_eta x).symm
    refine Eq.trans ?_ (slab_va _ _ _ _ _ _ x_1 ?_).symm
    · exact (pay49_apply _ _ x_0 x_1).trans (ones_of (hv := fun j => prod_of (c := 2) (hh := fun k => row_of x0 x1 x2 x_0 k) (hw := fun k => ld_w2 x3 k j)))
    · exact h1
  case piece4 =>
    obtain ⟨x_1, hx1⟩ : ∃ j : Fin 256, j = x 1 := ⟨_, rfl⟩
    obtain rfl : x = ix2 x_0 x_1 := by rw [hx0, hx1]; exact (ix2_eta x).symm
    refine Eq.trans ?_ (slab_hq _ _ _ _ _ _ x_1 ?_).symm
    · exact (pay48_apply _ _ x_0 x_1).trans (congrArg silu (prod_of (c := 6) (hh := fun k => row_of x0 x1 x2 x_0 k) (hw := fun k => ld_w6 x3 k x_1)))
    · exact h1
  case piece5 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 14 x_1 (by decide) ?_).symm
    · exact (pay47_apply _ _ x_0 x_1).trans (congrArg silu (prod_of (c := 14) (hh := fun k => row_of x0 x1 x2 x_0 k) (hw := fun k => ld_w14 x3 k x_1)))
    · exact h1
  case piece6 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 13 x_1 (by decide) ?_).symm
    · exact (pay45_apply _ _ x_0 x_1).trans (congrArg silu (prod_of (c := 13) (hh := fun k => row_of x0 x1 x2 x_0 k) (hw := fun k => ld_w13 x3 k x_1)))
    · exact h1
  case piece7 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 12 x_1 (by decide) ?_).symm
    · exact (pay44_apply _ _ x_0 x_1).trans (congrArg silu (prod_of (c := 12) (hh := fun k => row_of x0 x1 x2 x_0 k) (hw := fun k => ld_w12 x3 k x_1)))
    · exact h1
  case piece8 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 11 x_1 (by decide) ?_).symm
    · exact (pay43_apply _ _ x_0 x_1).trans (congrArg silu (prod_of (c := 11) (hh := fun k => row_of x0 x1 x2 x_0 k) (hw := fun k => ld_w11 x3 k x_1)))
    · exact h1.trans (by show x_1.val = 256 * 0 + x_1.val; omega)
  case piece9 =>
    obtain ⟨x_1, hx1⟩ : ∃ j : Fin 256, j = x 1 := ⟨_, rfl⟩
    obtain rfl : x = ix2 x_0 x_1 := by rw [hx0, hx1]; exact (ix2_eta x).symm
    refine Eq.trans ?_ (slab_kb _ _ _ _ _ _ x_1 ?_).symm
    · exact (pay42_apply _ _ x_0 x_1).trans (gnorm_of (hv := fun j => (pay7_apply _ _ x_0 j).trans (prod_of (c := 4) (hh := fun k => row_of x0 x1 x2 x_0 k) (hw := fun k => ld_w4 x3 k j))) (ha := fun j => ld_g1 x5 j))
    · exact h1
  case piece10 =>
    obtain ⟨x_1, hx1⟩ : ∃ j : Fin 256, j = x 1 := ⟨_, rfl⟩
    obtain rfl : x = ix2 x_0 x_1 := by rw [hx0, hx1]; exact (ix2_eta x).symm
    refine Eq.trans ?_ (slab_qb _ _ _ _ _ _ x_1 ?_).symm
    · exact (pay35_apply _ _ x_0 x_1).trans (gnorm_of (hv := fun j => (pay6_apply _ _ _ _ _ x_0 j).trans (prod_of (c := 3) (hh := fun k => row_of x0 x1 x2 x_0 k) (hw := fun k => ld_w3 x3 k j))) (ha := fun j => ld_g0 x5 j))
    · exact h1
  case piece11 =>
    obtain ⟨x_1, hx1⟩ : ∃ j : Fin 256, j = x 1 := ⟨_, rfl⟩
    obtain rfl : x = ix2 x_0 x_1 := by rw [hx0, hx1]; exact (ix2_eta x).symm
    refine Eq.trans ?_ (slab_ka _ _ _ _ _ _ x_1 ?_).symm
    · exact (pay30_apply _ _ _ x_0 x_1).trans (rot_of (hu := fun i => (pay21_apply _ _ x_0 i).trans (gnorm_of (hv := fun j => (pay5_apply _ _ _ _ _ x_0 j).trans (prod_of (c := 1) (hh := fun k => row_of x0 x1 x2 x_0 k) (hw := fun k => ld_w1 x3 k j))) (ha := fun j => ld_g1 x4 j))) (ha := fun j => ld_cs x7 x_0 j) (hb := fun j => ld_cs x8 x_0 j))
    · exact h1
  case piece12 =>
    obtain ⟨x_1, hx1⟩ : ∃ j : Fin 256, j = x 1 := ⟨_, rfl⟩
    obtain rfl : x = ix2 x_0 x_1 := by rw [hx0, hx1]; exact (ix2_eta x).symm
    refine Eq.trans ?_ (slab_qa _ _ _ _ _ _ x_1 ?_).symm
    · exact (pay29_apply _ _ _ x_0 x_1).trans (rot_of (hu := fun i => (pay16_apply _ _ x_0 i).trans (gnorm_of (hv := fun j => (pay4_apply _ _ _ _ _ x_0 j).trans (prod_of (c := 0) (hh := fun k => row_of x0 x1 x2 x_0 k) (hw := fun k => ld_w0 x3 k j))) (ha := fun j => ld_g0 x4 j))) (ha := fun j => ld_cs x7 x_0 j) (hb := fun j => ld_cs x8 x_0 j))
    · exact h1

set_option maxHeartbeats 4000000 in
/-- What the body stores into the array of the forget gates, from its blocks. -/
theorem out_gates (c : Dev nD) (i : grid0.Coords) (arg1 : Memref sig .tc .vmem S512x1024 .f32) (harg1 : arg1.IsWhole) (arg2 : Memref sig .tc .vmem S1x3x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S2x256 .f32) (harg5 : arg5.IsWhole) (arg6 : Memref sig .tc .vmem S2x256 .f32) (harg6 : arg6.IsWhole) (arg7 : Memref sig .tc .vmem S4x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x3840 .bf16) (harg10 : arg10.IsWhole) (arg11 : Memref sig .tc .vmem S512x512 .f32) (harg11 : arg11.IsWhole)
    (x0 : Vec Ideal S512x1024 .f32) (x1 : Vec Ideal S1x3x1024 .f32) (x2 : Vec Ideal S1x1024 .f32) (x3 : Vec Ideal S1024x3840 .bf16) (x4 : Vec Ideal S2x256 .f32) (x5 : Vec Ideal S2x256 .f32) (x6 : Vec Ideal S4x256 .f32) (x7 : Vec Ideal S512x256 .f32) (x8 : Vec Ideal S512x256 .f32) (y : S512x512.Idx) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 y = gates (col (Cert.Mix.hrow (fun k => x0 (ix2 (y 0) k)) (fun k => x2 (ix2 0 k)) (fun k => x1 (ix3 0 1 k)) (fun k => x1 (ix3 0 0 k))) (fun k n => x3 (ix2 k n))) (fun e j => x6 (ix2 e j)) (y 1) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8)]
  have hcov := cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 y
  revert hcov
  unfold kernelRun0_A
  dsimp only
  sl_unfold_words
  intro hcov
  canon_tiles x h using hcov
  all_goals clear hcov
  all_goals simp only [View.readAt_eq_ld, harg1.read_unread, harg2.read_unread, harg3.read_unread, harg4.read_unread, harg5.read_unread, harg6.read_unread, harg7.read_unread, harg8.read_unread, harg9.read_unread]
  all_goals obtain ⟨x_0, hx0⟩ : ∃ r : Fin 512, r = x 0 := ⟨_, rfl⟩
  all_goals have hy : (y 0 : Fin 512) = x_0 := (Fin.ext h0).trans hx0.symm
  all_goals rw [hy]
  case piece0 =>
    obtain ⟨x_1, hx1⟩ : ∃ j : Fin 256, j = x 1 := ⟨_, rfl⟩
    obtain rfl : x = ix2 x_0 x_1 := by rw [hx0, hx1]; exact (ix2_eta x).symm
    refine Eq.trans ?_ (gates_b _ _ _ x_1 ?_).symm
    · exact (pay9_apply _ _ _ _ x_0 x_1).trans (forget_of (ha := ld_lb2 x6 x_1) (hb := ld_lb3 x6 x_1) (hf := prod_of (c := 8) (hh := fun k => row_of x0 x1 x2 x_0 k) (hw := fun k => ld_w8 x3 k x_1)))
    · exact h1
  case piece1 =>
    obtain ⟨x_1, hx1⟩ : ∃ j : Fin 256, j = x 1 := ⟨_, rfl⟩
    obtain rfl : x = ix2 x_0 x_1 := by rw [hx0, hx1]; exact (ix2_eta x).symm
    refine Eq.trans ?_ (gates_f _ _ _ x_1 ?_).symm
    · exact (pay8_apply _ _ _ _ x_0 x_1).trans (forget_of (ha := ld_lb0 x6 x_1) (hb := ld_lb1 x6 x_1) (hf := prod_of (c := 7) (hh := fun k => row_of x0 x1 x2 x_0 k) (hw := fun k => ld_w7 x3 k x_1)))
    · exact h1

end Cert.ProjectionIdeal.Prj

end
-- ==== Proof.ProjectionArray.lean ====
module

public import proofs.«01_k».proof.Proof.ProjectionBlock
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.ProjectionIdeal.Prj

open Cert.ProjectionIdeal Cert.ProjectionIdeal.Gen Cert.Proj

/-- The projection's columns at a row, from the arrays it reads: 2048 rows share one row of the modulation. -/
def cols (X : Vec Ideal S32768x1024 .f32) (M : Vec Ideal S24x3x1024 .f32) (G : Vec Ideal S1x1024 .f32) (W : Vec Ideal S1024x3840 .bf16) (i : Fin 32768) : Fin 3840 → EReal :=
  col (Cert.Mix.hrow (fun k => X (ix2 i k)) (fun k => G (ix2 0 k)) (fun k => M (ix3 ⟨i.val / 2048, by omega⟩ 1 k)) (fun k => M (ix3 ⟨i.val / 2048, by omega⟩ 0 k))) (fun k n => W (ix2 k n))

/-- The array of results, row by row: a row's angles are those of its place in its sequence. -/
def wholeS (X : Vec Ideal S32768x1024 .f32) (M : Vec Ideal S24x3x1024 .f32) (G : Vec Ideal S1x1024 .f32) (W : Vec Ideal S1024x3840 .bf16) (A B : Vec Ideal S2x256 .f32)
    (C S : Vec Ideal S2048x256 .f32) : Vec Ideal S32768x3840 .bf16 := fun i =>
  slab (cols X M G W (i 0)) (fun e j => A (ix2 e j)) (fun e j => B (ix2 e j)) (fun j => C (ix2 ⟨(i 0).val % 2048, by omega⟩ j)) (fun j => S (ix2 ⟨(i 0).val % 2048, by omega⟩ j)) (i 1)

/-- The array of the forget gates' logarithms, row by row. -/
def wholeG (X : Vec Ideal S32768x1024 .f32) (M : Vec Ideal S24x3x1024 .f32) (G : Vec Ideal S1x1024 .f32) (W : Vec Ideal S1024x3840 .bf16) (L : Vec Ideal S4x256 .f32) :
    Vec Ideal S32768x512 .f32 := fun i =>
  gates (cols X M G W (i 0)) (fun e j => L (ix2 e j)) (i 1)

variable (m : (ℓ : Loc nD τ sig) → Buf (Elt Ideal) ℓ) (c : Dev nD)

/-- Where each window stands at each grid point: the rows at the point's own tile, the modulation at its sequence, the angles at the tile's place in its sequence, the rest whole. -/
theorem idx : ∀ t : Fin cfg0.N, (win0_0.index t 0 = t.val ∧ win0_0.index t 1 = 0)
    ∧ (win0_1.index t 0 = t.val / 4 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val % 4 ∧ win0_7.index t 1 = 0)
    ∧ (win0_8.index t 0 = t.val % 4 ∧ win0_8.index t 1 = 0)
    ∧ (win0_9.index t 0 = t.val ∧ win0_9.index t 1 = 0)
    ∧ (win0_10.index t 0 = t.val ∧ win0_10.index t 1 = 0) := by
  decide +kernel

/-- The results are written back at every point. -/
theorem flush9 : ∀ t : Fin cfg0.N, (cfg0.win 9).flush t = true := by
  decide +kernel

/-- The forget gates are written back at every point. -/
theorem flush10 : ∀ t : Fin cfg0.N, (cfg0.win 10).flush t = true := by
  decide +kernel

/-- The input window's block. -/
theorem iblk0 (t : Fin cfg0.N) (r : Fin 512) (k : Fin 1024) : (iblk m c 0 t : Vec Ideal S512x1024 .f32) (ix2 r k) = V m c main_v67 (ix2 ⟨512 * t.val + r.val, by have := t.isLt; have : cfg0.N = 64 := N_0; omega⟩ k) := by
  have h := (idx t).1
  unfold iblk
  rw [View.read_apply]
  show V m c main_v67 _ = V m c main_v67 _
  congr 1
  funext a
  apply Fin.ext
  match a with
  | ⟨0, _⟩ => show win0_0.index t 0 * 512 + 1 * r.val = 512 * t.val + r.val; rw [h.1]; omega
  | ⟨1, _⟩ => show win0_0.index t 1 * 1024 + 1 * k.val = k.val; rw [h.2]; omega

/-- The modulation window's block. -/
theorem iblk1 (t : Fin cfg0.N) (e : Fin 3) (k : Fin 1024) : (iblk m c 1 t : Vec Ideal S1x3x1024 .f32) (ix3 0 e k) = V m c main_v6 (ix3 ⟨t.val / 4, by have := t.isLt; have : cfg0.N = 64 := N_0; omega⟩ e k) := by
  have h := (idx t).2.1
  unfold iblk
  rw [View.read_apply]
  show V m c main_v6 _ = V m c main_v6 _
  congr 1
  funext a
  apply Fin.ext
  match a with
  | ⟨0, _⟩ => show win0_1.index t 0 * 1 + 1 * 0 = t.val / 4; rw [h.1]; omega
  | ⟨1, _⟩ => show win0_1.index t 1 * 3 + 1 * e.val = e.val; rw [h.2.1]; omega
  | ⟨2, _⟩ => show win0_1.index t 2 * 1024 + 1 * k.val = k.val; rw [h.2.2]; omega

/-- The gain's window: the whole array. -/
theorem iblk2 (t : Fin cfg0.N) (e : Fin 1) (k : Fin 1024) : (iblk m c 2 t : Vec Ideal S1x1024 .f32) (ix2 e k) = V m c main_v68 (ix2 e k) := by
  have h := (idx t).2.2.1
  unfold iblk
  rw [View.read_apply]
  show V m c main_v68 _ = V m c main_v68 _
  congr 1
  funext a
  apply Fin.ext
  match a with
  | ⟨0, _⟩ => show win0_2.index t 0 * 1 + 1 * e.val = e.val; rw [h.1]; omega
  | ⟨1, _⟩ => show win0_2.index t 1 * 1024 + 1 * k.val = k.val; rw [h.2]; omega

/-- The weights' window: the whole array. -/
theorem iblk3 (t : Fin cfg0.N) (e : Fin 1024) (k : Fin 3840) : (iblk m c 3 t : Vec Ideal S1024x3840 .bf16) (ix2 e k) = V m c main_v69 (ix2 e k) := by
  have h := (idx t).2.2.2.1
  unfold iblk
  rw [View.read_apply]
  show V m c main_v69 _ = V m c main_v69 _
  congr 1
  funext a
  apply Fin.ext
  match a with
  | ⟨0, _⟩ => show win0_3.index t 0 * 1024 + 1 * e.val = e.val; rw [h.1]; omega
  | ⟨1, _⟩ => show win0_3.index t 1 * 3840 + 1 * k.val = k.val; rw [h.2]; omega

/-- The window of the first branch's gains: the whole array. -/
theorem iblk4 (t : Fin cfg0.N) (e : Fin 2) (k : Fin 256) : (iblk m c 4 t : Vec Ideal S2x256 .f32) (ix2 e k) = V m c main_v26 (ix2 e k) := by
  have h := (idx t).2.2.2.2.1
  unfold iblk
  rw [View.read_apply]
  show V m c main_v26 _ = V m c main_v26 _
  congr 1
  funext a
  apply Fin.ext
  match a with
  | ⟨0, _⟩ => show win0_4.index t 0 * 2 + 1 * e.val = e.val; rw [h.1]; omega
  | ⟨1, _⟩ => show win0_4.index t 1 * 256 + 1 * k.val = k.val; rw [h.2]; omega

/-- The window of the second branch's gains: the whole array. -/
theorem iblk5 (t : Fin cfg0.N) (e : Fin 2) (k : Fin 256) : (iblk m c 5 t : Vec Ideal S2x256 .f32) (ix2 e k) = V m c main_v29 (ix2 e k) := by
  have h := (idx t).2.2.2.2.2.1
  unfold iblk
  rw [View.read_apply]
  show V m c main_v29 _ = V m c main_v29 _
  congr 1
  funext a
  apply Fin.ext
  match a with
  | ⟨0, _⟩ => show win0_5.index t 0 * 2 + 1 * e.val = e.val; rw [h.1]; omega
  | ⟨1, _⟩ => show win0_5.index t 1 * 256 + 1 * k.val = k.val; rw [h.2]; omega

/-- The window of the forget gates' bounds: the whole array. -/
theorem iblk6 (t : Fin cfg0.N) (e : Fin 4) (k : Fin 256) : (iblk m c 6 t : Vec Ideal S4x256 .f32) (ix2 e k) = V m c main_v23 (ix2 e k) := by
  have h := (idx t).2.2.2.2.2.2.1
  unfold iblk
  rw [View.read_apply]
  show V m c main_v23 _ = V m c main_v23 _
  congr 1
  funext a
  apply Fin.ext
  match a with
  | ⟨0, _⟩ => show win0_6.index t 0 * 4 + 1 * e.val = e.val; rw [h.1]; omega
  | ⟨1, _⟩ => show win0_6.index t 1 * 256 + 1 * k.val = k.val; rw [h.2]; omega

/-- The cosines' block. -/
theorem iblk7 (t : Fin cfg0.N) (r : Fin 512) (k : Fin 256) : (iblk m c 7 t : Vec Ideal S512x256 .f32) (ix2 r k) = V m c main_v63 (ix2 ⟨512 * (t.val % 4) + r.val, by have := t.isLt; have : cfg0.N = 64 := N_0; omega⟩ k) := by
  have h := (idx t).2.2.2.2.2.2.2.1
  unfold iblk
  rw [View.read_apply]
  show V m c main_v63 _ = V m c main_v63 _
  congr 1
  funext a
  apply Fin.ext
  match a with
  | ⟨0, _⟩ => show win0_7.index t 0 * 512 + 1 * r.val = 512 * (t.val % 4) + r.val; rw [h.1]; omega
  | ⟨1, _⟩ => show win0_7.index t 1 * 256 + 1 * k.val = k.val; rw [h.2]; omega

/-- The sines' block. -/
theorem iblk8 (t : Fin cfg0.N) (r : Fin 512) (k : Fin 256) : (iblk m c 8 t : Vec Ideal S512x256 .f32) (ix2 r k) = V m c main_v66 (ix2 ⟨512 * (t.val % 4) + r.val, by have := t.isLt; have : cfg0.N = 64 := N_0; omega⟩ k) := by
  have h := (idx t).2.2.2.2.2.2.2.2.1
  unfold iblk
  rw [View.read_apply]
  show V m c main_v66 _ = V m c main_v66 _
  congr 1
  funext a
  apply Fin.ext
  match a with
  | ⟨0, _⟩ => show win0_8.index t 0 * 512 + 1 * r.val = 512 * (t.val % 4) + r.val; rw [h.1]; omega
  | ⟨1, _⟩ => show win0_8.index t 1 * 256 + 1 * k.val = k.val; rw [h.2]; omega

/-- The projection's columns at a row of a tile. -/
theorem cols_at (X : Vec Ideal S32768x1024 .f32) (M : Vec Ideal S24x3x1024 .f32) (G : Vec Ideal S1x1024 .f32) (W : Vec Ideal S1024x3840 .bf16) (s : ℕ) (hs : s < 64) (r : Fin 512) :
    cols X M G W ⟨512 * s + r.val, by omega⟩ = col (Cert.Mix.hrow (fun k => X (ix2 ⟨512 * s + r.val, by omega⟩ k)) (fun k => G (ix2 0 k)) (fun k => M (ix3 ⟨s / 4, by omega⟩ 1 k)) (fun k => M (ix3 ⟨s / 4, by omega⟩ 0 k))) (fun k n => W (ix2 k n)) := by
  have e : (512 * s + r.val) / 2048 = s / 4 := by omega
  unfold cols
  simp only [e]

/-- The array of results at an entry of a tile. -/
theorem wholeS_at (X : Vec Ideal S32768x1024 .f32) (M : Vec Ideal S24x3x1024 .f32) (G : Vec Ideal S1x1024 .f32) (W : Vec Ideal S1024x3840 .bf16) (A B : Vec Ideal S2x256 .f32) (C S : Vec Ideal S2048x256 .f32)
    (s : ℕ) (hs : s < 64) (r : Fin 512) (i : S32768x3840.Idx) (n : Fin 3840) (h0 : (i 0).val = 512 * s + r.val) (h1 : (i 1).val = n.val) :
    wholeS X M G W A B C S i = slab (cols X M G W ⟨512 * s + r.val, by omega⟩) (fun e j => A (ix2 e j)) (fun e j => B (ix2 e j)) (fun j => C (ix2 ⟨512 * (s % 4) + r.val, by omega⟩ j)) (fun j => S (ix2 ⟨512 * (s % 4) + r.val, by omega⟩ j)) n := by
  idx_vars i
  obtain rfl : i0 = ⟨512 * s + r.val, by clear h0; omega⟩ := Fin.ext h0
  obtain rfl : i1 = n := Fin.ext h1
  have e : (512 * s + r.val) % 2048 = 512 * (s % 4) + r.val := by omega
  show slab _ _ _ (fun j => C (ix2 ⟨(512 * s + r.val) % 2048, _⟩ j)) (fun j => S (ix2 ⟨(512 * s + r.val) % 2048, _⟩ j)) _ = _
  simp only [e]
  rfl

/-- The array of the forget gates at an entry of a tile. -/
theorem wholeG_at (X : Vec Ideal S32768x1024 .f32) (M : Vec Ideal S24x3x1024 .f32) (G : Vec Ideal S1x1024 .f32) (W : Vec Ideal S1024x3840 .bf16) (L : Vec Ideal S4x256 .f32)
    (s : ℕ) (hs : s < 64) (r : Fin 512) (i : S32768x512.Idx) (n : Fin 512) (h0 : (i 0).val = 512 * s + r.val) (h1 : (i 1).val = n.val) :
    wholeG X M G W L i = gates (cols X M G W ⟨512 * s + r.val, by omega⟩) (fun e j => L (ix2 e j)) n := by
  idx_vars i
  obtain rfl : i0 = ⟨512 * s + r.val, by clear h0; omega⟩ := Fin.ext h0
  obtain rfl : i1 = n := Fin.ext h1
  rfl

/-- The array of results that the host's arrays give. -/
abbrev resultS : Vec Ideal S32768x3840 .bf16 := wholeS (V m c main_v67) (V m c main_v6) (V m c main_v68) (V m c main_v69) (V m c main_v26) (V m c main_v29) (V m c main_v63) (V m c main_v66)

/-- The array of forget gates that the host's arrays give. -/
abbrev resultG : Vec Ideal S32768x512 .f32 := wholeG (V m c main_v67) (V m c main_v6) (V m c main_v68) (V m c main_v69) (V m c main_v23)

/-- A point's columns, from its blocks. -/
theorem point_cols (t : Fin cfg0.N) (r : Fin 512) :
    col (Cert.Mix.hrow (fun k => (iblk m c 0 t : Vec Ideal S512x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k))) (fun k n => (iblk m c 3 t : Vec Ideal S1024x3840 .bf16) (ix2 k n))
    = cols (V m c main_v67) (V m c main_v6) (V m c main_v68) (V m c main_v69) ⟨512 * t.val + r.val, by have := t.isLt; have : cfg0.N = 64 := N_0; omega⟩ := by
  rw [cols_at _ _ _ _ t.val (by have := t.isLt; have : cfg0.N = 64 := N_0; omega) r]
  simp only [iblk0, iblk1, iblk2, iblk3]

/-- A point's entry of the results, from its blocks. -/
theorem pointS (t : Fin cfg0.N) (r : Fin 512) (n : Fin 3840) :
    slab (col (Cert.Mix.hrow (fun k => (iblk m c 0 t : Vec Ideal S512x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k))) (fun k n => (iblk m c 3 t : Vec Ideal S1024x3840 .bf16) (ix2 k n)))
      (fun e j => (iblk m c 4 t : Vec Ideal S2x256 .f32) (ix2 e j)) (fun e j => (iblk m c 5 t : Vec Ideal S2x256 .f32) (ix2 e j))
      (fun j => (iblk m c 7 t : Vec Ideal S512x256 .f32) (ix2 r j)) (fun j => (iblk m c 8 t : Vec Ideal S512x256 .f32) (ix2 r j)) n
    = slab (cols (V m c main_v67) (V m c main_v6) (V m c main_v68) (V m c main_v69) ⟨512 * t.val + r.val, by have := t.isLt; have : cfg0.N = 64 := N_0; omega⟩) (fun e j => V m c main_v26 (ix2 e j)) (fun e j => V m c main_v29 (ix2 e j))
      (fun j => V m c main_v63 (ix2 ⟨512 * (t.val % 4) + r.val, by have := t.isLt; have : cfg0.N = 64 := N_0; omega⟩ j)) (fun j => V m c main_v66 (ix2 ⟨512 * (t.val % 4) + r.val, by have := t.isLt; have : cfg0.N = 64 := N_0; omega⟩ j)) n := by
  rw [point_cols]
  simp only [iblk4, iblk5, iblk7, iblk8]

/-- A point's entry of the forget gates, from its blocks. -/
theorem pointG (t : Fin cfg0.N) (r : Fin 512) (n : Fin 512) :
    gates (col (Cert.Mix.hrow (fun k => (iblk m c 0 t : Vec Ideal S512x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k))) (fun k n => (iblk m c 3 t : Vec Ideal S1024x3840 .bf16) (ix2 k n))) (fun e j => (iblk m c 6 t : Vec Ideal S4x256 .f32) (ix2 e j)) n
    = gates (cols (V m c main_v67) (V m c main_v6) (V m c main_v68) (V m c main_v69) ⟨512 * t.val + r.val, by have := t.isLt; have : cfg0.N = 64 := N_0; omega⟩) (fun e j => V m c main_v23 (ix2 e j)) n := by
  rw [point_cols]
  simp only [iblk6]

/-- What a point writes back is its tile of the array of results. -/
theorem flushedS (t : Fin cfg0.N) (hf : (cfg0.win 9).flush t = true) :
    (dats m 0 c).flushed 9 t = ((cfg0.win 9).blk t).view.read (Elt Ideal) (resultS m c) := by
  have hN : cfg0.N = 64 := N_0
  have hlt := t.isLt
  have h := (idx t).2.2.2.2.2.2.2.2.2.1
  rw [Value.flushed9_A m c t]
  funext j
  rw [View.read_apply]
  refine (out_slab ..).trans ?_
  refine Eq.trans ?_ (wholeS_at _ _ _ _ _ _ _ _ t.val (by omega) ((cfg0.win 9).xinj (grid0.coords t) j 0) _ ((cfg0.win 9).xinj (grid0.coords t) j 1) ?_ ?_).symm
  · exact pointS m c t _ _
  · show win0_9.index t 0 * 512 + 1 * (j 0).val = 512 * t.val + (j 0).val
    rw [h.1]; omega
  · show win0_9.index t 1 * 3840 + 1 * (j 1).val = (j 1).val
    rw [h.2]; omega

/-- The tiles cover the array of results. -/
theorem coverS (i : S32768x3840.Idx) : ∃ t : Fin cfg0.N, (cfg0.win 9).flush t = true ∧ i ∈ ((cfg0.win 9).blk t).view.set := by
  have h0 : (i 0 : ℕ) < 32768 := (i 0).isLt
  have h1 : (i 1 : ℕ) < 3840 := (i 1).isLt
  have hN : cfg0.N = 64 := N_0
  obtain ⟨t, ht⟩ : ∃ t : Fin cfg0.N, t.val = (i 0).val / 512 := ⟨⟨(i 0).val / 512, by omega⟩, rfl⟩
  refine ⟨t, flush9 t, ?_⟩
  have h := (idx t).2.2.2.2.2.2.2.2.2.1
  show i ∈ ((View.whole main_v70_0).slice (win0_9.rect t)).set
  rw [View.set_slice_whole, Rect.mem_set_unit]
  intro a
  match a with
  | ⟨0, _⟩ => show win0_9.index t 0 * 512 ≤ (i 0 : ℕ) ∧ (i 0 : ℕ) < win0_9.index t 0 * 512 + 512
              rw [h.1]; omega
  | ⟨1, _⟩ => show win0_9.index t 1 * 3840 ≤ (i 1 : ℕ) ∧ (i 1 : ℕ) < win0_9.index t 1 * 3840 + 3840
              rw [h.2]; omega

/-- So the array of results ends as stated. -/
theorem finalS : (dats m 0 c).arrAt 9 cfg0.N = resultS m c :=
  (dats m 0 c).arrAt_eq_of_cover 9 (resultS m c) (flushedS m c) coverS

/-- What a point writes back is its tile of the array of forget gates. -/
theorem flushedG (t : Fin cfg0.N) (hf : (cfg0.win 10).flush t = true) :
    (dats m 0 c).flushed 10 t = ((cfg0.win 10).blk t).view.read (Elt Ideal) (resultG m c) := by
  have hN : cfg0.N = 64 := N_0
  have hlt := t.isLt
  have h := (idx t).2.2.2.2.2.2.2.2.2.2
  rw [Value.flushed10_A m c t]
  funext j
  rw [View.read_apply]
  refine (out_gates ..).trans ?_
  refine Eq.trans ?_ (wholeG_at _ _ _ _ _ t.val (by omega) ((cfg0.win 10).xinj (grid0.coords t) j 0) _ ((cfg0.win 10).xinj (grid0.coords t) j 1) ?_ ?_).symm
  · exact pointG m c t _ _
  · show win0_10.index t 0 * 512 + 1 * (j 0).val = 512 * t.val + (j 0).val
    rw [h.1]; omega
  · show win0_10.index t 1 * 512 + 1 * (j 1).val = (j 1).val
    rw [h.2]; omega

/-- The tiles cover the array of forget gates. -/
theorem coverG (i : S32768x512.Idx) : ∃ t : Fin cfg0.N, (cfg0.win 10).flush t = true ∧ i ∈ ((cfg0.win 10).blk t).view.set := by
  have h0 : (i 0 : ℕ) < 32768 := (i 0).isLt
  have h1 : (i 1 : ℕ) < 512 := (i 1).isLt
  have hN : cfg0.N = 64 := N_0
  obtain ⟨t, ht⟩ : ∃ t : Fin cfg0.N, t.val = (i 0).val / 512 := ⟨⟨(i 0).val / 512, by omega⟩, rfl⟩
  refine ⟨t, flush10 t, ?_⟩
  have h := (idx t).2.2.2.2.2.2.2.2.2.2
  show i ∈ ((View.whole main_v70_1).slice (win0_10.rect t)).set
  rw [View.set_slice_whole, Rect.mem_set_unit]
  intro a
  match a with
  | ⟨0, _⟩ => show win0_10.index t 0 * 512 ≤ (i 0 : ℕ) ∧ (i 0 : ℕ) < win0_10.index t 0 * 512 + 512
              rw [h.1]; omega
  | ⟨1, _⟩ => show win0_10.index t 1 * 512 ≤ (i 1 : ℕ) ∧ (i 1 : ℕ) < win0_10.index t 1 * 512 + 512
              rw [h.2]; omega

/-- So the array of forget gates ends as stated. -/
theorem finalG : (dats m 0 c).arrAt 10 cfg0.N = resultG m c :=
  (dats m 0 c).arrAt_eq_of_cover 10 (resultG m c) (flushedG m c) coverG

end Cert.ProjectionIdeal.Prj

end
-- ==== Proof.ProjectionHost.lean ====
module

public import proofs.«01_k».proof.Proof.ProjectionArray
public import proofs.«01_k».proof.Proof.MergeHost
public import Idealize.ShloMosaic.Lib.StableHlo.Run
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ProjectionIdeal.Prj

open Cert.ProjectionIdeal Cert.ProjectionIdeal.Gen Cert.Proj

variable (m : (ℓ : Loc nD τ sig) → Buf (Elt Ideal) ℓ) (c : Dev nD)

open Cert.MergeIdeal.Mrg (modV xV ngV modV_sh modV_sc xV_apply ngV_apply)

/-- The projection's weights, in the narrower type. -/
def wV (w : FVec Ideal S1024x3840 .f32) : FVec Ideal S1024x3840 .bf16 := truncf .bf16 w bitsLt_bf16_f32

/-- The modulation's gate, which this call doesn't read: zeros. -/
def zeroV : FVec Ideal S16x1024 .f32 := broadcastInDim S16x1024 ![] bcast_S_S16x1024 (constant S_ .f32 0x00000000#32)

/-- The first branch's gains, a copy for each of its eight heads. -/
def gaV (g : FVec Ideal S2x32 .f32) : FVec Ideal S2x256 .f32 :=
  shapeCast S2x256 (broadcastInDim S1x2x8x32 ![0, 1, 2, 3] bcast_S1x2x1x32_S1x2x8x32_0_1_2_3 (shapeCast S1x2x1x32 g shapeCasts_S2x32_S1x2x1x32)) shapeCasts_S1x2x8x32_S2x256

/-- The second branch's gains, a copy for each of its four heads. -/
def gbV (g : FVec Ideal S2x64 .f32) : FVec Ideal S2x256 .f32 :=
  shapeCast S2x256 (broadcastInDim S1x2x4x64 ![0, 1, 2, 3] bcast_S1x2x1x64_S1x2x4x64_0_1_2_3 (shapeCast S1x2x1x64 g shapeCasts_S2x64_S1x2x1x64)) shapeCasts_S1x2x4x64_S2x256

/-- The lower bounds, floored. -/
def floorV (l : FVec Ideal S2x256 .f32) : FVec Ideal S2x256 .f32 := maximumf l (broadcastInDim S2x256 ![] bcast_S_S2x256 (constant S_ .f32 0x1E3CE508#32))

/-- One minus the lower bounds. -/
def restV (l : FVec Ideal S2x256 .f32) : FVec Ideal S2x256 .f32 := subf (broadcastInDim S2x256 ![] bcast_S_S2x256 (constant S_ .f32 0x3F800000#32)) l

/-- For each direction the floored lower bounds, then one minus the lower bounds. -/
def lbV (l : FVec Ideal S2x256 .f32) : FVec Ideal S4x256 .f32 :=
  concatenate S4x256 0 [⟨S1x256, broadcastInDim S1x256 ![1] bcast_S256_S1x256_1 (shapeCast S256 (extractStridedSlice S1x256 ![0, 0] (floorV l) slices_S2x256_S1x256_0_0) shapeCasts_S1x256_S256)⟩,
    ⟨S1x256, broadcastInDim S1x256 ![1] bcast_S256_S1x256_1 (shapeCast S256 (extractStridedSlice S1x256 ![0, 0] (restV l) slices_S2x256_S1x256_0_0) shapeCasts_S1x256_S256)⟩,
    ⟨S1x256, broadcastInDim S1x256 ![1] bcast_S256_S1x256_1 (shapeCast S256 (extractStridedSlice S1x256 ![1, 0] (floorV l) slices_S2x256_S1x256_1_0) shapeCasts_S1x256_S256)⟩,
    ⟨S1x256, broadcastInDim S1x256 ![1] bcast_S256_S1x256_1 (shapeCast S256 (extractStridedSlice S1x256 ![1, 0] (restV l) slices_S2x256_S1x256_1_0) shapeCasts_S1x256_S256)⟩]
    concatenates_S1x256_S1x256_S1x256_S1x256_S4x256_d0

/-- The number of columns in a row of the grid the tokens stand in. -/
def widthV : IVec S_ 32 := constantI S_ 32 64#32

/-- The quotient of a token's place by that number, toward zero. -/
def quotV : IVec S2048 32 := Host.divsi (iotaInDim S2048 32 0) (broadcastInDim S2048 ![] bcast_S_S2048 widthV)

/-- A token's row in the grid: that quotient, toward minus infinity. -/
def rowV : FVec Ideal S2048 .f32 :=
  sitofp .f32 (select (andi (cmpi .ne (signi (iotaInDim S2048 32 0)) (broadcastInDim S2048 ![] bcast_S_S2048 (signi widthV)))
    (cmpi .ne (Host.remsi (iotaInDim S2048 32 0) (broadcastInDim S2048 ![] bcast_S_S2048 widthV)) (broadcastInDim S2048 ![] bcast_S_S2048 (constantI S_ 32 0#32))))
    (subi quotV (broadcastInDim S2048 ![] bcast_S_S2048 (constantI S_ 32 1#32))) quotV)

/-- The divisor of the remainder: one in place of zero. -/
def divisorV : IVec S_ 32 := select (cmpi .eq widthV (constantI S_ 32 0#32)) (constantI S_ 32 1#32) widthV

/-- The remainder of a token's place, with the place's sign. -/
def remV : IVec S2048 32 := Host.remsi (iotaInDim S2048 32 0) (broadcastInDim S2048 ![] bcast_S_S2048 divisorV)

/-- A token's column in the grid: that remainder, with the divisor's sign. -/
def columnV : FVec Ideal S2048 .f32 :=
  sitofp .f32 (select (andi (cmpi .ne (cmpi .slt remV (broadcastInDim S2048 ![] bcast_S_S2048 (constantI S_ 32 0#32))) (broadcastInDim S2048 ![] bcast_S_S2048 (cmpi .slt divisorV (constantI S_ 32 0#32))))
    (cmpi .ne remV (broadcastInDim S2048 ![] bcast_S_S2048 (constantI S_ 32 0#32)))) (addi remV (broadcastInDim S2048 ![] bcast_S_S2048 divisorV)) remV)

/-- The eight frequencies. -/
def freqV : FVec Ideal S8 .f32 :=
  Host.powf (broadcastInDim S8 ![] bcast_S_S8 (constant S_ .f32 0x461C4000#32)) (Host.divf (Host.negf (addf (broadcastInDim S8 ![] bcast_S_S8 (constant S_ .f32 0x00000000#32))
    (mulf (broadcastInDim S8 ![] bcast_S_S8 (constant S_ .f32 0x40000000#32)) (sitofp .f32 (iotaInDim S8 32 0))))) (broadcastInDim S8 ![] bcast_S_S8 (constant S_ .f32 0x41800000#32)))

/-- The angles: a token's row, then its column, times each frequency. -/
def angV : FVec Ideal S2048x16 .f32 :=
  concatenate S2048x16 1 [⟨S2048x8, mulf (broadcastInDim S2048x8 ![0, 1] bcast_S2048x1_S2048x8_0_1 (broadcastInDim S2048x1 ![0] bcast_S2048_S2048x1_0 rowV)) (broadcastInDim S2048x8 ![0, 1] bcast_S1x8_S2048x8_0_1 (broadcastInDim S1x8 ![1] bcast_S8_S1x8_1 freqV))⟩,
    ⟨S2048x8, mulf (broadcastInDim S2048x8 ![0, 1] bcast_S2048x1_S2048x8_0_1 (broadcastInDim S2048x1 ![0] bcast_S2048_S2048x1_0 columnV)) (broadcastInDim S2048x8 ![0, 1] bcast_S1x8_S2048x8_0_1 (broadcastInDim S1x8 ![1] bcast_S8_S1x8_1 freqV))⟩]
    concatenates_S2048x8_S2048x8_S2048x16_d1

/-- A table of 32 columns, a copy for each of eight heads. -/
def tileV (v : FVec Ideal S2048x32 .f32) : FVec Ideal S2048x256 .f32 :=
  shapeCast S2048x256 (broadcastInDim S1x2048x8x32 ![0, 1, 2, 3] bcast_S1x2048x1x32_S1x2048x8x32_0_1_2_3 (shapeCast S1x2048x1x32 v shapeCasts_S2048x32_S1x2048x1x32)) shapeCasts_S1x2048x8x32_S2048x256

/-- Two tables of 16 columns side by side. -/
def pairV (a b : FVec Ideal S2048x16 .f32) : FVec Ideal S2048x32 .f32 := concatenate S2048x32 1 [⟨S2048x16, a⟩, ⟨S2048x16, b⟩] concatenates_S2048x16_S2048x16_S2048x32_d1

/-- The cosines of angles, as the kernel reads them. -/
def cosV (g : FVec Ideal S2048x16 .f32) : FVec Ideal S2048x256 .f32 := tileV (pairV (Host.cos g) (Host.cos g))

/-- The sines of angles, as the kernel reads them: negated in each head's first half. -/
def sinV (g : FVec Ideal S2048x16 .f32) : FVec Ideal S2048x256 .f32 := tileV (pairV (Host.negf (Host.sin g)) (Host.sin g))

set_option maxHeartbeats 1000000 in
/-- What the host leaves in the array of the modulation's rows. -/
theorem V6 : V m c main_v6 = modV (m ((c.tc : Thread nD τ).loc main_arg1)) (m ((c.tc : Thread nD τ).loc main_arg2)) zeroV := by
  unfold_abbrev_sides
  rfl

set_option maxHeartbeats 1000000 in
/-- What the host leaves in the array of the forget gates' bounds. -/
theorem V23 : V m c main_v23 = lbV (m ((c.tc : Thread nD τ).loc main_arg7)) := by
  unfold_abbrev_sides
  rfl

set_option maxHeartbeats 1000000 in
/-- What the host leaves in the array of the first branch's gains. -/
theorem V26 : V m c main_v26 = gaV (m ((c.tc : Thread nD τ).loc main_arg5)) := by
  unfold_abbrev_sides
  rfl

set_option maxHeartbeats 1000000 in
/-- What the host leaves in the array of the second branch's gains. -/
theorem V29 : V m c main_v29 = gbV (m ((c.tc : Thread nD τ).loc main_arg6)) := by
  unfold_abbrev_sides
  rfl

set_option maxHeartbeats 1000000 in
/-- What the host leaves in the array of the input's rows. -/
theorem V67 : V m c main_v67 = xV (m ((c.tc : Thread nD τ).loc main_arg0)) := by
  unfold_abbrev_sides
  rfl

set_option maxHeartbeats 1000000 in
/-- What the host leaves in the array of the gain's row. -/
theorem V68 : V m c main_v68 = ngV (m ((c.tc : Thread nD τ).loc main_arg3)) := by
  unfold_abbrev_sides
  rfl

set_option maxHeartbeats 1000000 in
/-- What the host leaves in the array of the weights. -/
theorem V69 : V m c main_v69 = wV (m ((c.tc : Thread nD τ).loc main_arg4)) := by
  unfold_abbrev_sides
  rfl

/-- The weights at an entry: over the extended reals a cast changes nothing. -/
theorem wV_apply (w : FVec Ideal S1024x3840 .f32) (k : Fin 1024) (n : Fin 3840) : wV w (ix2 k n) = w (ix2 k n) := by
  pointwise [wV]

/-- The first branch's gains at an entry. -/
theorem gaV_apply (g : FVec Ideal S2x32 .f32) (e : Fin 2) (j : Fin 256) : gaV g (ix2 e j) = g (ix2 e ⟨j.val % 32, by omega⟩) := by
  pointwise [gaV]

/-- The second branch's gains at an entry. -/
theorem gbV_apply (g : FVec Ideal S2x64 .f32) (e : Fin 2) (j : Fin 256) : gbV g (ix2 e j) = g (ix2 e ⟨j.val % 64, by omega⟩) := by
  pointwise [gbV]

/-- The forward direction's floored bounds. -/
theorem lbV_0 (l : FVec Ideal S2x256 .f32) (j : Fin 256) : lbV l (ix2 0 j) = max (l (ix2 0 j)) (Ideal.ofBits .f32 0x1E3CE508#32) := by
  pointwise [lbV, floorV, restV]

/-- One minus the forward direction's bounds. -/
theorem lbV_1 (l : FVec Ideal S2x256 .f32) (j : Fin 256) : lbV l (ix2 1 j) = 1 - l (ix2 0 j) := by
  pointwise [lbV, floorV, restV]

/-- The backward direction's floored bounds. -/
theorem lbV_2 (l : FVec Ideal S2x256 .f32) (j : Fin 256) : lbV l (ix2 2 j) = max (l (ix2 1 j)) (Ideal.ofBits .f32 0x1E3CE508#32) := by
  pointwise [lbV, floorV, restV]

/-- One minus the backward direction's bounds. -/
theorem lbV_3 (l : FVec Ideal S2x256 .f32) (j : Fin 256) : lbV l (ix2 3 j) = 1 - l (ix2 1 j) := by
  pointwise [lbV, floorV, restV]

/-- A cosine at an entry. -/
theorem cosV_apply (g : FVec Ideal S2048x16 .f32) (p : Fin 2048) (j : Fin 256) : cosV g (ix2 p j) = Ideal.cos (g (ix2 p ⟨j.val % 16, by omega⟩)) := by
  pointwise [cosV, tileV, pairV]
  split_ifs with h
  · exact congrArg (fun q => Ideal.cos (g (ix2 p q))) (Fin.ext (by dsimp only; omega))
  · exact congrArg (fun q => Ideal.cos (g (ix2 p q))) (Fin.ext (by dsimp only; omega))
  · exact congrArg (fun q => Ideal.cos (g (ix2 p q))) (Fin.ext (by dsimp only; omega))

/-- A signed sine at an entry. -/
theorem sinV_apply (g : FVec Ideal S2048x16 .f32) (p : Fin 2048) (j : Fin 256) :
    sinV g (ix2 p j) = if j.val % 32 < 16 then - Ideal.sin (g (ix2 p ⟨j.val % 16, by omega⟩)) else Ideal.sin (g (ix2 p ⟨j.val % 16, by omega⟩)) := by
  pointwise [sinV, tileV, pairV]
  split_ifs with h
  · exact congrArg (fun q => - Ideal.sin (g (ix2 p q))) (Fin.ext (by dsimp only; omega))
  · exact congrArg (fun q => Ideal.sin (g (ix2 p q))) (Fin.ext (by dsimp only; omega))
  · exact congrArg (fun q => Ideal.sin (g (ix2 p q))) (Fin.ext (by dsimp only; omega))

end Cert.ProjectionIdeal.Prj

end
-- ==== Proof.ProjectionMath.lean ====
module

public import Idealize.ShloMosaic.PureOps.Ideal
public import proofs.«01_k».proof.Proof.ProjectionRow

@[expose] public section

noncomputable section

open Idealize.ShloMosaic

namespace Cert.Proj

/-- The logarithm of the sum of two logarithms' exponentials, as a reference computes it. -/
def addexp (a b : EReal) : EReal := max a b + Ideal.log1p (Ideal.exp (-(max (a - b) (-(a - b)))))

/-- A square is at least zero. -/
theorem sq_nonneg' (x : EReal) : 0 ≤ x * x := by
  induction x with
  | bot => simp
  | top => simp
  | coe r => rw [← EReal.coe_mul]; exact_mod_cast mul_self_nonneg r

/-- A sum of entries at least zero, each times the same factor. -/
theorem sum_mul_of_nonneg {ι : Type} [DecidableEq ι] (s : Finset ι) (a : ι → EReal) (ha : ∀ i, 0 ≤ a i) (k : EReal) : ∑ i ∈ s, a i * k = (∑ i ∈ s, a i) * k := by
  induction s using Finset.induction_on with
  | empty => simp
  | insert i s hi ih => rw [Finset.sum_insert hi, Finset.sum_insert hi, ih, EReal.right_distrib_of_nonneg (ha i) (Finset.sum_nonneg fun j _ => ha j)]

/-- A head's part of a sum over the row: the head's entries alone. -/
theorem sum_head (g : ℕ) (hg : 0 < g) (q : ℕ) (hq : g * q + g ≤ 256) (f : Fin 256 → EReal) (k : EReal) :
    ∑ i : Fin 256, f i * (if i.val / g = q then k else 0) = ∑ e : Fin g, f ⟨g * q + e.val, by omega⟩ * k := by
  have h : ∀ i : Fin 256, f i * (if i.val / g = q then k else 0) = if i.val / g = q then f i * k else 0 := fun i => by split_ifs <;> simp
  rw [Finset.sum_congr rfl fun i _ => h i, ← Finset.sum_filter]
  symm
  refine Finset.sum_bij (fun e _ => (⟨g * q + e.val, by omega⟩ : Fin 256)) ?_ ?_ ?_ ?_
  · intro e _
    simp only [Finset.mem_filter, Finset.mem_univ, true_and]
    rw [Nat.mul_add_div hg, Nat.div_eq_of_lt e.isLt, Nat.add_zero]
  · intro e _ e' _ h
    have := Fin.mk.inj_iff.mp h
    exact Fin.ext (by omega)
  · intro i hi
    simp only [Finset.mem_filter, Finset.mem_univ, true_and] at hi
    refine ⟨⟨i.val % g, Nat.mod_lt _ hg⟩, Finset.mem_univ _, Fin.ext ?_⟩
    show g * q + i.val % g = i.val
    rw [← hi]; exact Nat.div_add_mod _ _
  · intro e _; rfl

/-- A thirty-second, exactly. -/
theorem κa_eq : κa = (((32 : ℝ)⁻¹ : ℝ) : EReal) := by
  unfold κa
  simp [Ideal.ofBits, Ideal.ieee, -EReal.coe_mul]
  norm_num

/-- A sixty-fourth, exactly. -/
theorem κb_eq : κb = (((64 : ℝ)⁻¹ : ℝ) : EReal) := by
  unfold κb
  simp [Ideal.ofBits, Ideal.ieee, -EReal.coe_mul]
  norm_num

/-- Thirty-two, exactly. -/
theorem lit32 : Ideal.ofBits .f32 0x42000000#32 = ((32 : ℝ) : EReal) := by
  simp [Ideal.ofBits, Ideal.ieee, -EReal.coe_mul]
  norm_num

/-- Sixty-four, exactly. -/
theorem lit64 : Ideal.ofBits .f32 0x42800000#32 = ((64 : ℝ) : EReal) := by
  simp [Ideal.ofBits, Ideal.ieee, -EReal.coe_mul]
  norm_num

/-- A quotient by a real other than zero is the product with its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- A head of 32 columns normalized: the entry over the root of its head's mean square, times the gain. -/
theorem gnorm_a (v gain : Fin 256 → EReal) (j : Fin 256) :
    gnorm 32 κa v gain j = v j * Ideal.rsqrt (Ideal.div (∑ k : Fin 32, v ⟨32 * (j.val / 32) + k.val, by omega⟩ * v ⟨32 * (j.val / 32) + k.val, by omega⟩) (Ideal.ofBits .f32 0x42000000#32) + Ideal.ofBits .f32 0x358637BD#32) * gain j := by
  unfold gnorm
  rw [sum_head 32 (by omega) (j.val / 32) (by omega) (fun i => v i * v i), sum_mul_of_nonneg _ _ (fun _ => sq_nonneg' _), κa_eq, lit32, div_real _ _ (by norm_num)]

/-- A head of 64 columns normalized: the entry over the root of its head's mean square, times the gain. -/
theorem gnorm_b (v gain : Fin 256 → EReal) (j : Fin 256) :
    gnorm 64 κb v gain j = v j * Ideal.rsqrt (Ideal.div (∑ k : Fin 64, v ⟨64 * (j.val / 64) + k.val, by omega⟩ * v ⟨64 * (j.val / 64) + k.val, by omega⟩) (Ideal.ofBits .f32 0x42800000#32) + Ideal.ofBits .f32 0x358637BD#32) * gain j := by
  unfold gnorm
  rw [sum_head 64 (by omega) (j.val / 64) (by omega) (fun i => v i * v i), sum_mul_of_nonneg _ _ (fun _ => sq_nonneg' _), κb_eq, lit64, div_real _ _ (by norm_num)]

/-- The first half of a rotated head: the product with the cosine less the partner's with the sine. -/
theorem rot_first (u cs sn : Fin 256 → EReal) (j : Fin 256) (h : j.val % 32 < 16) (s : EReal) (hs : sn j = -s) : rot u cs sn j = u j * cs j - u ⟨j.val + 16, by omega⟩ * s := by
  unfold rot
  rw [if_pos h, hs, mul_neg, ← sub_eq_add_neg]
  exact congrArg (fun i => u j * cs j - u i * s) (Fin.ext (by show (j.val + 16) % 256 = j.val + 16; omega))

/-- The second half of a rotated head: the partner's product with the sine plus the product with the cosine. -/
theorem rot_second (u cs sn : Fin 256 → EReal) (j : Fin 256) (h : ¬ j.val % 32 < 16) : rot u cs sn j = u ⟨j.val - 16, by omega⟩ * sn j + u j * cs j := by
  unfold rot
  rw [if_neg h, add_comm]
  exact congrArg (fun i => u i * sn j + u j * cs j) (Fin.ext (by show (j.val + 240) % 256 = j.val - 16; omega))

end Cert.Proj

end
-- ==== Proof.ProjectionReference.lean ====
module

public import proofs.«01_k».proof.Proof.MergeReference
public import proofs.«01_k».proof.Proof.MergeHost
public import proofs.«01_k».proof.Proof.ProjectionMath
public import proofs.«01_k».proof.Proof.Gen.ProjectionReferenceIdeal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ProjectionReferenceIdeal.Prj

open Cert.ProjectionReferenceIdeal Cert.ProjectionReferenceIdeal.Gen Cert.Proj

open Cert.MergeReferenceIdeal.Mrg (hV hV_apply siluV siluV_apply)

/-- The projection: the modulated norm times the weights. -/
def zV (x : FVec Ideal S16x2048x1024 .f32) (sh sc : FVec Ideal S16x1024 .f32) (ng : FVec Ideal S1024 .f32) (w : FVec Ideal S1024x3840 .f32) : FVec Ideal S16x2048x3840 .f32 :=
  Host.dotGeneral dot_S16x2048x1024_S1024x3840_S16x2048x3840_2_0_01_1_n_n none (hV x sh sc ng) w

/-- The first branch's columns. -/
def zaV (z : FVec Ideal S16x2048x3840 .f32) : FVec Ideal S16x2048x768 .f32 := extractStridedSlice S16x2048x768 ![0, 0, 0] z slices_S16x2048x3840_S16x2048x768_0_0_0

/-- The second branch's columns. -/
def zbV (z : FVec Ideal S16x2048x3840 .f32) : FVec Ideal S16x2048x768 .f32 := extractStridedSlice S16x2048x768 ![0, 0, 768] z slices_S16x2048x3840_S16x2048x768_0_0_768

/-- The third branch's columns. -/
def zhV (z : FVec Ideal S16x2048x3840 .f32) : FVec Ideal S16x2048x1024 .f32 := extractStridedSlice S16x2048x1024 ![0, 0, 1536] z slices_S16x2048x3840_S16x2048x1024_0_0_1536

/-- The gates' columns. -/
def zgV (z : FVec Ideal S16x2048x3840 .f32) : FVec Ideal S16x2048x1024 .f32 := extractStridedSlice S16x2048x1024 ![0, 0, 2816] z slices_S16x2048x3840_S16x2048x1024_0_0_2816

/-- The first run of a branch's columns. -/
def q3V (v : FVec Ideal S16x2048x768 .f32) : FVec Ideal S16x2048x256 .f32 := extractStridedSlice S16x2048x256 ![0, 0, 0] v slices_S16x2048x768_S16x2048x256_0_0_0

/-- The second run of a branch's columns. -/
def k3V (v : FVec Ideal S16x2048x768 .f32) : FVec Ideal S16x2048x256 .f32 := extractStridedSlice S16x2048x256 ![0, 0, 256] v slices_S16x2048x768_S16x2048x256_0_0_256

/-- The third run of a branch's columns. -/
def v3V (v : FVec Ideal S16x2048x768 .f32) : FVec Ideal S16x2048x256 .f32 := extractStridedSlice S16x2048x256 ![0, 0, 512] v slices_S16x2048x768_S16x2048x256_0_0_512

/-- The rows of the first branch's gains. -/
def g0V (g : FVec Ideal S2x32 .f32) : FVec Ideal S32 .f32 := shapeCast S32 (extractStridedSlice S1x32 ![0, 0] g slices_S2x32_S1x32_0_0) shapeCasts_S1x32_S32

/-- The second row of the first branch's gains. -/
def g1V (g : FVec Ideal S2x32 .f32) : FVec Ideal S32 .f32 := shapeCast S32 (extractStridedSlice S1x32 ![1, 0] g slices_S2x32_S1x32_1_0) shapeCasts_S1x32_S32

/-- The first row of the second branch's gains. -/
def f0V (g : FVec Ideal S2x64 .f32) : FVec Ideal S64 .f32 := shapeCast S64 (extractStridedSlice S1x64 ![0, 0] g slices_S2x64_S1x64_0_0) shapeCasts_S1x64_S64

/-- The second row of the second branch's gains. -/
def f1V (g : FVec Ideal S2x64 .f32) : FVec Ideal S64 .f32 := shapeCast S64 (extractStridedSlice S1x64 ![1, 0] g slices_S2x64_S1x64_1_0) shapeCasts_S1x64_S64

/-- Heads of 32 columns. -/
def headsAV (v : FVec Ideal S16x2048x256 .f32) : FVec Ideal S16x2048x8x32 .f32 := shapeCast S16x2048x8x32 v shapeCasts_S16x2048x256_S16x2048x8x32

/-- Heads of 64 columns. -/
def headsBV (v : FVec Ideal S16x2048x256 .f32) : FVec Ideal S16x2048x4x64 .f32 := shapeCast S16x2048x4x64 v shapeCasts_S16x2048x256_S16x2048x4x64

/-- Heads of 32 columns over their root mean squares, times the gain. -/
def normAV (v : FVec Ideal S16x2048x8x32 .f32) (g : FVec Ideal S32 .f32) : FVec Ideal S16x2048x8x32 .f32 :=
  mulf (mulf v (broadcastInDim S16x2048x8x32 ![0, 1, 2, 3] bcast_S16x2048x8x1_S16x2048x8x32_0_1_2_3 (Host.rsqrt (addf (Host.divf (broadcastInDim S16x2048x8x1 ![0, 1, 2] bcast_S16x2048x8_S16x2048x8x1_0_1_2
    (Host.reduceAdd (mulf v v) (constant S_ .f32 0x00000000#32) reducesTo_S16x2048x8x32_S16x2048x8_d3 h_S_)) (broadcastInDim S16x2048x8x1 ![] bcast_S_S16x2048x8x1 (constant S_ .f32 0x42000000#32)))
    (broadcastInDim S16x2048x8x1 ![] bcast_S_S16x2048x8x1 (constant S_ .f32 0x358637BD#32))))))
    (broadcastInDim S16x2048x8x32 ![0, 1, 2, 3] bcast_S1x1x1x32_S16x2048x8x32_0_1_2_3 (broadcastInDim S1x1x1x32 ![3] bcast_S32_S1x1x1x32_3 g))

/-- Heads of 64 columns over their root mean squares, times the gain. -/
def normBV (v : FVec Ideal S16x2048x4x64 .f32) (g : FVec Ideal S64 .f32) : FVec Ideal S16x2048x4x64 .f32 :=
  mulf (mulf v (broadcastInDim S16x2048x4x64 ![0, 1, 2, 3] bcast_S16x2048x4x1_S16x2048x4x64_0_1_2_3 (Host.rsqrt (addf (Host.divf (broadcastInDim S16x2048x4x1 ![0, 1, 2] bcast_S16x2048x4_S16x2048x4x1_0_1_2
    (Host.reduceAdd (mulf v v) (constant S_ .f32 0x00000000#32) reducesTo_S16x2048x4x64_S16x2048x4_d3 h_S_)) (broadcastInDim S16x2048x4x1 ![] bcast_S_S16x2048x4x1 (constant S_ .f32 0x42800000#32)))
    (broadcastInDim S16x2048x4x1 ![] bcast_S_S16x2048x4x1 (constant S_ .f32 0x358637BD#32))))))
    (broadcastInDim S16x2048x4x64 ![0, 1, 2, 3] bcast_S1x1x1x64_S16x2048x4x64_0_1_2_3 (broadcastInDim S1x1x1x64 ![3] bcast_S64_S1x1x1x64_3 g))

/-- Heads of 64 columns as rows. -/
def flatBV (v : FVec Ideal S16x2048x4x64 .f32) : FVec Ideal S16x2048x256 .f32 := shapeCast S16x2048x256 v shapeCasts_S16x2048x4x64_S16x2048x256

/-- A table of angles' values for every sequence and head. -/
def angleV (a : FVec Ideal S2048x16 .f32) : FVec Ideal S16x2048x8x16 .f32 :=
  broadcastInDim S16x2048x8x16 ![0, 1, 2, 3] bcast_S1x2048x1x16_S16x2048x8x16_0_1_2_3 (broadcastInDim S1x2048x1x16 ![1, 3] bcast_S2048x16_S1x2048x1x16_1_3 a)

/-- The first half of each head. -/
def halfV (u : FVec Ideal S16x2048x8x32 .f32) : FVec Ideal S16x2048x8x16 .f32 := extractStridedSlice S16x2048x8x16 ![0, 0, 0, 0] u slices_S16x2048x8x32_S16x2048x8x16_0_0_0_0

/-- The second half of each head. -/
def half1V (u : FVec Ideal S16x2048x8x32 .f32) : FVec Ideal S16x2048x8x16 .f32 := extractStridedSlice S16x2048x8x16 ![0, 0, 0, 16] u slices_S16x2048x8x32_S16x2048x8x16_0_0_0_16

/-- Heads of 32 columns rotated by the angles, as rows. -/
def ropeV (u : FVec Ideal S16x2048x8x32 .f32) (a : FVec Ideal S2048x16 .f32) : FVec Ideal S16x2048x256 .f32 :=
  shapeCast S16x2048x256 (concatenate S16x2048x8x32 3 [⟨S16x2048x8x16, subf (mulf (halfV u) (angleV (Host.cos a))) (mulf (half1V u) (angleV (Host.sin a)))⟩,
    ⟨S16x2048x8x16, addf (mulf (halfV u) (angleV (Host.sin a))) (mulf (half1V u) (angleV (Host.cos a)))⟩] concatenates_S16x2048x8x16_S16x2048x8x16_S16x2048x8x32_d3) shapeCasts_S16x2048x8x32_S16x2048x256

/-- Values, each head's columns followed by as many ones. -/
def onesV (v : FVec Ideal S16x2048x256 .f32) : FVec Ideal S16x2048x512 .f32 :=
  shapeCast S16x2048x512 (concatenate S16x2048x4x128 3 [⟨S16x2048x4x64, headsBV v⟩, ⟨S16x2048x4x64, broadcastInDim S16x2048x4x64 ![] bcast_S_S16x2048x4x64 (constant S_ .f32 0x3F800000#32)⟩] concatenates_S16x2048x4x64_S16x2048x4x64_S16x2048x4x128_d3) shapeCasts_S16x2048x4x128_S16x2048x512

/-- The results side by side. -/
def rowsV (g : FVec Ideal S16x2048x1024 .f32) (qa ka qb kb : FVec Ideal S16x2048x256 .f32) (va vb : FVec Ideal S16x2048x512 .f32) (hq hi u : FVec Ideal S16x2048x256 .f32) : FVec Ideal S16x2048x3840 .f32 :=
  concatenate S16x2048x3840 2 [⟨S16x2048x1024, g⟩, ⟨S16x2048x256, qa⟩, ⟨S16x2048x256, ka⟩, ⟨S16x2048x256, qb⟩, ⟨S16x2048x256, kb⟩, ⟨S16x2048x512, va⟩, ⟨S16x2048x512, vb⟩, ⟨S16x2048x256, hq⟩, ⟨S16x2048x256, hi⟩, ⟨S16x2048x256, u⟩]
    concatenates_S16x2048x1024_S16x2048x256_S16x2048x256_S16x2048x256_S16x2048x256_S16x2048x512_S16x2048x512_S16x2048x256_S16x2048x256_S16x2048x256_S16x2048x3840_d2

/-- The third branch's first run of columns. -/
def hqV (v : FVec Ideal S16x2048x1024 .f32) : FVec Ideal S16x2048x256 .f32 := extractStridedSlice S16x2048x256 ![0, 0, 0] v slices_S16x2048x1024_S16x2048x256_0_0_0

/-- The third branch's second run of columns. -/
def hfV (v : FVec Ideal S16x2048x1024 .f32) : FVec Ideal S16x2048x256 .f32 := extractStridedSlice S16x2048x256 ![0, 0, 256] v slices_S16x2048x1024_S16x2048x256_0_0_256

/-- The third branch's third run of columns. -/
def hbV (v : FVec Ideal S16x2048x1024 .f32) : FVec Ideal S16x2048x256 .f32 := extractStridedSlice S16x2048x256 ![0, 0, 512] v slices_S16x2048x1024_S16x2048x256_0_0_512

/-- The third branch's fourth run of columns. -/
def hiV (v : FVec Ideal S16x2048x1024 .f32) : FVec Ideal S16x2048x256 .f32 := extractStridedSlice S16x2048x256 ![0, 0, 768] v slices_S16x2048x1024_S16x2048x256_0_0_768

/-- The fourth branch's columns. -/
def uV (z : FVec Ideal S16x2048x3840 .f32) : FVec Ideal S16x2048x256 .f32 := extractStridedSlice S16x2048x256 ![0, 0, 2560] z slices_S16x2048x3840_S16x2048x256_0_0_2560

/-- The array of results. -/
def slabV (z : FVec Ideal S16x2048x3840 .f32) (ga : FVec Ideal S2x32 .f32) (gb : FVec Ideal S2x64 .f32) (a : FVec Ideal S2048x16 .f32) : FVec Ideal S32768x3840 .bf16 :=
  truncf .bf16 (shapeCast S32768x3840 (rowsV (Cert.MergeIdeal.Mrg.siluV (zgV z)) (ropeV (normAV (headsAV (q3V (zaV z))) (g0V ga)) a) (ropeV (normAV (headsAV (k3V (zaV z))) (g1V ga)) a)
    (flatBV (normBV (headsBV (q3V (zbV z))) (f0V gb))) (flatBV (normBV (headsBV (k3V (zbV z))) (f1V gb))) (onesV (v3V (zaV z))) (onesV (v3V (zbV z))) (siluV (hqV (zhV z))) (hiV (zhV z)) (uV z))
    shapeCasts_S16x2048x3840_S32768x3840) bitsLt_bf16_f32

/-- The logarithms of the floored lower bounds. -/
def logV (l : FVec Ideal S2x256 .f32) : FVec Ideal S2x256 .f32 := Host.log (maximumf l (broadcastInDim S2x256 ![] bcast_S_S2x256 (constant S_ .f32 0x1E3CE508#32)))

/-- The logarithms of one minus the lower bounds. -/
def restV (l : FVec Ideal S2x256 .f32) : FVec Ideal S2x256 .f32 := Host.log1p (Host.negf l)

/-- The forward direction's row, for every token. -/
def row0V (l : FVec Ideal S2x256 .f32) : FVec Ideal S16x2048x256 .f32 :=
  broadcastInDim S16x2048x256 ![0, 1, 2] bcast_S1x1x256_S16x2048x256_0_1_2 (broadcastInDim S1x1x256 ![2] bcast_S256_S1x1x256_2 (shapeCast S256 (extractStridedSlice S1x256 ![0, 0] l slices_S2x256_S1x256_0_0) shapeCasts_S1x256_S256))

/-- The backward direction's row, for every token. -/
def row1V (l : FVec Ideal S2x256 .f32) : FVec Ideal S16x2048x256 .f32 :=
  broadcastInDim S16x2048x256 ![0, 1, 2] bcast_S1x1x256_S16x2048x256_0_1_2 (broadcastInDim S1x1x256 ![2] bcast_S256_S1x1x256_2 (shapeCast S256 (extractStridedSlice S1x256 ![1, 0] l slices_S2x256_S1x256_1_0) shapeCasts_S1x256_S256))

/-- Zeros. -/
def zerosV : FVec Ideal S16x2048x256 .f32 := broadcastInDim S16x2048x256 ![] bcast_S_S16x2048x256 (constant S_ .f32 0x00000000#32)

/-- The logarithm of the sum of two logarithms' exponentials. -/
def addexpV (a b : FVec Ideal S16x2048x256 .f32) : FVec Ideal S16x2048x256 .f32 :=
  select (cmpf .une (subf a b) (subf a b)) (addf a b) (addf (maximumf a b) (Host.log1p (Host.exp (Host.negf (Host.absf (subf a b))))))

/-- A direction's forget gates: the sum, by logarithms, of the lower bound and the rest times the sigmoid. -/
def forgetV (a b f : FVec Ideal S16x2048x256 .f32) : FVec Ideal S16x2048x256 .f32 := addexpV a (addf b (Host.negf (addexpV (Host.negf f) zerosV)))

/-- The array of forget gates. -/
def gatesV (z : FVec Ideal S16x2048x3840 .f32) (l : FVec Ideal S2x256 .f32) : FVec Ideal S32768x512 .f32 :=
  shapeCast S32768x512 (concatenate S16x2048x512 2 [⟨S16x2048x256, forgetV (row0V (logV l)) (row0V (restV l)) (hfV (zhV z))⟩, ⟨S16x2048x256, forgetV (row1V (logV l)) (row1V (restV l)) (hbV (zhV z))⟩] concatenates_S16x2048x256_S16x2048x256_S16x2048x512_d2)
    shapeCasts_S16x2048x512_S32768x512

/-- The projection at an entry. -/
theorem zV_apply (x : FVec Ideal S16x2048x1024 .f32) (sh sc : FVec Ideal S16x1024 .f32) (ng : FVec Ideal S1024 .f32) (w : FVec Ideal S1024x3840 .f32) (b : Fin 16) (p : Fin 2048) (n : Fin 3840) :
    zV x sh sc ng w (ix3 b p n) = col (Cert.Mix.hrow (fun k => x (ix3 b p k)) (fun k => ng (ix1 k)) (fun k => sc (ix2 b k)) (fun k => sh (ix2 b k))) (fun k n => w (ix2 k n)) n := by
  unfold col
  have key : ∀ h : FVec Ideal S16x2048x1024 .f32, (Host.dotGeneral dot_S16x2048x1024_S1024x3840_S16x2048x3840_2_0_01_1_n_n none h w : FVec Ideal S16x2048x3840 .f32) (ix3 b p n) = ∑ k : Fin 1024, h (ix3 b p k) * w (ix2 k n) := by
    intro h
    pointwise []
  refine (key (hV x sh sc ng)).trans ?_
  exact Finset.sum_congr rfl fun k _ => by rw [hV_apply]

/-- The first branch's queries by heads. -/
theorem qa_apply (z : FVec Ideal S16x2048x3840 .f32) (b : Fin 16) (p : Fin 2048) (e : Fin 8) (d : Fin 32) : headsAV (q3V (zaV z)) (ix4 b p e d) = z (ix3 b p ⟨e.val * 32 + d.val, by omega⟩) := by
  pointwise [headsAV, q3V, k3V, zaV]

/-- The first branch's keys by heads. -/
theorem ka_apply (z : FVec Ideal S16x2048x3840 .f32) (b : Fin 16) (p : Fin 2048) (e : Fin 8) (d : Fin 32) : headsAV (k3V (zaV z)) (ix4 b p e d) = z (ix3 b p ⟨256 + (e.val * 32 + d.val), by omega⟩) := by
  pointwise [headsAV, q3V, k3V, zaV]

/-- The second branch's queries by heads. -/
theorem qb_apply (z : FVec Ideal S16x2048x3840 .f32) (b : Fin 16) (p : Fin 2048) (e : Fin 4) (d : Fin 64) : headsBV (q3V (zbV z)) (ix4 b p e d) = z (ix3 b p ⟨768 + (e.val * 64 + d.val), by omega⟩) := by
  pointwise [headsBV, q3V, k3V, zbV]

/-- The second branch's keys by heads. -/
theorem kb_apply (z : FVec Ideal S16x2048x3840 .f32) (b : Fin 16) (p : Fin 2048) (e : Fin 4) (d : Fin 64) : headsBV (k3V (zbV z)) (ix4 b p e d) = z (ix3 b p ⟨1024 + (e.val * 64 + d.val), by omega⟩) := by
  pointwise [headsBV, q3V, k3V, zbV]
  exact congrArg (fun q => z (ix3 b p q)) (Fin.ext (by dsimp only; omega))

/-- The first branch's values. -/
theorem va_apply (z : FVec Ideal S16x2048x3840 .f32) (b : Fin 16) (p : Fin 2048) (j : Fin 256) : v3V (zaV z) (ix3 b p j) = z (ix3 b p ⟨512 + j.val, by omega⟩) := by
  pointwise [v3V, zaV, zbV, hqV, hfV, hbV, hiV, uV, zhV, zgV]

/-- The second branch's values. -/
theorem vb_apply (z : FVec Ideal S16x2048x3840 .f32) (b : Fin 16) (p : Fin 2048) (j : Fin 256) : v3V (zbV z) (ix3 b p j) = z (ix3 b p ⟨1280 + j.val, by omega⟩) := by
  pointwise [v3V, zaV, zbV, hqV, hfV, hbV, hiV, uV, zhV, zgV]
  exact congrArg (fun q => z (ix3 b p q)) (Fin.ext (by dsimp only; omega))

/-- The third branch's queries. -/
theorem hq_apply (z : FVec Ideal S16x2048x3840 .f32) (b : Fin 16) (p : Fin 2048) (j : Fin 256) : hqV (zhV z) (ix3 b p j) = z (ix3 b p ⟨1536 + j.val, by omega⟩) := by
  pointwise [v3V, zaV, zbV, hqV, hfV, hbV, hiV, uV, zhV, zgV]

/-- The forward forget gates. -/
theorem hf_apply (z : FVec Ideal S16x2048x3840 .f32) (b : Fin 16) (p : Fin 2048) (j : Fin 256) : hfV (zhV z) (ix3 b p j) = z (ix3 b p ⟨1792 + j.val, by omega⟩) := by
  pointwise [v3V, zaV, zbV, hqV, hfV, hbV, hiV, uV, zhV, zgV]
  exact congrArg (fun q => z (ix3 b p q)) (Fin.ext (by dsimp only; omega))

/-- The backward forget gates. -/
theorem hb_apply (z : FVec Ideal S16x2048x3840 .f32) (b : Fin 16) (p : Fin 2048) (j : Fin 256) : hbV (zhV z) (ix3 b p j) = z (ix3 b p ⟨2048 + j.val, by omega⟩) := by
  pointwise [v3V, zaV, zbV, hqV, hfV, hbV, hiV, uV, zhV, zgV]
  exact congrArg (fun q => z (ix3 b p q)) (Fin.ext (by dsimp only; omega))

/-- The third branch's inputs. -/
theorem hi_apply (z : FVec Ideal S16x2048x3840 .f32) (b : Fin 16) (p : Fin 2048) (j : Fin 256) : hiV (zhV z) (ix3 b p j) = z (ix3 b p ⟨2304 + j.val, by omega⟩) := by
  pointwise [v3V, zaV, zbV, hqV, hfV, hbV, hiV, uV, zhV, zgV]
  exact congrArg (fun q => z (ix3 b p q)) (Fin.ext (by dsimp only; omega))

/-- The fourth branch's inputs. -/
theorem u_apply (z : FVec Ideal S16x2048x3840 .f32) (b : Fin 16) (p : Fin 2048) (j : Fin 256) : uV z (ix3 b p j) = z (ix3 b p ⟨2560 + j.val, by omega⟩) := by
  pointwise [v3V, zaV, zbV, hqV, hfV, hbV, hiV, uV, zhV, zgV]

/-- The gates' inputs. -/
theorem zg_apply (z : FVec Ideal S16x2048x3840 .f32) (b : Fin 16) (p : Fin 2048) (j : Fin 1024) : zgV z (ix3 b p j) = z (ix3 b p ⟨2816 + j.val, by omega⟩) := by
  pointwise [v3V, zaV, zbV, hqV, hfV, hbV, hiV, uV, zhV, zgV]

/-- A gain of row 0. -/
theorem g0V_apply (g : FVec Ideal S2x32 .f32) (d : Fin 32) : g0V g (ix1 d) = g (ix2 0 d) := by
  pointwise [g0V]

/-- A gain of row 1. -/
theorem g1V_apply (g : FVec Ideal S2x32 .f32) (d : Fin 32) : g1V g (ix1 d) = g (ix2 1 d) := by
  pointwise [g1V]

/-- A gain of row 0. -/
theorem f0V_apply (g : FVec Ideal S2x64 .f32) (d : Fin 64) : f0V g (ix1 d) = g (ix2 0 d) := by
  pointwise [f0V]

/-- A gain of row 1. -/
theorem f1V_apply (g : FVec Ideal S2x64 .f32) (d : Fin 64) : f1V g (ix1 d) = g (ix2 1 d) := by
  pointwise [f1V]

/-- A normalized head of 32 columns at an entry. -/
theorem normAV_apply (v : FVec Ideal S16x2048x8x32 .f32) (g : FVec Ideal S32 .f32) (b : Fin 16) (p : Fin 2048) (e : Fin 8) (d : Fin 32) : normAV v g (ix4 b p e d) = v (ix4 b p e d) * Ideal.rsqrt (Ideal.div (∑ k : Fin 32, v (ix4 b p e k) * v (ix4 b p e k)) (Ideal.ofBits .f32 0x42000000#32) + Ideal.ofBits .f32 0x358637BD#32) * g (ix1 d) := by
  pointwise [normAV]

/-- A normalized head of 64 columns at an entry. -/
theorem normBV_apply (v : FVec Ideal S16x2048x4x64 .f32) (g : FVec Ideal S64 .f32) (b : Fin 16) (p : Fin 2048) (e : Fin 4) (d : Fin 64) : normBV v g (ix4 b p e d) = v (ix4 b p e d) * Ideal.rsqrt (Ideal.div (∑ k : Fin 64, v (ix4 b p e k) * v (ix4 b p e k)) (Ideal.ofBits .f32 0x42800000#32) + Ideal.ofBits .f32 0x358637BD#32) * g (ix1 d) := by
  pointwise [normBV]

/-- Heads as a row at an entry. -/
theorem flatBV_apply (v : FVec Ideal S16x2048x4x64 .f32) (b : Fin 16) (p : Fin 2048) (j : Fin 256) : flatBV v (ix3 b p j) = v (ix4 b p ⟨j.val / 64, by omega⟩ ⟨j.val % 64, by omega⟩) := by
  pointwise [flatBV]

/-- A rotated row at an entry. -/
theorem ropeV_apply (u : FVec Ideal S16x2048x8x32 .f32) (a : FVec Ideal S2048x16 .f32) (b : Fin 16) (p : Fin 2048) (j : Fin 256) :
    ropeV u a (ix3 b p j) = if h : j.val % 32 < 16 then u (ix4 b p ⟨j.val / 32, by omega⟩ ⟨j.val % 32, by omega⟩) * Ideal.cos (a (ix2 p ⟨j.val % 32, by omega⟩))
        - u (ix4 b p ⟨j.val / 32, by omega⟩ ⟨16 + j.val % 32, by omega⟩) * Ideal.sin (a (ix2 p ⟨j.val % 32, by omega⟩))
      else u (ix4 b p ⟨j.val / 32, by omega⟩ ⟨j.val % 32 - 16, by omega⟩) * Ideal.sin (a (ix2 p ⟨j.val % 32 - 16, by omega⟩))
        + u (ix4 b p ⟨j.val / 32, by omega⟩ ⟨16 + (j.val % 32 - 16), by omega⟩) * Ideal.cos (a (ix2 p ⟨j.val % 32 - 16, by omega⟩)) := by
  pointwise [ropeV, halfV, half1V, angleV]

/-- Values with ones at an entry. -/
theorem onesV_apply (v : FVec Ideal S16x2048x256 .f32) (b : Fin 16) (p : Fin 2048) (j : Fin 512) : onesV v (ix3 b p j) = ones (fun i => v (ix3 b p i)) j := by
  unfold ones
  pointwise [onesV, headsBV]
  split_ifs with h
  · exact congrArg (fun q => v (ix3 b p q)) (Fin.ext (by dsimp only; omega))
  · rfl

/-- The results side by side at an entry. -/
theorem rowsV_apply (g : FVec Ideal S16x2048x1024 .f32) (qa ka qb kb : FVec Ideal S16x2048x256 .f32) (va vb : FVec Ideal S16x2048x512 .f32) (hq hi u : FVec Ideal S16x2048x256 .f32) (b : Fin 16) (p : Fin 2048) (n : Fin 3840) :
    rowsV g qa ka qb kb va vb hq hi u (ix3 b p n) =
      if h0 : n.val < 1024 then g (ix3 b p ⟨n.val, by omega⟩) else if h1 : n.val < 1280 then qa (ix3 b p ⟨n.val - 1024, by omega⟩) else if h2 : n.val < 1536 then ka (ix3 b p ⟨n.val - 1280, by omega⟩)
      else if h3 : n.val < 1792 then qb (ix3 b p ⟨n.val - 1536, by omega⟩) else if h4 : n.val < 2048 then kb (ix3 b p ⟨n.val - 1792, by omega⟩) else if h5 : n.val < 2560 then va (ix3 b p ⟨n.val - 2048, by omega⟩)
      else if h6 : n.val < 3072 then vb (ix3 b p ⟨n.val - 2560, by omega⟩) else if h7 : n.val < 3328 then hq (ix3 b p ⟨n.val - 3072, by omega⟩) else if h8 : n.val < 3584 then hi (ix3 b p ⟨n.val - 3328, by omega⟩)
      else u (ix3 b p ⟨n.val - 3584, by omega⟩) := by
  pointwise [rowsV]
  by_cases h0 : n.val < 1024
  · rw [dif_pos (show n.val < 1024 by omega), dif_pos h0]
  rw [dif_neg (show ¬ n.val < 1024 by omega), dif_neg h0]
  by_cases h1 : n.val < 1280
  · rw [dif_pos (show n.val - 1024 < 256 by omega), dif_pos h1]
  rw [dif_neg (show ¬ n.val - 1024 < 256 by omega), dif_neg h1]
  by_cases h2 : n.val < 1536
  · rw [dif_pos (show n.val - 1024 - 256 < 256 by omega), dif_pos h2]
    exact congrArg (fun q => ka (ix3 b p q)) (Fin.ext (by dsimp only; omega))
  rw [dif_neg (show ¬ n.val - 1024 - 256 < 256 by omega), dif_neg h2]
  by_cases h3 : n.val < 1792
  · rw [dif_pos (show n.val - 1024 - 256 - 256 < 256 by omega), dif_pos h3]
    exact congrArg (fun q => qb (ix3 b p q)) (Fin.ext (by dsimp only; omega))
  rw [dif_neg (show ¬ n.val - 1024 - 256 - 256 < 256 by omega), dif_neg h3]
  by_cases h4 : n.val < 2048
  · rw [dif_pos (show n.val - 1024 - 256 - 256 - 256 < 256 by omega), dif_pos h4]
    exact congrArg (fun q => kb (ix3 b p q)) (Fin.ext (by dsimp only; omega))
  rw [dif_neg (show ¬ n.val - 1024 - 256 - 256 - 256 < 256 by omega), dif_neg h4]
  by_cases h5 : n.val < 2560
  · rw [dif_pos (show n.val - 1024 - 256 - 256 - 256 - 256 < 512 by omega), dif_pos h5]
    exact congrArg (fun q => va (ix3 b p q)) (Fin.ext (by dsimp only; omega))
  rw [dif_neg (show ¬ n.val - 1024 - 256 - 256 - 256 - 256 < 512 by omega), dif_neg h5]
  by_cases h6 : n.val < 3072
  · rw [dif_pos (show n.val - 1024 - 256 - 256 - 256 - 256 - 512 < 512 by omega), dif_pos h6]
    exact congrArg (fun q => vb (ix3 b p q)) (Fin.ext (by dsimp only; omega))
  rw [dif_neg (show ¬ n.val - 1024 - 256 - 256 - 256 - 256 - 512 < 512 by omega), dif_neg h6]
  by_cases h7 : n.val < 3328
  · rw [dif_pos (show n.val - 1024 - 256 - 256 - 256 - 256 - 512 - 512 < 256 by omega), dif_pos h7]
    exact congrArg (fun q => hq (ix3 b p q)) (Fin.ext (by dsimp only; omega))
  rw [dif_neg (show ¬ n.val - 1024 - 256 - 256 - 256 - 256 - 512 - 512 < 256 by omega), dif_neg h7]
  by_cases h8 : n.val < 3584
  · rw [dif_pos (show n.val - 1024 - 256 - 256 - 256 - 256 - 512 - 512 - 256 < 256 by omega), dif_pos h8]
    exact congrArg (fun q => hi (ix3 b p q)) (Fin.ext (by dsimp only; omega))
  rw [dif_neg (show ¬ n.val - 1024 - 256 - 256 - 256 - 256 - 512 - 512 - 256 < 256 by omega), dif_neg h8]
  exact congrArg (fun q => u (ix3 b p q)) (Fin.ext (by dsimp only; omega))

/-- The array of results at an entry. -/
theorem flat_apply (r : FVec Ideal S16x2048x3840 .f32) (i : Fin 32768) (n : Fin 3840) :
    (truncf .bf16 (shapeCast S32768x3840 r shapeCasts_S16x2048x3840_S32768x3840) bitsLt_bf16_f32 : FVec Ideal S32768x3840 .bf16) (ix2 i n) = r (ix3 ⟨i.val / 2048, by omega⟩ ⟨i.val % 2048, by omega⟩ n) := by
  pointwise []

/-- Two directions' forget gates side by side, one row a token, at an entry. -/
theorem both_apply (f g : FVec Ideal S16x2048x256 .f32) (i : Fin 32768) (n : Fin 512) :
    (shapeCast S32768x512 (concatenate S16x2048x512 2 [⟨S16x2048x256, f⟩, ⟨S16x2048x256, g⟩] concatenates_S16x2048x256_S16x2048x256_S16x2048x512_d2) shapeCasts_S16x2048x512_S32768x512 : FVec Ideal S32768x512 .f32) (ix2 i n)
      = if h : n.val < 256 then f (ix3 ⟨i.val / 2048, by omega⟩ ⟨i.val % 2048, by omega⟩ ⟨n.val, h⟩) else g (ix3 ⟨i.val / 2048, by omega⟩ ⟨i.val % 2048, by omega⟩ ⟨n.val - 256, by omega⟩) := by
  pointwise []

/-- The forward row at an entry. -/
theorem row0V_apply (l : FVec Ideal S2x256 .f32) (b : Fin 16) (p : Fin 2048) (j : Fin 256) : row0V l (ix3 b p j) = l (ix2 0 j) := by
  pointwise [row0V]

/-- The backward row at an entry. -/
theorem row1V_apply (l : FVec Ideal S2x256 .f32) (b : Fin 16) (p : Fin 2048) (j : Fin 256) : row1V l (ix3 b p j) = l (ix2 1 j) := by
  pointwise [row1V]

/-- The logarithm of a floored bound. -/
theorem logV_apply (l : FVec Ideal S2x256 .f32) (e : Fin 2) (j : Fin 256) : logV l (ix2 e j) = Ideal.log (max (l (ix2 e j)) (Ideal.ofBits .f32 0x1E3CE508#32)) := by
  pointwise [logV]

/-- The logarithm of one minus a bound. -/
theorem restV_apply (l : FVec Ideal S2x256 .f32) (e : Fin 2) (j : Fin 256) : restV l (ix2 e j) = Ideal.log1p (-l (ix2 e j)) := by
  pointwise [restV]

/-- The logarithm of a sum of exponentials at an entry: over the extended reals a difference equals itself. -/
theorem addexpV_apply (a b : FVec Ideal S16x2048x256 .f32) (i : Fin 16) (p : Fin 2048) (j : Fin 256) :
    addexpV a b (ix3 i p j) = addexp (a (ix3 i p j)) (b (ix3 i p j)) := by
  unfold addexp
  pointwise [addexpV]
  rw [if_neg (fun h => h rfl)]
  rfl

/-- A forget gate at an entry. -/
theorem forgetV_apply (a b f : FVec Ideal S16x2048x256 .f32) (i : Fin 16) (p : Fin 2048) (j : Fin 256) :
    forgetV a b f (ix3 i p j) = addexp (a (ix3 i p j)) (b (ix3 i p j) + - addexp (- f (ix3 i p j)) 0) := by
  refine (addexpV_apply _ _ i p j).trans ?_
  show addexp (a (ix3 i p j)) (b (ix3 i p j) + - addexpV (Host.negf f) zerosV (ix3 i p j)) = _
  rw [addexpV_apply]
  have h0 : zerosV (ix3 i p j) = 0 := by pointwise [zerosV]
  rw [h0]
  rfl

end Cert.ProjectionReferenceIdeal.Prj

end
-- ==== Proof.ProjectionForget.lean ====
module

public import Idealize.ShloMosaic.PureOps.Ideal
public import proofs.«01_k».proof.Proof.ProjectionMath

@[expose] public section

noncomputable section

open Idealize.ShloMosaic

namespace Cert.Proj

/-- A positive real's logarithm. -/
theorem log_pos (r : ℝ) (h : 0 < r) : Ideal.log (r : EReal) = ((Real.log r : ℝ) : EReal) := by
  rw [Ideal.log_coe, if_neg (not_le.mpr h)]

/-- The sum's logarithm, the first logarithm the greater. -/
theorem addexp_real (a b : ℝ) : addexp (a : EReal) (b : EReal) = ((Real.log (Real.exp a + Real.exp b) : ℝ) : EReal) := by
  have key : ∀ a b : ℝ, b ≤ a → a + Real.log (1 + Real.exp (-(a - b))) = Real.log (Real.exp a + Real.exp b) := fun a b _ => by
    have h : Real.exp a + Real.exp b = Real.exp a * (1 + Real.exp (-(a - b))) := by rw [mul_add, mul_one, ← Real.exp_add]; congr 2; ring
    rw [h, Real.log_mul (Real.exp_pos a).ne' (by positivity), Real.log_exp]
  have hm : ∀ x y : ℝ, max (x : EReal) (y : EReal) = ((max x y : ℝ) : EReal) := fun x y => (EReal.coe_strictMono.monotone.map_max).symm
  have h1 : (1 : EReal) + ((Real.exp (-(max (a - b) (-(a - b)))) : ℝ) : EReal) = ((1 + Real.exp (-(max (a - b) (-(a - b)))) : ℝ) : EReal) := by rw [EReal.coe_add, EReal.coe_one]
  unfold addexp Ideal.log1p
  rw [← EReal.coe_sub, ← EReal.coe_neg, hm, hm, ← EReal.coe_neg, Ideal.exp_coe, h1, log_pos _ (by positivity), ← EReal.coe_add]
  refine congrArg _ ?_
  rcases le_total b a with h | h
  · rw [max_eq_left h, max_eq_left (by linarith), key a b h]
  · rw [max_eq_right h, max_eq_right (by linarith), add_comm (Real.exp a), ← key b a h]
    congr 3
    ring_nf

/-- A real's logarithm with one of zero added. -/
theorem addexp_bot (a : ℝ) : addexp (a : EReal) ⊥ = (a : EReal) := by
  unfold addexp Ideal.log1p
  have h : (1 : EReal) = ((1 : ℝ) : EReal) := rfl
  simp [h, -EReal.coe_one]
  rw [if_neg (not_le.mpr one_pos), add_zero]

/-- A logarithm that's infinite stays so, whatever real one is added. -/
theorem addexp_top (a : ℝ) : addexp (a : EReal) ⊤ = ⊤ := by
  unfold addexp Ideal.log1p
  have h : (1 : EReal) = ((1 : ℝ) : EReal) := rfl
  simp [h, -EReal.coe_one]

/-- Adding one to a positive infinite number: nothing changes. -/
theorem addexp_top_zero : addexp ⊤ 0 = ⊤ := by
  unfold addexp Ideal.log1p
  have h : (1 : EReal) = ((1 : ℝ) : EReal) := rfl
  simp [h, -EReal.coe_one]

/-- Adding one to zero leaves one, whose logarithm is zero. -/
theorem addexp_bot_zero : addexp ⊥ 0 = 0 := by
  unfold addexp Ideal.log1p
  have h : (1 : EReal) = ((1 : ℝ) : EReal) := rfl
  simp [h, -EReal.coe_one]

/-- The logarithm of a sigmoid, as a reference computes it: less the softplus of the entry's negative. -/
theorem log_sigmoid (f : EReal) : -addexp (-f) 0 = Ideal.log (Ideal.logistic f) := by
  induction f with
  | bot =>
    rw [EReal.neg_bot, addexp_top_zero, Ideal.logistic_bot, EReal.neg_top, ← EReal.coe_zero, Ideal.log_coe, if_pos le_rfl]
  | top =>
    rw [EReal.neg_top, addexp_bot_zero, Ideal.logistic_top, ← EReal.coe_one, log_pos _ one_pos, Real.log_one]
    simp
  | coe r =>
    have hp : 0 < (1 + Real.exp (-r))⁻¹ := by positivity
    rw [← EReal.coe_neg, ← EReal.coe_zero, addexp_real, Ideal.logistic_coe, log_pos _ hp, ← EReal.coe_neg, Real.log_inv, Real.exp_zero, add_comm]

/-- A product's logarithm, of a positive infinite factor or one at least zero, and a real factor at least zero. -/
theorem log_mul (a : EReal) (s : ℝ) (ha : 0 ≤ a) (hs : 0 ≤ s) : Ideal.log a + Ideal.log (s : EReal) = Ideal.log (a * (s : EReal)) := by
  rcases hs.eq_or_lt with h | h
  · subst h
    rw [EReal.coe_zero, mul_zero, ← EReal.coe_zero, Ideal.log_coe, if_pos le_rfl, EReal.add_bot]
  · induction a with
    | bot => exact absurd ha (by simp)
    | top => rw [EReal.top_mul_coe_of_pos h, Ideal.log_top, log_pos _ h, EReal.top_add_coe]
    | coe r =>
      have hr : 0 ≤ r := by exact_mod_cast ha
      rw [← EReal.coe_mul]
      rcases hr.eq_or_lt with h0 | h0
      · subst h0
        rw [zero_mul, Ideal.log_coe, if_pos le_rfl, EReal.bot_add]
      · rw [log_pos _ h0, log_pos _ h, log_pos _ (mul_pos h0 h), Real.log_mul h0.ne' h.ne', EReal.coe_add]

/-- A sigmoid is a real number at least zero. -/
theorem logistic_real (f : EReal) : ∃ s : ℝ, 0 ≤ s ∧ Ideal.logistic f = (s : EReal) := by
  induction f with
  | bot => exact ⟨0, le_rfl, Ideal.logistic_bot⟩
  | top => exact ⟨1, zero_le_one, Ideal.logistic_top⟩
  | coe r => exact ⟨_, by positivity, Ideal.logistic_coe r⟩

/-- A sum's logarithm from its terms': a positive real and a number at least zero. -/
theorem addexp_log (a : ℝ) (b : EReal) (ha : 0 < a) (hb : 0 ≤ b) : addexp (Ideal.log (a : EReal)) (Ideal.log b) = Ideal.log ((a : EReal) + b) := by
  rw [log_pos _ ha]
  induction b with
  | bot => exact absurd hb (by simp)
  | top => rw [Ideal.log_top, addexp_top, EReal.coe_add_top, Ideal.log_top]
  | coe r =>
    have hr : 0 ≤ r := by exact_mod_cast hb
    rcases hr.eq_or_lt with h | h
    · subst h
      rw [Ideal.log_coe, if_pos le_rfl, addexp_bot, EReal.coe_zero, add_zero, log_pos _ ha]
    · rw [log_pos _ h, addexp_real, ← EReal.coe_add, log_pos _ (by positivity), Real.exp_log ha, Real.exp_log h]

/-- The floor of a lower bound is a positive real. -/
theorem floor_real : ∃ r : ℝ, 0 < r ∧ Ideal.ofBits .f32 0x1E3CE508#32 = (r : EReal) := by
  refine ⟨_, ?_, by simp [Ideal.ofBits, Ideal.ieee, -EReal.coe_mul]; rfl⟩
  norm_num

/-- A forget gate two ways: the logarithm of the lower bound plus the rest times the sigmoid, and the same sum by logarithms; for a lower bound at most one. -/
theorem forget_eq (l f : EReal) (hl : l ≤ 1) :
    forget (max l (Ideal.ofBits .f32 0x1E3CE508#32)) (1 - l) f = addexp (Ideal.log (max l (Ideal.ofBits .f32 0x1E3CE508#32))) (Ideal.log1p (-l) + -addexp (-f) 0) := by
  obtain ⟨r, hr, he⟩ := floor_real
  obtain ⟨s, hs, hf⟩ := logistic_real f
  have hx : ∃ q : ℝ, 0 < q ∧ max l (r : EReal) = (q : EReal) := by
    induction l with
    | bot => exact ⟨r, hr, by simp⟩
    | top => exact absurd hl (not_le.mpr (EReal.coe_lt_top 1))
    | coe t => exact ⟨max t r, lt_max_of_lt_right hr, (EReal.coe_strictMono.monotone.map_max).symm⟩
  have hy : 0 ≤ 1 - l := by
    induction l with
    | bot =>
      rw [← EReal.coe_one, EReal.coe_sub_bot]
      exact le_top
    | top => exact absurd hl (not_le.mpr (EReal.coe_lt_top 1))
    | coe t =>
      have : t ≤ 1 := by exact_mod_cast hl
      rw [← EReal.coe_one, ← EReal.coe_sub]
      exact_mod_cast sub_nonneg.mpr this
  obtain ⟨q, hq, hm⟩ := hx
  rw [he, hm, log_sigmoid, hf]
  unfold forget Ideal.log1p
  rw [hf, ← sub_eq_add_neg, log_mul _ _ hy hs, addexp_log q _ hq (mul_nonneg hy (by exact_mod_cast hs))]

end Cert.Proj

end
-- ==== Proof.ProjectionSlab.lean ====
module

public import proofs.«01_k».proof.Proof.ProjectionReference
public import proofs.«01_k».proof.Proof.ProjectionForget

@[expose] public section

set_option maxRecDepth 16384

noncomputable section

open Idealize.ShloMosaic

namespace Cert.ProjectionReferenceIdeal.Prj

open Cert.ProjectionReferenceIdeal Cert.ProjectionReferenceIdeal.Gen Cert.Proj
open Cert.MergeReferenceIdeal.Mrg (siluV siluV_apply)

/-- A row of normalized heads of 32 columns, from a row's entries, at a head's entry. -/
theorem headA (U : FVec Ideal S16x2048x8x32 .f32) (G : FVec Ideal S32 .f32) (b : Fin 16) (p : Fin 2048) (v : Fin 256 → EReal) (g : Fin 32 → EReal)
    (hU : ∀ (e : Fin 8) (d : Fin 32), U (ix4 b p e d) = v ⟨e.val * 32 + d.val, by omega⟩) (hG : ∀ d : Fin 32, G (ix1 d) = g d) (e : Fin 8) (d : Fin 32) :
    normAV U G (ix4 b p e d) = gnorm 32 κa v (fun j => g ⟨j.val % 32, by omega⟩) ⟨e.val * 32 + d.val, by omega⟩ := by
  rw [gnorm_a, normAV_apply]
  have h1 : (e.val * 32 + d.val) / 32 = e.val := by omega
  have h2 : (e.val * 32 + d.val) % 32 = d.val := by omega
  simp only [hU, hG, h1, h2, Nat.mul_comm 32 e.val]

/-- A row of normalized heads of 64 columns, from a row's entries, at a head's entry. -/
theorem headB (U : FVec Ideal S16x2048x4x64 .f32) (G : FVec Ideal S64 .f32) (b : Fin 16) (p : Fin 2048) (v : Fin 256 → EReal) (g : Fin 64 → EReal)
    (hU : ∀ (e : Fin 4) (d : Fin 64), U (ix4 b p e d) = v ⟨e.val * 64 + d.val, by omega⟩) (hG : ∀ d : Fin 64, G (ix1 d) = g d) (j : Fin 256) :
    gnorm 64 κb v (fun j => g ⟨j.val % 64, by omega⟩) j = flatBV (normBV U G) (ix3 b p j) := by
  rw [gnorm_b, flatBV_apply, normBV_apply]
  have h : j.val / 64 * 64 + j.val % 64 = j.val := by omega
  simp only [hU, hG, h, Nat.mul_comm 64 (j.val / 64)]

/-- The signed sine of a column: less for the first half of its head. -/
def signed (a : FVec Ideal S2048x16 .f32) (p : Fin 2048) (j : Fin 256) : EReal :=
  if j.val % 32 < 16 then - Ideal.sin (a (ix2 p ⟨j.val % 16, by omega⟩)) else Ideal.sin (a (ix2 p ⟨j.val % 16, by omega⟩))

/-- A rotated row, from its heads' entries. -/
theorem turned (N : FVec Ideal S16x2048x8x32 .f32) (a : FVec Ideal S2048x16 .f32) (b : Fin 16) (p : Fin 2048) (u : Fin 256 → EReal)
    (hN : ∀ (e : Fin 8) (d : Fin 32), N (ix4 b p e d) = u ⟨e.val * 32 + d.val, by omega⟩) (j : Fin 256) :
    rot u (fun j => Ideal.cos (a (ix2 p ⟨j.val % 16, by omega⟩))) (signed a p) j = ropeV N a (ix3 b p j) := by
  rw [ropeV_apply]
  by_cases h : j.val % 32 < 16
  · have e1 : j.val % 16 = j.val % 32 := by omega
    have e2 : j.val / 32 * 32 + j.val % 32 = j.val := by omega
    have e3 : j.val / 32 * 32 + (16 + j.val % 32) = j.val + 16 := by omega
    rw [dif_pos h, rot_first u _ _ j h (Ideal.sin (a (ix2 p ⟨j.val % 16, by omega⟩))) (if_pos h)]
    simp only [hN, e1, e2, e3]
  · have e1 : j.val % 16 = j.val % 32 - 16 := by omega
    have e2 : j.val / 32 * 32 + (16 + (j.val % 32 - 16)) = j.val := by omega
    have e3 : j.val / 32 * 32 + (j.val % 32 - 16) = j.val - 16 := by omega
    have hs : signed a p j = Ideal.sin (a (ix2 p ⟨j.val % 16, by omega⟩)) := if_neg h
    rw [dif_neg h, rot_second u _ _ j h, hs]
    simp only [hN, e1, e2, e3]

/-- A rotated row of normalized heads. -/
theorem turned_head (U : FVec Ideal S16x2048x8x32 .f32) (G : FVec Ideal S32 .f32) (a : FVec Ideal S2048x16 .f32) (b : Fin 16) (p : Fin 2048) (v : Fin 256 → EReal) (g : Fin 32 → EReal)
    (hU : ∀ (e : Fin 8) (d : Fin 32), U (ix4 b p e d) = v ⟨e.val * 32 + d.val, by omega⟩) (hG : ∀ d : Fin 32, G (ix1 d) = g d) (j : Fin 256) :
    rot (gnorm 32 κa v (fun j => g ⟨j.val % 32, by omega⟩)) (fun j => Ideal.cos (a (ix2 p ⟨j.val % 16, by omega⟩))) (signed a p) j = ropeV (normAV U G) a (ix3 b p j) :=
  turned _ _ _ _ _ (headA U G b p v g hU hG) j

/-- One row of the array of results is the reference's. -/
theorem slab_row (Z : FVec Ideal S16x2048x3840 .f32) (ga : FVec Ideal S2x32 .f32) (gb : FVec Ideal S2x64 .f32) (a : FVec Ideal S2048x16 .f32) (i : Fin 32768) (n : Fin 3840) (b : Fin 16) (p : Fin 2048)
    (hb : b.val = i.val / 2048) (hp : p.val = i.val % 2048) :
    slab (fun n => Z (ix3 b p n)) (fun e j => ga (ix2 e ⟨j.val % 32, by omega⟩)) (fun e j => gb (ix2 e ⟨j.val % 64, by omega⟩)) (fun j => Ideal.cos (a (ix2 p ⟨j.val % 16, by omega⟩))) (signed a p) n
      = slabV Z ga gb a (ix2 i n) := by
  obtain rfl : b = ⟨i.val / 2048, by clear hb hp; omega⟩ := Fin.ext hb
  obtain rfl : p = ⟨i.val % 2048, by clear hp; omega⟩ := Fin.ext hp
  refine Eq.trans ?_ (flat_apply _ i n).symm
  rw [rowsV_apply]
  unfold slab
  by_cases h0 : n.val < 1024
  · rw [dif_pos h0, dif_pos h0]
    refine Eq.trans ?_ (Cert.MergeIdeal.Mrg.siluV_apply _ _ _ _).symm
    rw [zg_apply]
    exact congrArg (fun q => silu (Z (ix3 _ _ q))) (Fin.ext (by dsimp only; omega))
  rw [dif_neg h0, dif_neg h0]
  by_cases h1 : n.val < 1280
  · rw [dif_pos h1, dif_pos h1]
    exact turned_head _ _ _ _ _ _ (fun d => ga (ix2 0 d)) (fun e d => (qa_apply Z _ _ e d).trans (congrArg (fun q => Z (ix3 _ _ q)) (Fin.ext (by dsimp only; show _ = 256 * 0 + _; omega)))) (g0V_apply ga) _
  rw [dif_neg h1, dif_neg h1]
  by_cases h2 : n.val < 1536
  · rw [dif_pos h2, dif_pos h2]
    exact turned_head _ _ _ _ _ _ (fun d => ga (ix2 1 d)) (fun e d => ka_apply Z _ _ e d) (g1V_apply ga) _
  rw [dif_neg h2, dif_neg h2]
  by_cases h3 : n.val < 1792
  · rw [dif_pos h3, dif_pos h3]
    exact headB _ _ _ _ _ (fun d => gb (ix2 0 d)) (fun e d => qb_apply Z _ _ e d) (f0V_apply gb) _
  rw [dif_neg h3, dif_neg h3]
  by_cases h4 : n.val < 2048
  · rw [dif_pos h4, dif_pos h4]
    exact headB _ _ _ _ _ (fun d => gb (ix2 1 d)) (fun e d => kb_apply Z _ _ e d) (f1V_apply gb) _
  rw [dif_neg h4, dif_neg h4]
  by_cases h5 : n.val < 2560
  · rw [dif_pos h5, dif_pos h5, onesV_apply]
    exact congrArg (fun v => ones v _) (funext fun j => (va_apply Z _ _ j).symm)
  rw [dif_neg h5, dif_neg h5]
  by_cases h6 : n.val < 3072
  · rw [dif_pos h6, dif_pos h6, onesV_apply]
    exact congrArg (fun v => ones v _) (funext fun j => (vb_apply Z _ _ j).symm)
  rw [dif_neg h6, dif_neg h6]
  by_cases h7 : n.val < 3328
  · rw [dif_pos h7, dif_pos h7]
    refine Eq.trans ?_ (siluV_apply _ _ _ _).symm
    exact congrArg silu (hq_apply Z _ _ _).symm
  rw [dif_neg h7, dif_neg h7]
  by_cases h8 : n.val < 3584
  · rw [dif_pos h8, dif_pos h8]
    exact (hi_apply Z _ _ _).symm
  rw [dif_neg h8, dif_neg h8]
  exact (u_apply Z _ _ _).symm

/-- One row of the forget gates is the reference's, for lower bounds at most one. -/
theorem gates_row (Z : FVec Ideal S16x2048x3840 .f32) (l : FVec Ideal S2x256 .f32) (L : Fin 4 → Fin 256 → EReal) (hl : ∀ e j, l (ix2 e j) ≤ 1) (i : Fin 32768) (n : Fin 512) (b : Fin 16) (p : Fin 2048)
    (hb : b.val = i.val / 2048) (hp : p.val = i.val % 2048)
    (h0 : ∀ j, L 0 j = max (l (ix2 0 j)) (Ideal.ofBits .f32 0x1E3CE508#32)) (h1 : ∀ j, L 1 j = 1 - l (ix2 0 j))
    (h2 : ∀ j, L 2 j = max (l (ix2 1 j)) (Ideal.ofBits .f32 0x1E3CE508#32)) (h3 : ∀ j, L 3 j = 1 - l (ix2 1 j)) :
    gates (fun n => Z (ix3 b p n)) L n = gatesV Z l (ix2 i n) := by
  obtain rfl : b = ⟨i.val / 2048, by clear hb hp; omega⟩ := Fin.ext hb
  obtain rfl : p = ⟨i.val % 2048, by clear hp; omega⟩ := Fin.ext hp
  refine Eq.trans ?_ (both_apply _ _ i n).symm
  unfold gates
  by_cases h : n.val < 256
  · rw [dif_pos h, dif_pos h, h0, h1, forget_eq _ _ (hl 0 _), forgetV_apply, row0V_apply, row0V_apply, logV_apply, restV_apply, hf_apply]
    rfl
  · rw [dif_neg h, dif_neg h, h2, h3, forget_eq _ _ (hl 1 _), forgetV_apply, row1V_apply, row1V_apply, logV_apply, restV_apply, hb_apply]
    rfl

end Cert.ProjectionReferenceIdeal.Prj

end
-- ==== Proof.ProjectionRun.lean ====
module

public import proofs.«01_k».proof.Proof.ProjectionReference
public import proofs.«01_k».proof.Proof.Gen.ProjectionReferenceIdeal.Run

@[expose] public section

set_option maxRecDepth 16384

noncomputable section

open Idealize.ShloMosaic Idealize.ShloMosaic.TcCoe Idealize.SL.Sem Idealize.ShloMosaic.StableHlo

namespace Cert.ProjectionReferenceIdeal.Prj

open Cert.ProjectionReferenceIdeal Cert.ProjectionReferenceIdeal.Gen Cert.Proj
open Cert.MergeReferenceIdeal.Mrg (siluV siluV_apply)

variable (m : (ℓ : Loc nD τ sig) → Buf (Elt Ideal) ℓ) (c : Dev nD)

/-- The reference's projection, in these pieces. -/
theorem res_z : Value.res_main_v21 (launchContents m c) = zV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's array of results, in these pieces. -/
theorem res_slab : (truncf .bf16 (shapeCast S32768x3840 (Value.res_main_v178 (launchContents m c)) shapeCasts_S16x2048x3840_S32768x3840) bitsLt_bf16_f32 : FVec Ideal S32768x3840 .bf16)
    = slabV (Value.res_main_v21 (launchContents m c)) (m ((c.tc : Thread nD τ).loc main_arg5)) (m ((c.tc : Thread nD τ).loc main_arg6)) (Value.res_main_v52 (launchContents m c)) := rfl

/-- The reference's array of forget gates, in these pieces. -/
theorem res_gates : (shapeCast S32768x512 (concatenate S16x2048x512 2 [⟨S16x2048x256, (select (cmpf .une (Value.res_main_v191 (launchContents m c)) (Value.res_main_v191 (launchContents m c))) (addf (broadcastInDim S16x2048x256 ![0, 1, 2] bcast_S1x1x256_S16x2048x256_0_1_2 (Value.res_main_v187 (launchContents m c))) (Value.res_main_v186 (launchContents m c))) (addf (maximumf (broadcastInDim S16x2048x256 ![0, 1, 2] bcast_S1x1x256_S16x2048x256_0_1_2 (Value.res_main_v187 (launchContents m c))) (Value.res_main_v186 (launchContents m c))) (Host.log1p (Host.exp (Host.negf (Host.absf (Value.res_main_v191 (launchContents m c))))))))⟩, ⟨S16x2048x256, (select (cmpf .une (Value.res_main_v213 (launchContents m c)) (Value.res_main_v213 (launchContents m c))) (addf (broadcastInDim S16x2048x256 ![0, 1, 2] bcast_S1x1x256_S16x2048x256_0_1_2 (Value.res_main_v209 (launchContents m c))) (Value.res_main_v208 (launchContents m c))) (addf (maximumf (broadcastInDim S16x2048x256 ![0, 1, 2] bcast_S1x1x256_S16x2048x256_0_1_2 (Value.res_main_v209 (launchContents m c))) (Value.res_main_v208 (launchContents m c))) (Host.log1p (Host.exp (Host.negf (Host.absf (Value.res_main_v213 (launchContents m c))))))))⟩] concatenates_S16x2048x256_S16x2048x256_S16x2048x512_d2) shapeCasts_S16x2048x512_S32768x512 : FVec Ideal S32768x512 .f32)
    = gatesV (Value.res_main_v21 (launchContents m c)) (m ((c.tc : Thread nD τ).loc main_arg7)) := rfl

end Cert.ProjectionReferenceIdeal.Prj

end
-- ==== Proof.ProjectionEquation.lean ====
module

public import proofs.«01_k».proof.Proof.ProjectionHost
public import proofs.«01_k».proof.Proof.ProjectionSlab
public import proofs.«01_k».proof.Proof.ProjectionRun
public import proofs.«01_k».proof.Pre_bounded
public import proofs.«01_k».proof.Proof.Gen.Pre_bounded

@[expose] public section

set_option maxRecDepth 16384

noncomputable section

open Idealize.ShloMosaic Idealize.ShloMosaic.TcCoe Idealize.SL.Sem Idealize.ShloMosaic.StableHlo

namespace Cert.ProjectionEquation

open Cert.ProjectionIdeal Cert.ProjectionIdeal.Gen Cert.Proj
open Cert.MergeIdeal.Mrg (modV xV ngV modV_sh modV_sc xV_apply ngV_apply)
open Cert.ProjectionIdeal.Prj (cols wholeS wholeG wV zeroV gaV gbV lbV cosV sinV angV wV_apply gaV_apply gbV_apply lbV_0 lbV_1 lbV_2 lbV_3 cosV_apply sinV_apply)
open Cert.ProjectionReferenceIdeal.Prj (zV slabV gatesV zV_apply signed slab_row gates_row)

/-- A row's columns are the reference's projection. -/
theorem cols_eq (x : FVec Ideal S16x2048x1024 .f32) (sh sc : FVec Ideal S16x1024 .f32) (ng : FVec Ideal S1024 .f32) (w : FVec Ideal S1024x3840 .f32) (i : Fin 32768) :
    cols (xV x) (modV sh sc zeroV) (ngV ng) (wV w) i = fun n => zV x sh sc ng w (ix3 ⟨i.val / 2048, by omega⟩ ⟨i.val % 2048, by omega⟩ n) := by
  funext n
  have hb : i.val / 2048 < 16 := by omega
  refine Eq.trans ?_ (zV_apply x sh sc ng w _ _ n).symm
  unfold cols
  simp only [xV_apply, ngV_apply, modV_sh _ _ _ _ hb, modV_sc _ _ _ _ hb, wV_apply]

/-- The array of results the kernel fills is the reference's, whatever the arguments hold. -/
theorem slab_eq (x : FVec Ideal S16x2048x1024 .f32) (sh sc : FVec Ideal S16x1024 .f32) (ng : FVec Ideal S1024 .f32) (w : FVec Ideal S1024x3840 .f32) (ga : FVec Ideal S2x32 .f32) (gb : FVec Ideal S2x64 .f32)
    (a : FVec Ideal S2048x16 .f32) :
    wholeS (xV x) (modV sh sc zeroV) (ngV ng) (wV w) (gaV ga) (gbV gb) (cosV a) (sinV a) = slabV (zV x sh sc ng w) ga gb a := by
  funext z
  obtain ⟨i, n, rfl⟩ : ∃ (i : Fin 32768) (n : Fin 3840), z = ix2 i n := ⟨z 0, z 1, funext fun a => by fin_cases a <;> rfl⟩
  refine Eq.trans ?_ (slab_row (zV x sh sc ng w) ga gb a i n ⟨i.val / 2048, by omega⟩ ⟨i.val % 2048, by omega⟩ rfl rfl)
  show slab (cols (xV x) (modV sh sc zeroV) (ngV ng) (wV w) i) (fun e j => gaV ga (ix2 e j)) (fun e j => gbV gb (ix2 e j)) (fun j => cosV a (ix2 ⟨i.val % 2048, by omega⟩ j))
    (fun j => sinV a (ix2 ⟨i.val % 2048, by omega⟩ j)) n = _
  rw [cols_eq]
  simp only [gaV_apply, gbV_apply, cosV_apply, sinV_apply]
  rfl

/-- The array of forget gates the kernel fills is the reference's, for lower bounds at most one. -/
theorem gates_eq (x : FVec Ideal S16x2048x1024 .f32) (sh sc : FVec Ideal S16x1024 .f32) (ng : FVec Ideal S1024 .f32) (w : FVec Ideal S1024x3840 .f32) (l : FVec Ideal S2x256 .f32) (hl : ∀ e j, l (ix2 e j) ≤ 1) :
    wholeG (xV x) (modV sh sc zeroV) (ngV ng) (wV w) (lbV l) = gatesV (zV x sh sc ng w) l := by
  funext z
  obtain ⟨i, n, rfl⟩ : ∃ (i : Fin 32768) (n : Fin 512), z = ix2 i n := ⟨z 0, z 1, funext fun a => by fin_cases a <;> rfl⟩
  refine Eq.trans ?_ (gates_row (zV x sh sc ng w) l (fun e j => lbV l (ix2 e j)) hl i n ⟨i.val / 2048, by omega⟩ ⟨i.val % 2048, by omega⟩ rfl rfl (lbV_0 l) (lbV_1 l) (lbV_2 l) (lbV_3 l))
  show gates (cols (xV x) (modV sh sc zeroV) (ngV ng) (wV w) i) (fun e j => lbV l (ix2 e j)) n = _
  rw [cols_eq]

set_option maxHeartbeats 1000000 in
/-- The reference takes its angles from the same expression. -/
theorem angle_eq (m : (ℓ : Loc Cert.ProjectionReferenceIdeal.nD Cert.ProjectionReferenceIdeal.τ Cert.ProjectionReferenceIdeal.sig) → Buf (Elt Ideal) ℓ) (c : Dev Cert.ProjectionReferenceIdeal.nD) :
    Cert.ProjectionReferenceIdeal.Value.res_main_v52 (launchContents m c) = angV := rfl

/-- The call's condition: no lower bound above one. -/
theorem bounded_of_mask (x : FVec Ideal S16x2048x1024 .f32) (sh sc : FVec Ideal S16x1024 .f32) (ng : FVec Ideal S1024 .f32) (w : FVec Ideal S1024x3840 .f32) (ga : FVec Ideal S2x32 .f32) (gb : FVec Ideal S2x64 .f32)
    (l : FVec Ideal S2x256 .f32) (h : Cert.Pre_bounded.fn x sh sc ng w ga gb l = fun _ => 1#1) (e : Fin 2) (j : Fin 256) : l (ix2 e j) ≤ 1 := by
  have h1 : Ideal.cmp .ole (l (ix2 e j)) (Ideal.ofBits FTy.f32 0x3F800000#32) = 1#1 := congrFun h (ix2 e j)
  rw [Ideal.ofBits_one_f32] at h1
  by_contra hn
  simp [Ideal.cmp, hn] at h1

end Cert.ProjectionEquation

end
-- ==== Proof.ContextProjectionPieces.lean ====
module

public import proofs.«01_k».proof.Proof.ProjectionPieces
public import proofs.«01_k».proof.Proof.Gen.ContextProjectionIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ContextProjectionIdeal.Prj

open Cert.ContextProjectionIdeal Cert.ContextProjectionIdeal.Gen Cert.Proj

/- The expressions of this body are those of the latents' projection, without the rotation: each lemma is that body's. -/

/-- The queries normalized head by head. -/
theorem qa_apply (v : FVec Ideal S512x256 .f32) (g : Vec Ideal S1x256 .f32) (r : Fin 512) (j : Fin 256) :
    k0_pay20 (F := Ideal) (k0_pay15 v g (k0_pay9 v) (k0_pay11 (iota .tc S256x256 32 [0] iota_S256x256_d0_w32) 32#32 k0_pay10) k0_pay12 k0_pay13 k0_pay14) (ix2 r j) = gnorm 32 κa (fun i => v (ix2 r i)) (fun i => g (ix2 0 i)) j := by
  exact Cert.ProjectionIdeal.Prj.pay16_apply v g r j

/-- The keys normalized head by head. -/
theorem ka_apply (v : FVec Ideal S512x256 .f32) (g : Vec Ideal S1x256 .f32) (r : Fin 512) (j : Fin 256) :
    k0_pay21 (F := Ideal) v g (k0_pay16 v) k0_pay17 (iota .tc S256x256 32 [1] iota_S256x256_d1_w32) 32#32 k0_pay18 k0_pay19 (ix2 r j) = gnorm 32 κa (fun i => v (ix2 r i)) (fun i => g (ix2 0 i)) j := by
  exact Cert.ProjectionIdeal.Prj.pay16_apply v g r j

/-- The second queries normalized head by head. -/
theorem qb_apply (v : FVec Ideal S512x256 .f32) (g : Vec Ideal S1x256 .f32) (r : Fin 512) (j : Fin 256) :
    k0_pay28 (F := Ideal) v g (k0_pay22 v) (k0_pay24 (iota .tc S256x256 32 [0] iota_S256x256_d0_w32) 64#32 k0_pay23) k0_pay25 k0_pay26 k0_pay27 (ix2 r j) = gnorm 64 κb (fun i => v (ix2 r i)) (fun i => g (ix2 0 i)) j := by
  exact Cert.ProjectionIdeal.Prj.pay42_apply v g r j

/-- The second keys normalized head by head. -/
theorem kb_apply (v : FVec Ideal S512x256 .f32) (g : Vec Ideal S1x256 .f32) (r : Fin 512) (j : Fin 256) :
    k0_pay31 (F := Ideal) v g (k0_pay29 v) k0_pay30 (iota .tc S256x256 32 [1] iota_S256x256_d1_w32) (ix2 r j) = gnorm 64 κb (fun i => v (ix2 r i)) (fun i => g (ix2 0 i)) j := by
  exact Cert.ProjectionIdeal.Prj.pay42_apply v g r j

/-- The rows after the modulated norm. -/
theorem row_apply (x : Vec Ideal S512x1024 .f32) (ng : Vec Ideal S1x1024 .f32) (sc sh : Vec Ideal S1x1x1024 .f32) (r : Fin 512) (n : Fin 1024) :
    k0_pay2 (F := Ideal) x ng sc sh (ix2 r n) = Cert.Mix.hrow (fun k => x (ix2 r k)) (fun k => ng (ix2 0 k)) (fun k => sc (ix3 0 0 k)) (fun k => sh (ix3 0 0 k)) n := by
  exact Cert.ProjectionIdeal.Prj.pay3_apply x ng sc sh r n

/-- The queries' product. -/
theorem pay3_apply (x : Vec Ideal S512x1024 .f32) (ng : Vec Ideal S1x1024 .f32) (sc sh : Vec Ideal S1x1x1024 .f32) (w : Vec Ideal S1024x256 .bf16) (r : Fin 512) (j : Fin 256) :
    k0_pay3 (F := Ideal) x ng sc sh w (ix2 r j) = ∑ k : Fin 1024, k0_pay2 (F := Ideal) x ng sc sh (ix2 r k) * w (ix2 k j) := by
  exact Cert.ProjectionIdeal.Prj.pay4_apply x ng sc sh w r j

/-- The keys' product. -/
theorem pay4_apply (x : Vec Ideal S512x1024 .f32) (ng : Vec Ideal S1x1024 .f32) (sc sh : Vec Ideal S1x1x1024 .f32) (w : Vec Ideal S1024x256 .bf16) (r : Fin 512) (j : Fin 256) :
    k0_pay4 (F := Ideal) x ng sc sh w (ix2 r j) = ∑ k : Fin 1024, k0_pay2 (F := Ideal) x ng sc sh (ix2 r k) * w (ix2 k j) := by
  exact Cert.ProjectionIdeal.Prj.pay5_apply x ng sc sh w r j

/-- The second queries' product. -/
theorem pay5_apply (x : Vec Ideal S512x1024 .f32) (ng : Vec Ideal S1x1024 .f32) (sc sh : Vec Ideal S1x1x1024 .f32) (w : Vec Ideal S1024x256 .bf16) (r : Fin 512) (j : Fin 256) :
    k0_pay5 (F := Ideal) x ng sc sh w (ix2 r j) = ∑ k : Fin 1024, k0_pay2 (F := Ideal) x ng sc sh (ix2 r k) * w (ix2 k j) := by
  exact Cert.ProjectionIdeal.Prj.pay6_apply x ng sc sh w r j

/-- The second keys' product. -/
theorem pay6_apply (h : FVec Ideal S512x1024 .bf16) (w : Vec Ideal S1024x256 .bf16) (r : Fin 512) (j : Fin 256) :
    k0_pay6 (F := Ideal) h w (ix2 r j) = ∑ k : Fin 1024, h (ix2 r k) * w (ix2 k j) := by
  exact Cert.ProjectionIdeal.Prj.pay7_apply h w r j

/-- The fourth input's product. -/
theorem u_apply (h : FVec Ideal S512x1024 .bf16) (w : Vec Ideal S1024x256 .bf16) (r : Fin 512) (j : Fin 256) :
    k0_pay1 (F := Ideal) (k0_pay42 h w) (ix2 r j) = ∑ k : Fin 1024, h (ix2 r k) * w (ix2 k j) := by
  exact Cert.ProjectionIdeal.Prj.pay2_apply h w r j

/-- The third input's product. -/
theorem pay41_apply (h : FVec Ideal S512x1024 .bf16) (w : Vec Ideal S1024x256 .bf16) (r : Fin 512) (j : Fin 256) :
    k0_pay41 (F := Ideal) h w (ix2 r j) = ∑ k : Fin 1024, h (ix2 r k) * w (ix2 k j) := by
  exact Cert.ProjectionIdeal.Prj.pay1_apply h w r j

/-- The first run of gates. -/
theorem gate_apply (h : FVec Ideal S512x1024 .bf16) (w : Vec Ideal S1024x256 .bf16) (r : Fin 512) (j : Fin 256) :
    k0_pay34 (F := Ideal) (k0_pay32 h w) (k0_pay33 h w) (ix2 r j) = silu (∑ k : Fin 1024, h (ix2 r k) * w (ix2 k j)) := by
  exact Cert.ProjectionIdeal.Prj.pay43_apply h w r j

/-- The second run of gates. -/
theorem pay35_apply (h : FVec Ideal S512x1024 .bf16) (w : Vec Ideal S1024x256 .bf16) (r : Fin 512) (j : Fin 256) :
    k0_pay35 (F := Ideal) h w (ix2 r j) = silu (∑ k : Fin 1024, h (ix2 r k) * w (ix2 k j)) := by
  exact Cert.ProjectionIdeal.Prj.pay44_apply h w r j

/-- The third run of gates. -/
theorem pay36_apply (h : FVec Ideal S512x1024 .bf16) (w : Vec Ideal S1024x256 .bf16) (r : Fin 512) (j : Fin 256) :
    k0_pay36 (F := Ideal) h w (ix2 r j) = silu (∑ k : Fin 1024, h (ix2 r k) * w (ix2 k j)) := by
  exact Cert.ProjectionIdeal.Prj.pay45_apply h w r j

/-- The fourth run of gates. -/
theorem pay37_apply (h : FVec Ideal S512x1024 .bf16) (w : Vec Ideal S1024x256 .bf16) (r : Fin 512) (j : Fin 256) :
    k0_pay37 (F := Ideal) h w (ix2 r j) = silu (∑ k : Fin 1024, h (ix2 r k) * w (ix2 k j)) := by
  exact Cert.ProjectionIdeal.Prj.pay44_apply h w r j

/-- The third query. -/
theorem pay38_apply (h : FVec Ideal S512x1024 .bf16) (w : Vec Ideal S1024x256 .bf16) (r : Fin 512) (j : Fin 256) :
    k0_pay38 (F := Ideal) h w (ix2 r j) = silu (∑ k : Fin 1024, h (ix2 r k) * w (ix2 k j)) := by
  exact Cert.ProjectionIdeal.Prj.pay48_apply h w r j

/-- The values with ones. -/
theorem pay39_apply (h : FVec Ideal S512x1024 .bf16) (w : Vec Ideal S1024x256 .bf16) (r : Fin 512) (j : Fin 512) :
    k0_pay39 (F := Ideal) h w (ix2 r j) = ones (fun i => ∑ k : Fin 1024, h (ix2 r k) * w (ix2 k i)) j := by
  exact Cert.ProjectionIdeal.Prj.pay49_apply h w r j

/-- The second values with ones. -/
theorem pay40_apply (h : FVec Ideal S512x1024 .bf16) (w : Vec Ideal S1024x256 .bf16) (r : Fin 512) (j : Fin 512) :
    k0_pay40 (F := Ideal) h w (ix2 r j) = ones (fun i => ∑ k : Fin 1024, h (ix2 r k) * w (ix2 k i)) j := by
  exact Cert.ProjectionIdeal.Prj.pay50_apply h w r j

/-- The forward gates' logarithms. -/
theorem pay7_apply (h : FVec Ideal S512x1024 .bf16) (w : Vec Ideal S1024x256 .bf16) (a b : Vec Ideal S1x256 .f32) (r : Fin 512) (j : Fin 256) :
    k0_pay7 (F := Ideal) h w a b (ix2 r j) = forget (a (ix2 0 j)) (b (ix2 0 j)) (∑ k : Fin 1024, h (ix2 r k) * w (ix2 k j)) := by
  exact Cert.ProjectionIdeal.Prj.pay8_apply h w a b r j

/-- The backward gates' logarithms. -/
theorem pay8_apply (h : FVec Ideal S512x1024 .bf16) (w : Vec Ideal S1024x256 .bf16) (a b : Vec Ideal S1x256 .f32) (r : Fin 512) (j : Fin 256) :
    k0_pay8 (F := Ideal) h w a b (ix2 r j) = forget (a (ix2 0 j)) (b (ix2 0 j)) (∑ k : Fin 1024, h (ix2 r k) * w (ix2 k j)) := by
  exact Cert.ProjectionIdeal.Prj.pay9_apply h w a b r j

end Cert.ContextProjectionIdeal.Prj

end
-- ==== Proof.ContextProjectionReference.lean ====
module

public import proofs.«01_k».proof.Proof.ContextMergeReference
public import proofs.«01_k».proof.Proof.ContextMergeHost
public import proofs.«01_k».proof.Proof.ProjectionMath
public import proofs.«01_k».proof.Proof.Gen.ContextProjectionReferenceIdeal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ContextProjectionReferenceIdeal.Prj

open Cert.ContextProjectionReferenceIdeal Cert.ContextProjectionReferenceIdeal.Gen Cert.Proj

open Cert.ContextMergeReferenceIdeal.Mrg (hV hV_apply siluV siluV_apply)

/-- The projection: the modulated norm times the weights. -/
def zV (x : FVec Ideal S16x256x1024 .f32) (sh sc : FVec Ideal S1024 .f32) (ng : FVec Ideal S1024 .f32) (w : FVec Ideal S1024x3840 .f32) : FVec Ideal S16x256x3840 .f32 :=
  Host.dotGeneral dot_S16x256x1024_S1024x3840_S16x256x3840_2_0_01_1_n_n none (hV x sh sc ng) w

/-- The first branch's columns. -/
def zaV (z : FVec Ideal S16x256x3840 .f32) : FVec Ideal S16x256x768 .f32 := extractStridedSlice S16x256x768 ![0, 0, 0] z slices_S16x256x3840_S16x256x768_0_0_0

/-- The second branch's columns. -/
def zbV (z : FVec Ideal S16x256x3840 .f32) : FVec Ideal S16x256x768 .f32 := extractStridedSlice S16x256x768 ![0, 0, 768] z slices_S16x256x3840_S16x256x768_0_0_768

/-- The third branch's columns. -/
def zhV (z : FVec Ideal S16x256x3840 .f32) : FVec Ideal S16x256x1024 .f32 := extractStridedSlice S16x256x1024 ![0, 0, 1536] z slices_S16x256x3840_S16x256x1024_0_0_1536

/-- The gates' columns. -/
def zgV (z : FVec Ideal S16x256x3840 .f32) : FVec Ideal S16x256x1024 .f32 := extractStridedSlice S16x256x1024 ![0, 0, 2816] z slices_S16x256x3840_S16x256x1024_0_0_2816

/-- The first run of a branch's columns. -/
def q3V (v : FVec Ideal S16x256x768 .f32) : FVec Ideal S16x256x256 .f32 := extractStridedSlice S16x256x256 ![0, 0, 0] v slices_S16x256x768_S16x256x256_0_0_0

/-- The second run of a branch's columns. -/
def k3V (v : FVec Ideal S16x256x768 .f32) : FVec Ideal S16x256x256 .f32 := extractStridedSlice S16x256x256 ![0, 0, 256] v slices_S16x256x768_S16x256x256_0_0_256

/-- The third run of a branch's columns. -/
def v3V (v : FVec Ideal S16x256x768 .f32) : FVec Ideal S16x256x256 .f32 := extractStridedSlice S16x256x256 ![0, 0, 512] v slices_S16x256x768_S16x256x256_0_0_512

/-- The rows of the first branch's gains. -/
def g0V (g : FVec Ideal S2x32 .f32) : FVec Ideal S32 .f32 := shapeCast S32 (extractStridedSlice S1x32 ![0, 0] g slices_S2x32_S1x32_0_0) shapeCasts_S1x32_S32

/-- The second row of the first branch's gains. -/
def g1V (g : FVec Ideal S2x32 .f32) : FVec Ideal S32 .f32 := shapeCast S32 (extractStridedSlice S1x32 ![1, 0] g slices_S2x32_S1x32_1_0) shapeCasts_S1x32_S32

/-- The first row of the second branch's gains. -/
def f0V (g : FVec Ideal S2x64 .f32) : FVec Ideal S64 .f32 := shapeCast S64 (extractStridedSlice S1x64 ![0, 0] g slices_S2x64_S1x64_0_0) shapeCasts_S1x64_S64

/-- The second row of the second branch's gains. -/
def f1V (g : FVec Ideal S2x64 .f32) : FVec Ideal S64 .f32 := shapeCast S64 (extractStridedSlice S1x64 ![1, 0] g slices_S2x64_S1x64_1_0) shapeCasts_S1x64_S64

/-- Heads of 32 columns. -/
def headsAV (v : FVec Ideal S16x256x256 .f32) : FVec Ideal S16x256x8x32 .f32 := shapeCast S16x256x8x32 v shapeCasts_S16x256x256_S16x256x8x32

/-- Heads of 64 columns. -/
def headsBV (v : FVec Ideal S16x256x256 .f32) : FVec Ideal S16x256x4x64 .f32 := shapeCast S16x256x4x64 v shapeCasts_S16x256x256_S16x256x4x64

/-- Heads of 32 columns over their root mean squares, times the gain. -/
def normAV (v : FVec Ideal S16x256x8x32 .f32) (g : FVec Ideal S32 .f32) : FVec Ideal S16x256x8x32 .f32 :=
  mulf (mulf v (broadcastInDim S16x256x8x32 ![0, 1, 2, 3] bcast_S16x256x8x1_S16x256x8x32_0_1_2_3 (Host.rsqrt (addf (Host.divf (broadcastInDim S16x256x8x1 ![0, 1, 2] bcast_S16x256x8_S16x256x8x1_0_1_2
    (Host.reduceAdd (mulf v v) (constant S_ .f32 0x00000000#32) reducesTo_S16x256x8x32_S16x256x8_d3 h_S_)) (broadcastInDim S16x256x8x1 ![] bcast_S_S16x256x8x1 (constant S_ .f32 0x42000000#32)))
    (broadcastInDim S16x256x8x1 ![] bcast_S_S16x256x8x1 (constant S_ .f32 0x358637BD#32))))))
    (broadcastInDim S16x256x8x32 ![0, 1, 2, 3] bcast_S1x1x1x32_S16x256x8x32_0_1_2_3 (broadcastInDim S1x1x1x32 ![3] bcast_S32_S1x1x1x32_3 g))

/-- Heads of 64 columns over their root mean squares, times the gain. -/
def normBV (v : FVec Ideal S16x256x4x64 .f32) (g : FVec Ideal S64 .f32) : FVec Ideal S16x256x4x64 .f32 :=
  mulf (mulf v (broadcastInDim S16x256x4x64 ![0, 1, 2, 3] bcast_S16x256x4x1_S16x256x4x64_0_1_2_3 (Host.rsqrt (addf (Host.divf (broadcastInDim S16x256x4x1 ![0, 1, 2] bcast_S16x256x4_S16x256x4x1_0_1_2
    (Host.reduceAdd (mulf v v) (constant S_ .f32 0x00000000#32) reducesTo_S16x256x4x64_S16x256x4_d3 h_S_)) (broadcastInDim S16x256x4x1 ![] bcast_S_S16x256x4x1 (constant S_ .f32 0x42800000#32)))
    (broadcastInDim S16x256x4x1 ![] bcast_S_S16x256x4x1 (constant S_ .f32 0x358637BD#32))))))
    (broadcastInDim S16x256x4x64 ![0, 1, 2, 3] bcast_S1x1x1x64_S16x256x4x64_0_1_2_3 (broadcastInDim S1x1x1x64 ![3] bcast_S64_S1x1x1x64_3 g))

/-- Heads of 32 columns as rows. -/
def flatAV (v : FVec Ideal S16x256x8x32 .f32) : FVec Ideal S16x256x256 .f32 := shapeCast S16x256x256 v shapeCasts_S16x256x8x32_S16x256x256

/-- Heads of 64 columns as rows. -/
def flatBV (v : FVec Ideal S16x256x4x64 .f32) : FVec Ideal S16x256x256 .f32 := shapeCast S16x256x256 v shapeCasts_S16x256x4x64_S16x256x256

/-- Values, each head's columns followed by as many ones. -/
def onesV (v : FVec Ideal S16x256x256 .f32) : FVec Ideal S16x256x512 .f32 :=
  shapeCast S16x256x512 (concatenate S16x256x4x128 3 [⟨S16x256x4x64, headsBV v⟩, ⟨S16x256x4x64, broadcastInDim S16x256x4x64 ![] bcast_S_S16x256x4x64 (constant S_ .f32 0x3F800000#32)⟩] concatenates_S16x256x4x64_S16x256x4x64_S16x256x4x128_d3) shapeCasts_S16x256x4x128_S16x256x512

/-- The results side by side. -/
def rowsV (g : FVec Ideal S16x256x1024 .f32) (qa ka qb kb : FVec Ideal S16x256x256 .f32) (va vb : FVec Ideal S16x256x512 .f32) (hq hi u : FVec Ideal S16x256x256 .f32) : FVec Ideal S16x256x3840 .f32 :=
  concatenate S16x256x3840 2 [⟨S16x256x1024, g⟩, ⟨S16x256x256, qa⟩, ⟨S16x256x256, ka⟩, ⟨S16x256x256, qb⟩, ⟨S16x256x256, kb⟩, ⟨S16x256x512, va⟩, ⟨S16x256x512, vb⟩, ⟨S16x256x256, hq⟩, ⟨S16x256x256, hi⟩, ⟨S16x256x256, u⟩]
    concatenates_S16x256x1024_S16x256x256_S16x256x256_S16x256x256_S16x256x256_S16x256x512_S16x256x512_S16x256x256_S16x256x256_S16x256x256_S16x256x3840_d2

/-- The third branch's first run of columns. -/
def hqV (v : FVec Ideal S16x256x1024 .f32) : FVec Ideal S16x256x256 .f32 := extractStridedSlice S16x256x256 ![0, 0, 0] v slices_S16x256x1024_S16x256x256_0_0_0

/-- The third branch's second run of columns. -/
def hfV (v : FVec Ideal S16x256x1024 .f32) : FVec Ideal S16x256x256 .f32 := extractStridedSlice S16x256x256 ![0, 0, 256] v slices_S16x256x1024_S16x256x256_0_0_256

/-- The third branch's third run of columns. -/
def hbV (v : FVec Ideal S16x256x1024 .f32) : FVec Ideal S16x256x256 .f32 := extractStridedSlice S16x256x256 ![0, 0, 512] v slices_S16x256x1024_S16x256x256_0_0_512

/-- The third branch's fourth run of columns. -/
def hiV (v : FVec Ideal S16x256x1024 .f32) : FVec Ideal S16x256x256 .f32 := extractStridedSlice S16x256x256 ![0, 0, 768] v slices_S16x256x1024_S16x256x256_0_0_768

/-- The fourth branch's columns. -/
def uV (z : FVec Ideal S16x256x3840 .f32) : FVec Ideal S16x256x256 .f32 := extractStridedSlice S16x256x256 ![0, 0, 2560] z slices_S16x256x3840_S16x256x256_0_0_2560

/-- The array of results. -/
def slabV (z : FVec Ideal S16x256x3840 .f32) (ga : FVec Ideal S2x32 .f32) (gb : FVec Ideal S2x64 .f32) : FVec Ideal S4096x3840 .bf16 :=
  truncf .bf16 (shapeCast S4096x3840 (rowsV (Cert.ContextMergeIdeal.Mrg.siluV (zgV z)) (flatAV (normAV (headsAV (q3V (zaV z))) (g0V ga))) (flatAV (normAV (headsAV (k3V (zaV z))) (g1V ga)))
    (flatBV (normBV (headsBV (q3V (zbV z))) (f0V gb))) (flatBV (normBV (headsBV (k3V (zbV z))) (f1V gb))) (onesV (v3V (zaV z))) (onesV (v3V (zbV z))) (siluV (hqV (zhV z))) (hiV (zhV z)) (uV z))
    shapeCasts_S16x256x3840_S4096x3840) bitsLt_bf16_f32

/-- The logarithms of the floored lower bounds. -/
def logV (l : FVec Ideal S2x256 .f32) : FVec Ideal S2x256 .f32 := Host.log (maximumf l (broadcastInDim S2x256 ![] bcast_S_S2x256 (constant S_ .f32 0x1E3CE508#32)))

/-- The logarithms of one minus the lower bounds. -/
def restV (l : FVec Ideal S2x256 .f32) : FVec Ideal S2x256 .f32 := Host.log1p (Host.negf l)

/-- The forward direction's row, for every token. -/
def row0V (l : FVec Ideal S2x256 .f32) : FVec Ideal S16x256x256 .f32 :=
  broadcastInDim S16x256x256 ![0, 1, 2] bcast_S1x1x256_S16x256x256_0_1_2 (broadcastInDim S1x1x256 ![2] bcast_S256_S1x1x256_2 (shapeCast S256 (extractStridedSlice S1x256 ![0, 0] l slices_S2x256_S1x256_0_0) shapeCasts_S1x256_S256))

/-- The backward direction's row, for every token. -/
def row1V (l : FVec Ideal S2x256 .f32) : FVec Ideal S16x256x256 .f32 :=
  broadcastInDim S16x256x256 ![0, 1, 2] bcast_S1x1x256_S16x256x256_0_1_2 (broadcastInDim S1x1x256 ![2] bcast_S256_S1x1x256_2 (shapeCast S256 (extractStridedSlice S1x256 ![1, 0] l slices_S2x256_S1x256_1_0) shapeCasts_S1x256_S256))

/-- Zeros. -/
def zerosV : FVec Ideal S16x256x256 .f32 := broadcastInDim S16x256x256 ![] bcast_S_S16x256x256 (constant S_ .f32 0x00000000#32)

/-- The logarithm of the sum of two logarithms' exponentials. -/
def addexpV (a b : FVec Ideal S16x256x256 .f32) : FVec Ideal S16x256x256 .f32 :=
  select (cmpf .une (subf a b) (subf a b)) (addf a b) (addf (maximumf a b) (Host.log1p (Host.exp (Host.negf (Host.absf (subf a b))))))

/-- A direction's forget gates: the sum, by logarithms, of the lower bound and the rest times the sigmoid. -/
def forgetV (a b f : FVec Ideal S16x256x256 .f32) : FVec Ideal S16x256x256 .f32 := addexpV a (addf b (Host.negf (addexpV (Host.negf f) zerosV)))

/-- The array of forget gates. -/
def gatesV (z : FVec Ideal S16x256x3840 .f32) (l : FVec Ideal S2x256 .f32) : FVec Ideal S4096x512 .f32 :=
  shapeCast S4096x512 (concatenate S16x256x512 2 [⟨S16x256x256, forgetV (row0V (logV l)) (row0V (restV l)) (hfV (zhV z))⟩, ⟨S16x256x256, forgetV (row1V (logV l)) (row1V (restV l)) (hbV (zhV z))⟩] concatenates_S16x256x256_S16x256x256_S16x256x512_d2)
    shapeCasts_S16x256x512_S4096x512

/-- The projection at an entry. -/
theorem zV_apply (x : FVec Ideal S16x256x1024 .f32) (sh sc : FVec Ideal S1024 .f32) (ng : FVec Ideal S1024 .f32) (w : FVec Ideal S1024x3840 .f32) (b : Fin 16) (p : Fin 256) (n : Fin 3840) :
    zV x sh sc ng w (ix3 b p n) = col (Cert.Mix.hrow (fun k => x (ix3 b p k)) (fun k => ng (ix1 k)) (fun k => sc (ix1 k)) (fun k => sh (ix1 k))) (fun k n => w (ix2 k n)) n := by
  unfold col
  have key : ∀ h : FVec Ideal S16x256x1024 .f32, (Host.dotGeneral dot_S16x256x1024_S1024x3840_S16x256x3840_2_0_01_1_n_n none h w : FVec Ideal S16x256x3840 .f32) (ix3 b p n) = ∑ k : Fin 1024, h (ix3 b p k) * w (ix2 k n) := by
    intro h
    pointwise []
  refine (key (hV x sh sc ng)).trans ?_
  exact Finset.sum_congr rfl fun k _ => by rw [hV_apply]

/-- The first branch's queries by heads. -/
theorem qa_apply (z : FVec Ideal S16x256x3840 .f32) (b : Fin 16) (p : Fin 256) (e : Fin 8) (d : Fin 32) : headsAV (q3V (zaV z)) (ix4 b p e d) = z (ix3 b p ⟨e.val * 32 + d.val, by omega⟩) := by
  pointwise [headsAV, q3V, k3V, zaV]

/-- The first branch's keys by heads. -/
theorem ka_apply (z : FVec Ideal S16x256x3840 .f32) (b : Fin 16) (p : Fin 256) (e : Fin 8) (d : Fin 32) : headsAV (k3V (zaV z)) (ix4 b p e d) = z (ix3 b p ⟨256 + (e.val * 32 + d.val), by omega⟩) := by
  pointwise [headsAV, q3V, k3V, zaV]

/-- The second branch's queries by heads. -/
theorem qb_apply (z : FVec Ideal S16x256x3840 .f32) (b : Fin 16) (p : Fin 256) (e : Fin 4) (d : Fin 64) : headsBV (q3V (zbV z)) (ix4 b p e d) = z (ix3 b p ⟨768 + (e.val * 64 + d.val), by omega⟩) := by
  pointwise [headsBV, q3V, k3V, zbV]

/-- The second branch's keys by heads. -/
theorem kb_apply (z : FVec Ideal S16x256x3840 .f32) (b : Fin 16) (p : Fin 256) (e : Fin 4) (d : Fin 64) : headsBV (k3V (zbV z)) (ix4 b p e d) = z (ix3 b p ⟨1024 + (e.val * 64 + d.val), by omega⟩) := by
  pointwise [headsBV, q3V, k3V, zbV]
  exact congrArg (fun q => z (ix3 b p q)) (Fin.ext (by dsimp only; omega))

/-- The first branch's values. -/
theorem va_apply (z : FVec Ideal S16x256x3840 .f32) (b : Fin 16) (p : Fin 256) (j : Fin 256) : v3V (zaV z) (ix3 b p j) = z (ix3 b p ⟨512 + j.val, by omega⟩) := by
  pointwise [v3V, zaV, zbV, hqV, hfV, hbV, hiV, uV, zhV, zgV]

/-- The second branch's values. -/
theorem vb_apply (z : FVec Ideal S16x256x3840 .f32) (b : Fin 16) (p : Fin 256) (j : Fin 256) : v3V (zbV z) (ix3 b p j) = z (ix3 b p ⟨1280 + j.val, by omega⟩) := by
  pointwise [v3V, zaV, zbV, hqV, hfV, hbV, hiV, uV, zhV, zgV]
  exact congrArg (fun q => z (ix3 b p q)) (Fin.ext (by dsimp only; omega))

/-- The third branch's queries. -/
theorem hq_apply (z : FVec Ideal S16x256x3840 .f32) (b : Fin 16) (p : Fin 256) (j : Fin 256) : hqV (zhV z) (ix3 b p j) = z (ix3 b p ⟨1536 + j.val, by omega⟩) := by
  pointwise [v3V, zaV, zbV, hqV, hfV, hbV, hiV, uV, zhV, zgV]

/-- The forward forget gates. -/
theorem hf_apply (z : FVec Ideal S16x256x3840 .f32) (b : Fin 16) (p : Fin 256) (j : Fin 256) : hfV (zhV z) (ix3 b p j) = z (ix3 b p ⟨1792 + j.val, by omega⟩) := by
  pointwise [v3V, zaV, zbV, hqV, hfV, hbV, hiV, uV, zhV, zgV]
  exact congrArg (fun q => z (ix3 b p q)) (Fin.ext (by dsimp only; omega))

/-- The backward forget gates. -/
theorem hb_apply (z : FVec Ideal S16x256x3840 .f32) (b : Fin 16) (p : Fin 256) (j : Fin 256) : hbV (zhV z) (ix3 b p j) = z (ix3 b p ⟨2048 + j.val, by omega⟩) := by
  pointwise [v3V, zaV, zbV, hqV, hfV, hbV, hiV, uV, zhV, zgV]
  exact congrArg (fun q => z (ix3 b p q)) (Fin.ext (by dsimp only; omega))

/-- The third branch's inputs. -/
theorem hi_apply (z : FVec Ideal S16x256x3840 .f32) (b : Fin 16) (p : Fin 256) (j : Fin 256) : hiV (zhV z) (ix3 b p j) = z (ix3 b p ⟨2304 + j.val, by omega⟩) := by
  pointwise [v3V, zaV, zbV, hqV, hfV, hbV, hiV, uV, zhV, zgV]
  exact congrArg (fun q => z (ix3 b p q)) (Fin.ext (by dsimp only; omega))

/-- The fourth branch's inputs. -/
theorem u_apply (z : FVec Ideal S16x256x3840 .f32) (b : Fin 16) (p : Fin 256) (j : Fin 256) : uV z (ix3 b p j) = z (ix3 b p ⟨2560 + j.val, by omega⟩) := by
  pointwise [v3V, zaV, zbV, hqV, hfV, hbV, hiV, uV, zhV, zgV]

/-- The gates' inputs. -/
theorem zg_apply (z : FVec Ideal S16x256x3840 .f32) (b : Fin 16) (p : Fin 256) (j : Fin 1024) : zgV z (ix3 b p j) = z (ix3 b p ⟨2816 + j.val, by omega⟩) := by
  pointwise [v3V, zaV, zbV, hqV, hfV, hbV, hiV, uV, zhV, zgV]

/-- A gain of row 0. -/
theorem g0V_apply (g : FVec Ideal S2x32 .f32) (d : Fin 32) : g0V g (ix1 d) = g (ix2 0 d) := by
  pointwise [g0V]

/-- A gain of row 1. -/
theorem g1V_apply (g : FVec Ideal S2x32 .f32) (d : Fin 32) : g1V g (ix1 d) = g (ix2 1 d) := by
  pointwise [g1V]

/-- A gain of row 0. -/
theorem f0V_apply (g : FVec Ideal S2x64 .f32) (d : Fin 64) : f0V g (ix1 d) = g (ix2 0 d) := by
  pointwise [f0V]

/-- A gain of row 1. -/
theorem f1V_apply (g : FVec Ideal S2x64 .f32) (d : Fin 64) : f1V g (ix1 d) = g (ix2 1 d) := by
  pointwise [f1V]

/-- A normalized head of 32 columns at an entry. -/
theorem normAV_apply (v : FVec Ideal S16x256x8x32 .f32) (g : FVec Ideal S32 .f32) (b : Fin 16) (p : Fin 256) (e : Fin 8) (d : Fin 32) : normAV v g (ix4 b p e d) = v (ix4 b p e d) * Ideal.rsqrt (Ideal.div (∑ k : Fin 32, v (ix4 b p e k) * v (ix4 b p e k)) (Ideal.ofBits .f32 0x42000000#32) + Ideal.ofBits .f32 0x358637BD#32) * g (ix1 d) := by
  pointwise [normAV]

/-- A normalized head of 64 columns at an entry. -/
theorem normBV_apply (v : FVec Ideal S16x256x4x64 .f32) (g : FVec Ideal S64 .f32) (b : Fin 16) (p : Fin 256) (e : Fin 4) (d : Fin 64) : normBV v g (ix4 b p e d) = v (ix4 b p e d) * Ideal.rsqrt (Ideal.div (∑ k : Fin 64, v (ix4 b p e k) * v (ix4 b p e k)) (Ideal.ofBits .f32 0x42800000#32) + Ideal.ofBits .f32 0x358637BD#32) * g (ix1 d) := by
  pointwise [normBV]

/-- Heads of 32 columns as a row at an entry. -/
theorem flatAV_apply (v : FVec Ideal S16x256x8x32 .f32) (b : Fin 16) (p : Fin 256) (j : Fin 256) : flatAV v (ix3 b p j) = v (ix4 b p ⟨j.val / 32, by omega⟩ ⟨j.val % 32, by omega⟩) := by
  pointwise [flatAV]

/-- Heads of 64 columns as a row at an entry. -/
theorem flatBV_apply (v : FVec Ideal S16x256x4x64 .f32) (b : Fin 16) (p : Fin 256) (j : Fin 256) : flatBV v (ix3 b p j) = v (ix4 b p ⟨j.val / 64, by omega⟩ ⟨j.val % 64, by omega⟩) := by
  pointwise [flatBV]

/-- Values with ones at an entry. -/
theorem onesV_apply (v : FVec Ideal S16x256x256 .f32) (b : Fin 16) (p : Fin 256) (j : Fin 512) : onesV v (ix3 b p j) = ones (fun i => v (ix3 b p i)) j := by
  unfold ones
  pointwise [onesV, headsBV]
  split_ifs with h
  · exact congrArg (fun q => v (ix3 b p q)) (Fin.ext (by dsimp only; omega))
  · rfl

/-- The results side by side at an entry. -/
theorem rowsV_apply (g : FVec Ideal S16x256x1024 .f32) (qa ka qb kb : FVec Ideal S16x256x256 .f32) (va vb : FVec Ideal S16x256x512 .f32) (hq hi u : FVec Ideal S16x256x256 .f32) (b : Fin 16) (p : Fin 256) (n : Fin 3840) :
    rowsV g qa ka qb kb va vb hq hi u (ix3 b p n) =
      if h0 : n.val < 1024 then g (ix3 b p ⟨n.val, by omega⟩) else if h1 : n.val < 1280 then qa (ix3 b p ⟨n.val - 1024, by omega⟩) else if h2 : n.val < 1536 then ka (ix3 b p ⟨n.val - 1280, by omega⟩)
      else if h3 : n.val < 1792 then qb (ix3 b p ⟨n.val - 1536, by omega⟩) else if h4 : n.val < 2048 then kb (ix3 b p ⟨n.val - 1792, by omega⟩) else if h5 : n.val < 2560 then va (ix3 b p ⟨n.val - 2048, by omega⟩)
      else if h6 : n.val < 3072 then vb (ix3 b p ⟨n.val - 2560, by omega⟩) else if h7 : n.val < 3328 then hq (ix3 b p ⟨n.val - 3072, by omega⟩) else if h8 : n.val < 3584 then hi (ix3 b p ⟨n.val - 3328, by omega⟩)
      else u (ix3 b p ⟨n.val - 3584, by omega⟩) := by
  pointwise [rowsV]
  by_cases h0 : n.val < 1024
  · rw [dif_pos (show n.val < 1024 by omega), dif_pos h0]
  rw [dif_neg (show ¬ n.val < 1024 by omega), dif_neg h0]
  by_cases h1 : n.val < 1280
  · rw [dif_pos (show n.val - 1024 < 256 by omega), dif_pos h1]
  rw [dif_neg (show ¬ n.val - 1024 < 256 by omega), dif_neg h1]
  by_cases h2 : n.val < 1536
  · rw [dif_pos (show n.val - 1024 - 256 < 256 by omega), dif_pos h2]
    exact congrArg (fun q => ka (ix3 b p q)) (Fin.ext (by dsimp only; omega))
  rw [dif_neg (show ¬ n.val - 1024 - 256 < 256 by omega), dif_neg h2]
  by_cases h3 : n.val < 1792
  · rw [dif_pos (show n.val - 1024 - 256 - 256 < 256 by omega), dif_pos h3]
    exact congrArg (fun q => qb (ix3 b p q)) (Fin.ext (by dsimp only; omega))
  rw [dif_neg (show ¬ n.val - 1024 - 256 - 256 < 256 by omega), dif_neg h3]
  by_cases h4 : n.val < 2048
  · rw [dif_pos (show n.val - 1024 - 256 - 256 - 256 < 256 by omega), dif_pos h4]
    exact congrArg (fun q => kb (ix3 b p q)) (Fin.ext (by dsimp only; omega))
  rw [dif_neg (show ¬ n.val - 1024 - 256 - 256 - 256 < 256 by omega), dif_neg h4]
  by_cases h5 : n.val < 2560
  · rw [dif_pos (show n.val - 1024 - 256 - 256 - 256 - 256 < 512 by omega), dif_pos h5]
    exact congrArg (fun q => va (ix3 b p q)) (Fin.ext (by dsimp only; omega))
  rw [dif_neg (show ¬ n.val - 1024 - 256 - 256 - 256 - 256 < 512 by omega), dif_neg h5]
  by_cases h6 : n.val < 3072
  · rw [dif_pos (show n.val - 1024 - 256 - 256 - 256 - 256 - 512 < 512 by omega), dif_pos h6]
    exact congrArg (fun q => vb (ix3 b p q)) (Fin.ext (by dsimp only; omega))
  rw [dif_neg (show ¬ n.val - 1024 - 256 - 256 - 256 - 256 - 512 < 512 by omega), dif_neg h6]
  by_cases h7 : n.val < 3328
  · rw [dif_pos (show n.val - 1024 - 256 - 256 - 256 - 256 - 512 - 512 < 256 by omega), dif_pos h7]
    exact congrArg (fun q => hq (ix3 b p q)) (Fin.ext (by dsimp only; omega))
  rw [dif_neg (show ¬ n.val - 1024 - 256 - 256 - 256 - 256 - 512 - 512 < 256 by omega), dif_neg h7]
  by_cases h8 : n.val < 3584
  · rw [dif_pos (show n.val - 1024 - 256 - 256 - 256 - 256 - 512 - 512 - 256 < 256 by omega), dif_pos h8]
    exact congrArg (fun q => hi (ix3 b p q)) (Fin.ext (by dsimp only; omega))
  rw [dif_neg (show ¬ n.val - 1024 - 256 - 256 - 256 - 256 - 512 - 512 - 256 < 256 by omega), dif_neg h8]
  exact congrArg (fun q => u (ix3 b p q)) (Fin.ext (by dsimp only; omega))

/-- The array of results at an entry. -/
theorem flat_apply (r : FVec Ideal S16x256x3840 .f32) (i : Fin 4096) (n : Fin 3840) :
    (truncf .bf16 (shapeCast S4096x3840 r shapeCasts_S16x256x3840_S4096x3840) bitsLt_bf16_f32 : FVec Ideal S4096x3840 .bf16) (ix2 i n) = r (ix3 ⟨i.val / 256, by omega⟩ ⟨i.val % 256, by omega⟩ n) := by
  pointwise []

/-- Two directions' forget gates side by side, one row a token, at an entry. -/
theorem both_apply (f g : FVec Ideal S16x256x256 .f32) (i : Fin 4096) (n : Fin 512) :
    (shapeCast S4096x512 (concatenate S16x256x512 2 [⟨S16x256x256, f⟩, ⟨S16x256x256, g⟩] concatenates_S16x256x256_S16x256x256_S16x256x512_d2) shapeCasts_S16x256x512_S4096x512 : FVec Ideal S4096x512 .f32) (ix2 i n)
      = if h : n.val < 256 then f (ix3 ⟨i.val / 256, by omega⟩ ⟨i.val % 256, by omega⟩ ⟨n.val, h⟩) else g (ix3 ⟨i.val / 256, by omega⟩ ⟨i.val % 256, by omega⟩ ⟨n.val - 256, by omega⟩) := by
  pointwise []

/-- The forward row at an entry. -/
theorem row0V_apply (l : FVec Ideal S2x256 .f32) (b : Fin 16) (p : Fin 256) (j : Fin 256) : row0V l (ix3 b p j) = l (ix2 0 j) := by
  pointwise [row0V]

/-- The backward row at an entry. -/
theorem row1V_apply (l : FVec Ideal S2x256 .f32) (b : Fin 16) (p : Fin 256) (j : Fin 256) : row1V l (ix3 b p j) = l (ix2 1 j) := by
  pointwise [row1V]

/-- The logarithm of a floored bound. -/
theorem logV_apply (l : FVec Ideal S2x256 .f32) (e : Fin 2) (j : Fin 256) : logV l (ix2 e j) = Ideal.log (max (l (ix2 e j)) (Ideal.ofBits .f32 0x1E3CE508#32)) := by
  pointwise [logV]

/-- The logarithm of one minus a bound. -/
theorem restV_apply (l : FVec Ideal S2x256 .f32) (e : Fin 2) (j : Fin 256) : restV l (ix2 e j) = Ideal.log1p (-l (ix2 e j)) := by
  pointwise [restV]

/-- The logarithm of a sum of exponentials at an entry: over the extended reals a difference equals itself. -/
theorem addexpV_apply (a b : FVec Ideal S16x256x256 .f32) (i : Fin 16) (p : Fin 256) (j : Fin 256) :
    addexpV a b (ix3 i p j) = addexp (a (ix3 i p j)) (b (ix3 i p j)) := by
  unfold addexp
  pointwise [addexpV]
  rw [if_neg (fun h => h rfl)]
  rfl

/-- A forget gate at an entry. -/
theorem forgetV_apply (a b f : FVec Ideal S16x256x256 .f32) (i : Fin 16) (p : Fin 256) (j : Fin 256) :
    forgetV a b f (ix3 i p j) = addexp (a (ix3 i p j)) (b (ix3 i p j) + - addexp (- f (ix3 i p j)) 0) := by
  refine (addexpV_apply _ _ i p j).trans ?_
  show addexp (a (ix3 i p j)) (b (ix3 i p j) + - addexpV (Host.negf f) zerosV (ix3 i p j)) = _
  rw [addexpV_apply]
  have h0 : zerosV (ix3 i p j) = 0 := by pointwise [zerosV]
  rw [h0]
  rfl

end Cert.ContextProjectionReferenceIdeal.Prj

end
-- ==== Proof.ContextProjectionSlab.lean ====
module

public import proofs.«01_k».proof.Proof.ContextProjectionReference
public import proofs.«01_k».proof.Proof.ProjectionForget

@[expose] public section

set_option maxRecDepth 16384

noncomputable section

open Idealize.ShloMosaic

namespace Cert.ContextProjectionReferenceIdeal.Prj

open Cert.ContextProjectionReferenceIdeal Cert.ContextProjectionReferenceIdeal.Gen Cert.Proj
open Cert.ContextMergeReferenceIdeal.Mrg (siluV siluV_apply)

/-- A row whose cosines are one and sines zero is left as it is. -/
theorem rot_none (u : Fin 256 → EReal) (j : Fin 256) : rot u (fun _ => 1) (fun _ => 0) j = u j := by
  unfold rot
  rw [mul_one, mul_zero, add_zero]

/-- A row of normalized heads of 32 columns, from a row's entries. -/
theorem headA (U : FVec Ideal S16x256x8x32 .f32) (G : FVec Ideal S32 .f32) (b : Fin 16) (p : Fin 256) (v : Fin 256 → EReal) (g : Fin 32 → EReal)
    (hU : ∀ (e : Fin 8) (d : Fin 32), U (ix4 b p e d) = v ⟨e.val * 32 + d.val, by omega⟩) (hG : ∀ d : Fin 32, G (ix1 d) = g d) (j : Fin 256) :
    rot (gnorm 32 κa v (fun j => g ⟨j.val % 32, by omega⟩)) (fun _ => 1) (fun _ => 0) j = flatAV (normAV U G) (ix3 b p j) := by
  rw [rot_none, gnorm_a, flatAV_apply, normAV_apply]
  have h : j.val / 32 * 32 + j.val % 32 = j.val := by omega
  simp only [hU, hG, h, Nat.mul_comm 32 (j.val / 32)]

/-- A row of normalized heads of 64 columns, from a row's entries, at a head's entry. -/
theorem headB (U : FVec Ideal S16x256x4x64 .f32) (G : FVec Ideal S64 .f32) (b : Fin 16) (p : Fin 256) (v : Fin 256 → EReal) (g : Fin 64 → EReal)
    (hU : ∀ (e : Fin 4) (d : Fin 64), U (ix4 b p e d) = v ⟨e.val * 64 + d.val, by omega⟩) (hG : ∀ d : Fin 64, G (ix1 d) = g d) (j : Fin 256) :
    gnorm 64 κb v (fun j => g ⟨j.val % 64, by omega⟩) j = flatBV (normBV U G) (ix3 b p j) := by
  rw [gnorm_b, flatBV_apply, normBV_apply]
  have h : j.val / 64 * 64 + j.val % 64 = j.val := by omega
  simp only [hU, hG, h, Nat.mul_comm 64 (j.val / 64)]

/-- One row of the array of results is the reference's. -/
theorem slab_row (Z : FVec Ideal S16x256x3840 .f32) (ga : FVec Ideal S2x32 .f32) (gb : FVec Ideal S2x64 .f32) (i : Fin 4096) (n : Fin 3840) (b : Fin 16) (p : Fin 256)
    (hb : b.val = i.val / 256) (hp : p.val = i.val % 256) :
    slab (fun n => Z (ix3 b p n)) (fun e j => ga (ix2 e ⟨j.val % 32, by omega⟩)) (fun e j => gb (ix2 e ⟨j.val % 64, by omega⟩)) (fun _ => 1) (fun _ => 0) n
      = slabV Z ga gb (ix2 i n) := by
  obtain rfl : b = ⟨i.val / 256, by clear hb hp; omega⟩ := Fin.ext hb
  obtain rfl : p = ⟨i.val % 256, by clear hp; omega⟩ := Fin.ext hp
  refine Eq.trans ?_ (flat_apply _ i n).symm
  rw [rowsV_apply]
  unfold slab
  by_cases h0 : n.val < 1024
  · rw [dif_pos h0, dif_pos h0]
    refine Eq.trans ?_ (Cert.ContextMergeIdeal.Mrg.siluV_apply _ _ _ _).symm
    rw [zg_apply]
    exact congrArg (fun q => silu (Z (ix3 _ _ q))) (Fin.ext (by dsimp only; omega))
  rw [dif_neg h0, dif_neg h0]
  by_cases h1 : n.val < 1280
  · rw [dif_pos h1, dif_pos h1]
    exact headA _ _ _ _ _ (fun d => ga (ix2 0 d)) (fun e d => (qa_apply Z _ _ e d).trans (congrArg (fun q => Z (ix3 _ _ q)) (Fin.ext (by dsimp only; show _ = 256 * 0 + _; omega)))) (g0V_apply ga) _
  rw [dif_neg h1, dif_neg h1]
  by_cases h2 : n.val < 1536
  · rw [dif_pos h2, dif_pos h2]
    exact headA _ _ _ _ _ (fun d => ga (ix2 1 d)) (fun e d => ka_apply Z _ _ e d) (g1V_apply ga) _
  rw [dif_neg h2, dif_neg h2]
  by_cases h3 : n.val < 1792
  · rw [dif_pos h3, dif_pos h3]
    exact headB _ _ _ _ _ (fun d => gb (ix2 0 d)) (fun e d => qb_apply Z _ _ e d) (f0V_apply gb) _
  rw [dif_neg h3, dif_neg h3]
  by_cases h4 : n.val < 2048
  · rw [dif_pos h4, dif_pos h4]
    exact headB _ _ _ _ _ (fun d => gb (ix2 1 d)) (fun e d => kb_apply Z _ _ e d) (f1V_apply gb) _
  rw [dif_neg h4, dif_neg h4]
  by_cases h5 : n.val < 2560
  · rw [dif_pos h5, dif_pos h5, onesV_apply]
    exact congrArg (fun v => ones v _) (funext fun j => (va_apply Z _ _ j).symm)
  rw [dif_neg h5, dif_neg h5]
  by_cases h6 : n.val < 3072
  · rw [dif_pos h6, dif_pos h6, onesV_apply]
    exact congrArg (fun v => ones v _) (funext fun j => (vb_apply Z _ _ j).symm)
  rw [dif_neg h6, dif_neg h6]
  by_cases h7 : n.val < 3328
  · rw [dif_pos h7, dif_pos h7]
    refine Eq.trans ?_ (siluV_apply _ _ _ _).symm
    exact congrArg silu (hq_apply Z _ _ _).symm
  rw [dif_neg h7, dif_neg h7]
  by_cases h8 : n.val < 3584
  · rw [dif_pos h8, dif_pos h8]
    exact (hi_apply Z _ _ _).symm
  rw [dif_neg h8, dif_neg h8]
  exact (u_apply Z _ _ _).symm

/-- One row of the forget gates is the reference's, for lower bounds at most one. -/
theorem gates_row (Z : FVec Ideal S16x256x3840 .f32) (l : FVec Ideal S2x256 .f32) (L : Fin 4 → Fin 256 → EReal) (hl : ∀ e j, l (ix2 e j) ≤ 1) (i : Fin 4096) (n : Fin 512) (b : Fin 16) (p : Fin 256)
    (hb : b.val = i.val / 256) (hp : p.val = i.val % 256)
    (h0 : ∀ j, L 0 j = max (l (ix2 0 j)) (Ideal.ofBits .f32 0x1E3CE508#32)) (h1 : ∀ j, L 1 j = 1 - l (ix2 0 j))
    (h2 : ∀ j, L 2 j = max (l (ix2 1 j)) (Ideal.ofBits .f32 0x1E3CE508#32)) (h3 : ∀ j, L 3 j = 1 - l (ix2 1 j)) :
    gates (fun n => Z (ix3 b p n)) L n = gatesV Z l (ix2 i n) := by
  obtain rfl : b = ⟨i.val / 256, by clear hb hp; omega⟩ := Fin.ext hb
  obtain rfl : p = ⟨i.val % 256, by clear hp; omega⟩ := Fin.ext hp
  refine Eq.trans ?_ (both_apply _ _ i n).symm
  unfold gates
  by_cases h : n.val < 256
  · rw [dif_pos h, dif_pos h, h0, h1, forget_eq _ _ (hl 0 _), forgetV_apply, row0V_apply, row0V_apply, logV_apply, restV_apply, hf_apply]
    rfl
  · rw [dif_neg h, dif_neg h, h2, h3, forget_eq _ _ (hl 1 _), forgetV_apply, row1V_apply, row1V_apply, logV_apply, restV_apply, hb_apply]
    rfl

end Cert.ContextProjectionReferenceIdeal.Prj

end
-- ==== Proof.ContextProjectionBlock.lean ====
module

public import proofs.«01_k».proof.Proof.ContextProjectionPieces
public import proofs.«01_k».proof.Proof.ProjectionBlock
public import proofs.«01_k».proof.Proof.ContextProjectionSlab
public import proofs.«01_k».proof.Proof.Gen.ContextProjectionIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ContextProjectionIdeal.Prj

open Cert.ContextProjectionIdeal Cert.ContextProjectionIdeal.Gen Cert.Proj
open Cert.ProjectionIdeal.Prj (ld_x ld_ng ld_md0 ld_md1 ld_g0 ld_g1 ld_lb0 ld_lb1 ld_lb2 ld_lb3 ld_w0 ld_w1 ld_w2 ld_w3 ld_w4 ld_w5 ld_w6 ld_w7 ld_w8 ld_w9 ld_w10 ld_w11 ld_w12 ld_w13 ld_w14)
open Cert.ContextProjectionReferenceIdeal.Prj (rot_none)

/-- The rows after the modulated norm, from the blocks. -/
theorem row_of (x0 : Vec Ideal S512x1024 .f32) (x1 : Vec Ideal S1x3x1024 .f32) (x2 : Vec Ideal S1x1024 .f32) (r : Fin 512) (k : Fin 1024) :
    k0_pay2 (F := Ideal) (View.ld x0 (Rect.unit ![0, 0] ![512, 1024] inb_S512x1024_S512x1024_0_0)) (View.ld x2 (Rect.unit ![0, 0] ![1, 1024] inb_S1x1024_S1x1024_0_0))
      (View.ld x1 (Rect.unit ![0, 1, 0] ![1, 1, 1024] inb_S1x3x1024_S1x1x1024_0_1_0)) (View.ld x1 (Rect.unit ![0, 0, 0] ![1, 1, 1024] inb_S1x3x1024_S1x1x1024_0_0_0)) (ix2 r k)
    = Cert.Mix.hrow (fun k => x0 (ix2 r k)) (fun k => x2 (ix2 0 k)) (fun k => x1 (ix3 0 1 k)) (fun k => x1 (ix3 0 0 k)) k :=
  (row_apply _ _ _ _ r k).trans (hrow_of (k := k) (hx := fun k => ld_x x0 r k) (hn := fun k => ld_ng x2 k) (hc := fun k => ld_md1 x1 k) (hs := fun k => ld_md0 x1 k))

set_option maxHeartbeats 4000000 in
/-- What the body stores into the array of results, from its blocks. -/
theorem out_slab (c : Dev nD) (i : grid0.Coords) (arg1 : Memref sig .tc .vmem S512x1024 .f32) (harg1 : arg1.IsWhole) (arg2 : Memref sig .tc .vmem S1x3x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S2x256 .f32) (harg5 : arg5.IsWhole) (arg6 : Memref sig .tc .vmem S2x256 .f32) (harg6 : arg6.IsWhole) (arg7 : Memref sig .tc .vmem S4x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x3840 .bf16) (harg10 : arg10.IsWhole) (arg11 : Memref sig .tc .vmem S512x512 .f32) (harg11 : arg11.IsWhole)
    (x0 : Vec Ideal S512x1024 .f32) (x1 : Vec Ideal S1x3x1024 .f32) (x2 : Vec Ideal S1x1024 .f32) (x3 : Vec Ideal S1024x3840 .bf16) (x4 : Vec Ideal S2x256 .f32) (x5 : Vec Ideal S2x256 .f32) (x6 : Vec Ideal S4x256 .f32) (x7 : Vec Ideal S512x256 .f32) (x8 : Vec Ideal S512x256 .f32) (y : S512x3840.Idx) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 y = slab (col (Cert.Mix.hrow (fun k => x0 (ix2 (y 0) k)) (fun k => x2 (ix2 0 k)) (fun k => x1 (ix3 0 1 k)) (fun k => x1 (ix3 0 0 k))) (fun k n => x3 (ix2 k n))) (fun e j => x4 (ix2 e j)) (fun e j => x5 (ix2 e j)) (fun _ => 1) (fun _ => 0) (y 1) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  have hcov := cover0_A_9 c i arg1 harg1 arg2 harg2 arg3 harg3 arg4 harg4 arg5 harg5 arg6 harg6 arg7 harg7 arg8 harg8 arg9 harg9 arg10 harg10 arg11 harg11 x0 x1 x2 x3 x4 x5 x6 x7 x8 y
  revert hcov
  unfold kernelRun0_A
  dsimp only
  sl_unfold_words
  intro hcov
  canon_tiles x h using hcov
  all_goals clear hcov
  all_goals simp only [View.readAt_eq_ld, harg1.read_unread, harg2.read_unread, harg3.read_unread, harg4.read_unread, harg5.read_unread, harg6.read_unread, harg7.read_unread, harg8.read_unread, harg9.read_unread]
  all_goals obtain ⟨x_0, hx0⟩ : ∃ r : Fin 512, r = x 0 := ⟨_, rfl⟩
  all_goals have hy : (y 0 : Fin 512) = x_0 := (Fin.ext h0).trans hx0.symm
  all_goals rw [hy]
  case piece0 =>
    obtain ⟨x_1, hx1⟩ : ∃ j : Fin 256, j = x 1 := ⟨_, rfl⟩
    obtain rfl : x = ix2 x_0 x_1 := by rw [hx0, hx1]; exact (ix2_eta x).symm
    refine Eq.trans ?_ (slab_u _ _ _ _ _ _ x_1 ?_).symm
    · exact (u_apply _ _ x_0 x_1).trans (prod_of (c := 10) (hh := fun k => row_of x0 x1 x2 x_0 k) (hw := fun k => ld_w10 x3 k x_1))
    · exact h1
  case piece1 =>
    obtain ⟨x_1, hx1⟩ : ∃ j : Fin 256, j = x 1 := ⟨_, rfl⟩
    obtain rfl : x = ix2 x_0 x_1 := by rw [hx0, hx1]; exact (ix2_eta x).symm
    refine Eq.trans ?_ (slab_hi _ _ _ _ _ _ x_1 ?_).symm
    · exact (pay41_apply _ _ x_0 x_1).trans (prod_of (c := 9) (hh := fun k => row_of x0 x1 x2 x_0 k) (hw := fun k => ld_w9 x3 k x_1))
    · exact h1
  case piece2 =>
    obtain ⟨x_1, hx1⟩ : ∃ j : Fin 512, j = x 1 := ⟨_, rfl⟩
    obtain rfl : x = ix2 x_0 x_1 := by rw [hx0, hx1]; exact (ix2_eta x).symm
    refine Eq.trans ?_ (slab_vb _ _ _ _ _ _ x_1 ?_).symm
    · exact (pay40_apply _ _ x_0 x_1).trans (ones_of (hv := fun j => prod_of (c := 5) (hh := fun k => row_of x0 x1 x2 x_0 k) (hw := fun k => ld_w5 x3 k j)))
    · exact h1
  case piece3 =>
    obtain ⟨x_1, hx1⟩ : ∃ j : Fin 512, j = x 1 := ⟨_, rfl⟩
    obtain rfl : x = ix2 x_0 x_1 := by rw [hx0, hx1]; exact (ix2_eta x).symm
    refine Eq.trans ?_ (slab_va _ _ _ _ _ _ x_1 ?_).symm
    · exact (pay39_apply _ _ x_0 x_1).trans (ones_of (hv := fun j => prod_of (c := 2) (hh := fun k => row_of x0 x1 x2 x_0 k) (hw := fun k => ld_w2 x3 k j)))
    · exact h1
  case piece4 =>
    obtain ⟨x_1, hx1⟩ : ∃ j : Fin 256, j = x 1 := ⟨_, rfl⟩
    obtain rfl : x = ix2 x_0 x_1 := by rw [hx0, hx1]; exact (ix2_eta x).symm
    refine Eq.trans ?_ (slab_hq _ _ _ _ _ _ x_1 ?_).symm
    · exact (pay38_apply _ _ x_0 x_1).trans (congrArg silu (prod_of (c := 6) (hh := fun k => row_of x0 x1 x2 x_0 k) (hw := fun k => ld_w6 x3 k x_1)))
    · exact h1
  case piece5 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 14 x_1 (by decide) ?_).symm
    · exact (pay37_apply _ _ x_0 x_1).trans (congrArg silu (prod_of (c := 14) (hh := fun k => row_of x0 x1 x2 x_0 k) (hw := fun k => ld_w14 x3 k x_1)))
    · exact h1
  case piece6 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 13 x_1 (by decide) ?_).symm
    · exact (pay36_apply _ _ x_0 x_1).trans (congrArg silu (prod_of (c := 13) (hh := fun k => row_of x0 x1 x2 x_0 k) (hw := fun k => ld_w13 x3 k x_1)))
    · exact h1
  case piece7 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 12 x_1 (by decide) ?_).symm
    · exact (pay35_apply _ _ x_0 x_1).trans (congrArg silu (prod_of (c := 12) (hh := fun k => row_of x0 x1 x2 x_0 k) (hw := fun k => ld_w12 x3 k x_1)))
    · exact h1
  case piece8 =>
    obtain ⟨x_1, hx1⟩ : ∃ j : Fin 256, j = x 1 := ⟨_, rfl⟩
    obtain rfl : x = ix2 x_0 x_1 := by rw [hx0, hx1]; exact (ix2_eta x).symm
    refine Eq.trans ?_ (slab_gate _ _ _ _ _ _ 11 x_1 (by decide) ?_).symm
    · exact (gate_apply _ _ x_0 x_1).trans (congrArg silu (prod_of (c := 11) (hh := fun k => row_of x0 x1 x2 x_0 k) (hw := fun k => ld_w11 x3 k x_1)))
    · exact h1.trans (by show x_1.val = 256 * 0 + x_1.val; omega)
  case piece9 =>
    obtain ⟨x_1, hx1⟩ : ∃ j : Fin 256, j = x 1 := ⟨_, rfl⟩
    obtain rfl : x = ix2 x_0 x_1 := by rw [hx0, hx1]; exact (ix2_eta x).symm
    refine Eq.trans ?_ (slab_kb _ _ _ _ _ _ x_1 ?_).symm
    · exact (kb_apply _ _ x_0 x_1).trans (gnorm_of (hv := fun j => (pay6_apply _ _ x_0 j).trans (prod_of (c := 4) (hh := fun k => row_of x0 x1 x2 x_0 k) (hw := fun k => ld_w4 x3 k j))) (ha := fun j => ld_g1 x5 j))
    · exact h1
  case piece10 =>
    obtain ⟨x_1, hx1⟩ : ∃ j : Fin 256, j = x 1 := ⟨_, rfl⟩
    obtain rfl : x = ix2 x_0 x_1 := by rw [hx0, hx1]; exact (ix2_eta x).symm
    refine Eq.trans ?_ (slab_qb _ _ _ _ _ _ x_1 ?_).symm
    · exact (qb_apply _ _ x_0 x_1).trans (gnorm_of (hv := fun j => (pay5_apply _ _ _ _ _ x_0 j).trans (prod_of (c := 3) (hh := fun k => row_of x0 x1 x2 x_0 k) (hw := fun k => ld_w3 x3 k j))) (ha := fun j => ld_g0 x5 j))
    · exact h1
  case piece11 =>
    obtain ⟨x_1, hx1⟩ : ∃ j : Fin 256, j = x 1 := ⟨_, rfl⟩
    obtain rfl : x = ix2 x_0 x_1 := by rw [hx0, hx1]; exact (ix2_eta x).symm
    refine Eq.trans ?_ (slab_ka _ _ _ _ _ _ x_1 ?_).symm
    · exact (ka_apply _ _ x_0 x_1).trans ((gnorm_of (hv := fun j => (pay4_apply _ _ _ _ _ x_0 j).trans (prod_of (c := 1) (hh := fun k => row_of x0 x1 x2 x_0 k) (hw := fun k => ld_w1 x3 k j))) (ha := fun j => ld_g1 x4 j)).trans (rot_none _ _).symm)
    · exact h1
  case piece12 =>
    obtain ⟨x_1, hx1⟩ : ∃ j : Fin 256, j = x 1 := ⟨_, rfl⟩
    obtain rfl : x = ix2 x_0 x_1 := by rw [hx0, hx1]; exact (ix2_eta x).symm
    refine Eq.trans ?_ (slab_qa _ _ _ _ _ _ x_1 ?_).symm
    · exact (qa_apply _ _ x_0 x_1).trans ((gnorm_of (hv := fun j => (pay3_apply _ _ _ _ _ x_0 j).trans (prod_of (c := 0) (hh := fun k => row_of x0 x1 x2 x_0 k) (hw := fun k => ld_w0 x3 k j))) (ha := fun j => ld_g0 x4 j)).trans (rot_none _ _).symm)
    · exact h1

set_option maxHeartbeats 4000000 in
/-- What the body stores into the array of the forget gates, from its blocks. -/
theorem out_gates (c : Dev nD) (i : grid0.Coords) (arg1 : Memref sig .tc .vmem S512x1024 .f32) (harg1 : arg1.IsWhole) (arg2 : Memref sig .tc .vmem S1x3x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S2x256 .f32) (harg5 : arg5.IsWhole) (arg6 : Memref sig .tc .vmem S2x256 .f32) (harg6 : arg6.IsWhole) (arg7 : Memref sig .tc .vmem S4x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x3840 .bf16) (harg10 : arg10.IsWhole) (arg11 : Memref sig .tc .vmem S512x512 .f32) (harg11 : arg11.IsWhole)
    (x0 : Vec Ideal S512x1024 .f32) (x1 : Vec Ideal S1x3x1024 .f32) (x2 : Vec Ideal S1x1024 .f32) (x3 : Vec Ideal S1024x3840 .bf16) (x4 : Vec Ideal S2x256 .f32) (x5 : Vec Ideal S2x256 .f32) (x6 : Vec Ideal S4x256 .f32) (x7 : Vec Ideal S512x256 .f32) (x8 : Vec Ideal S512x256 .f32) (y : S512x512.Idx) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 y = gates (col (Cert.Mix.hrow (fun k => x0 (ix2 (y 0) k)) (fun k => x2 (ix2 0 k)) (fun k => x1 (ix3 0 1 k)) (fun k => x1 (ix3 0 0 k))) (fun k n => x3 (ix2 k n))) (fun e j => x6 (ix2 e j)) (y 1) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8)]
  have hcov := cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 y
  revert hcov
  unfold kernelRun0_A
  dsimp only
  sl_unfold_words
  intro hcov
  canon_tiles x h using hcov
  all_goals clear hcov
  all_goals simp only [View.readAt_eq_ld, harg1.read_unread, harg2.read_unread, harg3.read_unread, harg4.read_unread, harg5.read_unread, harg6.read_unread, harg7.read_unread, harg8.read_unread, harg9.read_unread]
  all_goals obtain ⟨x_0, hx0⟩ : ∃ r : Fin 512, r = x 0 := ⟨_, rfl⟩
  all_goals have hy : (y 0 : Fin 512) = x_0 := (Fin.ext h0).trans hx0.symm
  all_goals rw [hy]
  case piece0 =>
    obtain ⟨x_1, hx1⟩ : ∃ j : Fin 256, j = x 1 := ⟨_, rfl⟩
    obtain rfl : x = ix2 x_0 x_1 := by rw [hx0, hx1]; exact (ix2_eta x).symm
    refine Eq.trans ?_ (gates_b _ _ _ x_1 ?_).symm
    · exact (pay8_apply _ _ _ _ x_0 x_1).trans (forget_of (ha := ld_lb2 x6 x_1) (hb := ld_lb3 x6 x_1) (hf := prod_of (c := 8) (hh := fun k => row_of x0 x1 x2 x_0 k) (hw := fun k => ld_w8 x3 k x_1)))
    · exact h1
  case piece1 =>
    obtain ⟨x_1, hx1⟩ : ∃ j : Fin 256, j = x 1 := ⟨_, rfl⟩
    obtain rfl : x = ix2 x_0 x_1 := by rw [hx0, hx1]; exact (ix2_eta x).symm
    refine Eq.trans ?_ (gates_f _ _ _ x_1 ?_).symm
    · exact (pay7_apply _ _ _ _ x_0 x_1).trans (forget_of (ha := ld_lb0 x6 x_1) (hb := ld_lb1 x6 x_1) (hf := prod_of (c := 7) (hh := fun k => row_of x0 x1 x2 x_0 k) (hw := fun k => ld_w7 x3 k x_1)))
    · exact h1

end Cert.ContextProjectionIdeal.Prj

end
-- ==== Proof.ContextProjectionArray.lean ====
module

public import proofs.«01_k».proof.Proof.ContextProjectionBlock
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.ContextProjectionIdeal.Prj

open Cert.ContextProjectionIdeal Cert.ContextProjectionIdeal.Gen Cert.Proj

/-- The projection's columns at a row, from the arrays it reads: all rows share row 16 of the modulation. -/
def cols (X : Vec Ideal S4096x1024 .f32) (M : Vec Ideal S24x3x1024 .f32) (G : Vec Ideal S1x1024 .f32) (W : Vec Ideal S1024x3840 .bf16) (i : Fin 4096) : Fin 3840 → EReal :=
  col (Cert.Mix.hrow (fun k => X (ix2 i k)) (fun k => G (ix2 0 k)) (fun k => M (ix3 16 1 k)) (fun k => M (ix3 16 0 k))) (fun k n => W (ix2 k n))

/-- The array of results, row by row. -/
def wholeS (X : Vec Ideal S4096x1024 .f32) (M : Vec Ideal S24x3x1024 .f32) (G : Vec Ideal S1x1024 .f32) (W : Vec Ideal S1024x3840 .bf16) (A B : Vec Ideal S2x256 .f32) : Vec Ideal S4096x3840 .bf16 := fun i =>
  slab (cols X M G W (i 0)) (fun e j => A (ix2 e j)) (fun e j => B (ix2 e j)) (fun _ => 1) (fun _ => 0) (i 1)

/-- The array of the forget gates' logarithms, row by row. -/
def wholeG (X : Vec Ideal S4096x1024 .f32) (M : Vec Ideal S24x3x1024 .f32) (G : Vec Ideal S1x1024 .f32) (W : Vec Ideal S1024x3840 .bf16) (L : Vec Ideal S4x256 .f32) :
    Vec Ideal S4096x512 .f32 := fun i =>
  gates (cols X M G W (i 0)) (fun e j => L (ix2 e j)) (i 1)

variable (m : (ℓ : Loc nD τ sig) → Buf (Elt Ideal) ℓ) (c : Dev nD)

/-- Where each window stands at each grid point: the rows at the point's own tile, the modulation at row 16, the rest whole; the angles, which the body doesn't read, at the tile's number modulo four. -/
theorem idx : ∀ t : Fin cfg0.N, (win0_0.index t 0 = t.val ∧ win0_0.index t 1 = 0)
    ∧ (win0_1.index t 0 = 16 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val % 4 ∧ win0_7.index t 1 = 0)
    ∧ (win0_8.index t 0 = t.val % 4 ∧ win0_8.index t 1 = 0)
    ∧ (win0_9.index t 0 = t.val ∧ win0_9.index t 1 = 0)
    ∧ (win0_10.index t 0 = t.val ∧ win0_10.index t 1 = 0) := by
  decide +kernel

/-- The results are written back at every point. -/
theorem flush9 : ∀ t : Fin cfg0.N, (cfg0.win 9).flush t = true := by
  decide +kernel

/-- The forget gates are written back at every point. -/
theorem flush10 : ∀ t : Fin cfg0.N, (cfg0.win 10).flush t = true := by
  decide +kernel

/-- The input window's block. -/
theorem iblk0 (t : Fin cfg0.N) (r : Fin 512) (k : Fin 1024) : (iblk m c 0 t : Vec Ideal S512x1024 .f32) (ix2 r k) = V m c main_v69 (ix2 ⟨512 * t.val + r.val, by have := t.isLt; have : cfg0.N = 8 := N_0; omega⟩ k) := by
  have h := (idx t).1
  unfold iblk
  rw [View.read_apply]
  show V m c main_v69 _ = V m c main_v69 _
  congr 1
  funext a
  apply Fin.ext
  match a with
  | ⟨0, _⟩ => show win0_0.index t 0 * 512 + 1 * r.val = 512 * t.val + r.val; rw [h.1]; omega
  | ⟨1, _⟩ => show win0_0.index t 1 * 1024 + 1 * k.val = k.val; rw [h.2]; omega

/-- The modulation window's block. -/
theorem iblk1 (t : Fin cfg0.N) (e : Fin 3) (k : Fin 1024) : (iblk m c 1 t : Vec Ideal S1x3x1024 .f32) (ix3 0 e k) = V m c main_v8 (ix3 16 e k) := by
  have h := (idx t).2.1
  unfold iblk
  rw [View.read_apply]
  show V m c main_v8 _ = V m c main_v8 _
  congr 1
  funext a
  apply Fin.ext
  match a with
  | ⟨0, _⟩ => show win0_1.index t 0 * 1 + 1 * 0 = 16; rw [h.1]
  | ⟨1, _⟩ => show win0_1.index t 1 * 3 + 1 * e.val = e.val; rw [h.2.1]; omega
  | ⟨2, _⟩ => show win0_1.index t 2 * 1024 + 1 * k.val = k.val; rw [h.2.2]; omega

/-- The gain's window: the whole array. -/
theorem iblk2 (t : Fin cfg0.N) (e : Fin 1) (k : Fin 1024) : (iblk m c 2 t : Vec Ideal S1x1024 .f32) (ix2 e k) = V m c main_v70 (ix2 e k) := by
  have h := (idx t).2.2.1
  unfold iblk
  rw [View.read_apply]
  show V m c main_v70 _ = V m c main_v70 _
  congr 1
  funext a
  apply Fin.ext
  match a with
  | ⟨0, _⟩ => show win0_2.index t 0 * 1 + 1 * e.val = e.val; rw [h.1]; omega
  | ⟨1, _⟩ => show win0_2.index t 1 * 1024 + 1 * k.val = k.val; rw [h.2]; omega

/-- The weights' window: the whole array. -/
theorem iblk3 (t : Fin cfg0.N) (e : Fin 1024) (k : Fin 3840) : (iblk m c 3 t : Vec Ideal S1024x3840 .bf16) (ix2 e k) = V m c main_v71 (ix2 e k) := by
  have h := (idx t).2.2.2.1
  unfold iblk
  rw [View.read_apply]
  show V m c main_v71 _ = V m c main_v71 _
  congr 1
  funext a
  apply Fin.ext
  match a with
  | ⟨0, _⟩ => show win0_3.index t 0 * 1024 + 1 * e.val = e.val; rw [h.1]; omega
  | ⟨1, _⟩ => show win0_3.index t 1 * 3840 + 1 * k.val = k.val; rw [h.2]; omega

/-- The window of the first branch's gains: the whole array. -/
theorem iblk4 (t : Fin cfg0.N) (e : Fin 2) (k : Fin 256) : (iblk m c 4 t : Vec Ideal S2x256 .f32) (ix2 e k) = V m c main_v28 (ix2 e k) := by
  have h := (idx t).2.2.2.2.1
  unfold iblk
  rw [View.read_apply]
  show V m c main_v28 _ = V m c main_v28 _
  congr 1
  funext a
  apply Fin.ext
  match a with
  | ⟨0, _⟩ => show win0_4.index t 0 * 2 + 1 * e.val = e.val; rw [h.1]; omega
  | ⟨1, _⟩ => show win0_4.index t 1 * 256 + 1 * k.val = k.val; rw [h.2]; omega

/-- The window of the second branch's gains: the whole array. -/
theorem iblk5 (t : Fin cfg0.N) (e : Fin 2) (k : Fin 256) : (iblk m c 5 t : Vec Ideal S2x256 .f32) (ix2 e k) = V m c main_v31 (ix2 e k) := by
  have h := (idx t).2.2.2.2.2.1
  unfold iblk
  rw [View.read_apply]
  show V m c main_v31 _ = V m c main_v31 _
  congr 1
  funext a
  apply Fin.ext
  match a with
  | ⟨0, _⟩ => show win0_5.index t 0 * 2 + 1 * e.val = e.val; rw [h.1]; omega
  | ⟨1, _⟩ => show win0_5.index t 1 * 256 + 1 * k.val = k.val; rw [h.2]; omega

/-- The window of the forget gates' bounds: the whole array. -/
theorem iblk6 (t : Fin cfg0.N) (e : Fin 4) (k : Fin 256) : (iblk m c 6 t : Vec Ideal S4x256 .f32) (ix2 e k) = V m c main_v25 (ix2 e k) := by
  have h := (idx t).2.2.2.2.2.2.1
  unfold iblk
  rw [View.read_apply]
  show V m c main_v25 _ = V m c main_v25 _
  congr 1
  funext a
  apply Fin.ext
  match a with
  | ⟨0, _⟩ => show win0_6.index t 0 * 4 + 1 * e.val = e.val; rw [h.1]; omega
  | ⟨1, _⟩ => show win0_6.index t 1 * 256 + 1 * k.val = k.val; rw [h.2]; omega

/-- The projection's columns at a row of a tile. -/
theorem cols_at (X : Vec Ideal S4096x1024 .f32) (M : Vec Ideal S24x3x1024 .f32) (G : Vec Ideal S1x1024 .f32) (W : Vec Ideal S1024x3840 .bf16) (s : ℕ) (hs : s < 8) (r : Fin 512) :
    cols X M G W ⟨512 * s + r.val, by omega⟩ = col (Cert.Mix.hrow (fun k => X (ix2 ⟨512 * s + r.val, by omega⟩ k)) (fun k => G (ix2 0 k)) (fun k => M (ix3 16 1 k)) (fun k => M (ix3 16 0 k))) (fun k n => W (ix2 k n)) := by
  rfl

/-- The array of results at an entry of a tile. -/
theorem wholeS_at (X : Vec Ideal S4096x1024 .f32) (M : Vec Ideal S24x3x1024 .f32) (G : Vec Ideal S1x1024 .f32) (W : Vec Ideal S1024x3840 .bf16) (A B : Vec Ideal S2x256 .f32)
    (s : ℕ) (hs : s < 8) (r : Fin 512) (i : S4096x3840.Idx) (n : Fin 3840) (h0 : (i 0).val = 512 * s + r.val) (h1 : (i 1).val = n.val) :
    wholeS X M G W A B i = slab (cols X M G W ⟨512 * s + r.val, by omega⟩) (fun e j => A (ix2 e j)) (fun e j => B (ix2 e j)) (fun _ => 1) (fun _ => 0) n := by
  idx_vars i
  obtain rfl : i0 = ⟨512 * s + r.val, by clear h0; omega⟩ := Fin.ext h0
  obtain rfl : i1 = n := Fin.ext h1
  rfl

/-- The array of the forget gates at an entry of a tile. -/
theorem wholeG_at (X : Vec Ideal S4096x1024 .f32) (M : Vec Ideal S24x3x1024 .f32) (G : Vec Ideal S1x1024 .f32) (W : Vec Ideal S1024x3840 .bf16) (L : Vec Ideal S4x256 .f32)
    (s : ℕ) (hs : s < 8) (r : Fin 512) (i : S4096x512.Idx) (n : Fin 512) (h0 : (i 0).val = 512 * s + r.val) (h1 : (i 1).val = n.val) :
    wholeG X M G W L i = gates (cols X M G W ⟨512 * s + r.val, by omega⟩) (fun e j => L (ix2 e j)) n := by
  idx_vars i
  obtain rfl : i0 = ⟨512 * s + r.val, by clear h0; omega⟩ := Fin.ext h0
  obtain rfl : i1 = n := Fin.ext h1
  rfl

/-- The array of results that the host's arrays give. -/
abbrev resultS : Vec Ideal S4096x3840 .bf16 := wholeS (V m c main_v69) (V m c main_v8) (V m c main_v70) (V m c main_v71) (V m c main_v28) (V m c main_v31)

/-- The array of forget gates that the host's arrays give. -/
abbrev resultG : Vec Ideal S4096x512 .f32 := wholeG (V m c main_v69) (V m c main_v8) (V m c main_v70) (V m c main_v71) (V m c main_v25)

/-- A point's columns, from its blocks. -/
theorem point_cols (t : Fin cfg0.N) (r : Fin 512) :
    col (Cert.Mix.hrow (fun k => (iblk m c 0 t : Vec Ideal S512x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k))) (fun k n => (iblk m c 3 t : Vec Ideal S1024x3840 .bf16) (ix2 k n))
    = cols (V m c main_v69) (V m c main_v8) (V m c main_v70) (V m c main_v71) ⟨512 * t.val + r.val, by have := t.isLt; have : cfg0.N = 8 := N_0; omega⟩ := by
  rw [cols_at _ _ _ _ t.val (by have := t.isLt; have : cfg0.N = 8 := N_0; omega) r]
  simp only [iblk0, iblk1, iblk2, iblk3]

/-- A point's entry of the results, from its blocks. -/
theorem pointS (t : Fin cfg0.N) (r : Fin 512) (n : Fin 3840) :
    slab (col (Cert.Mix.hrow (fun k => (iblk m c 0 t : Vec Ideal S512x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k))) (fun k n => (iblk m c 3 t : Vec Ideal S1024x3840 .bf16) (ix2 k n)))
      (fun e j => (iblk m c 4 t : Vec Ideal S2x256 .f32) (ix2 e j)) (fun e j => (iblk m c 5 t : Vec Ideal S2x256 .f32) (ix2 e j))
      (fun _ => 1) (fun _ => 0) n
    = slab (cols (V m c main_v69) (V m c main_v8) (V m c main_v70) (V m c main_v71) ⟨512 * t.val + r.val, by have := t.isLt; have : cfg0.N = 8 := N_0; omega⟩) (fun e j => V m c main_v28 (ix2 e j)) (fun e j => V m c main_v31 (ix2 e j))
      (fun _ => 1) (fun _ => 0) n := by
  rw [point_cols]
  simp only [iblk4, iblk5]

/-- A point's entry of the forget gates, from its blocks. -/
theorem pointG (t : Fin cfg0.N) (r : Fin 512) (n : Fin 512) :
    gates (col (Cert.Mix.hrow (fun k => (iblk m c 0 t : Vec Ideal S512x1024 .f32) (ix2 r k)) (fun k => (iblk m c 2 t : Vec Ideal S1x1024 .f32) (ix2 0 k)) (fun k => (iblk m c 1 t : Vec Ideal S1x3x1024 .f32) (ix3 0 1 k))
      (fun k => (iblk m c 1 t : Vec Ideal S1x3x1024 .f32) (ix3 0 0 k))) (fun k n => (iblk m c 3 t : Vec Ideal S1024x3840 .bf16) (ix2 k n))) (fun e j => (iblk m c 6 t : Vec Ideal S4x256 .f32) (ix2 e j)) n
    = gates (cols (V m c main_v69) (V m c main_v8) (V m c main_v70) (V m c main_v71) ⟨512 * t.val + r.val, by have := t.isLt; have : cfg0.N = 8 := N_0; omega⟩) (fun e j => V m c main_v25 (ix2 e j)) n := by
  rw [point_cols]
  simp only [iblk6]

/-- What a point writes back is its tile of the array of results. -/
theorem flushedS (t : Fin cfg0.N) (hf : (cfg0.win 9).flush t = true) :
    (dats m 0 c).flushed 9 t = ((cfg0.win 9).blk t).view.read (Elt Ideal) (resultS m c) := by
  have hN : cfg0.N = 8 := N_0
  have hlt := t.isLt
  have h := (idx t).2.2.2.2.2.2.2.2.2.1
  rw [Value.flushed9_A m c t]
  funext j
  rw [View.read_apply]
  refine (out_slab ..).trans ?_
  refine Eq.trans ?_ (wholeS_at _ _ _ _ _ _ t.val (by omega) ((cfg0.win 9).xinj (grid0.coords t) j 0) _ ((cfg0.win 9).xinj (grid0.coords t) j 1) ?_ ?_).symm
  · exact pointS m c t _ _
  · show win0_9.index t 0 * 512 + 1 * (j 0).val = 512 * t.val + (j 0).val
    rw [h.1]; omega
  · show win0_9.index t 1 * 3840 + 1 * (j 1).val = (j 1).val
    rw [h.2]; omega

/-- The tiles cover the array of results. -/
theorem coverS (i : S4096x3840.Idx) : ∃ t : Fin cfg0.N, (cfg0.win 9).flush t = true ∧ i ∈ ((cfg0.win 9).blk t).view.set := by
  have h0 : (i 0 : ℕ) < 4096 := (i 0).isLt
  have h1 : (i 1 : ℕ) < 3840 := (i 1).isLt
  have hN : cfg0.N = 8 := N_0
  obtain ⟨t, ht⟩ : ∃ t : Fin cfg0.N, t.val = (i 0).val / 512 := ⟨⟨(i 0).val / 512, by omega⟩, rfl⟩
  refine ⟨t, flush9 t, ?_⟩
  have h := (idx t).2.2.2.2.2.2.2.2.2.1
  show i ∈ ((View.whole main_v72_0).slice (win0_9.rect t)).set
  rw [View.set_slice_whole, Rect.mem_set_unit]
  intro a
  match a with
  | ⟨0, _⟩ => show win0_9.index t 0 * 512 ≤ (i 0 : ℕ) ∧ (i 0 : ℕ) < win0_9.index t 0 * 512 + 512
              rw [h.1]; omega
  | ⟨1, _⟩ => show win0_9.index t 1 * 3840 ≤ (i 1 : ℕ) ∧ (i 1 : ℕ) < win0_9.index t 1 * 3840 + 3840
              rw [h.2]; omega

/-- So the array of results ends as stated. -/
theorem finalS : (dats m 0 c).arrAt 9 cfg0.N = resultS m c :=
  (dats m 0 c).arrAt_eq_of_cover 9 (resultS m c) (flushedS m c) coverS

/-- What a point writes back is its tile of the array of forget gates. -/
theorem flushedG (t : Fin cfg0.N) (hf : (cfg0.win 10).flush t = true) :
    (dats m 0 c).flushed 10 t = ((cfg0.win 10).blk t).view.read (Elt Ideal) (resultG m c) := by
  have hN : cfg0.N = 8 := N_0
  have hlt := t.isLt
  have h := (idx t).2.2.2.2.2.2.2.2.2.2
  rw [Value.flushed10_A m c t]
  funext j
  rw [View.read_apply]
  refine (out_gates ..).trans ?_
  refine Eq.trans ?_ (wholeG_at _ _ _ _ _ t.val (by omega) ((cfg0.win 10).xinj (grid0.coords t) j 0) _ ((cfg0.win 10).xinj (grid0.coords t) j 1) ?_ ?_).symm
  · exact pointG m c t _ _
  · show win0_10.index t 0 * 512 + 1 * (j 0).val = 512 * t.val + (j 0).val
    rw [h.1]; omega
  · show win0_10.index t 1 * 512 + 1 * (j 1).val = (j 1).val
    rw [h.2]; omega

/-- The tiles cover the array of forget gates. -/
theorem coverG (i : S4096x512.Idx) : ∃ t : Fin cfg0.N, (cfg0.win 10).flush t = true ∧ i ∈ ((cfg0.win 10).blk t).view.set := by
  have h0 : (i 0 : ℕ) < 4096 := (i 0).isLt
  have h1 : (i 1 : ℕ) < 512 := (i 1).isLt
  have hN : cfg0.N = 8 := N_0
  obtain ⟨t, ht⟩ : ∃ t : Fin cfg0.N, t.val = (i 0).val / 512 := ⟨⟨(i 0).val / 512, by omega⟩, rfl⟩
  refine ⟨t, flush10 t, ?_⟩
  have h := (idx t).2.2.2.2.2.2.2.2.2.2
  show i ∈ ((View.whole main_v72_1).slice (win0_10.rect t)).set
  rw [View.set_slice_whole, Rect.mem_set_unit]
  intro a
  match a with
  | ⟨0, _⟩ => show win0_10.index t 0 * 512 ≤ (i 0 : ℕ) ∧ (i 0 : ℕ) < win0_10.index t 0 * 512 + 512
              rw [h.1]; omega
  | ⟨1, _⟩ => show win0_10.index t 1 * 512 ≤ (i 1 : ℕ) ∧ (i 1 : ℕ) < win0_10.index t 1 * 512 + 512
              rw [h.2]; omega

/-- So the array of forget gates ends as stated. -/
theorem finalG : (dats m 0 c).arrAt 10 cfg0.N = resultG m c :=
  (dats m 0 c).arrAt_eq_of_cover 10 (resultG m c) (flushedG m c) coverG

end Cert.ContextProjectionIdeal.Prj

end
-- ==== Proof.ContextProjectionHost.lean ====
module

public import proofs.«01_k».proof.Proof.ContextProjectionArray
public import proofs.«01_k».proof.Proof.ContextMergeHost
public import proofs.«01_k».proof.Proof.ProjectionHost
public import Idealize.ShloMosaic.Lib.StableHlo.Run
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ContextProjectionIdeal.Prj

open Cert.ContextProjectionIdeal Cert.ContextProjectionIdeal.Gen Cert.Proj

variable (m : (ℓ : Loc nD τ sig) → Buf (Elt Ideal) ℓ) (c : Dev nD)

open Cert.ContextMergeIdeal.Mrg (modV xV ngV)
open Cert.ProjectionIdeal.Prj (wV gaV gbV lbV)

/-- The modulation's gate, which this call doesn't read: zeros. -/
def zeroV : FVec Ideal S1024 .f32 := broadcastInDim S1024 ![] bcast_S_S1024 (constant S_ .f32 0x00000000#32)

set_option maxHeartbeats 1000000 in
/-- What the host leaves in the array of the modulation's rows. -/
theorem V8 : V m c main_v8 = modV (m ((c.tc : Thread nD τ).loc main_arg1)) (m ((c.tc : Thread nD τ).loc main_arg2)) zeroV := by
  unfold_abbrev_sides
  rfl

set_option maxHeartbeats 1000000 in
/-- What the host leaves in the array of the forget gates' bounds. -/
theorem V25 : V m c main_v25 = lbV (m ((c.tc : Thread nD τ).loc main_arg7)) := by
  unfold_abbrev_sides
  rfl

set_option maxHeartbeats 1000000 in
/-- What the host leaves in the array of the first branch's gains. -/
theorem V28 : V m c main_v28 = gaV (m ((c.tc : Thread nD τ).loc main_arg5)) := by
  unfold_abbrev_sides
  rfl

set_option maxHeartbeats 1000000 in
/-- What the host leaves in the array of the second branch's gains. -/
theorem V31 : V m c main_v31 = gbV (m ((c.tc : Thread nD τ).loc main_arg6)) := by
  unfold_abbrev_sides
  rfl

set_option maxHeartbeats 1000000 in
/-- What the host leaves in the array of the input's rows. -/
theorem V69 : V m c main_v69 = xV (m ((c.tc : Thread nD τ).loc main_arg0)) := by
  unfold_abbrev_sides
  rfl

set_option maxHeartbeats 1000000 in
/-- What the host leaves in the array of the gain's row. -/
theorem V70 : V m c main_v70 = ngV (m ((c.tc : Thread nD τ).loc main_arg3)) := by
  unfold_abbrev_sides
  rfl

set_option maxHeartbeats 1000000 in
/-- What the host leaves in the array of the weights. -/
theorem V71 : V m c main_v71 = wV (m ((c.tc : Thread nD τ).loc main_arg4)) := by
  unfold_abbrev_sides
  rfl

end Cert.ContextProjectionIdeal.Prj

end
-- ==== Proof.ContextProjectionRun.lean ====
module

public import proofs.«01_k».proof.Proof.ContextProjectionReference
public import proofs.«01_k».proof.Proof.Gen.ContextProjectionReferenceIdeal.Run

@[expose] public section

set_option maxRecDepth 16384

noncomputable section

open Idealize.ShloMosaic Idealize.ShloMosaic.TcCoe Idealize.SL.Sem Idealize.ShloMosaic.StableHlo

namespace Cert.ContextProjectionReferenceIdeal.Prj

open Cert.ContextProjectionReferenceIdeal Cert.ContextProjectionReferenceIdeal.Gen Cert.Proj
open Cert.ContextMergeReferenceIdeal.Mrg (siluV siluV_apply)

variable (m : (ℓ : Loc nD τ sig) → Buf (Elt Ideal) ℓ) (c : Dev nD)

/-- The reference's projection, in these pieces. -/
theorem res_z : Value.res_main_v21 (launchContents m c) = zV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's array of results, in these pieces. -/
theorem res_slab : (truncf .bf16 (shapeCast S4096x3840 (Value.res_main_v120 (launchContents m c)) shapeCasts_S16x256x3840_S4096x3840) bitsLt_bf16_f32 : FVec Ideal S4096x3840 .bf16)
    = slabV (Value.res_main_v21 (launchContents m c)) (m ((c.tc : Thread nD τ).loc main_arg5)) (m ((c.tc : Thread nD τ).loc main_arg6)) := rfl

/-- The reference's array of forget gates, in these pieces. -/
theorem res_gates : (shapeCast S4096x512 (concatenate S16x256x512 2 [⟨S16x256x256, (select (cmpf .une (Value.res_main_v133 (launchContents m c)) (Value.res_main_v133 (launchContents m c))) (addf (broadcastInDim S16x256x256 ![0, 1, 2] bcast_S1x1x256_S16x256x256_0_1_2 (Value.res_main_v129 (launchContents m c))) (Value.res_main_v128 (launchContents m c))) (addf (maximumf (broadcastInDim S16x256x256 ![0, 1, 2] bcast_S1x1x256_S16x256x256_0_1_2 (Value.res_main_v129 (launchContents m c))) (Value.res_main_v128 (launchContents m c))) (Host.log1p (Host.exp (Host.negf (Host.absf (Value.res_main_v133 (launchContents m c))))))))⟩, ⟨S16x256x256, (select (cmpf .une (Value.res_main_v155 (launchContents m c)) (Value.res_main_v155 (launchContents m c))) (addf (broadcastInDim S16x256x256 ![0, 1, 2] bcast_S1x1x256_S16x256x256_0_1_2 (Value.res_main_v151 (launchContents m c))) (Value.res_main_v150 (launchContents m c))) (addf (maximumf (broadcastInDim S16x256x256 ![0, 1, 2] bcast_S1x1x256_S16x256x256_0_1_2 (Value.res_main_v151 (launchContents m c))) (Value.res_main_v150 (launchContents m c))) (Host.log1p (Host.exp (Host.negf (Host.absf (Value.res_main_v155 (launchContents m c))))))))⟩] concatenates_S16x256x256_S16x256x256_S16x256x512_d2) shapeCasts_S16x256x512_S4096x512 : FVec Ideal S4096x512 .f32)
    = gatesV (Value.res_main_v21 (launchContents m c)) (m ((c.tc : Thread nD τ).loc main_arg7)) := rfl

end Cert.ContextProjectionReferenceIdeal.Prj

end
-- ==== Proof.ContextProjectionEquation.lean ====
module

public import proofs.«01_k».proof.Proof.ContextProjectionHost
public import proofs.«01_k».proof.Proof.ContextProjectionSlab
public import proofs.«01_k».proof.Proof.ContextProjectionRun
public import proofs.«01_k».proof.Pre_bounded_context
public import proofs.«01_k».proof.Proof.Gen.Pre_bounded_context

@[expose] public section

set_option maxRecDepth 16384

noncomputable section

open Idealize.ShloMosaic Idealize.ShloMosaic.TcCoe Idealize.SL.Sem Idealize.ShloMosaic.StableHlo

namespace Cert.ContextProjectionEquation

open Cert.ContextProjectionIdeal Cert.ContextProjectionIdeal.Gen Cert.Proj
open Cert.ContextMergeIdeal.Mrg (modV xV ngV modV_sh modV_sc xV_apply ngV_apply)
open Cert.ContextProjectionIdeal.Prj (cols wholeS wholeG zeroV)
open Cert.ProjectionIdeal.Prj (wV gaV gbV lbV wV_apply gaV_apply gbV_apply lbV_0 lbV_1 lbV_2 lbV_3)
open Cert.ContextProjectionReferenceIdeal.Prj (zV slabV gatesV zV_apply slab_row gates_row)

/-- A row's columns are the reference's projection. -/
theorem cols_eq (x : FVec Ideal S16x256x1024 .f32) (sh sc : FVec Ideal S1024 .f32) (ng : FVec Ideal S1024 .f32) (w : FVec Ideal S1024x3840 .f32) (i : Fin 4096) :
    cols (xV x) (modV sh sc zeroV) (ngV ng) (wV w) i = fun n => zV x sh sc ng w (ix3 ⟨i.val / 256, by omega⟩ ⟨i.val % 256, by omega⟩ n) := by
  funext n
  refine Eq.trans ?_ (zV_apply x sh sc ng w _ _ n).symm
  unfold cols
  simp only [xV_apply, ngV_apply, modV_sh, modV_sc, wV_apply]

/-- The array of results the kernel fills is the reference's, whatever the arguments hold. -/
theorem slab_eq (x : FVec Ideal S16x256x1024 .f32) (sh sc : FVec Ideal S1024 .f32) (ng : FVec Ideal S1024 .f32) (w : FVec Ideal S1024x3840 .f32) (ga : FVec Ideal S2x32 .f32) (gb : FVec Ideal S2x64 .f32) :
    wholeS (xV x) (modV sh sc zeroV) (ngV ng) (wV w) (gaV ga) (gbV gb) = slabV (zV x sh sc ng w) ga gb := by
  funext z
  obtain ⟨i, n, rfl⟩ : ∃ (i : Fin 4096) (n : Fin 3840), z = ix2 i n := ⟨z 0, z 1, funext fun a => by fin_cases a <;> rfl⟩
  refine Eq.trans ?_ (slab_row (zV x sh sc ng w) ga gb i n ⟨i.val / 256, by omega⟩ ⟨i.val % 256, by omega⟩ rfl rfl)
  show slab (cols (xV x) (modV sh sc zeroV) (ngV ng) (wV w) i) (fun e j => gaV ga (ix2 e j)) (fun e j => gbV gb (ix2 e j)) (fun _ => 1) (fun _ => 0) n = _
  rw [cols_eq]
  simp only [gaV_apply, gbV_apply]

/-- The array of forget gates the kernel fills is the reference's, for lower bounds at most one. -/
theorem gates_eq (x : FVec Ideal S16x256x1024 .f32) (sh sc : FVec Ideal S1024 .f32) (ng : FVec Ideal S1024 .f32) (w : FVec Ideal S1024x3840 .f32) (l : FVec Ideal S2x256 .f32) (hl : ∀ e j, l (ix2 e j) ≤ 1) :
    wholeG (xV x) (modV sh sc zeroV) (ngV ng) (wV w) (lbV l) = gatesV (zV x sh sc ng w) l := by
  funext z
  obtain ⟨i, n, rfl⟩ : ∃ (i : Fin 4096) (n : Fin 512), z = ix2 i n := ⟨z 0, z 1, funext fun a => by fin_cases a <;> rfl⟩
  refine Eq.trans ?_ (gates_row (zV x sh sc ng w) l (fun e j => lbV l (ix2 e j)) hl i n ⟨i.val / 256, by omega⟩ ⟨i.val % 256, by omega⟩ rfl rfl (lbV_0 l) (lbV_1 l) (lbV_2 l) (lbV_3 l))
  show gates (cols (xV x) (modV sh sc zeroV) (ngV ng) (wV w) i) (fun e j => lbV l (ix2 e j)) n = _
  rw [cols_eq]

/-- The call's condition: no lower bound above one. -/
theorem bounded_of_mask (x : FVec Ideal S16x256x1024 .f32) (sh sc : FVec Ideal S1024 .f32) (ng : FVec Ideal S1024 .f32) (w : FVec Ideal S1024x3840 .f32) (ga : FVec Ideal S2x32 .f32) (gb : FVec Ideal S2x64 .f32)
    (l : FVec Ideal S2x256 .f32) (h : Cert.Pre_bounded_context.fn x sh sc ng w ga gb l = fun _ => 1#1) (e : Fin 2) (j : Fin 256) : l (ix2 e j) ≤ 1 := by
  have h1 : Ideal.cmp .ole (l (ix2 e j)) (Ideal.ofBits FTy.f32 0x3F800000#32) = 1#1 := congrFun h (ix2 e j)
  rw [Ideal.ofBits_one_f32] at h1
  by_contra hn
  simp [Ideal.cmp, hn] at h1

end Cert.ContextProjectionEquation

end
-- ==== Proof.ProjectionCos.lean ====
module

public import proofs.«01_k».proof.Proof.ProjectionHost
public import Idealize.ShloMosaic.Lib.StableHlo.Run
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ProjectionIdeal.Prj

open Cert.ProjectionIdeal Cert.ProjectionIdeal.Gen Cert.Proj

variable (m : (ℓ : Loc nD τ sig) → Buf (Elt Ideal) ℓ) (c : Dev nD)

set_option maxHeartbeats 8000000 in
/-- What the host leaves in the array of the cosines. -/
theorem V63 : V m c main_v63 = cosV angV := by
  unfold_abbrev_sides
  after_reads_simp
  rfl

end Cert.ProjectionIdeal.Prj

end
-- ==== Proof.ProjectionSin.lean ====
module

public import proofs.«01_k».proof.Proof.ProjectionHost
public import Idealize.ShloMosaic.Lib.StableHlo.Run
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ProjectionIdeal.Prj

open Cert.ProjectionIdeal Cert.ProjectionIdeal.Gen Cert.Proj

variable (m : (ℓ : Loc nD τ sig) → Buf (Elt Ideal) ℓ) (c : Dev nD)

set_option maxHeartbeats 8000000 in
/-- What the host leaves in the array of the sines. -/
theorem V66 : V m c main_v66 = sinV angV := by
  unfold_abbrev_sides
  after_reads_simp
  rfl

end Cert.ProjectionIdeal.Prj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeIdeal.Value
public import proofs.«01_k».proof.Proof.Gen.MergeReferenceIdeal.Run
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionReferenceIdeal
public import proofs.«01_k».proof.Proof.Gen.ProjectionIdeal.Value
public import proofs.«01_k».proof.Proof.Gen.ProjectionReferenceIdeal.Run
public import proofs.«01_k».proof.Proof.Gen.Pre_bounded
public import proofs.«01_k».proof.Proof.Gen.ContextMerge
public import proofs.«01_k».proof.Proof.Gen.ContextMerge.Skeleton
public import proofs.«01_k».proof.Proof.Gen.ContextMerge.Launch
public import proofs.«01_k».proof.Proof.Gen.ContextMerge.Points
public import proofs.«01_k».proof.Proof.Gen.ContextMerge.Frame
public import proofs.«01_k».proof.Proof.Gen.ContextMergeIdeal
public import proofs.«01_k».proof.Proof.Gen.ContextMergeIdeal.Skeleton
public import proofs.«01_k».proof.Proof.Gen.ContextMergeIdeal.Launch
public import proofs.«01_k».proof.Proof.Gen.ContextMergeIdeal.Points
public import proofs.«01_k».proof.Proof.Gen.ContextMergeIdeal.Frame
public import proofs.«01_k».proof.Proof.Gen.ContextMergeReferenceIdeal
public import proofs.«01_k».proof.Proof.Gen.ContextMergeIdeal.Value
public import proofs.«01_k».proof.Proof.Gen.ContextMergeReferenceIdeal.Run
public import proofs.«01_k».proof.Proof.Gen.ContextProjection
public import proofs.«01_k».proof.Proof.Gen.ContextProjection.Skeleton
public import proofs.«01_k».proof.Proof.Gen.ContextProjection.Launch
public import proofs.«01_k».proof.Proof.Gen.ContextProjection.Points
public import proofs.«01_k».proof.Proof.Gen.ContextProjection.Frame
public import proofs.«01_k».proof.Proof.Gen.ContextProjectionIdeal
public import proofs.«01_k».proof.Proof.Gen.ContextProjectionIdeal.Skeleton
public import proofs.«01_k».proof.Proof.Gen.ContextProjectionIdeal.Launch
public import proofs.«01_k».proof.Proof.Gen.ContextProjectionIdeal.Points
public import proofs.«01_k».proof.Proof.Gen.ContextProjectionIdeal.Frame
public import proofs.«01_k».proof.Proof.Gen.ContextProjectionReferenceIdeal
public import proofs.«01_k».proof.Proof.Gen.ContextProjectionIdeal.Value
public import proofs.«01_k».proof.Proof.Gen.ContextProjectionReferenceIdeal.Run
public import proofs.«01_k».proof.Proof.Gen.Pre_bounded_context
public import proofs.«01_k».proof.Proof.Equation
public import proofs.«01_k».proof.Proof.MergeEquation
public import proofs.«01_k».proof.Proof.ContextMergeEquation
public import proofs.«01_k».proof.Proof.ProjectionEquation
public import proofs.«01_k».proof.Proof.ContextProjectionEquation
public import proofs.«01_k».proof.Proof.ProjectionCos
public import proofs.«01_k».proof.Proof.ProjectionSin
public import Idealize.ShloMosaic.Adequacy
public import Idealize.ShloMosaic.Init

@[expose] public section

noncomputable section

namespace Cert.Proof

open Idealize.ShloMosaic Idealize.SL.Sem

/-- The reference runs and leaves its arguments; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From finite queries, keys, values and lambda vectors the kernel and the reference end with the same array. -/
theorem algebraic : Cert.algebraic_KernelIdeal_ReferenceIdeal_pre_finite := by
  intro m ρ m' ρ' hpre hagree
  have e (c : Dev Cert.KernelIdeal.nD) : Cert.ReferenceIdeal.Value.res_main_v58 m' c = Cert.KernelIdeal.Attn.result m c := by
    obtain ⟨h0, h1, h2, h3, h4, h5⟩ := hpre c
    obtain ⟨a0, a1, a2, a3, a4, a5, a6⟩ := hagree c
    refine (Cert.ReferenceIdeal.Attn.res_eq m' c).trans ?_
    rw [a0, a1, a2, a3, a4, a5, a6]
    unfold Cert.KernelIdeal.Attn.result
    rw [Cert.KernelIdeal.Attn.V30, Cert.KernelIdeal.Attn.V40, Cert.KernelIdeal.Attn.V41, Cert.KernelIdeal.Attn.V42]
    exact (Cert.Equation.whole_eq _ _ _ _ _ _ _ _ (Cert.Equation.real_of_mask _ _ h0) (Cert.Equation.real_of_mask _ _ h1) (Cert.Equation.real_of_mask _ _ h2)
      (Cert.Equation.real_of_mask _ _ h3) (Cert.Equation.real_of_mask _ _ h4) (Cert.Equation.real_of_mask _ _ h5)).symm
  refine ⟨fun c => Cert.KernelIdeal.Attn.result m c, ?_, ?_⟩
  · exact (θ_run Cert.KernelIdeal.defs _ _).mono (fun _ h c => ⟨(h c).1.trans (Cert.KernelIdeal.Attn.final m c), (h c).2⟩) (Cert.KernelIdeal.Value.run_blocks (F := Ideal) m ρ)
  · exact (θ_run Cert.ReferenceIdeal.defs _ _).mono (fun _ h c => ⟨(h c).1.trans (e c), (h c).2⟩) (Cert.ReferenceIdeal.Value.run (F := Ideal) m' ρ')

/-- The merge's reference runs and leaves its arguments; it declares no semaphore. -/
theorem frame_mri : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

open Cert.MergeIdeal.Mrg in
/-- The merge's kernel and its reference end with the same array. -/
theorem algebraic_merge : Cert.algebraic_MergeIdeal_MergeReferenceIdeal := by
  intro m ρ m' ρ' hpre hagree
  have e (c : Dev Cert.MergeIdeal.nD) : Cert.MergeReferenceIdeal.Value.res_main_v93 m' c = result m c := by
    obtain ⟨a0, a1, a2, a3, a4, a5, a6, a7, a8, a9, a10, a11, a12⟩ := hagree c
    refine (Cert.MergeReferenceIdeal.Mrg.res_eq m' c).trans ?_
    rw [a0, a1, a2, a3, a4, a5, a6, a7, a8, a9, a10, a11, a12]
    unfold result
    rw [V5, V10, V12, V14, V16, V18, V19, V20, V21, V22, V23]
    exact (Cert.MergeEquation.whole_eq _ _ _ _ _ _ _ _ _ _ _ _ _).symm
  refine ⟨fun c => result m c, ?_, ?_⟩
  · exact (θ_run Cert.MergeIdeal.defs _ _).mono (fun _ h c => ⟨(h c).1.trans (final m c), (h c).2⟩) (Cert.MergeIdeal.Value.run_blocks (F := Ideal) m ρ)
  · exact (θ_run Cert.MergeReferenceIdeal.defs _ _).mono (fun _ h c => ⟨(h c).1.trans (e c), (h c).2⟩) (Cert.MergeReferenceIdeal.Value.run (F := Ideal) m' ρ')

/-- The projection's reference runs and leaves its arguments; it declares no semaphore. -/
theorem frame_pri : Cert.quiescent_ProjectionReferenceIdeal := fun m ρ _ =>
  (θ_run Cert.ProjectionReferenceIdeal.defs _ _).mono (fun r h => ⟨fun c => (h c).2.2, Idealize.ShloMosaic.sem_eq_zero_of_no_sems (by decide) r.2⟩)
    (Cert.ProjectionReferenceIdeal.Value.run (F := Ideal) m ρ)

open Cert.ProjectionIdeal.Prj in
/-- From lower bounds at most one the projection's kernel and its reference end with the same two arrays. -/
theorem algebraic_projection : Cert.algebraic_ProjectionIdeal_ProjectionReferenceIdeal_pre_bounded := by
  intro m ρ m' ρ' hpre hagree
  have z (c : Dev Cert.ProjectionIdeal.nD) := Cert.ProjectionReferenceIdeal.Prj.res_z m' c
  have s (c : Dev Cert.ProjectionIdeal.nD) : Cert.ProjectionReferenceIdeal.Prj.slabV (Cert.ProjectionReferenceIdeal.Value.res_main_v21 (StableHlo.launchContents m' c))
      (m' ((c.tc : Idealize.ShloMosaic.Thread Cert.ProjectionReferenceIdeal.nD Cert.ProjectionReferenceIdeal.τ).loc Cert.ProjectionReferenceIdeal.main_arg5))
      (m' ((c.tc : Idealize.ShloMosaic.Thread Cert.ProjectionReferenceIdeal.nD Cert.ProjectionReferenceIdeal.τ).loc Cert.ProjectionReferenceIdeal.main_arg6))
      (Cert.ProjectionReferenceIdeal.Value.res_main_v52 (StableHlo.launchContents m' c)) = resultS m c := by
    obtain ⟨a0, a1, a2, a3, a4, a5, a6, a7⟩ := hagree c
    rw [z, Cert.ProjectionEquation.angle_eq, a0, a1, a2, a3, a4, a5, a6]
    unfold resultS
    rw [V67, V6, V68, V69, V26, V29, V63, V66]
    exact (Cert.ProjectionEquation.slab_eq _ _ _ _ _ _ _ _).symm
  have f (c : Dev Cert.ProjectionIdeal.nD) : Cert.ProjectionReferenceIdeal.Prj.gatesV (Cert.ProjectionReferenceIdeal.Value.res_main_v21 (StableHlo.launchContents m' c))
      (m' ((c.tc : Idealize.ShloMosaic.Thread Cert.ProjectionReferenceIdeal.nD Cert.ProjectionReferenceIdeal.τ).loc Cert.ProjectionReferenceIdeal.main_arg7)) = resultG m c := by
    obtain ⟨a0, a1, a2, a3, a4, a5, a6, a7⟩ := hagree c
    rw [z, a0, a1, a2, a3, a4, a7]
    unfold resultG
    rw [V67, V6, V68, V69, V23]
    exact (Cert.ProjectionEquation.gates_eq _ _ _ _ _ _ (Cert.ProjectionEquation.bounded_of_mask _ _ _ _ _ _ _ _ (hpre c))).symm
  refine ⟨fun c => resultS m c, fun c => resultG m c, ?_, ?_⟩
  · exact (θ_run Cert.ProjectionIdeal.defs _ _).mono (fun _ h c => ⟨(h c).1.trans (finalS m c), (h c).2.1.trans (finalG m c), (h c).2.2⟩) (Cert.ProjectionIdeal.Value.run_blocks (F := Ideal) m ρ)
  · exact (θ_run Cert.ProjectionReferenceIdeal.defs _ _).mono (fun _ h c => ⟨(h c).1.trans ((Cert.ProjectionReferenceIdeal.Prj.res_slab m' c).trans (s c)), (h c).2.1.trans ((Cert.ProjectionReferenceIdeal.Prj.res_gates m' c).trans (f c)), (h c).2.2⟩) (Cert.ProjectionReferenceIdeal.Value.run (F := Ideal) m' ρ')

/-- The context merge's reference runs and leaves its arguments; it declares no semaphore. -/
theorem frame_cri : Cert.quiescent_ContextMergeReferenceIdeal := fun m ρ _ =>
  (θ_run Cert.ContextMergeReferenceIdeal.defs _ _).mono (fun r h => ⟨fun c => (h c).2, Idealize.ShloMosaic.sem_eq_zero_of_no_sems (by decide) r.2⟩)
    (Cert.ContextMergeReferenceIdeal.Value.run (F := Ideal) m ρ)

open Cert.ContextMergeIdeal.Mrg in
/-- The context merge's kernel and its reference end with the same array. -/
theorem algebraic_context : Cert.algebraic_ContextMergeIdeal_ContextMergeReferenceIdeal := by
  intro m ρ m' ρ' hpre hagree
  have e (c : Dev Cert.ContextMergeIdeal.nD) : Cert.ContextMergeReferenceIdeal.Value.res_main_v93 m' c = result m c := by
    obtain ⟨a0, a1, a2, a3, a4, a5, a6, a7, a8, a9, a10, a11, a12⟩ := hagree c
    refine (Cert.ContextMergeReferenceIdeal.Mrg.res_eq m' c).trans ?_
    rw [a0, a1, a2, a3, a4, a5, a6, a7, a8, a9, a10, a11, a12]
    unfold result
    rw [V7, V12, V14, V16, V18, V20, V21, V22, V23, V24, V25]
    exact (Cert.ContextMergeEquation.whole_eq _ _ _ _ _ _ _ _ _ _ _ _ _).symm
  refine ⟨fun c => result m c, ?_, ?_⟩
  · exact (θ_run Cert.ContextMergeIdeal.defs _ _).mono (fun _ h c => ⟨(h c).1.trans (final m c), (h c).2⟩) (Cert.ContextMergeIdeal.Value.run_blocks (F := Ideal) m ρ)
  · exact (θ_run Cert.ContextMergeReferenceIdeal.defs _ _).mono (fun _ h c => ⟨(h c).1.trans (e c), (h c).2⟩) (Cert.ContextMergeReferenceIdeal.Value.run (F := Ideal) m' ρ')

/-- The context projection's reference runs and leaves its arguments; it declares no semaphore. -/
theorem frame_cpri : Cert.quiescent_ContextProjectionReferenceIdeal := fun m ρ _ =>
  (θ_run Cert.ContextProjectionReferenceIdeal.defs _ _).mono (fun r h => ⟨fun c => (h c).2.2, Idealize.ShloMosaic.sem_eq_zero_of_no_sems (by decide) r.2⟩)
    (Cert.ContextProjectionReferenceIdeal.Value.run (F := Ideal) m ρ)

open Cert.ContextProjectionIdeal.Prj in
/-- From lower bounds at most one the context projection's kernel and its reference end with the same two arrays. -/
theorem algebraic_context_projection : Cert.algebraic_ContextProjectionIdeal_ContextProjectionReferenceIdeal_pre_bounded_context := by
  intro m ρ m' ρ' hpre hagree
  have z (c : Dev Cert.ContextProjectionIdeal.nD) := Cert.ContextProjectionReferenceIdeal.Prj.res_z m' c
  have s (c : Dev Cert.ContextProjectionIdeal.nD) : Cert.ContextProjectionReferenceIdeal.Prj.slabV (Cert.ContextProjectionReferenceIdeal.Value.res_main_v21 (StableHlo.launchContents m' c))
      (m' ((c.tc : Idealize.ShloMosaic.Thread Cert.ContextProjectionReferenceIdeal.nD Cert.ContextProjectionReferenceIdeal.τ).loc Cert.ContextProjectionReferenceIdeal.main_arg5))
      (m' ((c.tc : Idealize.ShloMosaic.Thread Cert.ContextProjectionReferenceIdeal.nD Cert.ContextProjectionReferenceIdeal.τ).loc Cert.ContextProjectionReferenceIdeal.main_arg6)) = resultS m c := by
    obtain ⟨a0, a1, a2, a3, a4, a5, a6, a7⟩ := hagree c
    rw [z, a0, a1, a2, a3, a4, a5, a6]
    unfold resultS
    rw [V69, V8, V70, V71, V28, V31]
    exact (Cert.ContextProjectionEquation.slab_eq _ _ _ _ _ _ _).symm
  have f (c : Dev Cert.ContextProjectionIdeal.nD) : Cert.ContextProjectionReferenceIdeal.Prj.gatesV (Cert.ContextProjectionReferenceIdeal.Value.res_main_v21 (StableHlo.launchContents m' c))
      (m' ((c.tc : Idealize.ShloMosaic.Thread Cert.ContextProjectionReferenceIdeal.nD Cert.ContextProjectionReferenceIdeal.τ).loc Cert.ContextProjectionReferenceIdeal.main_arg7)) = resultG m c := by
    obtain ⟨a0, a1, a2, a3, a4, a5, a6, a7⟩ := hagree c
    rw [z, a0, a1, a2, a3, a4, a7]
    unfold resultG
    rw [V69, V8, V70, V71, V25]
    exact (Cert.ContextProjectionEquation.gates_eq _ _ _ _ _ _ (Cert.ContextProjectionEquation.bounded_of_mask _ _ _ _ _ _ _ _ (hpre c))).symm
  refine ⟨fun c => resultS m c, fun c => resultG m c, ?_, ?_⟩
  · exact (θ_run Cert.ContextProjectionIdeal.defs _ _).mono (fun _ h c => ⟨(h c).1.trans (finalS m c), (h c).2.1.trans (finalG m c), (h c).2.2⟩) (Cert.ContextProjectionIdeal.Value.run_blocks (F := Ideal) m ρ)
  · exact (θ_run Cert.ContextProjectionReferenceIdeal.defs _ _).mono (fun _ h c => ⟨(h c).1.trans ((Cert.ContextProjectionReferenceIdeal.Prj.res_slab m' c).trans (s c)), (h c).2.1.trans ((Cert.ContextProjectionReferenceIdeal.Prj.res_gates m' c).trans (f c)), (h c).2.2⟩) (Cert.ContextProjectionReferenceIdeal.Value.run (F := Ideal) m' ρ')

/-- All claims. -/
theorem claim : Cert.Claim := ⟨Cert.Kernel.Gen.facts, Cert.KernelIdeal.Gen.facts, Cert.ReferenceIdeal.Gen.facts, Cert.Merge.Gen.facts, Cert.MergeIdeal.Gen.facts, Cert.MergeReferenceIdeal.Gen.facts,
  Cert.Projection.Gen.facts, Cert.ProjectionIdeal.Gen.facts, Cert.ProjectionReferenceIdeal.Gen.facts, Cert.ContextMerge.Gen.facts, Cert.ContextMergeIdeal.Gen.facts, Cert.ContextMergeReferenceIdeal.Gen.facts,
  Cert.ContextProjection.Gen.facts, Cert.ContextProjectionIdeal.Gen.facts, Cert.ContextProjectionReferenceIdeal.Gen.facts, Cert.Pre_finite.Gen.facts, Cert.Pre_bounded.Gen.facts, Cert.Pre_bounded_context.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, fun m ρ _ => Cert.Merge.Gen.frame m ρ, fun m ρ _ => Cert.MergeIdeal.Gen.frame m ρ, frame_mri,
  fun m ρ _ => Cert.Projection.Gen.frame m ρ, fun m ρ _ => Cert.ProjectionIdeal.Gen.frame m ρ, fun m ρ _ => Cert.ProjectionIdeal.Gen.frame m ρ, frame_pri, fun m ρ _ => frame_pri m ρ trivial,
  fun m ρ _ => Cert.ContextMerge.Gen.frame m ρ, fun m ρ _ => Cert.ContextMergeIdeal.Gen.frame m ρ, frame_cri,
  fun m ρ _ => Cert.ContextProjection.Gen.frame m ρ, fun m ρ _ => Cert.ContextProjectionIdeal.Gen.frame m ρ, fun m ρ _ => Cert.ContextProjectionIdeal.Gen.frame m ρ, frame_cpri, fun m ρ _ => frame_cpri m ρ trivial,
  trivial, algebraic, trivial, algebraic_merge, trivial, algebraic_projection, trivial, algebraic_context, trivial, algebraic_context_projection⟩

end Cert.Proof

end
